-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_sb_finite [hPre_sb_finite : Cert.Pre_sb_finite.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_sb_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2)) (m ((c.tc : Thread Cert.SbKernelIdeal.nD Cert.SbKernelIdeal.τ).loc Cert.SbKernelIdeal.main_arg3))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_sb_finite [hPre_sb_finite : Cert.Pre_sb_finite.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_sb_finite.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))) = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpKernelIdeal_up_finite [hPre_up_finite : Cert.Pre_up_finite.Facts] (m : (ℓ : Loc Cert.UpKernelIdeal.nD Cert.UpKernelIdeal.τ Cert.UpKernelIdeal.sig) → Buf (Elt Ideal) ℓ) : Prop :=
  ∀ c : Dev Cert.UpKernelIdeal.nD,
    (Cert.Pre_up_finite.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_up_finite [hPre_up_finite : Cert.Pre_up_finite.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_up_finite.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5)) (m ((c.tc : Thread Cert.LossKernelIdeal.nD Cert.LossKernelIdeal.τ).loc Cert.LossKernelIdeal.main_arg6)) (m ((c.tc : Thread Cert.LossKernelIdeal.nD Cert.LossKernelIdeal.τ).loc Cert.LossKernelIdeal.main_arg7))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjKernelIdeal_proj_finite [hPre_proj_finite : Cert.Pre_proj_finite.Facts] (m : (ℓ : Loc Cert.ProjKernelIdeal.nD Cert.ProjKernelIdeal.τ Cert.ProjKernelIdeal.sig) → Buf (Elt Ideal) ℓ) : Prop :=
  ∀ c : Dev Cert.ProjKernelIdeal.nD,
    (Cert.Pre_proj_finite.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_proj_finite [hPre_proj_finite : Cert.Pre_proj_finite.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_proj_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))) = (fun _ => 1#1)

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_JoinKernel (m : (ℓ : Loc Cert.JoinKernel.nD Cert.JoinKernel.τ Cert.JoinKernel.sig) → Buf (Elt Bits) ℓ) : Prop :=
  True

def Pre_JoinKernelIdeal (m : (ℓ : Loc Cert.JoinKernelIdeal.nD Cert.JoinKernelIdeal.τ Cert.JoinKernelIdeal.sig) → Buf (Elt Ideal) ℓ) : Prop :=
  True

def Pre_JoinReferenceIdeal (m : (ℓ : Loc Cert.JoinReferenceIdeal.nD Cert.JoinReferenceIdeal.τ Cert.JoinReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActKernelIdeal_act_finite [hPre_act_finite : Cert.Pre_act_finite.Facts] (m : (ℓ : Loc Cert.ActKernelIdeal.nD Cert.ActKernelIdeal.τ Cert.ActKernelIdeal.sig) → Buf (Elt Ideal) ℓ) : Prop :=
  ∀ c : Dev Cert.ActKernelIdeal.nD,
    (Cert.Pre_act_finite.fn (F := Ideal) (m ((c.tc : Thread Cert.ActKernelIdeal.nD Cert.ActKernelIdeal.τ).loc Cert.ActKernelIdeal.main_arg0)) (m ((c.tc : Thread Cert.ActKernelIdeal.nD Cert.ActKernelIdeal.τ).loc Cert.ActKernelIdeal.main_arg1))) = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_act_finite [hPre_act_finite : Cert.Pre_act_finite.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_act_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1))) = (fun _ => 1#1)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1)
      ∧ r.2.mem ((c.tc : Thread Cert.SbKernel.nD Cert.SbKernel.τ).loc Cert.SbKernel.main_arg2) = m ((c.tc : Thread Cert.SbKernel.nD Cert.SbKernel.τ).loc Cert.SbKernel.main_arg2)
      ∧ r.2.mem ((c.tc : Thread Cert.SbKernel.nD Cert.SbKernel.τ).loc Cert.SbKernel.main_arg3) = m ((c.tc : Thread Cert.SbKernel.nD Cert.SbKernel.τ).loc Cert.SbKernel.main_arg3))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ r.2.sem = fun _ => 0)

def quiescent_SbKernelIdeal_pre_sb_finite [hSbKernelIdeal : Cert.SbKernelIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_sb_finite m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_SbReferenceIdeal_pre_sb_finite [hSbReferenceIdeal : Cert.SbReferenceIdeal.Facts] [hPre_sb_finite : Cert.Pre_sb_finite.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_sb_finite m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5)
      ∧ r.2.mem ((c.tc : Thread Cert.UpKernel.nD Cert.UpKernel.τ).loc Cert.UpKernel.main_arg6) = m ((c.tc : Thread Cert.UpKernel.nD Cert.UpKernel.τ).loc Cert.UpKernel.main_arg6))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
      ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6))
      ∧ r.2.sem = fun _ => 0)

def quiescent_UpKernelIdeal_pre_up_finite [hUpKernelIdeal : Cert.UpKernelIdeal.Facts] [hPre_up_finite : Cert.Pre_up_finite.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal_up_finite m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
      ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6))
      ∧ r.2.sem = fun _ => 0)

def quiescent_UpReferenceIdeal_pre_up_finite [hUpReferenceIdeal : Cert.UpReferenceIdeal.Facts] [hPre_up_finite : Cert.Pre_up_finite.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_up_finite m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5)
      ∧ r.2.mem ((c.tc : Thread Cert.LossKernel.nD Cert.LossKernel.τ).loc Cert.LossKernel.main_arg6) = m ((c.tc : Thread Cert.LossKernel.nD Cert.LossKernel.τ).loc Cert.LossKernel.main_arg6)
      ∧ r.2.mem ((c.tc : Thread Cert.LossKernel.nD Cert.LossKernel.τ).loc Cert.LossKernel.main_arg7) = m ((c.tc : Thread Cert.LossKernel.nD Cert.LossKernel.τ).loc Cert.LossKernel.main_arg7))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
      ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6)
      ∧ r.2.mem ((c.tc : Thread Cert.LossKernelIdeal.nD Cert.LossKernelIdeal.τ).loc Cert.LossKernelIdeal.main_arg7) = m ((c.tc : Thread Cert.LossKernelIdeal.nD Cert.LossKernelIdeal.τ).loc Cert.LossKernelIdeal.main_arg7))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
      ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6)
      ∧ r.2.mem ((c.tc : Thread Cert.LossKernelIdeal.nD Cert.LossKernelIdeal.τ).loc Cert.LossKernelIdeal.main_arg7) = m ((c.tc : Thread Cert.LossKernelIdeal.nD Cert.LossKernelIdeal.τ).loc Cert.LossKernelIdeal.main_arg7))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6)
      ∧ r.2.mem ((c.tc : Thread Cert.LossReferenceIdeal.nD Cert.LossReferenceIdeal.τ).loc Cert.LossReferenceIdeal.main_arg7) = m ((c.tc : Thread Cert.LossReferenceIdeal.nD Cert.LossReferenceIdeal.τ).loc Cert.LossReferenceIdeal.main_arg7))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6)
      ∧ r.2.mem ((c.tc : Thread Cert.LossReferenceIdeal.nD Cert.LossReferenceIdeal.τ).loc Cert.LossReferenceIdeal.main_arg7) = m ((c.tc : Thread Cert.LossReferenceIdeal.nD Cert.LossReferenceIdeal.τ).loc Cert.LossReferenceIdeal.main_arg7))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7)
      ∧ r.2.mem ((c.tc : Thread Cert.ProjKernel.nD Cert.ProjKernel.τ).loc Cert.ProjKernel.main_arg8) = m ((c.tc : Thread Cert.ProjKernel.nD Cert.ProjKernel.τ).loc Cert.ProjKernel.main_arg8)
      ∧ r.2.mem ((c.tc : Thread Cert.ProjKernel.nD Cert.ProjKernel.τ).loc Cert.ProjKernel.main_arg9) = m ((c.tc : Thread Cert.ProjKernel.nD Cert.ProjKernel.τ).loc Cert.ProjKernel.main_arg9))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9))
      ∧ r.2.sem = fun _ => 0)

def quiescent_ProjKernelIdeal_pre_proj_finite [hProjKernelIdeal : Cert.ProjKernelIdeal.Facts] [hPre_proj_finite : Cert.Pre_proj_finite.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal_proj_finite m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9))
      ∧ r.2.sem = fun _ => 0)

def quiescent_ProjReferenceIdeal_pre_proj_finite [hProjReferenceIdeal : Cert.ProjReferenceIdeal.Facts] [hPre_proj_finite : Cert.Pre_proj_finite.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_proj_finite m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3))
      ∧ r.2.sem = fun _ => 0)

def quiescent_JoinKernel [hJoinKernel : Cert.JoinKernel.Facts] : Prop :=
  ∀ (m : (ℓ : Loc Cert.JoinKernel.nD Cert.JoinKernel.τ Cert.JoinKernel.sig) → Buf (Elt Bits) ℓ) (g : Dev Cert.JoinKernel.nD → PrngReg), Pre_JoinKernel m →
    θ_run (Cert.JoinKernel.defs (F := Bits)) (onTc (τ := Cert.JoinKernel.τ) (Cert.JoinKernel.main (F := Bits))) ⟨m, fun _ => 0, g⟩ (fun r => (∀ c : Dev Cert.JoinKernel.nD,
      r.2.mem ((c.tc : Thread Cert.JoinKernel.nD Cert.JoinKernel.τ).loc Cert.JoinKernel.main_arg0) = m ((c.tc : Thread Cert.JoinKernel.nD Cert.JoinKernel.τ).loc Cert.JoinKernel.main_arg0)
      ∧ r.2.mem ((c.tc : Thread Cert.JoinKernel.nD Cert.JoinKernel.τ).loc Cert.JoinKernel.main_arg1) = m ((c.tc : Thread Cert.JoinKernel.nD Cert.JoinKernel.τ).loc Cert.JoinKernel.main_arg1)
      ∧ r.2.mem ((c.tc : Thread Cert.JoinKernel.nD Cert.JoinKernel.τ).loc Cert.JoinKernel.main_arg2) = m ((c.tc : Thread Cert.JoinKernel.nD Cert.JoinKernel.τ).loc Cert.JoinKernel.main_arg2)
      ∧ r.2.mem ((c.tc : Thread Cert.JoinKernel.nD Cert.JoinKernel.τ).loc Cert.JoinKernel.main_arg3) = m ((c.tc : Thread Cert.JoinKernel.nD Cert.JoinKernel.τ).loc Cert.JoinKernel.main_arg3)
      ∧ r.2.mem ((c.tc : Thread Cert.JoinKernel.nD Cert.JoinKernel.τ).loc Cert.JoinKernel.main_arg4) = m ((c.tc : Thread Cert.JoinKernel.nD Cert.JoinKernel.τ).loc Cert.JoinKernel.main_arg4)
      ∧ r.2.mem ((c.tc : Thread Cert.JoinKernel.nD Cert.JoinKernel.τ).loc Cert.JoinKernel.main_arg5) = m ((c.tc : Thread Cert.JoinKernel.nD Cert.JoinKernel.τ).loc Cert.JoinKernel.main_arg5)
      ∧ r.2.mem ((c.tc : Thread Cert.JoinKernel.nD Cert.JoinKernel.τ).loc Cert.JoinKernel.main_arg6) = m ((c.tc : Thread Cert.JoinKernel.nD Cert.JoinKernel.τ).loc Cert.JoinKernel.main_arg6)
      ∧ r.2.mem ((c.tc : Thread Cert.JoinKernel.nD Cert.JoinKernel.τ).loc Cert.JoinKernel.main_arg7) = m ((c.tc : Thread Cert.JoinKernel.nD Cert.JoinKernel.τ).loc Cert.JoinKernel.main_arg7))
      ∧ r.2.sem = fun _ => 0)

def quiescent_JoinKernelIdeal [hJoinKernelIdeal : Cert.JoinKernelIdeal.Facts] : Prop :=
  ∀ (m : (ℓ : Loc Cert.JoinKernelIdeal.nD Cert.JoinKernelIdeal.τ Cert.JoinKernelIdeal.sig) → Buf (Elt Ideal) ℓ) (g : Dev Cert.JoinKernelIdeal.nD → PrngReg), Pre_JoinKernelIdeal m →
    θ_run (Cert.JoinKernelIdeal.defs (F := Ideal)) (onTc (τ := Cert.JoinKernelIdeal.τ) (Cert.JoinKernelIdeal.main (F := Ideal))) ⟨m, fun _ => 0, g⟩ (fun r => (∀ c : Dev Cert.JoinKernelIdeal.nD,
      r.2.mem ((c.tc : Thread Cert.JoinKernelIdeal.nD Cert.JoinKernelIdeal.τ).loc Cert.JoinKernelIdeal.main_arg0) = m ((c.tc : Thread Cert.JoinKernelIdeal.nD Cert.JoinKernelIdeal.τ).loc Cert.JoinKernelIdeal.main_arg0)
      ∧ r.2.mem ((c.tc : Thread Cert.JoinKernelIdeal.nD Cert.JoinKernelIdeal.τ).loc Cert.JoinKernelIdeal.main_arg1) = m ((c.tc : Thread Cert.JoinKernelIdeal.nD Cert.JoinKernelIdeal.τ).loc Cert.JoinKernelIdeal.main_arg1)
      ∧ r.2.mem ((c.tc : Thread Cert.JoinKernelIdeal.nD Cert.JoinKernelIdeal.τ).loc Cert.JoinKernelIdeal.main_arg2) = m ((c.tc : Thread Cert.JoinKernelIdeal.nD Cert.JoinKernelIdeal.τ).loc Cert.JoinKernelIdeal.main_arg2)
      ∧ r.2.mem ((c.tc : Thread Cert.JoinKernelIdeal.nD Cert.JoinKernelIdeal.τ).loc Cert.JoinKernelIdeal.main_arg3) = m ((c.tc : Thread Cert.JoinKernelIdeal.nD Cert.JoinKernelIdeal.τ).loc Cert.JoinKernelIdeal.main_arg3)
      ∧ r.2.mem ((c.tc : Thread Cert.JoinKernelIdeal.nD Cert.JoinKernelIdeal.τ).loc Cert.JoinKernelIdeal.main_arg4) = m ((c.tc : Thread Cert.JoinKernelIdeal.nD Cert.JoinKernelIdeal.τ).loc Cert.JoinKernelIdeal.main_arg4)
      ∧ r.2.mem ((c.tc : Thread Cert.JoinKernelIdeal.nD Cert.JoinKernelIdeal.τ).loc Cert.JoinKernelIdeal.main_arg5) = m ((c.tc : Thread Cert.JoinKernelIdeal.nD Cert.JoinKernelIdeal.τ).loc Cert.JoinKernelIdeal.main_arg5)
      ∧ r.2.mem ((c.tc : Thread Cert.JoinKernelIdeal.nD Cert.JoinKernelIdeal.τ).loc Cert.JoinKernelIdeal.main_arg6) = m ((c.tc : Thread Cert.JoinKernelIdeal.nD Cert.JoinKernelIdeal.τ).loc Cert.JoinKernelIdeal.main_arg6)
      ∧ r.2.mem ((c.tc : Thread Cert.JoinKernelIdeal.nD Cert.JoinKernelIdeal.τ).loc Cert.JoinKernelIdeal.main_arg7) = m ((c.tc : Thread Cert.JoinKernelIdeal.nD Cert.JoinKernelIdeal.τ).loc Cert.JoinKernelIdeal.main_arg7))
      ∧ r.2.sem = fun _ => 0)

def quiescent_JoinReferenceIdeal [hJoinReferenceIdeal : Cert.JoinReferenceIdeal.Facts] : Prop :=
  ∀ (m : (ℓ : Loc Cert.JoinReferenceIdeal.nD Cert.JoinReferenceIdeal.τ Cert.JoinReferenceIdeal.sig) → Buf (Elt Ideal) ℓ) (g : Dev Cert.JoinReferenceIdeal.nD → PrngReg), Pre_JoinReferenceIdeal m →
    θ_run (Cert.JoinReferenceIdeal.defs (F := Ideal)) (onTc (τ := Cert.JoinReferenceIdeal.τ) (Cert.JoinReferenceIdeal.main (F := Ideal))) ⟨m, fun _ => 0, g⟩ (fun r => (∀ c : Dev Cert.JoinReferenceIdeal.nD,
      r.2.mem ((c.tc : Thread Cert.JoinReferenceIdeal.nD Cert.JoinReferenceIdeal.τ).loc Cert.JoinReferenceIdeal.main_arg0) = m ((c.tc : Thread Cert.JoinReferenceIdeal.nD Cert.JoinReferenceIdeal.τ).loc Cert.JoinReferenceIdeal.main_arg0)
      ∧ r.2.mem ((c.tc : Thread Cert.JoinReferenceIdeal.nD Cert.JoinReferenceIdeal.τ).loc Cert.JoinReferenceIdeal.main_arg1) = m ((c.tc : Thread Cert.JoinReferenceIdeal.nD Cert.JoinReferenceIdeal.τ).loc Cert.JoinReferenceIdeal.main_arg1)
      ∧ r.2.mem ((c.tc : Thread Cert.JoinReferenceIdeal.nD Cert.JoinReferenceIdeal.τ).loc Cert.JoinReferenceIdeal.main_arg2) = m ((c.tc : Thread Cert.JoinReferenceIdeal.nD Cert.JoinReferenceIdeal.τ).loc Cert.JoinReferenceIdeal.main_arg2)
      ∧ r.2.mem ((c.tc : Thread Cert.JoinReferenceIdeal.nD Cert.JoinReferenceIdeal.τ).loc Cert.JoinReferenceIdeal.main_arg3) = m ((c.tc : Thread Cert.JoinReferenceIdeal.nD Cert.JoinReferenceIdeal.τ).loc Cert.JoinReferenceIdeal.main_arg3)
      ∧ r.2.mem ((c.tc : Thread Cert.JoinReferenceIdeal.nD Cert.JoinReferenceIdeal.τ).loc Cert.JoinReferenceIdeal.main_arg4) = m ((c.tc : Thread Cert.JoinReferenceIdeal.nD Cert.JoinReferenceIdeal.τ).loc Cert.JoinReferenceIdeal.main_arg4)
      ∧ r.2.mem ((c.tc : Thread Cert.JoinReferenceIdeal.nD Cert.JoinReferenceIdeal.τ).loc Cert.JoinReferenceIdeal.main_arg5) = m ((c.tc : Thread Cert.JoinReferenceIdeal.nD Cert.JoinReferenceIdeal.τ).loc Cert.JoinReferenceIdeal.main_arg5)
      ∧ r.2.mem ((c.tc : Thread Cert.JoinReferenceIdeal.nD Cert.JoinReferenceIdeal.τ).loc Cert.JoinReferenceIdeal.main_arg6) = m ((c.tc : Thread Cert.JoinReferenceIdeal.nD Cert.JoinReferenceIdeal.τ).loc Cert.JoinReferenceIdeal.main_arg6)
      ∧ r.2.mem ((c.tc : Thread Cert.JoinReferenceIdeal.nD Cert.JoinReferenceIdeal.τ).loc Cert.JoinReferenceIdeal.main_arg7) = m ((c.tc : Thread Cert.JoinReferenceIdeal.nD Cert.JoinReferenceIdeal.τ).loc Cert.JoinReferenceIdeal.main_arg7))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1))
      ∧ r.2.sem = fun _ => 0)

def quiescent_ActKernelIdeal_pre_act_finite [hActKernelIdeal : Cert.ActKernelIdeal.Facts] [hPre_act_finite : Cert.Pre_act_finite.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal_act_finite m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1))
      ∧ r.2.sem = fun _ => 0)

def quiescent_ActReferenceIdeal_pre_act_finite [hActReferenceIdeal : Cert.ActReferenceIdeal.Facts] [hPre_act_finite : Cert.Pre_act_finite.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_act_finite m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1))
      ∧ r.2.sem = fun _ => 0)

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v21_0)) (v1 : (c : Dev Cert.GateKernelIdeal.nD) → Buf (Elt Ideal) ((c.tc : Thread Cert.GateKernelIdeal.nD Cert.GateKernelIdeal.τ).loc Cert.GateKernelIdeal.main_v21_1)) (v2 : (c : Dev Cert.GateKernelIdeal.nD) → Buf (Elt Ideal) ((c.tc : Thread Cert.GateKernelIdeal.nD Cert.GateKernelIdeal.τ).loc Cert.GateKernelIdeal.main_v21_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v21_0) = v0 c
          ∧ r.2.mem ((c.tc : Thread Cert.GateKernelIdeal.nD Cert.GateKernelIdeal.τ).loc Cert.GateKernelIdeal.main_v21_1) = v1 c
          ∧ r.2.mem ((c.tc : Thread Cert.GateKernelIdeal.nD Cert.GateKernelIdeal.τ).loc Cert.GateKernelIdeal.main_v21_2) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v11) = v0 c
          ∧ r.2.mem ((c.tc : Thread Cert.GateReferenceIdeal.nD Cert.GateReferenceIdeal.τ).loc Cert.GateReferenceIdeal.main_v12) = v1 c
          ∧ r.2.mem ((c.tc : Thread Cert.GateReferenceIdeal.nD Cert.GateReferenceIdeal.τ).loc Cert.GateReferenceIdeal.main_v13) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_SbKernel_SbKernelIdeal : Prop :=
  True

def algebraic_SbKernelIdeal_SbReferenceIdeal_pre_sb_finite [hSbKernelIdeal : Cert.SbKernelIdeal.Facts] [hSbReferenceIdeal : Cert.SbReferenceIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_sb_finite m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)
      ∧ m' ((c.tc : Thread Cert.SbReferenceIdeal.nD Cert.SbReferenceIdeal.τ).loc Cert.SbReferenceIdeal.main_arg2) = m ((c.tc : Thread Cert.SbKernelIdeal.nD Cert.SbKernelIdeal.τ).loc Cert.SbKernelIdeal.main_arg2)
      ∧ m' ((c.tc : Thread Cert.SbReferenceIdeal.nD Cert.SbReferenceIdeal.τ).loc Cert.SbReferenceIdeal.main_arg3) = m ((c.tc : Thread Cert.SbKernelIdeal.nD Cert.SbKernelIdeal.τ).loc Cert.SbKernelIdeal.main_arg3)) →
    ∃ (v0 : (c : Dev Cert.SbKernelIdeal.nD) → Buf (Elt Ideal) ((c.tc : Thread Cert.SbKernelIdeal.nD Cert.SbKernelIdeal.τ).loc Cert.SbKernelIdeal.main_v48_0)) (v1 : (c : Dev Cert.SbKernelIdeal.nD) → Buf (Elt Ideal) ((c.tc : Thread Cert.SbKernelIdeal.nD Cert.SbKernelIdeal.τ).loc Cert.SbKernelIdeal.main_v48_1)) (v2 : (c : Dev Cert.SbKernelIdeal.nD) → Buf (Elt Ideal) ((c.tc : Thread Cert.SbKernelIdeal.nD Cert.SbKernelIdeal.τ).loc Cert.SbKernelIdeal.main_v48_2)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v48_0) = v0 c
          ∧ r.2.mem ((c.tc : Thread Cert.SbKernelIdeal.nD Cert.SbKernelIdeal.τ).loc Cert.SbKernelIdeal.main_v48_1) = v1 c
          ∧ r.2.mem ((c.tc : Thread Cert.SbKernelIdeal.nD Cert.SbKernelIdeal.τ).loc Cert.SbKernelIdeal.main_v48_2) = v2 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
          ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
          ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v48) = v0 c
          ∧ r.2.mem ((c.tc : Thread Cert.SbReferenceIdeal.nD Cert.SbReferenceIdeal.τ).loc Cert.SbReferenceIdeal.main_v49) = v1 c
          ∧ r.2.mem ((c.tc : Thread Cert.SbReferenceIdeal.nD Cert.SbReferenceIdeal.τ).loc Cert.SbReferenceIdeal.main_v50) = v2 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2)
          ∧ r.2.mem ((c.tc : Thread Cert.SbReferenceIdeal.nD Cert.SbReferenceIdeal.τ).loc Cert.SbReferenceIdeal.main_arg3) = m' ((c.tc : Thread Cert.SbReferenceIdeal.nD Cert.SbReferenceIdeal.τ).loc Cert.SbReferenceIdeal.main_arg3))

def preserves_UpKernel_UpKernelIdeal : Prop :=
  True

def algebraic_UpKernelIdeal_UpReferenceIdeal_pre_up_finite [hUpKernelIdeal : Cert.UpKernelIdeal.Facts] [hUpReferenceIdeal : Cert.UpReferenceIdeal.Facts] [hPre_up_finite : Cert.Pre_up_finite.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal_up_finite m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)
      ∧ m' ((c.tc : Thread Cert.UpReferenceIdeal.nD Cert.UpReferenceIdeal.τ).loc Cert.UpReferenceIdeal.main_arg6) = m ((c.tc : Thread Cert.UpKernelIdeal.nD Cert.UpKernelIdeal.τ).loc Cert.UpKernelIdeal.main_arg6)) →
    ∃ (v0 : (c : Dev Cert.UpKernelIdeal.nD) → Buf (Elt Ideal) ((c.tc : Thread Cert.UpKernelIdeal.nD Cert.UpKernelIdeal.τ).loc Cert.UpKernelIdeal.main_v16_0)) (v1 : (c : Dev Cert.UpKernelIdeal.nD) → Buf (Elt Ideal) ((c.tc : Thread Cert.UpKernelIdeal.nD Cert.UpKernelIdeal.τ).loc Cert.UpKernelIdeal.main_v16_1)) (v2 : (c : Dev Cert.UpKernelIdeal.nD) → Buf (Elt Ideal) ((c.tc : Thread Cert.UpKernelIdeal.nD Cert.UpKernelIdeal.τ).loc Cert.UpKernelIdeal.main_v16_2)) (v3 : (c : Dev Cert.UpKernelIdeal.nD) → Buf (Elt Ideal) ((c.tc : Thread Cert.UpKernelIdeal.nD Cert.UpKernelIdeal.τ).loc Cert.UpKernelIdeal.main_v16_3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v16_0) = v0 c
          ∧ r.2.mem ((c.tc : Thread Cert.UpKernelIdeal.nD Cert.UpKernelIdeal.τ).loc Cert.UpKernelIdeal.main_v16_1) = v1 c
          ∧ r.2.mem ((c.tc : Thread Cert.UpKernelIdeal.nD Cert.UpKernelIdeal.τ).loc Cert.UpKernelIdeal.main_v16_2) = v2 c
          ∧ r.2.mem ((c.tc : Thread Cert.UpKernelIdeal.nD Cert.UpKernelIdeal.τ).loc Cert.UpKernelIdeal.main_v16_3) = v3 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
          ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v74) = v0 c
          ∧ r.2.mem ((c.tc : Thread Cert.UpReferenceIdeal.nD Cert.UpReferenceIdeal.τ).loc Cert.UpReferenceIdeal.main_v77) = v1 c
          ∧ r.2.mem ((c.tc : Thread Cert.UpReferenceIdeal.nD Cert.UpReferenceIdeal.τ).loc Cert.UpReferenceIdeal.main_v76) = v2 c
          ∧ r.2.mem ((c.tc : Thread Cert.UpReferenceIdeal.nD Cert.UpReferenceIdeal.τ).loc Cert.UpReferenceIdeal.main_v75) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5)
          ∧ r.2.mem ((c.tc : Thread Cert.UpReferenceIdeal.nD Cert.UpReferenceIdeal.τ).loc Cert.UpReferenceIdeal.main_arg6) = m' ((c.tc : Thread Cert.UpReferenceIdeal.nD Cert.UpReferenceIdeal.τ).loc Cert.UpReferenceIdeal.main_arg6))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)
      ∧ m' ((c.tc : Thread Cert.LossReferenceIdeal.nD Cert.LossReferenceIdeal.τ).loc Cert.LossReferenceIdeal.main_arg6) = m ((c.tc : Thread Cert.LossKernelIdeal.nD Cert.LossKernelIdeal.τ).loc Cert.LossKernelIdeal.main_arg6)
      ∧ m' ((c.tc : Thread Cert.LossReferenceIdeal.nD Cert.LossReferenceIdeal.τ).loc Cert.LossReferenceIdeal.main_arg7) = m ((c.tc : Thread Cert.LossKernelIdeal.nD Cert.LossKernelIdeal.τ).loc Cert.LossKernelIdeal.main_arg7)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)) (v3 : (c : Dev Cert.LossKernelIdeal.nD) → Buf (Elt Ideal) ((c.tc : Thread Cert.LossKernelIdeal.nD Cert.LossKernelIdeal.τ).loc Cert.LossKernelIdeal.main_v3_3)) (v4 : (c : Dev Cert.LossKernelIdeal.nD) → Buf (Elt Ideal) ((c.tc : Thread Cert.LossKernelIdeal.nD Cert.LossKernelIdeal.τ).loc Cert.LossKernelIdeal.main_v3_4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_v3_3) = v3 c
          ∧ r.2.mem ((c.tc : Thread Cert.LossKernelIdeal.nD Cert.LossKernelIdeal.τ).loc Cert.LossKernelIdeal.main_v3_4) = v4 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
          ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6)
          ∧ r.2.mem ((c.tc : Thread Cert.LossKernelIdeal.nD Cert.LossKernelIdeal.τ).loc Cert.LossKernelIdeal.main_arg7) = m ((c.tc : Thread Cert.LossKernelIdeal.nD Cert.LossKernelIdeal.τ).loc Cert.LossKernelIdeal.main_arg7))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v111) = v0 c
          ∧ r.2.mem ((c.tc : Thread Cert.LossReferenceIdeal.nD Cert.LossReferenceIdeal.τ).loc Cert.LossReferenceIdeal.main_v114) = v1 c
          ∧ r.2.mem ((c.tc : Thread Cert.LossReferenceIdeal.nD Cert.LossReferenceIdeal.τ).loc Cert.LossReferenceIdeal.main_v113) = v2 c
          ∧ r.2.mem ((c.tc : Thread Cert.LossReferenceIdeal.nD Cert.LossReferenceIdeal.τ).loc Cert.LossReferenceIdeal.main_v112) = v3 c
          ∧ r.2.mem ((c.tc : Thread Cert.LossReferenceIdeal.nD Cert.LossReferenceIdeal.τ).loc Cert.LossReferenceIdeal.main_v72) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5)
          ∧ r.2.mem ((c.tc : Thread Cert.LossReferenceIdeal.nD Cert.LossReferenceIdeal.τ).loc Cert.LossReferenceIdeal.main_arg6) = m' ((c.tc : Thread Cert.LossReferenceIdeal.nD Cert.LossReferenceIdeal.τ).loc Cert.LossReferenceIdeal.main_arg6)
          ∧ r.2.mem ((c.tc : Thread Cert.LossReferenceIdeal.nD Cert.LossReferenceIdeal.τ).loc Cert.LossReferenceIdeal.main_arg7) = m' ((c.tc : Thread Cert.LossReferenceIdeal.nD Cert.LossReferenceIdeal.τ).loc Cert.LossReferenceIdeal.main_arg7))

def preserves_ProjKernel_ProjKernelIdeal : Prop :=
  True

def algebraic_ProjKernelIdeal_ProjReferenceIdeal_pre_proj_finite [hProjKernelIdeal : Cert.ProjKernelIdeal.Facts] [hProjReferenceIdeal : Cert.ProjReferenceIdeal.Facts] [hPre_proj_finite : Cert.Pre_proj_finite.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal_proj_finite m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)
      ∧ m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9)) →
    ∃ (v0 : (c : Dev Cert.ProjKernelIdeal.nD) → Buf (Elt Ideal) ((c.tc : Thread Cert.ProjKernelIdeal.nD Cert.ProjKernelIdeal.τ).loc Cert.ProjKernelIdeal.main_v8_0)) (v1 : (c : Dev Cert.ProjKernelIdeal.nD) → Buf (Elt Ideal) ((c.tc : Thread Cert.ProjKernelIdeal.nD Cert.ProjKernelIdeal.τ).loc Cert.ProjKernelIdeal.main_v8_1)) (v2 : (c : Dev Cert.ProjKernelIdeal.nD) → Buf (Elt Ideal) ((c.tc : Thread Cert.ProjKernelIdeal.nD Cert.ProjKernelIdeal.τ).loc Cert.ProjKernelIdeal.main_v8_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v8_0) = v0 c
          ∧ r.2.mem ((c.tc : Thread Cert.ProjKernelIdeal.nD Cert.ProjKernelIdeal.τ).loc Cert.ProjKernelIdeal.main_v8_1) = v1 c
          ∧ r.2.mem ((c.tc : Thread Cert.ProjKernelIdeal.nD Cert.ProjKernelIdeal.τ).loc Cert.ProjKernelIdeal.main_v8_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
          ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
          ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v75) = v0 c
          ∧ r.2.mem ((c.tc : Thread Cert.ProjReferenceIdeal.nD Cert.ProjReferenceIdeal.τ).loc Cert.ProjReferenceIdeal.main_v76) = v1 c
          ∧ r.2.mem ((c.tc : Thread Cert.ProjReferenceIdeal.nD Cert.ProjReferenceIdeal.τ).loc Cert.ProjReferenceIdeal.main_v77) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)) →
    ∃ (v0 : (c : Dev Cert.MixKernelIdeal.nD) → Buf (Elt Ideal) ((c.tc : Thread Cert.MixKernelIdeal.nD Cert.MixKernelIdeal.τ).loc Cert.MixKernelIdeal.main_v30_0)) (v1 : (c : Dev Cert.MixKernelIdeal.nD) → Buf (Elt Ideal) ((c.tc : Thread Cert.MixKernelIdeal.nD Cert.MixKernelIdeal.τ).loc Cert.MixKernelIdeal.main_v30_1)) (v2 : (c : Dev Cert.MixKernelIdeal.nD) → Buf (Elt Ideal) ((c.tc : Thread Cert.MixKernelIdeal.nD Cert.MixKernelIdeal.τ).loc Cert.MixKernelIdeal.main_v30_2)) (v3 : (c : Dev Cert.MixKernelIdeal.nD) → Buf (Elt Ideal) ((c.tc : Thread Cert.MixKernelIdeal.nD Cert.MixKernelIdeal.τ).loc Cert.MixKernelIdeal.main_v30_3)) (v4 : (c : Dev Cert.MixKernelIdeal.nD) → Buf (Elt Ideal) ((c.tc : Thread Cert.MixKernelIdeal.nD Cert.MixKernelIdeal.τ).loc Cert.MixKernelIdeal.main_v30_4)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v30_0) = v0 c
          ∧ r.2.mem ((c.tc : Thread Cert.MixKernelIdeal.nD Cert.MixKernelIdeal.τ).loc Cert.MixKernelIdeal.main_v30_1) = v1 c
          ∧ r.2.mem ((c.tc : Thread Cert.MixKernelIdeal.nD Cert.MixKernelIdeal.τ).loc Cert.MixKernelIdeal.main_v30_2) = v2 c
          ∧ r.2.mem ((c.tc : Thread Cert.MixKernelIdeal.nD Cert.MixKernelIdeal.τ).loc Cert.MixKernelIdeal.main_v30_3) = v3 c
          ∧ r.2.mem ((c.tc : Thread Cert.MixKernelIdeal.nD Cert.MixKernelIdeal.τ).loc Cert.MixKernelIdeal.main_v30_4) = v4 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v87) = v0 c
          ∧ r.2.mem ((c.tc : Thread Cert.MixReferenceIdeal.nD Cert.MixReferenceIdeal.τ).loc Cert.MixReferenceIdeal.main_v90) = v1 c
          ∧ r.2.mem ((c.tc : Thread Cert.MixReferenceIdeal.nD Cert.MixReferenceIdeal.τ).loc Cert.MixReferenceIdeal.main_v84) = v2 c
          ∧ r.2.mem ((c.tc : Thread Cert.MixReferenceIdeal.nD Cert.MixReferenceIdeal.τ).loc Cert.MixReferenceIdeal.main_v65) = v3 c
          ∧ r.2.mem ((c.tc : Thread Cert.MixReferenceIdeal.nD Cert.MixReferenceIdeal.τ).loc Cert.MixReferenceIdeal.main_v91) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)) →
    ∃ (v0 : (c : Dev Cert.SmallKernelIdeal.nD) → Buf (Elt Ideal) ((c.tc : Thread Cert.SmallKernelIdeal.nD Cert.SmallKernelIdeal.τ).loc Cert.SmallKernelIdeal.main_v0)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v0) = v0 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v47) = v0 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3))

def preserves_JoinKernel_JoinKernelIdeal : Prop :=
  True

def algebraic_JoinKernelIdeal_JoinReferenceIdeal [hJoinKernelIdeal : Cert.JoinKernelIdeal.Facts] [hJoinReferenceIdeal : Cert.JoinReferenceIdeal.Facts] : Prop :=
  ∀ (m : (ℓ : Loc Cert.JoinKernelIdeal.nD Cert.JoinKernelIdeal.τ Cert.JoinKernelIdeal.sig) → Buf (Elt Ideal) ℓ) (g : Dev Cert.JoinKernelIdeal.nD → PrngReg)
    (m' : (ℓ : Loc Cert.JoinReferenceIdeal.nD Cert.JoinReferenceIdeal.τ Cert.JoinReferenceIdeal.sig) → Buf (Elt Ideal) ℓ) (g' : Dev Cert.JoinReferenceIdeal.nD → PrngReg), Pre_JoinKernelIdeal m →
    (∀ c : Dev Cert.JoinKernelIdeal.nD,
      m' ((c.tc : Thread Cert.JoinReferenceIdeal.nD Cert.JoinReferenceIdeal.τ).loc Cert.JoinReferenceIdeal.main_arg0) = m ((c.tc : Thread Cert.JoinKernelIdeal.nD Cert.JoinKernelIdeal.τ).loc Cert.JoinKernelIdeal.main_arg0)
      ∧ m' ((c.tc : Thread Cert.JoinReferenceIdeal.nD Cert.JoinReferenceIdeal.τ).loc Cert.JoinReferenceIdeal.main_arg1) = m ((c.tc : Thread Cert.JoinKernelIdeal.nD Cert.JoinKernelIdeal.τ).loc Cert.JoinKernelIdeal.main_arg1)
      ∧ m' ((c.tc : Thread Cert.JoinReferenceIdeal.nD Cert.JoinReferenceIdeal.τ).loc Cert.JoinReferenceIdeal.main_arg2) = m ((c.tc : Thread Cert.JoinKernelIdeal.nD Cert.JoinKernelIdeal.τ).loc Cert.JoinKernelIdeal.main_arg2)
      ∧ m' ((c.tc : Thread Cert.JoinReferenceIdeal.nD Cert.JoinReferenceIdeal.τ).loc Cert.JoinReferenceIdeal.main_arg3) = m ((c.tc : Thread Cert.JoinKernelIdeal.nD Cert.JoinKernelIdeal.τ).loc Cert.JoinKernelIdeal.main_arg3)
      ∧ m' ((c.tc : Thread Cert.JoinReferenceIdeal.nD Cert.JoinReferenceIdeal.τ).loc Cert.JoinReferenceIdeal.main_arg4) = m ((c.tc : Thread Cert.JoinKernelIdeal.nD Cert.JoinKernelIdeal.τ).loc Cert.JoinKernelIdeal.main_arg4)
      ∧ m' ((c.tc : Thread Cert.JoinReferenceIdeal.nD Cert.JoinReferenceIdeal.τ).loc Cert.JoinReferenceIdeal.main_arg5) = m ((c.tc : Thread Cert.JoinKernelIdeal.nD Cert.JoinKernelIdeal.τ).loc Cert.JoinKernelIdeal.main_arg5)
      ∧ m' ((c.tc : Thread Cert.JoinReferenceIdeal.nD Cert.JoinReferenceIdeal.τ).loc Cert.JoinReferenceIdeal.main_arg6) = m ((c.tc : Thread Cert.JoinKernelIdeal.nD Cert.JoinKernelIdeal.τ).loc Cert.JoinKernelIdeal.main_arg6)
      ∧ m' ((c.tc : Thread Cert.JoinReferenceIdeal.nD Cert.JoinReferenceIdeal.τ).loc Cert.JoinReferenceIdeal.main_arg7) = m ((c.tc : Thread Cert.JoinKernelIdeal.nD Cert.JoinKernelIdeal.τ).loc Cert.JoinKernelIdeal.main_arg7)) →
    ∃ (v0 : (c : Dev Cert.JoinKernelIdeal.nD) → Buf (Elt Ideal) ((c.tc : Thread Cert.JoinKernelIdeal.nD Cert.JoinKernelIdeal.τ).loc Cert.JoinKernelIdeal.main_v2_0)) (v1 : (c : Dev Cert.JoinKernelIdeal.nD) → Buf (Elt Ideal) ((c.tc : Thread Cert.JoinKernelIdeal.nD Cert.JoinKernelIdeal.τ).loc Cert.JoinKernelIdeal.main_v2_1)) (v2 : (c : Dev Cert.JoinKernelIdeal.nD) → Buf (Elt Ideal) ((c.tc : Thread Cert.JoinKernelIdeal.nD Cert.JoinKernelIdeal.τ).loc Cert.JoinKernelIdeal.main_v2_2)),
      θ_run (Cert.JoinKernelIdeal.defs (F := Ideal)) (onTc (τ := Cert.JoinKernelIdeal.τ) (Cert.JoinKernelIdeal.main (F := Ideal))) ⟨m, fun _ => 0, g⟩ (fun r => ∀ c : Dev Cert.JoinKernelIdeal.nD,
          r.2.mem ((c.tc : Thread Cert.JoinKernelIdeal.nD Cert.JoinKernelIdeal.τ).loc Cert.JoinKernelIdeal.main_v2_0) = v0 c
          ∧ r.2.mem ((c.tc : Thread Cert.JoinKernelIdeal.nD Cert.JoinKernelIdeal.τ).loc Cert.JoinKernelIdeal.main_v2_1) = v1 c
          ∧ r.2.mem ((c.tc : Thread Cert.JoinKernelIdeal.nD Cert.JoinKernelIdeal.τ).loc Cert.JoinKernelIdeal.main_v2_2) = v2 c
          ∧ r.2.mem ((c.tc : Thread Cert.JoinKernelIdeal.nD Cert.JoinKernelIdeal.τ).loc Cert.JoinKernelIdeal.main_arg0) = m ((c.tc : Thread Cert.JoinKernelIdeal.nD Cert.JoinKernelIdeal.τ).loc Cert.JoinKernelIdeal.main_arg0)
          ∧ r.2.mem ((c.tc : Thread Cert.JoinKernelIdeal.nD Cert.JoinKernelIdeal.τ).loc Cert.JoinKernelIdeal.main_arg1) = m ((c.tc : Thread Cert.JoinKernelIdeal.nD Cert.JoinKernelIdeal.τ).loc Cert.JoinKernelIdeal.main_arg1)
          ∧ r.2.mem ((c.tc : Thread Cert.JoinKernelIdeal.nD Cert.JoinKernelIdeal.τ).loc Cert.JoinKernelIdeal.main_arg2) = m ((c.tc : Thread Cert.JoinKernelIdeal.nD Cert.JoinKernelIdeal.τ).loc Cert.JoinKernelIdeal.main_arg2)
          ∧ r.2.mem ((c.tc : Thread Cert.JoinKernelIdeal.nD Cert.JoinKernelIdeal.τ).loc Cert.JoinKernelIdeal.main_arg3) = m ((c.tc : Thread Cert.JoinKernelIdeal.nD Cert.JoinKernelIdeal.τ).loc Cert.JoinKernelIdeal.main_arg3)
          ∧ r.2.mem ((c.tc : Thread Cert.JoinKernelIdeal.nD Cert.JoinKernelIdeal.τ).loc Cert.JoinKernelIdeal.main_arg4) = m ((c.tc : Thread Cert.JoinKernelIdeal.nD Cert.JoinKernelIdeal.τ).loc Cert.JoinKernelIdeal.main_arg4)
          ∧ r.2.mem ((c.tc : Thread Cert.JoinKernelIdeal.nD Cert.JoinKernelIdeal.τ).loc Cert.JoinKernelIdeal.main_arg5) = m ((c.tc : Thread Cert.JoinKernelIdeal.nD Cert.JoinKernelIdeal.τ).loc Cert.JoinKernelIdeal.main_arg5)
          ∧ r.2.mem ((c.tc : Thread Cert.JoinKernelIdeal.nD Cert.JoinKernelIdeal.τ).loc Cert.JoinKernelIdeal.main_arg6) = m ((c.tc : Thread Cert.JoinKernelIdeal.nD Cert.JoinKernelIdeal.τ).loc Cert.JoinKernelIdeal.main_arg6)
          ∧ r.2.mem ((c.tc : Thread Cert.JoinKernelIdeal.nD Cert.JoinKernelIdeal.τ).loc Cert.JoinKernelIdeal.main_arg7) = m ((c.tc : Thread Cert.JoinKernelIdeal.nD Cert.JoinKernelIdeal.τ).loc Cert.JoinKernelIdeal.main_arg7))
      ∧ θ_run (Cert.JoinReferenceIdeal.defs (F := Ideal)) (onTc (τ := Cert.JoinReferenceIdeal.τ) (Cert.JoinReferenceIdeal.main (F := Ideal))) ⟨m', fun _ => 0, g'⟩ (fun r => ∀ c : Dev Cert.JoinReferenceIdeal.nD,
          r.2.mem ((c.tc : Thread Cert.JoinReferenceIdeal.nD Cert.JoinReferenceIdeal.τ).loc Cert.JoinReferenceIdeal.main_v33) = v0 c
          ∧ r.2.mem ((c.tc : Thread Cert.JoinReferenceIdeal.nD Cert.JoinReferenceIdeal.τ).loc Cert.JoinReferenceIdeal.main_v34) = v1 c
          ∧ r.2.mem ((c.tc : Thread Cert.JoinReferenceIdeal.nD Cert.JoinReferenceIdeal.τ).loc Cert.JoinReferenceIdeal.main_v61) = v2 c
          ∧ r.2.mem ((c.tc : Thread Cert.JoinReferenceIdeal.nD Cert.JoinReferenceIdeal.τ).loc Cert.JoinReferenceIdeal.main_arg0) = m' ((c.tc : Thread Cert.JoinReferenceIdeal.nD Cert.JoinReferenceIdeal.τ).loc Cert.JoinReferenceIdeal.main_arg0)
          ∧ r.2.mem ((c.tc : Thread Cert.JoinReferenceIdeal.nD Cert.JoinReferenceIdeal.τ).loc Cert.JoinReferenceIdeal.main_arg1) = m' ((c.tc : Thread Cert.JoinReferenceIdeal.nD Cert.JoinReferenceIdeal.τ).loc Cert.JoinReferenceIdeal.main_arg1)
          ∧ r.2.mem ((c.tc : Thread Cert.JoinReferenceIdeal.nD Cert.JoinReferenceIdeal.τ).loc Cert.JoinReferenceIdeal.main_arg2) = m' ((c.tc : Thread Cert.JoinReferenceIdeal.nD Cert.JoinReferenceIdeal.τ).loc Cert.JoinReferenceIdeal.main_arg2)
          ∧ r.2.mem ((c.tc : Thread Cert.JoinReferenceIdeal.nD Cert.JoinReferenceIdeal.τ).loc Cert.JoinReferenceIdeal.main_arg3) = m' ((c.tc : Thread Cert.JoinReferenceIdeal.nD Cert.JoinReferenceIdeal.τ).loc Cert.JoinReferenceIdeal.main_arg3)
          ∧ r.2.mem ((c.tc : Thread Cert.JoinReferenceIdeal.nD Cert.JoinReferenceIdeal.τ).loc Cert.JoinReferenceIdeal.main_arg4) = m' ((c.tc : Thread Cert.JoinReferenceIdeal.nD Cert.JoinReferenceIdeal.τ).loc Cert.JoinReferenceIdeal.main_arg4)
          ∧ r.2.mem ((c.tc : Thread Cert.JoinReferenceIdeal.nD Cert.JoinReferenceIdeal.τ).loc Cert.JoinReferenceIdeal.main_arg5) = m' ((c.tc : Thread Cert.JoinReferenceIdeal.nD Cert.JoinReferenceIdeal.τ).loc Cert.JoinReferenceIdeal.main_arg5)
          ∧ r.2.mem ((c.tc : Thread Cert.JoinReferenceIdeal.nD Cert.JoinReferenceIdeal.τ).loc Cert.JoinReferenceIdeal.main_arg6) = m' ((c.tc : Thread Cert.JoinReferenceIdeal.nD Cert.JoinReferenceIdeal.τ).loc Cert.JoinReferenceIdeal.main_arg6)
          ∧ r.2.mem ((c.tc : Thread Cert.JoinReferenceIdeal.nD Cert.JoinReferenceIdeal.τ).loc Cert.JoinReferenceIdeal.main_arg7) = m' ((c.tc : Thread Cert.JoinReferenceIdeal.nD Cert.JoinReferenceIdeal.τ).loc Cert.JoinReferenceIdeal.main_arg7))

def preserves_ActKernel_ActKernelIdeal : Prop :=
  True

def algebraic_ActKernelIdeal_ActReferenceIdeal_pre_act_finite [hActKernelIdeal : Cert.ActKernelIdeal.Facts] [hActReferenceIdeal : Cert.ActReferenceIdeal.Facts] [hPre_act_finite : Cert.Pre_act_finite.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal_act_finite m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)) →
    ∃ (v0 : (c : Dev Cert.ActKernelIdeal.nD) → Buf (Elt Ideal) ((c.tc : Thread Cert.ActKernelIdeal.nD Cert.ActKernelIdeal.τ).loc Cert.ActKernelIdeal.main_v15_0)) (v1 : (c : Dev Cert.ActKernelIdeal.nD) → Buf (Elt Ideal) ((c.tc : Thread Cert.ActKernelIdeal.nD Cert.ActKernelIdeal.τ).loc Cert.ActKernelIdeal.main_v15_1)) (v2 : (c : Dev Cert.ActKernelIdeal.nD) → Buf (Elt Ideal) ((c.tc : Thread Cert.ActKernelIdeal.nD Cert.ActKernelIdeal.τ).loc Cert.ActKernelIdeal.main_v15_2)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v15_0) = v0 c
          ∧ r.2.mem ((c.tc : Thread Cert.ActKernelIdeal.nD Cert.ActKernelIdeal.τ).loc Cert.ActKernelIdeal.main_v15_1) = v1 c
          ∧ r.2.mem ((c.tc : Thread Cert.ActKernelIdeal.nD Cert.ActKernelIdeal.τ).loc Cert.ActKernelIdeal.main_v15_2) = v2 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v6) = v0 c
          ∧ r.2.mem ((c.tc : Thread Cert.ActReferenceIdeal.nD Cert.ActReferenceIdeal.τ).loc Cert.ActReferenceIdeal.main_v8) = v1 c
          ∧ r.2.mem ((c.tc : Thread Cert.ActReferenceIdeal.nD Cert.ActReferenceIdeal.τ).loc Cert.ActReferenceIdeal.main_v12) = v2 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1))

def Claim : Prop :=
  ∃ (hGateKernel : Cert.GateKernel.Facts) (hGateKernelIdeal : Cert.GateKernelIdeal.Facts) (hGateReferenceIdeal : Cert.GateReferenceIdeal.Facts) (hSbKernel : Cert.SbKernel.Facts) (hSbKernelIdeal : Cert.SbKernelIdeal.Facts) (hSbReferenceIdeal : Cert.SbReferenceIdeal.Facts) (hUpKernel : Cert.UpKernel.Facts) (hUpKernelIdeal : Cert.UpKernelIdeal.Facts) (hUpReferenceIdeal : Cert.UpReferenceIdeal.Facts) (hLossKernel : Cert.LossKernel.Facts) (hLossKernelIdeal : Cert.LossKernelIdeal.Facts) (hLossReferenceIdeal : Cert.LossReferenceIdeal.Facts) (hProjKernel : Cert.ProjKernel.Facts) (hProjKernelIdeal : Cert.ProjKernelIdeal.Facts) (hProjReferenceIdeal : Cert.ProjReferenceIdeal.Facts) (hMixKernel : Cert.MixKernel.Facts) (hMixKernelIdeal : Cert.MixKernelIdeal.Facts) (hMixReferenceIdeal : Cert.MixReferenceIdeal.Facts) (hSmallKernel : Cert.SmallKernel.Facts) (hSmallKernelIdeal : Cert.SmallKernelIdeal.Facts) (hSmallReferenceIdeal : Cert.SmallReferenceIdeal.Facts) (hJoinKernel : Cert.JoinKernel.Facts) (hJoinKernelIdeal : Cert.JoinKernelIdeal.Facts) (hJoinReferenceIdeal : Cert.JoinReferenceIdeal.Facts) (hActKernel : Cert.ActKernel.Facts) (hActKernelIdeal : Cert.ActKernelIdeal.Facts) (hActReferenceIdeal : Cert.ActReferenceIdeal.Facts) (hPre_gate_finite : Cert.Pre_gate_finite.Facts) (hPre_sb_finite : Cert.Pre_sb_finite.Facts) (hPre_up_finite : Cert.Pre_up_finite.Facts) (hPre_loss_finite : Cert.Pre_loss_finite.Facts) (hPre_proj_finite : Cert.Pre_proj_finite.Facts) (hPre_mix_finite : Cert.Pre_mix_finite.Facts) (hPre_act_finite : Cert.Pre_act_finite.Facts),
    quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_SbKernel (hSbKernel := hSbKernel)
    ∧ quiescent_SbKernelIdeal (hSbKernelIdeal := hSbKernelIdeal)
    ∧ quiescent_SbKernelIdeal_pre_sb_finite (hSbKernelIdeal := hSbKernelIdeal) (hPre_sb_finite := hPre_sb_finite)
    ∧ quiescent_SbReferenceIdeal (hSbReferenceIdeal := hSbReferenceIdeal)
    ∧ quiescent_SbReferenceIdeal_pre_sb_finite (hSbReferenceIdeal := hSbReferenceIdeal) (hPre_sb_finite := hPre_sb_finite)
    ∧ quiescent_UpKernel (hUpKernel := hUpKernel)
    ∧ quiescent_UpKernelIdeal (hUpKernelIdeal := hUpKernelIdeal)
    ∧ quiescent_UpKernelIdeal_pre_up_finite (hUpKernelIdeal := hUpKernelIdeal) (hPre_up_finite := hPre_up_finite)
    ∧ quiescent_UpReferenceIdeal (hUpReferenceIdeal := hUpReferenceIdeal)
    ∧ quiescent_UpReferenceIdeal_pre_up_finite (hUpReferenceIdeal := hUpReferenceIdeal) (hPre_up_finite := hPre_up_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_ProjKernel (hProjKernel := hProjKernel)
    ∧ quiescent_ProjKernelIdeal (hProjKernelIdeal := hProjKernelIdeal)
    ∧ quiescent_ProjKernelIdeal_pre_proj_finite (hProjKernelIdeal := hProjKernelIdeal) (hPre_proj_finite := hPre_proj_finite)
    ∧ quiescent_ProjReferenceIdeal (hProjReferenceIdeal := hProjReferenceIdeal)
    ∧ quiescent_ProjReferenceIdeal_pre_proj_finite (hProjReferenceIdeal := hProjReferenceIdeal) (hPre_proj_finite := hPre_proj_finite)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_JoinKernel (hJoinKernel := hJoinKernel)
    ∧ quiescent_JoinKernelIdeal (hJoinKernelIdeal := hJoinKernelIdeal)
    ∧ quiescent_JoinReferenceIdeal (hJoinReferenceIdeal := hJoinReferenceIdeal)
    ∧ quiescent_ActKernel (hActKernel := hActKernel)
    ∧ quiescent_ActKernelIdeal (hActKernelIdeal := hActKernelIdeal)
    ∧ quiescent_ActKernelIdeal_pre_act_finite (hActKernelIdeal := hActKernelIdeal) (hPre_act_finite := hPre_act_finite)
    ∧ quiescent_ActReferenceIdeal (hActReferenceIdeal := hActReferenceIdeal)
    ∧ quiescent_ActReferenceIdeal_pre_act_finite (hActReferenceIdeal := hActReferenceIdeal) (hPre_act_finite := hPre_act_finite)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_SbKernel_SbKernelIdeal
    ∧ algebraic_SbKernelIdeal_SbReferenceIdeal_pre_sb_finite (hSbKernelIdeal := hSbKernelIdeal) (hSbReferenceIdeal := hSbReferenceIdeal) (hPre_sb_finite := hPre_sb_finite)
    ∧ preserves_UpKernel_UpKernelIdeal
    ∧ algebraic_UpKernelIdeal_UpReferenceIdeal_pre_up_finite (hUpKernelIdeal := hUpKernelIdeal) (hUpReferenceIdeal := hUpReferenceIdeal) (hPre_up_finite := hPre_up_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_ProjKernel_ProjKernelIdeal
    ∧ algebraic_ProjKernelIdeal_ProjReferenceIdeal_pre_proj_finite (hProjKernelIdeal := hProjKernelIdeal) (hProjReferenceIdeal := hProjReferenceIdeal) (hPre_proj_finite := hPre_proj_finite)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_SmallKernel_SmallKernelIdeal
    ∧ algebraic_SmallKernelIdeal_SmallReferenceIdeal (hSmallKernelIdeal := hSmallKernelIdeal) (hSmallReferenceIdeal := hSmallReferenceIdeal)
    ∧ preserves_JoinKernel_JoinKernelIdeal
    ∧ algebraic_JoinKernelIdeal_JoinReferenceIdeal (hJoinKernelIdeal := hJoinKernelIdeal) (hJoinReferenceIdeal := hJoinReferenceIdeal)
    ∧ preserves_ActKernel_ActKernelIdeal
    ∧ algebraic_ActKernelIdeal_ActReferenceIdeal_pre_act_finite (hActKernelIdeal := hActKernelIdeal) (hActReferenceIdeal := hActReferenceIdeal) (hPre_act_finite := hPre_act_finite)
-- ==== Pre_act_finite.lean ====
abbrev S8192x1024 : Shape := ⟨2, ![8192, 1024]⟩
abbrev S1x1024x5632 : Shape := ⟨3, ![1, 1024, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_

variable [Facts]

def fn {F : FTy → Type} [FloatOps F] (main_arg0 : FVec F S8192x1024 .f32) (main_arg1 : FVec F S1x1024x5632 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024x5632 .f32 := Host.absf main_arg1
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : IVec S_ 1 := andi main_v3 main_v7
  main_v8
-- ==== Pre_gate_finite.lean ====
abbrev S8192x2816 : Shape := ⟨2, ![8192, 2816]⟩
abbrev S1x2816x1024 : Shape := ⟨3, ![1, 2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x2816 .f32) (main_arg1 : FVec F S8192x2816 .f32) (main_arg2 : FVec F S1x2816x1024 .f32) (main_arg3 : FVec F S8192x1024 .f32) : IVec S_ 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S1x2816x1024 .f32 := Host.absf main_arg2
  let main_cst_0 : FVec F S_ .f32 := constant S_ .f32 0x7F800000#32
  let main_v5 : FVec F S1x2816x1024 .f32 := broadcastInDim S1x2816x1024 ![] bcast_S_S1x2816x1024 main_cst_0
  let main_v6 : IVec S1x2816x1024 1 := cmpf .olt main_v4 main_v5
  let main_c_1 : IVec S_ 1 := constantI S_ 1 1#1
  let main_v7 : IVec S_ 1 := (fun x v => Host.reduce IntOp.andi x v reducesTo_S1x2816x1024_S_d0_1_2 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_loss_finite.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1x1024 .f32) (main_arg5 : FVec F S1x1024 .f32) (main_arg6 : FVec F S1x1024 .f32) (main_arg7 : FVec F S8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S8192x2816 .f32) (main_arg1 : FVec F S1x2816x1024 .f32) (main_arg2 : FVec F S8192x1024 .f32) (main_arg3 : FVec F S1x1024 .f32) (main_arg4 : FVec F S1x1024 .f32) (main_arg5 : FVec F S1x1024 .f32) (main_arg6 : FVec F S1x1024 .f32) (main_arg7 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S1x2816x1024 .f32 := Host.absf main_arg1
  let main_cst_0 : FVec F S_ .f32 := constant S_ .f32 0x7F800000#32
  let main_v5 : FVec F S1x2816x1024 .f32 := broadcastInDim S1x2816x1024 ![] bcast_S_S1x2816x1024 main_cst_0
  let main_v6 : IVec S1x2816x1024 1 := cmpf .olt main_v4 main_v5
  let main_c_1 : IVec S_ 1 := constantI S_ 1 1#1
  let main_v7 : IVec S_ 1 := (fun x v => Host.reduce IntOp.andi x v reducesTo_S1x2816x1024_S_d0_1_2 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Pre_mix_finite.lean ====
abbrev S8192x512 : Shape := ⟨2, ![8192, 512]⟩
abbrev S1x512 : Shape := ⟨2, ![1, 512]⟩
abbrev S1x1024x1024 : Shape := ⟨3, ![1, 1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1x1024x1024 .f32) (main_arg5 : FVec F S8192x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x512 .f32) (main_arg1 : FVec F S8192x512 .f32) (main_arg2 : FVec F S1x512 .f32) (main_arg3 : FVec F S1x512 .f32) (main_arg4 : FVec F S1x1024x1024 .f32) (main_arg5 : FVec F S8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_v13 main_v16
-- ==== Pre_proj_finite.lean ====
abbrev S8192x1024 : Shape := ⟨2, ![8192, 1024]⟩
abbrev S1024 : Shape := ⟨1, ![1024]⟩
abbrev S1x1024x2304 : Shape := ⟨3, ![1, 1024, 2304]⟩
abbrev S8192x512 : Shape := ⟨2, ![8192, 512]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024x2304 : S_.BroadcastsInDim S1x1024x2304 (![] : Fin 0 → Fin S1x1024x2304.rank)
  reducesTo_S1x1024x2304_S_d0_1_2 : S1x1024x2304.ReducesTo [0, 1, 2] S_
  bcast_S_S8192x512 : S_.BroadcastsInDim S8192x512 (![] : Fin 0 → Fin S8192x512.rank)
  reducesTo_S8192x512_S_d0_1 : S8192x512.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn_part2 {F : FTy → Type} [FloatOps F] (main_arg8 : FVec F S8192x512 .f32) (main_arg9 : FVec F S8192x256 .f32) (main_v33 : IVec S_ 1) : IVec S_ 1 :=
  let main_v34 : FVec F S8192x512 .f32 := Host.absf main_arg8
  let main_cst_12 : FVec F S_ .f32 := constant S_ .f32 0x7F800000#32
  let main_v35 : FVec F S8192x512 .f32 := broadcastInDim S8192x512 ![] bcast_S_S8192x512 main_cst_12
  let main_v36 : IVec S8192x512 1 := cmpf .olt main_v34 main_v35
  let main_c_13 : IVec S_ 1 := constantI S_ 1 1#1
  let main_v37 : IVec S_ 1 := (fun x v => Host.reduce IntOp.andi x v reducesTo_S8192x512_S_d0_1 h_S_) main_v36 main_c_13
  let main_v38 : IVec S_ 1 := andi main_v33 main_v37
  let main_v39 : FVec F S8192x256 .f32 := Host.absf main_arg9
  let main_cst_14 : FVec F S_ .f32 := constant S_ .f32 0x7F800000#32
  let main_v40 : FVec F S8192x256 .f32 := broadcastInDim S8192x256 ![] bcast_S_S8192x256 main_cst_14
  let main_v41 : IVec S8192x256 1 := cmpf .olt main_v39 main_v40
  let main_c_15 : IVec S_ 1 := constantI S_ 1 1#1
  let main_v42 : IVec S_ 1 := (fun x v => Host.reduce IntOp.andi x v reducesTo_S8192x256_S_d0_1 h_S_) main_v41 main_c_15
  let main_v43 : IVec S_ 1 := andi main_v38 main_v42
  main_v43

def fn_part1 {F : FTy → Type} [FloatOps F] (main_arg5 : FVec F S8192x512 .f32) (main_arg6 : FVec F S8192x512 .f32) (main_arg7 : FVec F S8192x512 .f32) (main_arg8 : FVec F S8192x512 .f32) (main_arg9 : FVec F S8192x256 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x512 .f32 := Host.absf main_arg5
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg6
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg7
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  fn_part2 (F := F) main_arg8 main_arg9 main_v33

def fn {F : FTy → Type} [FloatOps F] (main_arg0 : FVec F S8192x1024 .f32) (main_arg1 : FVec F S1024 .f32) (main_arg2 : FVec F S1024 .f32) (main_arg3 : FVec F S1x1024x2304 .f32) (main_arg4 : FVec F S8192x1024 .f32) (main_arg5 : FVec F S8192x512 .f32) (main_arg6 : FVec F S8192x512 .f32) (main_arg7 : FVec F S8192x512 .f32) (main_arg8 : FVec F S8192x512 .f32) (main_arg9 : FVec F S8192x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024x2304 .f32 := Host.absf main_arg3
  let main_cst_2 : FVec F S_ .f32 := constant S_ .f32 0x7F800000#32
  let main_v10 : FVec F S1x1024x2304 .f32 := broadcastInDim S1x1024x2304 ![] bcast_S_S1x1024x2304 main_cst_2
  let main_v11 : IVec S1x1024x2304 1 := cmpf .olt main_v9 main_v10
  let main_c_3 : IVec S_ 1 := constantI S_ 1 1#1
  let main_v12 : IVec S_ 1 := (fun x v => Host.reduce IntOp.andi x v reducesTo_S1x1024x2304_S_d0_1_2 h_S_) main_v11 main_c_3
  let main_v13 : IVec S_ 1 := andi main_v8 main_v12
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg5 main_arg6 main_arg7 main_arg8 main_arg9 main_v13 main_v16
-- ==== Pre_sb_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S8192x512 .f32) (main_arg3 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_up_finite.lean ====
abbrev S8192x1024 : Shape := ⟨2, ![8192, 1024]⟩
abbrev S1x1024 : Shape := ⟨2, ![1, 1024]⟩
abbrev S1x1024x5632 : Shape := ⟨3, ![1, 1024, 5632]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg5 : FVec F S8192x2816 .f32) (main_arg6 : FVec F S8192x2816 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x2816 .f32 := Host.absf main_arg5
  let main_cst_6 : FVec F S_ .f32 := constant S_ .f32 0x7F800000#32
  let main_v20 : FVec F S8192x2816 .f32 := broadcastInDim S8192x2816 ![] bcast_S_S8192x2816 main_cst_6
  let main_v21 : IVec S8192x2816 1 := cmpf .olt main_v19 main_v20
  let main_c_7 : IVec S_ 1 := constantI S_ 1 1#1
  let main_v22 : IVec S_ 1 := (fun x v => Host.reduce IntOp.andi x v reducesTo_S8192x2816_S_d0_1 h_S_) main_v21 main_c_7
  let main_v23 : IVec S_ 1 := andi main_v18 main_v22
  let main_v24 : FVec F S8192x2816 .f32 := Host.absf main_arg6
  let main_cst_8 : FVec F S_ .f32 := constant S_ .f32 0x7F800000#32
  let main_v25 : FVec F S8192x2816 .f32 := broadcastInDim S8192x2816 ![] bcast_S_S8192x2816 main_cst_8
  let main_v26 : IVec S8192x2816 1 := cmpf .olt main_v24 main_v25
  let main_c_9 : IVec S_ 1 := constantI S_ 1 1#1
  let main_v27 : IVec S_ 1 := (fun x v => Host.reduce IntOp.andi x v reducesTo_S8192x2816_S_d0_1 h_S_) main_v26 main_c_9
  let main_v28 : IVec S_ 1 := andi main_v23 main_v27
  main_v28

def fn {F : FTy → Type} [FloatOps F] (main_arg0 : FVec F S8192x1024 .f32) (main_arg1 : FVec F S1x1024 .f32) (main_arg2 : FVec F S1x1024 .f32) (main_arg3 : FVec F S1x1024x5632 .f32) (main_arg4 : FVec F S8192x1024 .f32) (main_arg5 : FVec F S8192x2816 .f32) (main_arg6 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg3
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg5 main_arg6 main_v13 main_v16
-- ==== GateKernel.lean ====
abbrev S8192x2816 : Shape := ⟨2, ![8192, 2816]⟩
abbrev S1x2816x1024 : Shape := ⟨3, ![1, 2816, 1024]⟩
abbrev S8192x1024 : Shape := ⟨2, ![8192, 1024]⟩
abbrev S_ : Shape := ⟨0, ![]⟩
abbrev S2816x1024 : Shape := ⟨2, ![2816, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 32
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1x2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .bf16⟩
  | .hbm, ⟨15, _⟩ => ⟨S8192x2816, .bf16⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .bf16⟩
  | .hbm, ⟨26, _⟩ => ⟨S8192x1024, .bf16⟩
  | .hbm, ⟨27, _⟩ => ⟨S2816x1024, .f32⟩
  | .hbm, ⟨28, _⟩ => ⟨S2816x1024, .bf16⟩
  | .hbm, ⟨29, _⟩ => ⟨S8192x2816, .bf16⟩
  | .hbm, ⟨30, _⟩ => ⟨S8192x2816, .bf16⟩
  | .hbm, ⟨31, _⟩ => ⟨S2816x1024, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S1408x1024, .f32⟩
  | .local _ .vmem, ⟨15, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1408x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateReferenceIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 33
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1x2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S1024x2816, .f32⟩
  | .hbm, ⟨21, _⟩ => ⟨S2816x1024, .f32⟩
  | .hbm, ⟨22, _⟩ => ⟨S8192x2816, .f32⟩
  | .hbm, ⟨23, _⟩ => ⟨S1x2816x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | .hbm, ⟨32, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== SbKernel.lean ====
abbrev S8192x512 : Shape := ⟨2, ![8192, 512]⟩
abbrev S8192x8x64 : Shape := ⟨3, ![8192, 8, 64]⟩
abbrev S8x64x8192 : Shape := ⟨3, ![8, 64, 8192]⟩
abbrev S32x256x8x64 : Shape := ⟨4, ![32, 256, 8, 64]⟩
abbrev S8x32x256x64 : Shape := ⟨4, ![8, 32, 256, 64]⟩
abbrev S8x32x64x256 : Shape := ⟨4, ![8, 32, 64, 256]⟩
abbrev S_ : Shape := ⟨0, ![]⟩
abbrev S8x8192x64 : Shape := ⟨3, ![8, 8192, 64]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x32x256x8192 : Shape := ⟨4, ![8, 32, 256, 8192]⟩
abbrev S8x32x8192 : Shape := ⟨3, ![8, 32, 8192]⟩
abbrev S8x32x32x1x256 : Shape := ⟨5, ![8, 32, 32, 1, 256]⟩
abbrev S8x32x32x8x256 : Shape := ⟨5, ![8, 32, 32, 8, 256]⟩
abbrev S1x32x8x128 : Shape := ⟨4, ![1, 32, 8, 128]⟩
abbrev S4x64x256 : Shape := ⟨3, ![4, 64, 256]⟩
abbrev S4x32x256x64 : Shape := ⟨4, ![4, 32, 256, 64]⟩
abbrev S4x32x64x256 : Shape := ⟨4, ![4, 32, 64, 256]⟩
abbrev S4x1x32x8x256 : Shape := ⟨5, ![4, 1, 32, 8, 256]⟩
abbrev S1x1x8x128 : Shape := ⟨4, ![1, 1, 8, 128]⟩
abbrev S256x256 : Shape := ⟨2, ![256, 256]⟩
abbrev S8192x256 : Shape := ⟨2, ![8192, 256]⟩
abbrev S32x256x256 : Shape := ⟨3, ![32, 256, 256]⟩
abbrev S1x64x256 : Shape := ⟨3, ![1, 64, 256]⟩
abbrev S64x256 : Shape := ⟨2, ![64, 256]⟩
abbrev S8x128 : Shape := ⟨2, ![8, 128]⟩
abbrev S1x1 : Shape := ⟨2, ![1, 1]⟩
abbrev S1x1x1 : Shape := ⟨3, ![1, 1, 1]⟩
abbrev S1 : Shape := ⟨1, ![1]⟩
abbrev S1x256 : Shape := ⟨2, ![1, 256]⟩
abbrev S1x1x256x64 : Shape := ⟨4, ![1, 1, 256, 64]⟩
abbrev S256x64 : Shape := ⟨2, ![256, 64]⟩
abbrev S1x1x1x8x256 : Shape := ⟨5, ![1, 1, 1, 8, 256]⟩
abbrev S8x256 : Shape := ⟨2, ![8, 256]⟩
abbrev S1x1x64x256 : Shape := ⟨4, ![1, 1, 64, 256]⟩
abbrev S256 : Shape := ⟨1, ![256]⟩
abbrev S1x256x256 : Shape := ⟨3, ![1, 256, 256]⟩

abbrev nBuf : Space → Nat
  | .hbm => 66
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x8x64, .f32⟩
  | .hbm, ⟨5, _⟩ => ⟨S8x64x8192, .f32⟩
  | .hbm, ⟨6, _⟩ => ⟨S8x64x8192, .bf16⟩
  | .hbm, ⟨7, _⟩ => ⟨S8192x8x64, .f32⟩
  | .hbm, ⟨8, _⟩ => ⟨S8x64x8192, .f32⟩
  | .hbm, ⟨9, _⟩ => ⟨S8x64x8192, .bf16⟩
  | .hbm, ⟨10, _⟩ => ⟨S32x256x8x64, .f32⟩
  | .hbm, ⟨11, _⟩ => ⟨S8x32x256x64, .f32⟩
  | .hbm, ⟨12, _⟩ => ⟨S8x32x256x64, .bf16⟩
  | .hbm, ⟨13, _⟩ => ⟨S32x256x8x64, .f32⟩
  | .hbm, ⟨14, _⟩ => ⟨S8x32x64x256, .f32⟩
  | .hbm, ⟨15, _⟩ => ⟨S8x32x64x256, .bf16⟩
  | .hbm, ⟨16, _⟩ => ⟨S32x256x8x64, .f32⟩
  | .hbm, ⟨17, _⟩ => ⟨S8x32x256x64, .f32⟩
  | .hbm, ⟨18, _⟩ => ⟨S8x32x256x64, .bf16⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x8x64, .f32⟩
  | .hbm, ⟨23, _⟩ => ⟨S8x8192x64, .f32⟩
  | .hbm, ⟨24, _⟩ => ⟨S8192x8x64, .f32⟩
  | .hbm, ⟨25, _⟩ => ⟨S8x8192x64, .f32⟩
  | .hbm, ⟨26, _⟩ => ⟨S8x8192x8192, .f32⟩
  | .hbm, ⟨27, _⟩ => ⟨S8192, .i32⟩
  | .hbm, ⟨28, _⟩ => ⟨S8192x1, .i32⟩
  | .hbm, ⟨29, _⟩ => ⟨S1x8192, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S1x8192x8192, .i1⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S_, .f32⟩
  | .hbm, ⟨48, _⟩ => ⟨S8x8192x8192, .i1⟩
  | .hbm, ⟨49, _⟩ => ⟨S8x8192x8192, .f32⟩
  | .hbm, ⟨50, _⟩ => ⟨S8x8192x8192, .f32⟩
  | .hbm, ⟨51, _⟩ => ⟨S8x32x256x8192, .f32⟩
  | .hbm, ⟨52, _⟩ => ⟨S_, .f32⟩
  | .hbm, ⟨53, _⟩ => ⟨S8x32x8192, .f32⟩
  | .hbm, ⟨54, _⟩ => ⟨S_, .f32⟩
  | .hbm, ⟨55, _⟩ => ⟨S_, .f32⟩
  | .hbm, ⟨56, _⟩ => ⟨S8x32x8192, .f32⟩
  | .hbm, ⟨57, _⟩ => ⟨S8x32x8192, .f32⟩
  | .hbm, ⟨58, _⟩ => ⟨S8x32x32x1x256, .f32⟩
  | .hbm, ⟨59, _⟩ => ⟨S8x32x32x1x256, .f32⟩
  | .hbm, ⟨60, _⟩ => ⟨S8x32x32x8x256, .f32⟩
  | .hbm, ⟨61, _⟩ => ⟨S_, .f32⟩
  | .hbm, ⟨62, _⟩ => ⟨S1x32x8x128, .f32⟩
  | .hbm, ⟨63, _⟩ => ⟨S8192x512, .bf16⟩
  | .hbm, ⟨64, _⟩ => ⟨S8192x512, .bf16⟩
  | .hbm, ⟨65, _⟩ => ⟨S8192x512, .bf16⟩
  | .local _ .vmem, ⟨0, _⟩ => ⟨S4x64x256, .bf16⟩
  | .local _ .vmem, ⟨1, _⟩ => ⟨S4x64x256, .bf16⟩
  | .local _ .vmem, ⟨2, _⟩ => ⟨S4x32x256x64, .bf16⟩
  | .local _ .vmem, ⟨3, _⟩ => ⟨S4x32x64x256, .bf16⟩
  | .local _ .vmem, ⟨4, _⟩ => ⟨S4x32x256x64, .bf16⟩
  | .local _ .vmem, ⟨5, _⟩ => ⟨S4x64x256, .bf16⟩
  | .local _ .vmem, ⟨6, _⟩ => ⟨S4x64x256, .bf16⟩
  | .local _ .vmem, ⟨7, _⟩ => ⟨S4x1x32x8x256, .f32⟩
  | .local _ .vmem, ⟨8, _⟩ => ⟨S4x1x32x8x256, .f32⟩
  | .local _ .vmem, ⟨9, _⟩ => ⟨S1x1x8x128, .f32⟩
  | .local _ .vmem, ⟨10, _⟩ => ⟨S1x1x8x128, .f32⟩
  | .local _ .vmem, ⟨11, _⟩ => ⟨S256x256, .bf16⟩
  | .local _ .vmem, ⟨12, _⟩ => ⟨S256x256, .bf16⟩
  | .local _ .vmem, ⟨13, _⟩ => ⟨S8192x256, .bf16⟩
  | .local _ .vmem, ⟨14, _⟩ => ⟨S8192x256, .bf16⟩
  | .local _ .vmem, ⟨15, _⟩ => ⟨S32x256x256, .f32⟩
  | .local _ .vmem, ⟨16, _⟩ => ⟨S32x256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_call1_cst : Ref sig .tc := ⟨.hbm, 54, rfl⟩
abbrev main_call1_v0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48_0 : Ref sig .tc := ⟨.hbm, 63, rfl⟩
abbrev main_v48_1 : Ref sig .tc := ⟨.hbm, 64, rfl⟩
abbrev main_v48_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![2, 32], ![false, false]⟩

@[reducible] def k0_t1_loop (i : grid0.Coords) (v53 : BitVec 32) : Scf.Loop 32 :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_38 : BitVec 32 := 1#32
  ⟨v55, v68, c1_i32_38⟩

def k0_off1 (i : grid0.Coords) (v53 : BitVec 32) (k0_t1 : Fin (k0_t1_loop i v53).trips) : Fin 4 → Nat :=
  let c0_189 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v404 : Index := Scalar.indexCast arg14
  let c0_190 : Index := 0#32
  let c0_191 : Index := 0#32
  ![0, v404.toNat, 0, 0]
def k0_off2 (i : grid0.Coords) (v53 : BitVec 32) (k0_t1 : Fin (k0_t1_loop i v53).trips) : Fin 4 → Nat :=
  let c1_193 : Index := 1#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v408 : Index := Scalar.indexCast arg14
  let c0_194 : Index := 0#32
  let c0_195 : Index := 0#32
  ![1, v408.toNat, 0, 0]
def k0_off3 (i : grid0.Coords) (v53 : BitVec 32) (k0_t1 : Fin (k0_t1_loop i v53).trips) : Fin 4 → Nat :=
  let c2_197 : Index := 2#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v412 : Index := Scalar.indexCast arg14
  let c0_198 : Index := 0#32
  let c0_199 : Index := 0#32
  ![2, v412.toNat, 0, 0]
def k0_off4 (i : grid0.Coords) (v53 : BitVec 32) (k0_t1 : Fin (k0_t1_loop i v53).trips) : Fin 4 → Nat :=
  let c3_201 : Index := 3#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v416 : Index := Scalar.indexCast arg14
  let c0_202 : Index := 0#32
  let c0_203 : Index := 0#32
  ![3, v416.toNat, 0, 0]
def k0_off5 (i : grid0.Coords) (v53 : BitVec 32) (k0_t1 : Fin (k0_t1_loop i v53).trips) : Fin 5 → Nat :=
  let c0_241 : Index := 0#32
  let c0_242 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v508 : Index := Scalar.indexCast arg14
  let c0_243 : Index := 0#32
  let c0_244 : Index := 0#32
  ![0, 0, v508.toNat, 0, 0]
def k0_off6 (i : grid0.Coords) (v53 : BitVec 32) (k0_t1 : Fin (k0_t1_loop i v53).trips) : Fin 5 → Nat :=
  let c1_245 : Index := 1#32
  let c0_246 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v516 : Index := Scalar.indexCast arg14
  let c0_247 : Index := 0#32
  let c0_248 : Index := 0#32
  ![1, 0, v516.toNat, 0, 0]
def k0_off7 (i : grid0.Coords) (v53 : BitVec 32) (k0_t1 : Fin (k0_t1_loop i v53).trips) : Fin 5 → Nat :=
  let c2_249 : Index := 2#32
  let c0_250 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v524 : Index := Scalar.indexCast arg14
  let c0_251 : Index := 0#32
  let c0_252 : Index := 0#32
  ![2, 0, v524.toNat, 0, 0]
def k0_off8 (i : grid0.Coords) (v53 : BitVec 32) (k0_t1 : Fin (k0_t1_loop i v53).trips) : Fin 5 → Nat :=
  let c3_253 : Index := 3#32
  let c0_254 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v532 : Index := Scalar.indexCast arg14
  let c0_255 : Index := 0#32
  let c0_256 : Index := 0#32
  ![3, 0, v532.toNat, 0, 0]
def k0_off9 (i : grid0.Coords) (v53 : BitVec 32) (k0_t1 : Fin (k0_t1_loop i v53).trips) : Fin 4 → Nat :=
  let c0_269 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v608 : Index := Scalar.indexCast arg14
  let c0_270 : Index := 0#32
  let c0_271 : Index := 0#32
  ![0, v608.toNat, 0, 0]
def k0_off10 (i : grid0.Coords) (v53 : BitVec 32) (k0_t1 : Fin (k0_t1_loop i v53).trips) : Fin 4 → Nat :=
  let c1_273 : Index := 1#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v613 : Index := Scalar.indexCast arg14
  let c0_274 : Index := 0#32
  let c0_275 : Index := 0#32
  ![1, v613.toNat, 0, 0]
def k0_off11 (i : grid0.Coords) (v53 : BitVec 32) (k0_t1 : Fin (k0_t1_loop i v53).trips) : Fin 4 → Nat :=
  let c2_277 : Index := 2#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v618 : Index := Scalar.indexCast arg14
  let c0_278 : Index := 0#32
  let c0_279 : Index := 0#32
  ![2, v618.toNat, 0, 0]
def k0_off12 (i : grid0.Coords) (v53 : BitVec 32) (k0_t1 : Fin (k0_t1_loop i v53).trips) : Fin 4 → Nat :=
  let c3_281 : Index := 3#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v623 : Index := Scalar.indexCast arg14
  let c0_282 : Index := 0#32
  let c0_283 : Index := 0#32
  ![3, v623.toNat, 0, 0]
def k0_off13 (i : grid0.Coords) (v53 : BitVec 32) (k0_t1 : Fin (k0_t1_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v628 : Index := Scalar.indexCast arg14
  let c0_285 : Index := 0#32
  let c0_286 : Index := 0#32
  ![v628.toNat, 0, 0]
def k0_off14 (i : grid0.Coords) (v53 : BitVec 32) (k0_t1 : Fin (k0_t1_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v637 : Index := Scalar.indexCast arg14
  let c64_290 : Index := 64#32
  let c0_291 : Index := 0#32
  ![v637.toNat, 64, 0]
def k0_off15 (i : grid0.Coords) (v53 : BitVec 32) (k0_t1 : Fin (k0_t1_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v646 : Index := Scalar.indexCast arg14
  let c128_295 : Index := 128#32
  let c0_296 : Index := 0#32
  ![v646.toNat, 128, 0]
def k0_off16 (i : grid0.Coords) (v53 : BitVec 32) (k0_t1 : Fin (k0_t1_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v655 : Index := Scalar.indexCast arg14
  let c192_300 : Index := 192#32
  let c0_301 : Index := 0#32
  ![v655.toNat, 192, 0]
@[reducible] def k0_t2_loop (i : grid0.Coords) (v53 : BitVec 32) : Scf.Loop 32 :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let v65 : BitVec 32 := Scalar.addi v55 v64
  let c1_i32_39 : BitVec 32 := 1#32
  ⟨v68, v65, c1_i32_39⟩
def k0_off17 (i : grid0.Coords) (v53 : BitVec 32) (k0_t2 : Fin (k0_t2_loop i v53).trips) : Fin 4 → Nat :=
  let c0_189 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v404 : Index := Scalar.indexCast arg14
  let c0_190 : Index := 0#32
  let c0_191 : Index := 0#32
  ![0, v404.toNat, 0, 0]
def k0_off18 (i : grid0.Coords) (v53 : BitVec 32) (k0_t2 : Fin (k0_t2_loop i v53).trips) : Fin 4 → Nat :=
  let c1_193 : Index := 1#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v408 : Index := Scalar.indexCast arg14
  let c0_194 : Index := 0#32
  let c0_195 : Index := 0#32
  ![1, v408.toNat, 0, 0]
def k0_off19 (i : grid0.Coords) (v53 : BitVec 32) (k0_t2 : Fin (k0_t2_loop i v53).trips) : Fin 4 → Nat :=
  let c2_197 : Index := 2#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v412 : Index := Scalar.indexCast arg14
  let c0_198 : Index := 0#32
  let c0_199 : Index := 0#32
  ![2, v412.toNat, 0, 0]
def k0_off20 (i : grid0.Coords) (v53 : BitVec 32) (k0_t2 : Fin (k0_t2_loop i v53).trips) : Fin 4 → Nat :=
  let c3_201 : Index := 3#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v416 : Index := Scalar.indexCast arg14
  let c0_202 : Index := 0#32
  let c0_203 : Index := 0#32
  ![3, v416.toNat, 0, 0]
def k0_off21 (i : grid0.Coords) (v53 : BitVec 32) (k0_t2 : Fin (k0_t2_loop i v53).trips) : Fin 5 → Nat :=
  let c0_241 : Index := 0#32
  let c0_242 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v508 : Index := Scalar.indexCast arg14
  let c0_243 : Index := 0#32
  let c0_244 : Index := 0#32
  ![0, 0, v508.toNat, 0, 0]
def k0_off22 (i : grid0.Coords) (v53 : BitVec 32) (k0_t2 : Fin (k0_t2_loop i v53).trips) : Fin 5 → Nat :=
  let c1_245 : Index := 1#32
  let c0_246 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v516 : Index := Scalar.indexCast arg14
  let c0_247 : Index := 0#32
  let c0_248 : Index := 0#32
  ![1, 0, v516.toNat, 0, 0]
def k0_off23 (i : grid0.Coords) (v53 : BitVec 32) (k0_t2 : Fin (k0_t2_loop i v53).trips) : Fin 5 → Nat :=
  let c2_249 : Index := 2#32
  let c0_250 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v524 : Index := Scalar.indexCast arg14
  let c0_251 : Index := 0#32
  let c0_252 : Index := 0#32
  ![2, 0, v524.toNat, 0, 0]
def k0_off24 (i : grid0.Coords) (v53 : BitVec 32) (k0_t2 : Fin (k0_t2_loop i v53).trips) : Fin 5 → Nat :=
  let c3_253 : Index := 3#32
  let c0_254 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v532 : Index := Scalar.indexCast arg14
  let c0_255 : Index := 0#32
  let c0_256 : Index := 0#32
  ![3, 0, v532.toNat, 0, 0]
def k0_off25 (i : grid0.Coords) (v53 : BitVec 32) (k0_t2 : Fin (k0_t2_loop i v53).trips) : Fin 4 → Nat :=
  let c0_269 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v608 : Index := Scalar.indexCast arg14
  let c0_270 : Index := 0#32
  let c0_271 : Index := 0#32
  ![0, v608.toNat, 0, 0]
def k0_off26 (i : grid0.Coords) (v53 : BitVec 32) (k0_t2 : Fin (k0_t2_loop i v53).trips) : Fin 4 → Nat :=
  let c1_273 : Index := 1#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v613 : Index := Scalar.indexCast arg14
  let c0_274 : Index := 0#32
  let c0_275 : Index := 0#32
  ![1, v613.toNat, 0, 0]
def k0_off27 (i : grid0.Coords) (v53 : BitVec 32) (k0_t2 : Fin (k0_t2_loop i v53).trips) : Fin 4 → Nat :=
  let c2_277 : Index := 2#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v618 : Index := Scalar.indexCast arg14
  let c0_278 : Index := 0#32
  let c0_279 : Index := 0#32
  ![2, v618.toNat, 0, 0]
def k0_off28 (i : grid0.Coords) (v53 : BitVec 32) (k0_t2 : Fin (k0_t2_loop i v53).trips) : Fin 4 → Nat :=
  let c3_281 : Index := 3#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v623 : Index := Scalar.indexCast arg14
  let c0_282 : Index := 0#32
  let c0_283 : Index := 0#32
  ![3, v623.toNat, 0, 0]
def k0_off29 (i : grid0.Coords) (v53 : BitVec 32) (k0_t2 : Fin (k0_t2_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v628 : Index := Scalar.indexCast arg14
  let c0_285 : Index := 0#32
  let c0_286 : Index := 0#32
  ![v628.toNat, 0, 0]
def k0_off30 (i : grid0.Coords) (v53 : BitVec 32) (k0_t2 : Fin (k0_t2_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v637 : Index := Scalar.indexCast arg14
  let c64_290 : Index := 64#32
  let c0_291 : Index := 0#32
  ![v637.toNat, 64, 0]
def k0_off31 (i : grid0.Coords) (v53 : BitVec 32) (k0_t2 : Fin (k0_t2_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v646 : Index := Scalar.indexCast arg14
  let c128_295 : Index := 128#32
  let c0_296 : Index := 0#32
  ![v646.toNat, 128, 0]
def k0_off32 (i : grid0.Coords) (v53 : BitVec 32) (k0_t2 : Fin (k0_t2_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v655 : Index := Scalar.indexCast arg14
  let c192_300 : Index := 192#32
  let c0_301 : Index := 0#32
  ![v655.toNat, 192, 0]

def k0_chk1_0 (i : grid0.Coords) (v53 : BitVec 32) : Prop :=
  ((k0_t1_loop i v53).OK) ∧
  (∀ k0_t1 : Fin (k0_t1_loop i v53).trips, ∀ a, (k0_off1 i v53 k0_t1) a + S1x1x256x64.size a ≤ S4x32x256x64.size a) ∧
  (∀ k0_t1 : Fin (k0_t1_loop i v53).trips, ∀ a, (k0_off2 i v53 k0_t1) a + S1x1x256x64.size a ≤ S4x32x256x64.size a) ∧
  (∀ k0_t1 : Fin (k0_t1_loop i v53).trips, ∀ a, (k0_off3 i v53 k0_t1) a + S1x1x256x64.size a ≤ S4x32x256x64.size a) ∧
  (∀ k0_t1 : Fin (k0_t1_loop i v53).trips, ∀ a, (k0_off4 i v53 k0_t1) a + S1x1x256x64.size a ≤ S4x32x256x64.size a) ∧
  (∀ k0_t1 : Fin (k0_t1_loop i v53).trips, ∀ a, (k0_off5 i v53 k0_t1) a + S1x1x1x8x256.size a ≤ S4x1x32x8x256.size a) ∧
  (∀ k0_t1 : Fin (k0_t1_loop i v53).trips, ∀ a, (k0_off6 i v53 k0_t1) a + S1x1x1x8x256.size a ≤ S4x1x32x8x256.size a) ∧
  (∀ k0_t1 : Fin (k0_t1_loop i v53).trips, ∀ a, (k0_off7 i v53 k0_t1) a + S1x1x1x8x256.size a ≤ S4x1x32x8x256.size a) ∧
  (∀ k0_t1 : Fin (k0_t1_loop i v53).trips, ∀ a, (k0_off8 i v53 k0_t1) a + S1x1x1x8x256.size a ≤ S4x1x32x8x256.size a) ∧
  (∀ k0_t1 : Fin (k0_t1_loop i v53).trips, ∀ a, (k0_off9 i v53 k0_t1) a + S1x1x64x256.size a ≤ S4x32x64x256.size a) ∧
  (∀ k0_t1 : Fin (k0_t1_loop i v53).trips, ∀ a, (k0_off10 i v53 k0_t1) a + S1x1x64x256.size a ≤ S4x32x64x256.size a) ∧
  (∀ k0_t1 : Fin (k0_t1_loop i v53).trips, ∀ a, (k0_off11 i v53 k0_t1) a + S1x1x64x256.size a ≤ S4x32x64x256.size a) ∧
  (∀ k0_t1 : Fin (k0_t1_loop i v53).trips, ∀ a, (k0_off12 i v53 k0_t1) a + S1x1x64x256.size a ≤ S4x32x64x256.size a) ∧
  (∀ k0_t1 : Fin (k0_t1_loop i v53).trips, ∀ a, (k0_off13 i v53 k0_t1) a + S1x64x256.size a ≤ S32x256x256.size a) ∧
  (∀ k0_t1 : Fin (k0_t1_loop i v53).trips, ∀ a, (k0_off14 i v53 k0_t1) a + S1x64x256.size a ≤ S32x256x256.size a) ∧
  (∀ k0_t1 : Fin (k0_t1_loop i v53).trips, ∀ a, (k0_off15 i v53 k0_t1) a + S1x64x256.size a ≤ S32x256x256.size a) ∧
  (∀ k0_t1 : Fin (k0_t1_loop i v53).trips, ∀ a, (k0_off16 i v53 k0_t1) a + S1x64x256.size a ≤ S32x256x256.size a) ∧
  ((k0_t2_loop i v53).OK) ∧
  (∀ k0_t2 : Fin (k0_t2_loop i v53).trips, ∀ a, (k0_off17 i v53 k0_t2) a + S1x1x256x64.size a ≤ S4x32x256x64.size a) ∧
  (∀ k0_t2 : Fin (k0_t2_loop i v53).trips, ∀ a, (k0_off18 i v53 k0_t2) a + S1x1x256x64.size a ≤ S4x32x256x64.size a) ∧
  (∀ k0_t2 : Fin (k0_t2_loop i v53).trips, ∀ a, (k0_off19 i v53 k0_t2) a + S1x1x256x64.size a ≤ S4x32x256x64.size a) ∧
  (∀ k0_t2 : Fin (k0_t2_loop i v53).trips, ∀ a, (k0_off20 i v53 k0_t2) a + S1x1x256x64.size a ≤ S4x32x256x64.size a) ∧
  (∀ k0_t2 : Fin (k0_t2_loop i v53).trips, ∀ a, (k0_off21 i v53 k0_t2) a + S1x1x1x8x256.size a ≤ S4x1x32x8x256.size a) ∧
  (∀ k0_t2 : Fin (k0_t2_loop i v53).trips, ∀ a, (k0_off22 i v53 k0_t2) a + S1x1x1x8x256.size a ≤ S4x1x32x8x256.size a) ∧
  (∀ k0_t2 : Fin (k0_t2_loop i v53).trips, ∀ a, (k0_off23 i v53 k0_t2) a + S1x1x1x8x256.size a ≤ S4x1x32x8x256.size a) ∧
  (∀ k0_t2 : Fin (k0_t2_loop i v53).trips, ∀ a, (k0_off24 i v53 k0_t2) a + S1x1x1x8x256.size a ≤ S4x1x32x8x256.size a) ∧
  (∀ k0_t2 : Fin (k0_t2_loop i v53).trips, ∀ a, (k0_off25 i v53 k0_t2) a + S1x1x64x256.size a ≤ S4x32x64x256.size a) ∧
  (∀ k0_t2 : Fin (k0_t2_loop i v53).trips, ∀ a, (k0_off26 i v53 k0_t2) a + S1x1x64x256.size a ≤ S4x32x64x256.size a) ∧
  (∀ k0_t2 : Fin (k0_t2_loop i v53).trips, ∀ a, (k0_off27 i v53 k0_t2) a + S1x1x64x256.size a ≤ S4x32x64x256.size a) ∧
  (∀ k0_t2 : Fin (k0_t2_loop i v53).trips, ∀ a, (k0_off28 i v53 k0_t2) a + S1x1x64x256.size a ≤ S4x32x64x256.size a) ∧
  (∀ k0_t2 : Fin (k0_t2_loop i v53).trips, ∀ a, (k0_off29 i v53 k0_t2) a + S1x64x256.size a ≤ S32x256x256.size a) ∧
  (∀ k0_t2 : Fin (k0_t2_loop i v53).trips, ∀ a, (k0_off30 i v53 k0_t2) a + S1x64x256.size a ≤ S32x256x256.size a)
def k0_chk1_1 (i : grid0.Coords) (v53 : BitVec 32) : Prop :=
  (∀ k0_t2 : Fin (k0_t2_loop i v53).trips, ∀ a, (k0_off31 i v53 k0_t2) a + S1x64x256.size a ≤ S32x256x256.size a) ∧
  (∀ k0_t2 : Fin (k0_t2_loop i v53).trips, ∀ a, (k0_off32 i v53 k0_t2) a + S1x64x256.size a ≤ S32x256x256.size a)
def k0_chk1 (i : grid0.Coords) (v53 : BitVec 32) : Prop :=
  k0_chk1_0 i v53 ∧
  k0_chk1_1 i v53
theorem k0_t1_ok : ∀ (i : grid0.Coords) (v53 : BitVec 32) (k0_hw1 : k0_chk1 i v53), (k0_t1_loop i v53).OK := fun i v53 k0_hw1 => k0_hw1.1.1
theorem k0_off1_inb : ∀ (i : grid0.Coords) (v53 : BitVec 32) (k0_hw1 : k0_chk1 i v53) (k0_t1 : Fin (k0_t1_loop i v53).trips), ∀ a, (k0_off1 i v53 k0_t1) a + S1x1x256x64.size a ≤ S4x32x256x64.size a := fun i v53 k0_hw1 k0_t1 => k0_hw1.1.2.1 k0_t1
theorem k0_off2_inb : ∀ (i : grid0.Coords) (v53 : BitVec 32) (k0_hw1 : k0_chk1 i v53) (k0_t1 : Fin (k0_t1_loop i v53).trips), ∀ a, (k0_off2 i v53 k0_t1) a + S1x1x256x64.size a ≤ S4x32x256x64.size a := fun i v53 k0_hw1 k0_t1 => k0_hw1.1.2.2.1 k0_t1
theorem k0_off3_inb : ∀ (i : grid0.Coords) (v53 : BitVec 32) (k0_hw1 : k0_chk1 i v53) (k0_t1 : Fin (k0_t1_loop i v53).trips), ∀ a, (k0_off3 i v53 k0_t1) a + S1x1x256x64.size a ≤ S4x32x256x64.size a := fun i v53 k0_hw1 k0_t1 => k0_hw1.1.2.2.2.1 k0_t1
theorem k0_off4_inb : ∀ (i : grid0.Coords) (v53 : BitVec 32) (k0_hw1 : k0_chk1 i v53) (k0_t1 : Fin (k0_t1_loop i v53).trips), ∀ a, (k0_off4 i v53 k0_t1) a + S1x1x256x64.size a ≤ S4x32x256x64.size a := fun i v53 k0_hw1 k0_t1 => k0_hw1.1.2.2.2.2.1 k0_t1
theorem k0_off5_inb : ∀ (i : grid0.Coords) (v53 : BitVec 32) (k0_hw1 : k0_chk1 i v53) (k0_t1 : Fin (k0_t1_loop i v53).trips), ∀ a, (k0_off5 i v53 k0_t1) a + S1x1x1x8x256.size a ≤ S4x1x32x8x256.size a := fun i v53 k0_hw1 k0_t1 => k0_hw1.1.2.2.2.2.2.1 k0_t1
theorem k0_off6_inb : ∀ (i : grid0.Coords) (v53 : BitVec 32) (k0_hw1 : k0_chk1 i v53) (k0_t1 : Fin (k0_t1_loop i v53).trips), ∀ a, (k0_off6 i v53 k0_t1) a + S1x1x1x8x256.size a ≤ S4x1x32x8x256.size a := fun i v53 k0_hw1 k0_t1 => k0_hw1.1.2.2.2.2.2.2.1 k0_t1
theorem k0_off7_inb : ∀ (i : grid0.Coords) (v53 : BitVec 32) (k0_hw1 : k0_chk1 i v53) (k0_t1 : Fin (k0_t1_loop i v53).trips), ∀ a, (k0_off7 i v53 k0_t1) a + S1x1x1x8x256.size a ≤ S4x1x32x8x256.size a := fun i v53 k0_hw1 k0_t1 => k0_hw1.1.2.2.2.2.2.2.2.1 k0_t1
theorem k0_off8_inb : ∀ (i : grid0.Coords) (v53 : BitVec 32) (k0_hw1 : k0_chk1 i v53) (k0_t1 : Fin (k0_t1_loop i v53).trips), ∀ a, (k0_off8 i v53 k0_t1) a + S1x1x1x8x256.size a ≤ S4x1x32x8x256.size a := fun i v53 k0_hw1 k0_t1 => k0_hw1.1.2.2.2.2.2.2.2.2.1 k0_t1
theorem k0_off9_inb : ∀ (i : grid0.Coords) (v53 : BitVec 32) (k0_hw1 : k0_chk1 i v53) (k0_t1 : Fin (k0_t1_loop i v53).trips), ∀ a, (k0_off9 i v53 k0_t1) a + S1x1x64x256.size a ≤ S4x32x64x256.size a := fun i v53 k0_hw1 k0_t1 => k0_hw1.1.2.2.2.2.2.2.2.2.2.1 k0_t1
theorem k0_off10_inb : ∀ (i : grid0.Coords) (v53 : BitVec 32) (k0_hw1 : k0_chk1 i v53) (k0_t1 : Fin (k0_t1_loop i v53).trips), ∀ a, (k0_off10 i v53 k0_t1) a + S1x1x64x256.size a ≤ S4x32x64x256.size a := fun i v53 k0_hw1 k0_t1 => k0_hw1.1.2.2.2.2.2.2.2.2.2.2.1 k0_t1
theorem k0_off11_inb : ∀ (i : grid0.Coords) (v53 : BitVec 32) (k0_hw1 : k0_chk1 i v53) (k0_t1 : Fin (k0_t1_loop i v53).trips), ∀ a, (k0_off11 i v53 k0_t1) a + S1x1x64x256.size a ≤ S4x32x64x256.size a := fun i v53 k0_hw1 k0_t1 => k0_hw1.1.2.2.2.2.2.2.2.2.2.2.2.1 k0_t1
theorem k0_off12_inb : ∀ (i : grid0.Coords) (v53 : BitVec 32) (k0_hw1 : k0_chk1 i v53) (k0_t1 : Fin (k0_t1_loop i v53).trips), ∀ a, (k0_off12 i v53 k0_t1) a + S1x1x64x256.size a ≤ S4x32x64x256.size a := fun i v53 k0_hw1 k0_t1 => k0_hw1.1.2.2.2.2.2.2.2.2.2.2.2.2.1 k0_t1
theorem k0_off13_inb : ∀ (i : grid0.Coords) (v53 : BitVec 32) (k0_hw1 : k0_chk1 i v53) (k0_t1 : Fin (k0_t1_loop i v53).trips), ∀ a, (k0_off13 i v53 k0_t1) a + S1x64x256.size a ≤ S32x256x256.size a := fun i v53 k0_hw1 k0_t1 => k0_hw1.1.2.2.2.2.2.2.2.2.2.2.2.2.2.1 k0_t1
theorem k0_off14_inb : ∀ (i : grid0.Coords) (v53 : BitVec 32) (k0_hw1 : k0_chk1 i v53) (k0_t1 : Fin (k0_t1_loop i v53).trips), ∀ a, (k0_off14 i v53 k0_t1) a + S1x64x256.size a ≤ S32x256x256.size a := fun i v53 k0_hw1 k0_t1 => k0_hw1.1.2.2.2.2.2.2.2.2.2.2.2.2.2.2.1 k0_t1
theorem k0_off15_inb : ∀ (i : grid0.Coords) (v53 : BitVec 32) (k0_hw1 : k0_chk1 i v53) (k0_t1 : Fin (k0_t1_loop i v53).trips), ∀ a, (k0_off15 i v53 k0_t1) a + S1x64x256.size a ≤ S32x256x256.size a := fun i v53 k0_hw1 k0_t1 => k0_hw1.1.2.2.2.2.2.2.2.2.2.2.2.2.2.2.2.1 k0_t1
theorem k0_off16_inb : ∀ (i : grid0.Coords) (v53 : BitVec 32) (k0_hw1 : k0_chk1 i v53) (k0_t1 : Fin (k0_t1_loop i v53).trips), ∀ a, (k0_off16 i v53 k0_t1) a + S1x64x256.size a ≤ S32x256x256.size a := fun i v53 k0_hw1 k0_t1 => k0_hw1.1.2.2.2.2.2.2.2.2.2.2.2.2.2.2.2.2.1 k0_t1
theorem k0_t2_ok : ∀ (i : grid0.Coords) (v53 : BitVec 32) (k0_hw1 : k0_chk1 i v53), (k0_t2_loop i v53).OK := fun i v53 k0_hw1 => k0_hw1.1.2.2.2.2.2.2.2.2.2.2.2.2.2.2.2.2.2.1
theorem k0_off17_inb : ∀ (i : grid0.Coords) (v53 : BitVec 32) (k0_hw1 : k0_chk1 i v53) (k0_t2 : Fin (k0_t2_loop i v53).trips), ∀ a, (k0_off17 i v53 k0_t2) a + S1x1x256x64.size a ≤ S4x32x256x64.size a := fun i v53 k0_hw1 k0_t2 => k0_hw1.1.2.2.2.2.2.2.2.2.2.2.2.2.2.2.2.2.2.2.1 k0_t2
theorem k0_off18_inb : ∀ (i : grid0.Coords) (v53 : BitVec 32) (k0_hw1 : k0_chk1 i v53) (k0_t2 : Fin (k0_t2_loop i v53).trips), ∀ a, (k0_off18 i v53 k0_t2) a + S1x1x256x64.size a ≤ S4x32x256x64.size a := fun i v53 k0_hw1 k0_t2 => k0_hw1.1.2.2.2.2.2.2.2.2.2.2.2.2.2.2.2.2.2.2.2.1 k0_t2
theorem k0_off19_inb : ∀ (i : grid0.Coords) (v53 : BitVec 32) (k0_hw1 : k0_chk1 i v53) (k0_t2 : Fin (k0_t2_loop i v53).trips), ∀ a, (k0_off19 i v53 k0_t2) a + S1x1x256x64.size a ≤ S4x32x256x64.size a := fun i v53 k0_hw1 k0_t2 => k0_hw1.1.2.2.2.2.2.2.2.2.2.2.2.2.2.2.2.2.2.2.2.2.1 k0_t2
theorem k0_off20_inb : ∀ (i : grid0.Coords) (v53 : BitVec 32) (k0_hw1 : k0_chk1 i v53) (k0_t2 : Fin (k0_t2_loop i v53).trips), ∀ a, (k0_off20 i v53 k0_t2) a + S1x1x256x64.size a ≤ S4x32x256x64.size a := fun i v53 k0_hw1 k0_t2 => k0_hw1.1.2.2.2.2.2.2.2.2.2.2.2.2.2.2.2.2.2.2.2.2.2.1 k0_t2
theorem k0_off21_inb : ∀ (i : grid0.Coords) (v53 : BitVec 32) (k0_hw1 : k0_chk1 i v53) (k0_t2 : Fin (k0_t2_loop i v53).trips), ∀ a, (k0_off21 i v53 k0_t2) a + S1x1x1x8x256.size a ≤ S4x1x32x8x256.size a := fun i v53 k0_hw1 k0_t2 => k0_hw1.1.2.2.2.2.2.2.2.2.2.2.2.2.2.2.2.2.2.2.2.2.2.2.1 k0_t2
theorem k0_off22_inb : ∀ (i : grid0.Coords) (v53 : BitVec 32) (k0_hw1 : k0_chk1 i v53) (k0_t2 : Fin (k0_t2_loop i v53).trips), ∀ a, (k0_off22 i v53 k0_t2) a + S1x1x1x8x256.size a ≤ S4x1x32x8x256.size a := fun i v53 k0_hw1 k0_t2 => k0_hw1.1.2.2.2.2.2.2.2.2.2.2.2.2.2.2.2.2.2.2.2.2.2.2.2.1 k0_t2
theorem k0_off23_inb : ∀ (i : grid0.Coords) (v53 : BitVec 32) (k0_hw1 : k0_chk1 i v53) (k0_t2 : Fin (k0_t2_loop i v53).trips), ∀ a, (k0_off23 i v53 k0_t2) a + S1x1x1x8x256.size a ≤ S4x1x32x8x256.size a := fun i v53 k0_hw1 k0_t2 => k0_hw1.1.2.2.2.2.2.2.2.2.2.2.2.2.2.2.2.2.2.2.2.2.2.2.2.2.1 k0_t2
theorem k0_off24_inb : ∀ (i : grid0.Coords) (v53 : BitVec 32) (k0_hw1 : k0_chk1 i v53) (k0_t2 : Fin (k0_t2_loop i v53).trips), ∀ a, (k0_off24 i v53 k0_t2) a + S1x1x1x8x256.size a ≤ S4x1x32x8x256.size a := fun i v53 k0_hw1 k0_t2 => k0_hw1.1.2.2.2.2.2.2.2.2.2.2.2.2.2.2.2.2.2.2.2.2.2.2.2.2.2.1 k0_t2
theorem k0_off25_inb : ∀ (i : grid0.Coords) (v53 : BitVec 32) (k0_hw1 : k0_chk1 i v53) (k0_t2 : Fin (k0_t2_loop i v53).trips), ∀ a, (k0_off25 i v53 k0_t2) a + S1x1x64x256.size a ≤ S4x32x64x256.size a := fun i v53 k0_hw1 k0_t2 => k0_hw1.1.2.2.2.2.2.2.2.2.2.2.2.2.2.2.2.2.2.2.2.2.2.2.2.2.2.2.1 k0_t2
theorem k0_off26_inb : ∀ (i : grid0.Coords) (v53 : BitVec 32) (k0_hw1 : k0_chk1 i v53) (k0_t2 : Fin (k0_t2_loop i v53).trips), ∀ a, (k0_off26 i v53 k0_t2) a + S1x1x64x256.size a ≤ S4x32x64x256.size a := fun i v53 k0_hw1 k0_t2 => k0_hw1.1.2.2.2.2.2.2.2.2.2.2.2.2.2.2.2.2.2.2.2.2.2.2.2.2.2.2.2.1 k0_t2
theorem k0_off27_inb : ∀ (i : grid0.Coords) (v53 : BitVec 32) (k0_hw1 : k0_chk1 i v53) (k0_t2 : Fin (k0_t2_loop i v53).trips), ∀ a, (k0_off27 i v53 k0_t2) a + S1x1x64x256.size a ≤ S4x32x64x256.size a := fun i v53 k0_hw1 k0_t2 => k0_hw1.1.2.2.2.2.2.2.2.2.2.2.2.2.2.2.2.2.2.2.2.2.2.2.2.2.2.2.2.2.1 k0_t2
theorem k0_off28_inb : ∀ (i : grid0.Coords) (v53 : BitVec 32) (k0_hw1 : k0_chk1 i v53) (k0_t2 : Fin (k0_t2_loop i v53).trips), ∀ a, (k0_off28 i v53 k0_t2) a + S1x1x64x256.size a ≤ S4x32x64x256.size a := fun i v53 k0_hw1 k0_t2 => k0_hw1.1.2.2.2.2.2.2.2.2.2.2.2.2.2.2.2.2.2.2.2.2.2.2.2.2.2.2.2.2.2.1 k0_t2
theorem k0_off29_inb : ∀ (i : grid0.Coords) (v53 : BitVec 32) (k0_hw1 : k0_chk1 i v53) (k0_t2 : Fin (k0_t2_loop i v53).trips), ∀ a, (k0_off29 i v53 k0_t2) a + S1x64x256.size a ≤ S32x256x256.size a := fun i v53 k0_hw1 k0_t2 => k0_hw1.1.2.2.2.2.2.2.2.2.2.2.2.2.2.2.2.2.2.2.2.2.2.2.2.2.2.2.2.2.2.2.1 k0_t2
theorem k0_off30_inb : ∀ (i : grid0.Coords) (v53 : BitVec 32) (k0_hw1 : k0_chk1 i v53) (k0_t2 : Fin (k0_t2_loop i v53).trips), ∀ a, (k0_off30 i v53 k0_t2) a + S1x64x256.size a ≤ S32x256x256.size a := fun i v53 k0_hw1 k0_t2 => k0_hw1.1.2.2.2.2.2.2.2.2.2.2.2.2.2.2.2.2.2.2.2.2.2.2.2.2.2.2.2.2.2.2.2 k0_t2
theorem k0_off31_inb : ∀ (i : grid0.Coords) (v53 : BitVec 32) (k0_hw1 : k0_chk1 i v53) (k0_t2 : Fin (k0_t2_loop i v53).trips), ∀ a, (k0_off31 i v53 k0_t2) a + S1x64x256.size a ≤ S32x256x256.size a := fun i v53 k0_hw1 k0_t2 => k0_hw1.2.1 k0_t2
theorem k0_off32_inb : ∀ (i : grid0.Coords) (v53 : BitVec 32) (k0_hw1 : k0_chk1 i v53) (k0_t2 : Fin (k0_t2_loop i v53).trips), ∀ a, (k0_off32 i v53 k0_t2) a + S1x64x256.size a ≤ S32x256x256.size a := fun i v53 k0_hw1 k0_t2 => k0_hw1.2.2 k0_t2

def k0_off33 (i : grid0.Coords) : Fin 4 → Nat :=
  let c0_40 : Index := 0#32
  let arg1 : BitVec 32 := BitVec.ofNat 32 (i 1).val
  let v71 : Index := Scalar.indexCast arg1
  let c0_41 : Index := 0#32
  let c0_42 : Index := 0#32
  ![0, v71.toNat, 0, 0]
def k0_off34 (i : grid0.Coords) : Fin 4 → Nat :=
  let c1_44 : Index := 1#32
  let arg1 : BitVec 32 := BitVec.ofNat 32 (i 1).val
  let v75 : Index := Scalar.indexCast arg1
  let c0_45 : Index := 0#32
  let c0_46 : Index := 0#32
  ![1, v75.toNat, 0, 0]
def k0_off35 (i : grid0.Coords) : Fin 4 → Nat :=
  let c2_48 : Index := 2#32
  let arg1 : BitVec 32 := BitVec.ofNat 32 (i 1).val
  let v79 : Index := Scalar.indexCast arg1
  let c0_49 : Index := 0#32
  let c0_50 : Index := 0#32
  ![2, v79.toNat, 0, 0]
def k0_off36 (i : grid0.Coords) : Fin 4 → Nat :=
  let c3_52 : Index := 3#32
  let arg1 : BitVec 32 := BitVec.ofNat 32 (i 1).val
  let v83 : Index := Scalar.indexCast arg1
  let c0_53 : Index := 0#32
  let c0_54 : Index := 0#32
  ![3, v83.toNat, 0, 0]
def k0_off37 (i : grid0.Coords) : Fin 5 → Nat :=
  let c0_96 : Index := 0#32
  let c0_97 : Index := 0#32
  let arg1 : BitVec 32 := BitVec.ofNat 32 (i 1).val
  let v183 : Index := Scalar.indexCast arg1
  let c0_98 : Index := 0#32
  let c0_99 : Index := 0#32
  ![0, 0, v183.toNat, 0, 0]
def k0_off38 (i : grid0.Coords) : Fin 5 → Nat :=
  let c1_101 : Index := 1#32
  let c0_102 : Index := 0#32
  let arg1 : BitVec 32 := BitVec.ofNat 32 (i 1).val
  let v193 : Index := Scalar.indexCast arg1
  let c0_103 : Index := 0#32
  let c0_104 : Index := 0#32
  ![1, 0, v193.toNat, 0, 0]
def k0_off39 (i : grid0.Coords) : Fin 5 → Nat :=
  let c2_106 : Index := 2#32
  let c0_107 : Index := 0#32
  let arg1 : BitVec 32 := BitVec.ofNat 32 (i 1).val
  let v203 : Index := Scalar.indexCast arg1
  let c0_108 : Index := 0#32
  let c0_109 : Index := 0#32
  ![2, 0, v203.toNat, 0, 0]
def k0_off40 (i : grid0.Coords) : Fin 5 → Nat :=
  let c3_111 : Index := 3#32
  let c0_112 : Index := 0#32
  let arg1 : BitVec 32 := BitVec.ofNat 32 (i 1).val
  let v213 : Index := Scalar.indexCast arg1
  let c0_113 : Index := 0#32
  let c0_114 : Index := 0#32
  ![3, 0, v213.toNat, 0, 0]
def k0_off41 (i : grid0.Coords) : Fin 4 → Nat :=
  let c0_132 : Index := 0#32
  let arg1 : BitVec 32 := BitVec.ofNat 32 (i 1).val
  let v299 : Index := Scalar.indexCast arg1
  let c0_133 : Index := 0#32
  let c0_134 : Index := 0#32
  ![0, v299.toNat, 0, 0]
def k0_off42 (i : grid0.Coords) : Fin 4 → Nat :=
  let c1_136 : Index := 1#32
  let arg1 : BitVec 32 := BitVec.ofNat 32 (i 1).val
  let v304 : Index := Scalar.indexCast arg1
  let c0_137 : Index := 0#32
  let c0_138 : Index := 0#32
  ![1, v304.toNat, 0, 0]
def k0_off43 (i : grid0.Coords) : Fin 4 → Nat :=
  let c2_140 : Index := 2#32
  let arg1 : BitVec 32 := BitVec.ofNat 32 (i 1).val
  let v309 : Index := Scalar.indexCast arg1
  let c0_141 : Index := 0#32
  let c0_142 : Index := 0#32
  ![2, v309.toNat, 0, 0]
def k0_off44 (i : grid0.Coords) : Fin 4 → Nat :=
  let c3_144 : Index := 3#32
  let arg1 : BitVec 32 := BitVec.ofNat 32 (i 1).val
  let v314 : Index := Scalar.indexCast arg1
  let c0_145 : Index := 0#32
  let c0_146 : Index := 0#32
  ![3, v314.toNat, 0, 0]
def k0_off45 (i : grid0.Coords) : Fin 3 → Nat :=
  let arg1 : BitVec 32 := BitVec.ofNat 32 (i 1).val
  let v319 : Index := Scalar.indexCast arg1
  let c0_148 : Index := 0#32
  let c0_149 : Index := 0#32
  ![v319.toNat, 0, 0]
def k0_off46 (i : grid0.Coords) : Fin 3 → Nat :=
  let arg1 : BitVec 32 := BitVec.ofNat 32 (i 1).val
  let v328 : Index := Scalar.indexCast arg1
  let c64 : Index := 64#32
  let c0_153 : Index := 0#32
  ![v328.toNat, 64, 0]
def k0_off47 (i : grid0.Coords) : Fin 3 → Nat :=
  let arg1 : BitVec 32 := BitVec.ofNat 32 (i 1).val
  let v337 : Index := Scalar.indexCast arg1
  let c128 : Index := 128#32
  let c0_157 : Index := 0#32
  ![v337.toNat, 128, 0]
def k0_off48 (i : grid0.Coords) : Fin 3 → Nat :=
  let arg1 : BitVec 32 := BitVec.ofNat 32 (i 1).val
  let v346 : Index := Scalar.indexCast arg1
  let c192 : Index := 192#32
  let c0_161 : Index := 0#32
  ![v346.toNat, 192, 0]
def k0_cond2 (i : grid0.Coords) : BitVec 1 :=
  let arg1 : BitVec 32 := BitVec.ofNat 32 (i 1).val
  let c31_i32 : BitVec 32 := 31#32
  let v401 : BitVec 1 := Scalar.cmpi .eq arg1 c31_i32
  let v402 : BitVec 32 := Scalar.extui v401
  let c0_i32_188 : BitVec 32 := 0#32
  let v403 : BitVec 1 := Scalar.cmpi .ne v402 c0_i32_188
  v403

@[reducible] def k0_t3_loop : Scf.Loop 32 :=
  let c0_i32_189 : BitVec 32 := 0#32
  let c32_i32 : BitVec 32 := 32#32
  let v404 : BitVec 32 := Scalar.addi c0_i32_189 c32_i32
  let c1_i32_190 : BitVec 32 := 1#32
  ⟨c0_i32_189, v404, c1_i32_190⟩
def k0_mult1 (k0_t3 : Fin k0_t3_loop.trips) : BitVec 32 :=
  let c0_i32_189 : BitVec 32 := 0#32
  let c1_i32_190 : BitVec 32 := 1#32
  let arg14 : BitVec 32 := Scf.iv c0_i32_189 c1_i32_190 k0_t3
  let c256_i32 : BitVec 32 := 256#32
  let v405 : BitVec 32 := Scalar.muli arg14 c256_i32
  v405
def k0_off49 (k0_t3 : Fin k0_t3_loop.trips) : Fin 3 → Nat :=
  let c0_i32_189 : BitVec 32 := 0#32
  let c1_i32_190 : BitVec 32 := 1#32
  let arg14 : BitVec 32 := Scf.iv c0_i32_189 c1_i32_190 k0_t3
  let v407 : Index := Scalar.indexCast arg14
  let c0_192 : Index := 0#32
  let c0_193 : Index := 0#32
  ![v407.toNat, 0, 0]
def k0_off50 (k0_t3 : Fin k0_t3_loop.trips) : Fin 2 → Nat :=
  let c0_i32_189 : BitVec 32 := 0#32
  let c1_i32_190 : BitVec 32 := 1#32
  let arg14 : BitVec 32 := Scf.iv c0_i32_189 c1_i32_190 k0_t3
  let c256_i32 : BitVec 32 := 256#32
  let v405 : BitVec 32 := Scalar.muli arg14 c256_i32
  let v406 : BitVec 32 := v405
  let v412 : Index := Scalar.indexCast v406
  let c0_194 : Index := 0#32
  ![v412.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, arg1.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x32x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4x32x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4x32x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S4x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x32x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8192x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8192x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== SbReferenceIdeal.lean ====
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 175
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x8x64, .f32⟩
  | 5 => ⟨S8192x8x64, .f32⟩
  | 6 => ⟨S8192x8x64, .f32⟩
  | 7 => ⟨S8x8192x8192, .f32⟩
  | 8 => ⟨S_, .f32⟩
  | 9 => ⟨S8x8192x8192, .f32⟩
  | 10 => ⟨S8x8192x8192, .f32⟩
  | 11 => ⟨S8192, .i32⟩
  | 12 => ⟨S1x8192, .i32⟩
  | 13 => ⟨S8192x1, .i32⟩
  | 14 => ⟨S8192x8192, .i32⟩
  | 15 => ⟨S8192x8192, .i32⟩
  | 16 => ⟨S8192x8192, .i1⟩
  | 17 => ⟨S8x8192x8192, .f32⟩
  | 18 => ⟨S_, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .i1⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S_, .f32⟩
  | 33 => ⟨S8x8192x8192, .f32⟩
  | 34 => ⟨S8x8192x8192, .i1⟩
  | 35 => ⟨S_, .f32⟩
  | 36 => ⟨S8x8192x8192, .f32⟩
  | 37 => ⟨S8x8192x8192, .f32⟩
  | 38 => ⟨S_, .f32⟩
  | 39 => ⟨S8x8192x8192, .f32⟩
  | 40 => ⟨S8x8192x8192, .i1⟩
  | 41 => ⟨S_, .f32⟩
  | 42 => ⟨S8x8192x8192, .f32⟩
  | 43 => ⟨S8x8192x8192, .f32⟩
  | 44 => ⟨S8x8192x8192, .f32⟩
  | 45 => ⟨S8x8192x8192, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S8x8192x8192, .f32⟩
  | 54 => ⟨S8x8192x8192, .i1⟩
  | 55 => ⟨S_, .f32⟩
  | 56 => ⟨S8x8192x8192, .f32⟩
  | 57 => ⟨S8x8192x8192, .f32⟩
  | 58 => ⟨S8x8192x8192, .f32⟩
  | 59 => ⟨S8x8192x8192, .f32⟩
  | 60 => ⟨S8x8192x8192, .f32⟩
  | 61 => ⟨S_, .f32⟩
  | 62 => ⟨S8x8192x8192, .f32⟩
  | 63 => ⟨S8x8192x8192, .f32⟩
  | 64 => ⟨S8x8192x8192, .f32⟩
  | 65 => ⟨S8x8192x8192, .f32⟩
  | 66 => ⟨S8x8192x8192, .f32⟩
  | 67 => ⟨S_, .f32⟩
  | 68 => ⟨S8x8192x8192, .f32⟩
  | 69 => ⟨S8x8192x8192, .f32⟩
  | 70 => ⟨S8x8192x8192, .f32⟩
  | 71 => ⟨S8x8192x8192, .f32⟩
  | 72 => ⟨S8x8192x8192, .i1⟩
  | 73 => ⟨S8x8192x8192, .f32⟩
  | 74 => ⟨S8x8192x8192, .f32⟩
  | 75 => ⟨S8x8192x8192, .f32⟩
  | 76 => ⟨S8x8192x8192, .f32⟩
  | 77 => ⟨S8x8192x8192, .f32⟩
  | 78 => ⟨S8x8192x8192, .f32⟩
  | 79 => ⟨S8x8192x8192, .f32⟩
  | 80 => ⟨S8x8192x8192, .f32⟩
  | 81 => ⟨S_, .f32⟩
  | 82 => ⟨S8x8192x8192, .f32⟩
  | 83 => ⟨S8x8192x8192, .i1⟩
  | 84 => ⟨S_, .f32⟩
  | 85 => ⟨S8x8192x8192, .f32⟩
  | 86 => ⟨S8x8192x8192, .f32⟩
  | 87 => ⟨S_, .f32⟩
  | 88 => ⟨S8x8192x8192, .f32⟩
  | 89 => ⟨S8x8192x8192, .i1⟩
  | 90 => ⟨S_, .f32⟩
  | 91 => ⟨S8x8192x8192, .f32⟩
  | 92 => ⟨S8x8192x8192, .f32⟩
  | 93 => ⟨S8x8192x8192, .f32⟩
  | 94 => ⟨S8x8192x8192, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S_, .f32⟩
  | 102 => ⟨S8x8192x8192, .f32⟩
  | 103 => ⟨S8x8192x8192, .i1⟩
  | 104 => ⟨S_, .f32⟩
  | 105 => ⟨S8x8192x8192, .f32⟩
  | 106 => ⟨S8x8192x8192, .f32⟩
  | 107 => ⟨S8x8192x8192, .f32⟩
  | 108 => ⟨S8x8192x8192, .f32⟩
  | 109 => ⟨S8x8192x8192, .f32⟩
  | 110 => ⟨S_, .f32⟩
  | 111 => ⟨S8x8192x8192, .f32⟩
  | 112 => ⟨S8x8192x8192, .f32⟩
  | 113 => ⟨S8x8192x8192, .f32⟩
  | 114 => ⟨S_, .f32⟩
  | 115 => ⟨S_, .f32⟩
  | 116 => ⟨S8x8192x8192, .i1⟩
  | 117 => ⟨S8x8192x8192, .f32⟩
  | 118 => ⟨S8x8192x8192, .f32⟩
  | 119 => ⟨S_, .f32⟩
  | 120 => ⟨S8x8192x8192, .f32⟩
  | 121 => ⟨S_, .f32⟩
  | 122 => ⟨S_, .f32⟩
  | 123 => ⟨S8x8192x8192, .f32⟩
  | 124 => ⟨S8x8192x8192, .f32⟩
  | 125 => ⟨S8x8192x8192, .f32⟩
  | 126 => ⟨S8x8192x8192, .f32⟩
  | 127 => ⟨S_, .f32⟩
  | _ => ⟨S8192x512, .f32⟩

abbrev hbmTy0_1 (i : Nat) : BufTy := match i % 128 with
  | 0 => ⟨S_, .f32⟩
  | 1 => ⟨S8x8192x8192, .i1⟩
  | 2 => ⟨S8x8192x8192, .f32⟩
  | 3 => ⟨S8x8192x8192, .f32⟩
  | 4 => ⟨S_, .f32⟩
  | 5 => ⟨S8x8192x8192, .f32⟩
  | 6 => ⟨S8x64x8192, .f32⟩
  | 7 => ⟨S8192x8x64, .f32⟩
  | 8 => ⟨S8192x512, .f32⟩
  | 9 => ⟨S8192x8x64, .f32⟩
  | 10 => ⟨S8x64x8192, .f32⟩
  | 11 => ⟨S8x8192x8192, .f32⟩
  | 12 => ⟨S8x64x8192, .f32⟩
  | 13 => ⟨S8192x8x64, .f32⟩
  | 14 => ⟨S_, .f32⟩
  | 15 => ⟨S8x8192x8192, .f32⟩
  | 16 => ⟨S8x8192x8192, .f32⟩
  | 17 => ⟨S8x8192x8192, .f32⟩
  | 18 => ⟨S8x8192x8192, .f32⟩
  | 19 => ⟨S_, .f32⟩
  | 20 => ⟨S_, .f32⟩
  | 21 => ⟨S8x8192x8192, .f32⟩
  | 22 => ⟨S8x8192x8192, .f32⟩
  | 23 => ⟨S_, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S_, .f32⟩
  | 35 => ⟨S8x8192x8192, .f32⟩
  | 36 => ⟨S8x8192x8192, .f32⟩
  | 37 => ⟨S8x8192x64, .f32⟩
  | 38 => ⟨S8192x8x64, .f32⟩
  | 39 => ⟨S8x8192x64, .f32⟩
  | 40 => ⟨S8192x8x64, .f32⟩
  | 41 => ⟨S8192x512, .f32⟩
  | 42 => ⟨S8192x512, .f32⟩
  | 43 => ⟨S8192x512, .f32⟩
  | 44 => ⟨S8192x512, .bf16⟩
  | 45 => ⟨S8192x512, .bf16⟩
  | 46 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1_0 : Ref sig .tc := ⟨.hbm, 31, rfl⟩
abbrev main_call0_call0_cst_0 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst_1 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_cst_2 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_cst_3 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_v12_1 : Ref sig .tc := ⟨.hbm, 45, rfl⟩
abbrev main_call0_call0_cst_4 : Ref sig .tc := ⟨.hbm, 46, rfl⟩
abbrev main_call0_call0_cst_5 : Ref sig .tc := ⟨.hbm, 47, rfl⟩
abbrev main_call0_call0_v23 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v24 : Ref sig .tc := ⟨.hbm, 51, rfl⟩
abbrev main_call0_call0_cst_8 : Ref sig .tc := ⟨.hbm, 52, rfl⟩
abbrev main_call0_call0_v25 : Ref sig .tc := ⟨.hbm, 53, rfl⟩
abbrev main_call0_call0_v26 : Ref sig .tc := ⟨.hbm, 54, rfl⟩
abbrev main_call0_call0_cst_9 : Ref sig .tc := ⟨.hbm, 55, rfl⟩
abbrev main_call0_call0_v27 : Ref sig .tc := ⟨.hbm, 56, rfl⟩
abbrev main_call0_call0_v28 : Ref sig .tc := ⟨.hbm, 57, rfl⟩
abbrev main_call0_call0_v29 : Ref sig .tc := ⟨.hbm, 58, rfl⟩
abbrev main_call0_call0_v30 : Ref sig .tc := ⟨.hbm, 59, rfl⟩
abbrev main_call0_call0_v31 : Ref sig .tc := ⟨.hbm, 60, rfl⟩
abbrev main_call0_call0_cst_10 : Ref sig .tc := ⟨.hbm, 61, rfl⟩
abbrev main_call0_call0_v32 : Ref sig .tc := ⟨.hbm, 62, rfl⟩
abbrev main_v12_2 : Ref sig .tc := ⟨.hbm, 63, rfl⟩
abbrev main_v12_0 : Ref sig .tc := ⟨.hbm, 64, rfl⟩
abbrev main_v13 : Ref sig .tc := ⟨.hbm, 65, rfl⟩
abbrev main_call1_v0 : Ref sig .tc := ⟨.hbm, 66, rfl⟩
abbrev main_call1_call0_cst : Ref sig .tc := ⟨.hbm, 67, rfl⟩
abbrev main_call1_call0_v0 : Ref sig .tc := ⟨.hbm, 68, rfl⟩
abbrev main_call1_call0_v1 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_v7 : Ref sig .tc := ⟨.hbm, 75, rfl⟩
abbrev main_call1_call0_v8 : Ref sig .tc := ⟨.hbm, 76, rfl⟩
abbrev main_call1_call0_v9 : Ref sig .tc := ⟨.hbm, 77, rfl⟩
abbrev main_call1_call0_v10 : Ref sig .tc := ⟨.hbm, 78, rfl⟩
abbrev main_call1_call0_v11 : Ref sig .tc := ⟨.hbm, 79, rfl⟩
abbrev main_call1_v1_0 : Ref sig .tc := ⟨.hbm, 80, rfl⟩
abbrev main_call1_call0_cst_0 : Ref sig .tc := ⟨.hbm, 81, rfl⟩
abbrev main_call1_call0_v13 : Ref sig .tc := ⟨.hbm, 82, rfl⟩
abbrev main_call1_call0_v14 : Ref sig .tc := ⟨.hbm, 83, rfl⟩
abbrev main_call1_call0_cst_1 : Ref sig .tc := ⟨.hbm, 84, rfl⟩
abbrev main_call1_call0_v15 : Ref sig .tc := ⟨.hbm, 85, rfl⟩
abbrev main_call1_call0_v16 : Ref sig .tc := ⟨.hbm, 86, rfl⟩
abbrev main_call1_call0_cst_2 : Ref sig .tc := ⟨.hbm, 87, rfl⟩
abbrev main_call1_call0_v17 : Ref sig .tc := ⟨.hbm, 88, rfl⟩
abbrev main_call1_call0_v18 : Ref sig .tc := ⟨.hbm, 89, rfl⟩
abbrev main_call1_call0_cst_3 : Ref sig .tc := ⟨.hbm, 90, rfl⟩
abbrev main_call1_call0_v19 : Ref sig .tc := ⟨.hbm, 91, rfl⟩
abbrev main_call1_call0_v20 : Ref sig .tc := ⟨.hbm, 92, rfl⟩
abbrev main_call1_call0_v21 : Ref sig .tc := ⟨.hbm, 93, rfl⟩
abbrev main_v14_1 : Ref sig .tc := ⟨.hbm, 94, rfl⟩
abbrev main_call1_call0_cst_4 : Ref sig .tc := ⟨.hbm, 95, rfl⟩
abbrev main_call1_call0_cst_5 : Ref sig .tc := ⟨.hbm, 96, rfl⟩
abbrev main_call1_call0_v23 : Ref sig .tc := ⟨.hbm, 97, rfl⟩
abbrev main_call1_call0_cst_6 : Ref sig .tc := ⟨.hbm, 98, rfl⟩
abbrev main_call1_call0_cst_7 : Ref sig .tc := ⟨.hbm, 99, rfl⟩
abbrev main_call1_call0_v24 : Ref sig .tc := ⟨.hbm, 100, rfl⟩
abbrev main_call1_call0_cst_8 : Ref sig .tc := ⟨.hbm, 101, rfl⟩
abbrev main_call1_call0_v25 : Ref sig .tc := ⟨.hbm, 102, rfl⟩
abbrev main_call1_call0_v26 : Ref sig .tc := ⟨.hbm, 103, rfl⟩
abbrev main_call1_call0_cst_9 : Ref sig .tc := ⟨.hbm, 104, rfl⟩
abbrev main_call1_call0_v27 : Ref sig .tc := ⟨.hbm, 105, rfl⟩
abbrev main_call1_call0_v28 : Ref sig .tc := ⟨.hbm, 106, rfl⟩
abbrev main_call1_call0_v29 : Ref sig .tc := ⟨.hbm, 107, rfl⟩
abbrev main_call1_call0_v30 : Ref sig .tc := ⟨.hbm, 108, rfl⟩
abbrev main_call1_call0_v31 : Ref sig .tc := ⟨.hbm, 109, rfl⟩
abbrev main_call1_call0_cst_10 : Ref sig .tc := ⟨.hbm, 110, rfl⟩
abbrev main_call1_call0_v32 : Ref sig .tc := ⟨.hbm, 111, rfl⟩
abbrev main_v14_2 : Ref sig .tc := ⟨.hbm, 112, rfl⟩
abbrev main_v14_0 : Ref sig .tc := ⟨.hbm, 113, rfl⟩
abbrev main_cst_0 : Ref sig .tc := ⟨.hbm, 114, rfl⟩
abbrev main_call2_v0 : Ref sig .tc := ⟨.hbm, 115, rfl⟩
abbrev main_v15_1 : Ref sig .tc := ⟨.hbm, 116, rfl⟩
abbrev main_call2_v2 : Ref sig .tc := ⟨.hbm, 117, rfl⟩
abbrev main_v15_0 : Ref sig .tc := ⟨.hbm, 118, rfl⟩
abbrev main_call2_cst : Ref sig .tc := ⟨.hbm, 119, rfl⟩
abbrev main_v15_2 : Ref sig .tc := ⟨.hbm, 120, rfl⟩
abbrev main_call3_cst : Ref sig .tc := ⟨.hbm, 121, rfl⟩
abbrev main_call3_v0 : Ref sig .tc := ⟨.hbm, 122, rfl⟩
abbrev main_v16 : Ref sig .tc := ⟨.hbm, 123, rfl⟩
abbrev main_v17 : Ref sig .tc := ⟨.hbm, 124, rfl⟩
abbrev main_v18 : Ref sig .tc := ⟨.hbm, 125, rfl⟩
abbrev main_v19 : Ref sig .tc := ⟨.hbm, 126, rfl⟩
abbrev main_cst_1 : Ref sig .tc := ⟨.hbm, 127, rfl⟩
abbrev main_call4_v0 : Ref sig .tc := ⟨.hbm, 128, rfl⟩
abbrev main_v20_1 : Ref sig .tc := ⟨.hbm, 129, rfl⟩
abbrev main_call4_v2 : Ref sig .tc := ⟨.hbm, 130, rfl⟩
abbrev main_v20_0 : Ref sig .tc := ⟨.hbm, 131, rfl⟩
abbrev main_call4_cst : Ref sig .tc := ⟨.hbm, 132, rfl⟩
abbrev main_v20_2 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_call5_cst : Ref sig .tc := ⟨.hbm, 142, rfl⟩
abbrev main_call5_v0 : Ref sig .tc := ⟨.hbm, 143, rfl⟩
abbrev main_v29 : Ref sig .tc := ⟨.hbm, 144, rfl⟩
abbrev main_v30 : Ref sig .tc := ⟨.hbm, 145, rfl⟩
abbrev main_v31 : Ref sig .tc := ⟨.hbm, 146, rfl⟩
abbrev main_call6_cst : Ref sig .tc := ⟨.hbm, 147, rfl⟩
abbrev main_call6_v0 : Ref sig .tc := ⟨.hbm, 148, rfl⟩
abbrev main_v32 : Ref sig .tc := ⟨.hbm, 149, rfl⟩
abbrev main_v33 : Ref sig .tc := ⟨.hbm, 150, rfl⟩
abbrev main_call7_cst : Ref sig .tc := ⟨.hbm, 151, rfl⟩
abbrev main_call7_v0 : Ref sig .tc := ⟨.hbm, 152, rfl⟩
abbrev main_v34 : Ref sig .tc := ⟨.hbm, 153, rfl⟩
abbrev main_call8_v0 : Ref sig .tc := ⟨.hbm, 154, rfl⟩
abbrev main_call8_v1 : Ref sig .tc := ⟨.hbm, 155, rfl⟩
abbrev main_v35 : Ref sig .tc := ⟨.hbm, 156, rfl⟩
abbrev main_v36 : Ref sig .tc := ⟨.hbm, 157, rfl⟩
abbrev main_call9_v0 : Ref sig .tc := ⟨.hbm, 158, rfl⟩
abbrev main_call9_v1 : Ref sig .tc := ⟨.hbm, 159, rfl⟩
abbrev main_v37 : Ref sig .tc := ⟨.hbm, 160, rfl⟩
abbrev main_v38 : Ref sig .tc := ⟨.hbm, 161, rfl⟩
abbrev main_cst_2 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩

abbrev nD : Nat := 1
abbrev τ : Topo := Topo.v7x

variable {F : FTy → Type} [FloatOps F]
-- ==== UpKernel.lean ====
abbrev S8192x1024 : Shape := ⟨2, ![8192, 1024]⟩
abbrev S1x1024 : Shape := ⟨2, ![1, 1024]⟩
abbrev S1x1024x5632 : Shape := ⟨3, ![1, 1024, 5632]⟩
abbrev S8192x2816 : Shape := ⟨2, ![8192, 2816]⟩
abbrev S1x1024x1408 : Shape := ⟨3, ![1, 1024, 1408]⟩
abbrev S1024x1408 : Shape := ⟨2, ![1024, 1408]⟩
abbrev S4x1024x1408 : Shape := ⟨3, ![4, 1024, 1408]⟩
abbrev S256x2816 : Shape := ⟨2, ![256, 2816]⟩
abbrev S256x1024 : Shape := ⟨2, ![256, 1024]⟩
abbrev S256x1408 : Shape := ⟨2, ![256, 1408]⟩
abbrev S256 : Shape := ⟨1, ![256]⟩
abbrev S256x1 : Shape := ⟨2, ![256, 1]⟩
abbrev S1024 : Shape := ⟨1, ![1024]⟩

abbrev nBuf : Space → Nat
  | .hbm => 27
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S1x1024x1408, .f32⟩
  | .hbm, ⟨8, _⟩ => ⟨S1024x1408, .f32⟩
  | .hbm, ⟨9, _⟩ => ⟨S1x1024x1408, .f32⟩
  | .hbm, ⟨10, _⟩ => ⟨S1024x1408, .f32⟩
  | .hbm, ⟨11, _⟩ => ⟨S1x1024x1408, .f32⟩
  | .hbm, ⟨12, _⟩ => ⟨S1024x1408, .f32⟩
  | .hbm, ⟨13, _⟩ => ⟨S1x1024x1408, .f32⟩
  | .hbm, ⟨14, _⟩ => ⟨S1024x1408, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S4x1024x1408, .f32⟩
  | .hbm, ⟨20, _⟩ => ⟨S4x1024x1408, .bf16⟩
  | .hbm, ⟨21, _⟩ => ⟨S8192x2816, .bf16⟩
  | .hbm, ⟨22, _⟩ => ⟨S8192x2816, .bf16⟩
  | .hbm, ⟨23, _⟩ => ⟨S8192x1024, .f32⟩
  | .hbm, ⟨24, _⟩ => ⟨S8192x1024, .bf16⟩
  | .hbm, ⟨25, _⟩ => ⟨S1x1024, .f32⟩
  | .hbm, ⟨26, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S4x1024x1408, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== UpReferenceIdeal.lean ====
abbrev S8192x1024 : Shape := ⟨2, ![8192, 1024]⟩
abbrev S1x1024 : Shape := ⟨2, ![1, 1024]⟩
abbrev S1x1024x5632 : Shape := ⟨3, ![1, 1024, 5632]⟩
abbrev S8192x2816 : Shape := ⟨2, ![8192, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024x5632, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S1024x5632, .f32⟩
  | .hbm, ⟨46, _⟩ => ⟨S8192x5632, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x5632, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S1x1024, .f32⟩
  | .hbm, ⟨104, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_v71 : Ref sig .tc := ⟨.hbm, 97, rfl⟩
abbrev main_cst_18 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== LossKernel.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 18
  | .smem => 0
  | _ => 0

abbrev bufTy : (tb : Table) → Fin (tcTables nBuf tb) → BufTy
  | .hbm, ⟨0, _⟩ => ⟨S8192x2816, .f32⟩
  | .hbm, ⟨1, _⟩ => ⟨S1x2816x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x2816, .bf16⟩
  | .hbm, ⟨9, _⟩ => ⟨S2816x1024, .f32⟩
  | .hbm, ⟨10, _⟩ => ⟨S2816x1024, .bf16⟩
  | .hbm, ⟨11, _⟩ => ⟨S8192x1024, .f32⟩
  | .hbm, ⟨12, _⟩ => ⟨S8192x1024, .bf16⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LossReferenceIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩

abbrev nBuf : Space → Nat
  | .hbm => 156
  | .vmem => 0
  | .smem => 0
  | _ => 0

abbrev hbmTy0_0 (i : Nat) : BufTy := match i % 128 with
  | 0 => ⟨S8192x2816, .f32⟩
  | 1 => ⟨S1x2816x1024, .f32⟩
  | 2 => ⟨S8192x1024, .f32⟩
  | 3 => ⟨S1x1024, .f32⟩
  | 4 => ⟨S1x1024, .f32⟩
  | 5 => ⟨S1x1024, .f32⟩
  | 6 => ⟨S1x1024, .f32⟩
  | 7 => ⟨S8192x1024, .f32⟩
  | 8 => ⟨S1024, .f32⟩
  | 9 => ⟨S1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S_, .f32⟩
  | 28 => ⟨S8192x1, .f32⟩
  | 29 => ⟨S8192x1, .f32⟩
  | 30 => ⟨S8192x1, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S2816x1024, .f32⟩
  | 43 => ⟨S8192x1024, .f32⟩
  | 44 => ⟨S8192x1024, .f32⟩
  | 45 => ⟨S1024, .f32⟩
  | 46 => ⟨S1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S8192x1024, .f32⟩
  | 66 => ⟨S8192x1024, .f32⟩
  | 67 => ⟨S_, .f32⟩
  | 68 => ⟨S8192x1, .f32⟩
  | 69 => ⟨S8192x1, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S1x1024, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192, .f32⟩
  | 90 => ⟨S_, .f32⟩
  | 91 => ⟨S8192, .f32⟩
  | 92 => ⟨S8192, .f32⟩
  | 93 => ⟨S_, .f32⟩
  | 94 => ⟨S_, .f32⟩
  | 95 => ⟨S_, .f32⟩
  | 96 => ⟨S_, .f32⟩
  | 97 => ⟨S_, .f32⟩
  | 98 => ⟨S1024, .f32⟩
  | 99 => ⟨S1x1024, .f32⟩
  | 100 => ⟨S_, .f32⟩
  | 101 => ⟨S_, .f32⟩
  | 102 => ⟨S_, .f32⟩
  | 103 => ⟨S8192, .f32⟩
  | 104 => ⟨S_, .f32⟩
  | 105 => ⟨S8192, .f32⟩
  | 106 => ⟨S8192, .f32⟩
  | 107 => ⟨S8192x1024, .f32⟩
  | 108 => ⟨S8192x1024, .f32⟩
  | 109 => ⟨S_, .f32⟩
  | 110 => ⟨S1024, .f32⟩
  | 111 => ⟨S1x1024, .f32⟩
  | 112 => ⟨S_, .f32⟩
  | 113 => ⟨S1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1024, .f32⟩
  | _ => ⟨S8192x2816, .f32⟩

abbrev hbmTy0_1 (i : Nat) : BufTy := match i % 128 with
  | 0 => ⟨S8192x1, .f32⟩
  | 1 => ⟨S8192x1024, .f32⟩
  | 2 => ⟨S_, .f32⟩
  | 3 => ⟨S8192, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S8192x1024, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192, .f32⟩
  | 23 => ⟨S8192x1024, .f32⟩
  | 24 => ⟨S8192x1024, .f32⟩
  | 25 => ⟨S1x1024, .f32⟩
  | 26 => ⟨S1x1024, .f32⟩
  | 27 => ⟨S8192x1024, .bf16⟩
  | _ => ⟨S8192x2816, .f32⟩

abbrev hbmTy (i : Nat) : BufTy := match i / 128 with
  | 0 => hbmTy0_0 i
  | 1 => hbmTy0_1 i
  | _ => ⟨S8192x2816, .f32⟩

abbrev bufTy : (tb : Table) → Fin (tcTables nBuf tb) → BufTy
  | .hbm, ⟨i, _⟩ => hbmTy i
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_cst_20 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_21 : Ref sig .tc := ⟨.hbm, 109, rfl⟩
abbrev main_v79 : Ref sig .tc := ⟨.hbm, 110, rfl⟩
abbrev main_v80 : Ref sig .tc := ⟨.hbm, 111, rfl⟩
abbrev main_cst_22 : Ref sig .tc := ⟨.hbm, 112, rfl⟩
abbrev main_v81 : Ref sig .tc := ⟨.hbm, 113, rfl⟩
abbrev main_v82 : Ref sig .tc := ⟨.hbm, 114, rfl⟩
abbrev main_cst_23 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_cst_25 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_26 : Ref sig .tc := ⟨.hbm, 130, rfl⟩
abbrev main_v95 : Ref sig .tc := ⟨.hbm, 131, rfl⟩
abbrev main_v96 : Ref sig .tc := ⟨.hbm, 132, rfl⟩
abbrev main_cst_27 : Ref sig .tc := ⟨.hbm, 133, rfl⟩
abbrev main_v97 : Ref sig .tc := ⟨.hbm, 134, rfl⟩
abbrev main_v98 : Ref sig .tc := ⟨.hbm, 135, rfl⟩
abbrev main_cst_28 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_29 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_30 : Ref sig .tc := ⟨.hbm, 146, rfl⟩
abbrev main_v107 : Ref sig .tc := ⟨.hbm, 147, rfl⟩
abbrev main_v108 : Ref sig .tc := ⟨.hbm, 148, rfl⟩
abbrev main_cst_31 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩

abbrev nD : Nat := 1
abbrev τ : Topo := Topo.v7x

variable {F : FTy → Type} [FloatOps F]
-- ==== ProjKernel.lean ====
abbrev S8192x1024 : Shape := ⟨2, ![8192, 1024]⟩
abbrev S1024 : Shape := ⟨1, ![1024]⟩
abbrev S1x1024x2304 : Shape := ⟨3, ![1, 1024, 2304]⟩
abbrev S8192x512 : Shape := ⟨2, ![8192, 512]⟩
abbrev S8192x256 : Shape := ⟨2, ![8192, 256]⟩
abbrev S1024x2304 : Shape := ⟨2, ![1024, 2304]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S1024x512 : Shape := ⟨2, ![1024, 512]⟩
abbrev S1024x256 : Shape := ⟨2, ![1024, 256]⟩
abbrev S512 : Shape := ⟨1, ![512]⟩
abbrev S512x1 : Shape := ⟨2, ![512, 1]⟩

abbrev nBuf : Space → Nat
  | .hbm => 21
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1x1024x2304, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x256, .f32⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S8192x256, .bf16⟩
  | .hbm, ⟨15, _⟩ => ⟨S1024x2304, .f32⟩
  | .hbm, ⟨16, _⟩ => ⟨S1024x2304, .bf16⟩
  | .hbm, ⟨17, _⟩ => ⟨S1x1024, .f32⟩
  | .hbm, ⟨18, _⟩ => ⟨S8192x1024, .f32⟩
  | .hbm, ⟨19, _⟩ => ⟨S1x1024, .f32⟩
  | .hbm, ⟨20, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S1024x2304, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ProjReferenceIdeal.lean ====
abbrev S8192x1024 : Shape := ⟨2, ![8192, 1024]⟩
abbrev S1024 : Shape := ⟨1, ![1024]⟩
abbrev S1x1024x2304 : Shape := ⟨3, ![1, 1024, 2304]⟩
abbrev S8192x512 : Shape := ⟨2, ![8192, 512]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2304 : Shape := ⟨2, ![1024, 2304]⟩
abbrev S8192x2304 : Shape := ⟨2, ![8192, 2304]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1x1024x2304, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S1024x2304, .f32⟩
  | .hbm, ⟨50, _⟩ => ⟨S8192x2304, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x256, .f32⟩
  | .hbm, ⟨56, _⟩ => ⟨S8192x2304, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S8192x1024, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S1x1024, .f32⟩
  | .hbm, ⟨107, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== MixKernel.lean ====
abbrev S8192x512 : Shape := ⟨2, ![8192, 512]⟩
abbrev S1x512 : Shape := ⟨2, ![1, 512]⟩
abbrev S1x1024x1024 : Shape := ⟨3, ![1, 1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S8x64x8192 : Shape := ⟨3, ![8, 64, 8192]⟩
abbrev S8x8192x64 : Shape := ⟨3, ![8, 8192, 64]⟩
abbrev S512x1024 : Shape := ⟨2, ![512, 1024]⟩
abbrev S512x512 : Shape := ⟨2, ![512, 512]⟩
abbrev S8x64x512 : Shape := ⟨3, ![8, 64, 512]⟩
abbrev S8x512x64 : Shape := ⟨3, ![8, 512, 64]⟩
abbrev S512 : Shape := ⟨1, ![512]⟩
abbrev S512x1 : Shape := ⟨2, ![512, 1]⟩
abbrev S512x64 : Shape := ⟨2, ![512, 64]⟩
abbrev S1x512x64 : Shape := ⟨3, ![1, 512, 64]⟩

abbrev nBuf : Space → Nat
  | .hbm => 47
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .bf16⟩
  | .hbm, ⟨37, _⟩ => ⟨S8192x512, .bf16⟩
  | .hbm, ⟨38, _⟩ => ⟨S8192x1024, .bf16⟩
  | .hbm, ⟨39, _⟩ => ⟨S8192x1024, .bf16⟩
  | .hbm, ⟨40, _⟩ => ⟨S1024x1024, .f32⟩
  | .hbm, ⟨41, _⟩ => ⟨S1024x1024, .bf16⟩
  | .hbm, ⟨42, _⟩ => ⟨S8x64x8192, .bf16⟩
  | .hbm, ⟨43, _⟩ => ⟨S8x8192x64, .bf16⟩
  | .hbm, ⟨44, _⟩ => ⟨S1x512, .f32⟩
  | .hbm, ⟨45, _⟩ => ⟨S1x512, .f32⟩
  | .hbm, ⟨46, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S8x64x512, .bf16⟩
  | .local _ .vmem, ⟨12, _⟩ => ⟨S8x64x512, .bf16⟩
  | .local _ .vmem, ⟨13, _⟩ => ⟨S8x512x64, .bf16⟩
  | .local _ .vmem, ⟨14, _⟩ => ⟨S8x512x64, .bf16⟩
  | .local _ .vmem, ⟨15, _⟩ => ⟨S1x512, .f32⟩
  | .local _ .vmem, ⟨16, _⟩ => ⟨S1x512, .f32⟩
  | .local _ .vmem, ⟨17, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev main_v30_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixReferenceIdeal.lean ====
abbrev S8192x512 : Shape := ⟨2, ![8192, 512]⟩
abbrev S1x512 : Shape := ⟨2, ![1, 512]⟩
abbrev S1x1024x1024 : Shape := ⟨3, ![1, 1024, 1024]⟩
abbrev S8192x1024 : Shape := ⟨2, ![8192, 1024]⟩
abbrev S512 : Shape := ⟨1, ![512]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S8192x8x64 : Shape := ⟨3, ![8192, 8, 64]⟩
abbrev S8x64x8192 : Shape := ⟨3, ![8, 64, 8192]⟩
abbrev S8x8192x64 : Shape := ⟨3, ![8, 8192, 64]⟩

abbrev nBuf : Space → Nat
  | .hbm => 118
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S8192x1024, .f32⟩
  | .hbm, ⟨6, _⟩ => ⟨S512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x512, .f32⟩
  | .hbm, ⟨50, _⟩ => ⟨S8192x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S8192x1024, .f32⟩
  | .hbm, ⟨55, _⟩ => ⟨S1024x1024, .f32⟩
  | .hbm, ⟨56, _⟩ => ⟨S8192x1024, .f32⟩
  | .hbm, ⟨57, _⟩ => ⟨S1024x1024, .f32⟩
  | .hbm, ⟨58, _⟩ => ⟨S1024x1024, .f32⟩
  | .hbm, ⟨59, _⟩ => ⟨S8192x1024, .f32⟩
  | .hbm, ⟨60, _⟩ => ⟨S1x1024x1024, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S8192x512, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x512, .f32⟩
  | .hbm, ⟨76, _⟩ => ⟨S8192x512, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S1x512, .f32⟩
  | .hbm, ⟨87, _⟩ => ⟨S8192x512, .f32⟩
  | .hbm, ⟨88, _⟩ => ⟨S_, .f32⟩
  | .hbm, ⟨89, _⟩ => ⟨S512, .f32⟩
  | .hbm, ⟨90, _⟩ => ⟨S1x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S512, .f32⟩
  | .hbm, ⟨95, _⟩ => ⟨S8192x512, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x512, .f32⟩
  | .hbm, ⟨100, _⟩ => ⟨S8192x512, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192, .f32⟩
  | .hbm, ⟨107, _⟩ => ⟨S8192x512, .f32⟩
  | .hbm, ⟨108, _⟩ => ⟨S8192x512, .f32⟩
  | .hbm, ⟨109, _⟩ => ⟨S8192x512, .f32⟩
  | .hbm, ⟨110, _⟩ => ⟨S1x512, .f32⟩
  | .hbm, ⟨111, _⟩ => ⟨S8192x8x64, .f32⟩
  | .hbm, ⟨112, _⟩ => ⟨S8x64x8192, .f32⟩
  | .hbm, ⟨113, _⟩ => ⟨S8x64x8192, .bf16⟩
  | .hbm, ⟨114, _⟩ => ⟨S8192x8x64, .f32⟩
  | .hbm, ⟨115, _⟩ => ⟨S8x8192x64, .f32⟩
  | .hbm, ⟨116, _⟩ => ⟨S8x8192x64, .bf16⟩
  | .hbm, ⟨117, _⟩ => ⟨S1024x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_17 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩

abbrev nD : Nat := 1
abbrev τ : Topo := Topo.v7x

variable {F : FTy → Type} [FloatOps F]
-- ==== SmallKernel.lean ====
abbrev S32x8 : Shape := ⟨2, ![32, 8]⟩
abbrev S1x8 : Shape := ⟨2, ![1, 8]⟩
abbrev S8x256x128 : Shape := ⟨3, ![8, 256, 128]⟩
abbrev S8x8x128 : Shape := ⟨3, ![8, 8, 128]⟩
abbrev S256x128 : Shape := ⟨2, ![256, 128]⟩
abbrev S40x128 : Shape := ⟨2, ![40, 128]⟩
abbrev S1x256x128 : Shape := ⟨3, ![1, 256, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x8x128 : Shape := ⟨3, ![1, 8, 128]⟩
abbrev S8x128 : Shape := ⟨2, ![8, 128]⟩
abbrev S1x128 : Shape := ⟨2, ![1, 128]⟩

abbrev nBuf : Space → Nat
  | .hbm => 6
  | .vmem => 4
  | .smem => 0
  | _ => 0

abbrev bufTy : (tb : Table) → Fin (tcTables nBuf tb) → BufTy
  | .hbm, ⟨0, _⟩ => ⟨S32x8, .f32⟩
  | .hbm, ⟨1, _⟩ => ⟨S1x8, .f32⟩
  | .hbm, ⟨2, _⟩ => ⟨S8x256x128, .f32⟩
  | .hbm, ⟨3, _⟩ => ⟨S8x8x128, .f32⟩
  | .hbm, ⟨4, _⟩ => ⟨S256x128, .i32⟩
  | .hbm, ⟨5, _⟩ => ⟨S40x128, .f32⟩
  | .local _ .vmem, ⟨0, _⟩ => ⟨S8x256x128, .f32⟩
  | .local _ .vmem, ⟨1, _⟩ => ⟨S8x8x128, .f32⟩
  | .local _ .vmem, ⟨2, _⟩ => ⟨S256x128, .i32⟩
  | .local _ .vmem, ⟨3, _⟩ => ⟨S40x128, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SmallReferenceIdeal.lean ====
abbrev S32x8 : Shape := ⟨2, ![32, 8]⟩
abbrev S1x8 : Shape := ⟨2, ![1, 8]⟩
abbrev S8x256x128 : Shape := ⟨3, ![8, 256, 128]⟩
abbrev S8x8x128 : Shape := ⟨3, ![8, 8, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S8 : Shape := ⟨1, ![8]⟩
abbrev S8x1x128 : Shape := ⟨3, ![8, 1, 128]⟩
abbrev S8x128 : Shape := ⟨2, ![8, 128]⟩
abbrev S7x8 : Shape := ⟨2, ![7, 8]⟩
abbrev S40x8 : Shape := ⟨2, ![40, 8]⟩
abbrev S40x128 : Shape := ⟨2, ![40, 128]⟩

abbrev nBuf : Space → Nat
  | .hbm => 68
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S1x8, .f32⟩
  | .hbm, ⟨2, _⟩ => ⟨S8x256x128, .f32⟩
  | .hbm, ⟨3, _⟩ => ⟨S8x8x128, .f32⟩
  | .hbm, ⟨4, _⟩ => ⟨S128, .i32⟩
  | .hbm, ⟨5, _⟩ => ⟨S128x1, .i32⟩
  | .hbm, ⟨6, _⟩ => ⟨S256, .i32⟩
  | .hbm, ⟨7, _⟩ => ⟨S1x256, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i32⟩
  | .hbm, ⟨48, _⟩ => ⟨S128x256, .i32⟩
  | .hbm, ⟨49, _⟩ => ⟨S128x256x1, .i32⟩
  | .hbm, ⟨50, _⟩ => ⟨S128x256x8, .f32⟩
  | .hbm, ⟨51, _⟩ => ⟨S8x256x128, .f32⟩
  | .hbm, ⟨52, _⟩ => ⟨S8, .f32⟩
  | .hbm, ⟨53, _⟩ => ⟨S8x1x128, .f32⟩
  | .hbm, ⟨54, _⟩ => ⟨S8x128, .f32⟩
  | .hbm, ⟨55, _⟩ => ⟨S_, .f32⟩
  | .hbm, ⟨56, _⟩ => ⟨S8, .f32⟩
  | .hbm, ⟨57, _⟩ => ⟨S1x8, .f32⟩
  | .hbm, ⟨58, _⟩ => ⟨S128x256x8, .f32⟩
  | .hbm, ⟨59, _⟩ => ⟨S_, .f32⟩
  | .hbm, ⟨60, _⟩ => ⟨S32x8, .f32⟩
  | .hbm, ⟨61, _⟩ => ⟨S32x8, .f32⟩
  | .hbm, ⟨62, _⟩ => ⟨S_, .f32⟩
  | .hbm, ⟨63, _⟩ => ⟨S7x8, .f32⟩
  | .hbm, ⟨64, _⟩ => ⟨S40x8, .f32⟩
  | .hbm, ⟨65, _⟩ => ⟨S_, .i32⟩
  | .hbm, ⟨66, _⟩ => ⟨S_, .f32⟩
  | .hbm, ⟨67, _⟩ => ⟨S40x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_c_12 : Ref sig .tc := ⟨.hbm, 65, rfl⟩
abbrev main_call1_v0 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== JoinKernel.lean ====
abbrev S8192x512 : Shape := ⟨2, ![8192, 512]⟩
abbrev S1x512 : Shape := ⟨2, ![1, 512]⟩
abbrev S1x1024x1024 : Shape := ⟨3, ![1, 1024, 1024]⟩
abbrev S8192x1024 : Shape := ⟨2, ![8192, 1024]⟩
abbrev S1x1024 : Shape := ⟨2, ![1, 1024]⟩
abbrev S1024x1024 : Shape := ⟨2, ![1024, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== JoinReferenceIdeal.lean ====
abbrev S8192x512 : Shape := ⟨2, ![8192, 512]⟩
abbrev S1x512 : Shape := ⟨2, ![1, 512]⟩
abbrev S1x1024x1024 : Shape := ⟨3, ![1, 1024, 1024]⟩
abbrev S8192x1024 : Shape := ⟨2, ![8192, 1024]⟩
abbrev S1x1024 : Shape := ⟨2, ![1, 1024]⟩
abbrev S512 : Shape := ⟨1, ![512]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1x1024x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x512, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S1024x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== ActKernel.lean ====
abbrev S8192x1024 : Shape := ⟨2, ![8192, 1024]⟩
abbrev S1x1024x5632 : Shape := ⟨3, ![1, 1024, 5632]⟩
abbrev S1x1024x1408 : Shape := ⟨3, ![1, 1024, 1408]⟩
abbrev S1024x1408 : Shape := ⟨2, ![1024, 1408]⟩
abbrev S4x1024x1408 : Shape := ⟨3, ![4, 1024, 1408]⟩
abbrev S8192x2816 : Shape := ⟨2, ![8192, 2816]⟩
abbrev S1024x1024 : Shape := ⟨2, ![1024, 1024]⟩

abbrev nBuf : Space → Nat
  | .hbm => 20
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024x5632, .f32⟩
  | .hbm, ⟨2, _⟩ => ⟨S1x1024x1408, .f32⟩
  | .hbm, ⟨3, _⟩ => ⟨S1024x1408, .f32⟩
  | .hbm, ⟨4, _⟩ => ⟨S1x1024x1408, .f32⟩
  | .hbm, ⟨5, _⟩ => ⟨S1024x1408, .f32⟩
  | .hbm, ⟨6, _⟩ => ⟨S1x1024x1408, .f32⟩
  | .hbm, ⟨7, _⟩ => ⟨S1024x1408, .f32⟩
  | .hbm, ⟨8, _⟩ => ⟨S1x1024x1408, .f32⟩
  | .hbm, ⟨9, _⟩ => ⟨S1024x1408, .f32⟩
  | .hbm, ⟨10, _⟩ => ⟨S1x1024x1408, .f32⟩
  | .hbm, ⟨11, _⟩ => ⟨S1x1024x1408, .f32⟩
  | .hbm, ⟨12, _⟩ => ⟨S1x1024x1408, .f32⟩
  | .hbm, ⟨13, _⟩ => ⟨S1x1024x1408, .f32⟩
  | .hbm, ⟨14, _⟩ => ⟨S4x1024x1408, .f32⟩
  | .hbm, ⟨15, _⟩ => ⟨S4x1024x1408, .bf16⟩
  | .hbm, ⟨16, _⟩ => ⟨S8192x1024, .bf16⟩
  | .hbm, ⟨17, _⟩ => ⟨S8192x2816, .bf16⟩
  | .hbm, ⟨18, _⟩ => ⟨S8192x2816, .bf16⟩
  | .hbm, ⟨19, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15_0 : Ref sig .tc := ⟨.hbm, 17, rfl⟩
abbrev main_v15_1 : Ref sig .tc := ⟨.hbm, 18, rfl⟩
abbrev main_v15_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActReferenceIdeal.lean ====
abbrev S8192x1024 : Shape := ⟨2, ![8192, 1024]⟩
abbrev S1x1024x5632 : Shape := ⟨3, ![1, 1024, 5632]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x5632, .f32⟩
  | .hbm, ⟨2, _⟩ => ⟨S1024x5632, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_v11 : Ref sig .tc := ⟨.hbm, 37, rfl⟩
abbrev main_v12 : Ref sig .tc := ⟨.hbm, 38, rfl⟩

abbrev nD : Nat := 1
abbrev τ : Topo := Topo.v7x

variable {F : FTy → Type} [FloatOps F]
-- ==== Proof.Gate.lean ====
/- The gradient of `silu(gate) * up` through the down projection, elementwise: the two forms of the gate's gradient are the
   same function of extended reals wherever what multiplies them is real. -/
module

public import Idealize.ShloMosaic.PureOps.Ideal.Laws

@[expose] public section

noncomputable section

namespace Cert.Gate

open Idealize.ShloMosaic

/-- The logistic function as jax prints it: `1 / (1 + exp (-g))`. -/
def sg (g : EReal) : EReal := Ideal.div 1 (1 + Ideal.exp (-g))

theorem exp_bot : Ideal.exp ⊥ = 0 := rfl
theorem exp_top : Ideal.exp ⊤ = ⊤ := rfl
theorem exp_coe (x : ℝ) : Ideal.exp x = (Real.exp x : EReal) := rfl

theorem sg_top : sg ⊤ = 1 := by simp [sg, exp_bot, Ideal.div]

theorem sg_bot : sg ⊥ = 0 := by
  have h : (1 : EReal) + ⊤ = ⊤ := EReal.add_top_of_ne_bot (by decide)
  simp [sg, exp_top, Ideal.div, h]

theorem sg_coe (g : ℝ) : ∃ s : ℝ, sg g = s := by
  have h : (1 : ℝ) + Real.exp (-g) ≠ 0 := by positivity
  refine ⟨1 * (1 + Real.exp (-g))⁻¹, ?_⟩
  have e : (1 : EReal) + Ideal.exp (-(g : EReal)) = ((1 + Real.exp (-g) : ℝ) : EReal) := by
    rw [← EReal.coe_neg, exp_coe]; norm_cast
  rw [sg, e, Ideal.div, if_neg (by exact_mod_cast h)]
  push_cast
  rw [EReal.coe_inv]
  push_cast
  rfl

/-- The derivative of `silu` by the product rule, times the cotangent `e * r`, is the closed form the kernel multiplies by. -/
theorem dsilu (g : EReal) (e r : ℝ) :
    (e * r : EReal) * sg g + g * (e * r) * (sg g * (1 - sg g)) = e * (r * (sg g * (1 + g * (1 - sg g)))) := by
  induction g with
  | bot => simp [sg_bot]
  | top =>
    have h : (1 : EReal) - 1 = 0 := by rw [← EReal.coe_one, ← EReal.coe_sub]; simp
    simp [sg_top, h]
  | coe g =>
    obtain ⟨s, hs⟩ := sg_coe g
    rw [hs]
    norm_cast
    ring

end Cert.Gate

end
-- ==== Proof.Finite.lean ====
/- What a finiteness precondition says: `jnp.all(jnp.abs(x) < inf)` at the extended reals makes every element of `x` a real. -/
module

public import Idealize.ShloMosaic.PureOps.Reduce
public import Idealize.ShloMosaic.PureOps.Ideal.Laws

@[expose] public section

noncomputable section

namespace Cert.Finite

open Idealize.ShloMosaic

/-- The float pattern of `+∞`. -/
theorem ofBits_inf : Ideal.ofBits .f32 0x7F800000#32 = ⊤ := by
  simp [Ideal.ofBits, Ideal.ieee]

/-- An extended real below `+∞` in magnitude is a real. -/
theorem exists_real {x : EReal} (h : max x (-x) < ⊤) : ∃ r : ℝ, x = r := by
  induction x with
  | bot => simp at h
  | top => simp at h
  | coe r => exact ⟨r, rfl⟩

/-- A conjunction of bits that comes out one started from one, and each of its bits is one. -/
theorem foldl_andi {ι : Type} (f : ι → BitVec 1) : ∀ (l : List ι) (b : BitVec 1),
    l.foldl (fun r i => IntOp.andi r (f i)) b = 1#1 → b = 1#1 ∧ ∀ i ∈ l, f i = 1#1
  | [], b, h => ⟨h, by simp⟩
  | a :: l, b, h => by
      obtain ⟨h1, h2⟩ := foldl_andi f l _ h
      have hab : b = 1#1 ∧ f a = 1#1 := by
        have key : ∀ b y : BitVec 1, b &&& y = 1#1 → b = 1#1 ∧ y = 1#1 := by decide
        exact key b (f a) h1
      exact ⟨hab.1, by simpa using ⟨hab.2, h2⟩⟩

/-- Every element of an array on which `jnp.all(jnp.abs(x) < inf)` holds is a real. -/
theorem real_of_all {s u : Shape} {axes : List (Fin s.rank)} {x inf : FVec Ideal s .f32} {init : u.Idx → BitVec 1}
    {h : s.ReducesTo axes ⟨0, ![]⟩} {hu : 0 < u.numel} (hinf : ∀ i, inf i = (⊤ : EReal))
    (hall : Host.reduce IntOp.andi (cmpf .olt (Host.absf x) inf) init h hu = fun _ => 1#1) (i : s.Idx) :
    ∃ r : ℝ, x i = (r : EReal) := by
  have hall := congrFun hall fun a => a.elim0
  rw [Host.reduce_eq_foldl] at hall
  have h1 := (foldl_andi _ _ _ hall).2 i
    (by
      simp only [List.mem_filter, List.mem_map, List.mem_finRange, true_and]
      exact ⟨⟨s.rowMajor i, s.rowMajor.symm_apply_apply i⟩, by simpa using Subsingleton.elim _ _⟩)
  refine exists_real ?_
  have h2 : Ideal.cmp .olt (max (x i) (-(x i))) (inf i) = 1#1 := h1
  rw [hinf i] at h2
  by_contra h3
  simp [Ideal.cmp, h3] at h2

/-- A conjunction of two truth values that holds. -/
theorem and_one {s : Shape} {x y : IVec s 1} (h : andi x y = fun _ => 1#1) : (x = fun _ => 1#1) ∧ (y = fun _ => 1#1) := by
  have key : ∀ b y : BitVec 1, b &&& y = 1#1 → b = 1#1 ∧ y = 1#1 := by decide
  exact ⟨funext fun j => (key _ _ (congrFun h j)).1, funext fun j => (key _ _ (congrFun h j)).2⟩

/-- A product of two reals is a real. -/
theorem mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A sum of two reals is a real. -/
theorem add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- A difference of two reals is a real. -/
theorem sub {x y : EReal} (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩

/-- The cast of a sum of reals is the sum of the casts. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is a real. -/
theorem sum {ι : Type} [Fintype ι] {f : ι → EReal} (h : ∀ i, ∃ r : ℝ, f i = r) : ∃ r : ℝ, ∑ i, f i = r := by
  choose g hg using h
  exact ⟨∑ i, g i, by rw [coe_sum]; exact Finset.sum_congr rfl fun i _ => hg i⟩

end Cert.Finite

end
-- ==== Proof.ValueGate.lean ====
/- What the three result arrays of the gate's backward call hold, and that the reference's gradients are the same arrays. -/
module

public import proofs.«01_k».proof.Proof.Gen.GateKernelIdeal.Value
public import proofs.«01_k».proof.Proof.Gen.GateReferenceIdeal.Read
public import proofs.«01_k».proof.Proof.Gate
public import proofs.«01_k».proof.Proof.Finite
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.GateKernelIdeal.ValueGate

open Cert.GateKernelIdeal Cert.GateKernelIdeal.Gen Cert.Gate

/-! ## The gradients, one element at a time, over the four arguments -/

/-- The cotangent of the hidden activation: row `i 0` of `ct` against row `i 1` of `w_down`. -/
def dhid (w : FVec Ideal S1x2816x1024 .f32) (ct : FVec Ideal S8192x1024 .f32) (i : S8192x2816.Idx) : EReal :=
  ∑ x : Fin 1024, ct (ix2 (i 0) x) * w (ix3 0 (i 1) x)

/-- The gradient of `gate`, as the kernel associates it. -/
def dgate (g u : FVec Ideal S8192x2816 .f32) (w : FVec Ideal S1x2816x1024 .f32) (ct : FVec Ideal S8192x1024 .f32)
    (i : S8192x2816.Idx) : EReal :=
  dhid w ct i * (u i * (sg (g i) * (1 + g i * (1 - sg (g i)))))

/-- The gradient of `up`. -/
def dup (g : FVec Ideal S8192x2816 .f32) (w : FVec Ideal S1x2816x1024 .f32) (ct : FVec Ideal S8192x1024 .f32)
    (i : S8192x2816.Idx) : EReal :=
  dhid w ct i * (g i * sg (g i))

/-- The gradient of `w_down`: one product over all rows. -/
def dwdown (g u : FVec Ideal S8192x2816 .f32) (ct : FVec Ideal S8192x1024 .f32) (i : S2816x1024.Idx) : EReal :=
  ∑ x : Fin 8192, g (ix2 x (i 0)) * sg (g (ix2 x (i 0))) * u (ix2 x (i 0)) * ct (ix2 x (i 1))

/-! ## The reference -/

section
open Cert.GateReferenceIdeal.Read

theorem ref_dgate (g u : FVec Ideal S8192x2816 .f32) (w : FVec Ideal S1x2816x1024 .f32) (ct : FVec Ideal S8192x1024 .f32)
    (hu : ∀ i, ∃ r : ℝ, u i = (r : EReal)) (hw : ∀ i, ∃ r : ℝ, w i = (r : EReal))
    (hct : ∀ i, ∃ r : ℝ, ct i = (r : EReal)) :
    val_main_v11 (F := Ideal) g u w ct = dgate g u w ct := by
  funext i
  pointwise [val_main_v11, val_main_v10, val_main_v9, val_main_v6, val_main_v0_2, val_main_v0_1,
    val_main_call0_v7, val_main_call0_v6, val_main_call0_v4, val_main_call0_v3, val_main_call0_v2, val_main_call0_v1,
    val_main_call0_v0, val_main_call0_cst, val_main_call0_cst_0, val_main_call0_cst_1, val_main_v2, val_main_call1_v0,
    val_main_call1_v1, val_main_call1_v2]
  obtain ⟨e, he⟩ : ∃ r : ℝ, dhid w ct i = r := Finite.sum fun x => Finite.mul (hct _) (hw _)
  obtain ⟨r, hr⟩ := hu i
  have h := dsilu (g i) e r
  rw [← he, ← hr] at h
  exact h

theorem ref_dup (g : FVec Ideal S8192x2816 .f32) (w : FVec Ideal S1x2816x1024 .f32) (ct : FVec Ideal S8192x1024 .f32) :
    val_main_v12 (F := Ideal) g w ct = dup g w ct := by
  funext i
  pointwise [val_main_v12, val_main_v8, val_main_v6, val_main_v0_0, val_main_v0_1, val_main_v0_2, val_main_call0_v7,
    val_main_call0_v6, val_main_call0_v4, val_main_call0_v3, val_main_call0_v2, val_main_call0_v1, val_main_call0_v0,
    val_main_call0_cst, val_main_call0_cst_0, val_main_call0_cst_1, val_main_v2]
  exact mul_comm _ _

theorem ref_dwdown (g u : FVec Ideal S8192x2816 .f32) (ct : FVec Ideal S8192x1024 .f32) :
    val_main_v13 (F := Ideal) g u ct = dwdown g u ct := by
  funext i
  pointwise [val_main_v13, val_main_v7, val_main_v5, val_main_v4, val_main_v1, val_main_v0_0, val_main_v0_1,
    val_main_v0_2, val_main_call0_v7, val_main_call0_v6, val_main_call0_v4, val_main_call0_v3, val_main_call0_v2,
    val_main_call0_v1, val_main_call0_v0, val_main_call0_cst, val_main_call0_cst_0, val_main_call0_cst_1]
  exact Finset.sum_congr rfl fun x _ => mul_comm _ _

end

/-! ## The kernel -/

variable (m : (ℓ : Loc nD τ sig) → Buf (Elt Ideal) ℓ)

/-- Every window's block index at every grid point. -/
theorem idx_val : ∀ t : Fin cfg0.N, win0_0.index t = ![t.val % 16, 0]
    ∧ win0_1.index t = ![t.val / 16, 0]
    ∧ win0_2.index t = ![t.val % 16, t.val / 16]
    ∧ win0_3.index t = ![t.val % 16, t.val / 16]
    ∧ win0_4.index t = ![t.val % 16, t.val / 16]
    ∧ win0_5.index t = ![t.val % 16, t.val / 16]
    ∧ win0_6.index t = ![t.val % 16, t.val / 16]
    ∧ win0_7.index t = ![t.val / 16, 0] :=
  (by decide +kernel : ∀ t : Fin grid0.N, _)

/-- What the body stores for `gate` at one grid point is the gradient's block. -/
theorem point_dgate (c : Dev nD) (t : Fin cfg0.N) (y) :
    k0_pay6 (iblk m c 0 t) (iblk m c 1 t) (iblk m c 3 t) y
      = dgate (m ((c : Thread nD τ).loc main_arg0)) (m ((c : Thread nD τ).loc main_arg1))
        (m ((c : Thread nD τ).loc main_arg2)) (m ((c : Thread nD τ).loc main_arg3)) (((cfg0.win 5).blk t).view.emb y) := by
  pointwise [k0_pay6, k0_pay3, k0_pay2, iblk, V, dgate, dhid, sg]
  blk_simp [idx_val t]
  entry_read
  pointwise
  blk_point [idx_val t]

/-- What the body stores for `up` at one grid point is the gradient's block. -/
theorem point_dup (c : Dev nD) (t : Fin cfg0.N) (y) :
    k0_pay5 (iblk m c 0 t) (iblk m c 1 t) (iblk m c 2 t) y
      = dup (m ((c : Thread nD τ).loc main_arg0))
        (m ((c : Thread nD τ).loc main_arg2)) (m ((c : Thread nD τ).loc main_arg3)) (((cfg0.win 6).blk t).view.emb y) := by
  pointwise [k0_pay5, k0_pay3, k0_pay2, iblk, V, dup, dhid, sg]
  blk_simp [idx_val t]
  entry_read
  pointwise
  blk_point [idx_val t]

theorem final_dgate (c : Dev nD) : (dats m 0 c).arrAt 5 (cfgs 0).N
    = dgate (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp; rw [after0_5]
  by_cases h : t.val % 16 = 0
  · rw [outsAt0_A m c t h]; frame_out; exact point_dgate m c t y
  · rw [outsAt0_B m c t h]; frame_out; exact point_dgate m c t y

theorem final_dup (c : Dev nD) : (dats m 0 c).arrAt 6 (cfgs 0).N
    = dup (m ((c : Thread nD τ).loc main_arg0))
      (m ((c : Thread nD τ).loc main_arg2)) (m ((c : Thread nD τ).loc main_arg3)) := by
  refine (dats m 0 c).arrAt_eq_of_covers 6 _ (by decide +kernel) fun t hf y => ?_
  blk_simp; rw [after0_6]
  by_cases h : t.val % 16 = 0
  · rw [outsAt0_A m c t h]; frame_out; exact point_dup m c t y
  · rw [outsAt0_B m c t h]; frame_out; exact point_dup m c t y

/-- The fill at the start of a run of row blocks. -/
theorem fill (j : S1408x1024.Idx) : k0_pay1 (F := Ideal) j = 0 := by
  pointwise! [k0_pay1]

/-- A step adds one row block's part. -/
theorem step (v3 : Vec Ideal S512x1024 .bf16) (v8 : Vec Ideal S1408x1024 .f32) (v10 : Vec Ideal S512x1408 .bf16)
    (j : S1408x1024.Idx) : k0_pay4 v3 v8 v10 j = v8 j + k0_pay4 v3 (fun _ => 0) v10 j := by
  pointwise [k0_pay4]

theorem final_dwdown (c : Dev nD) : (dats m 0 c).arrAt 7 (cfgs 0).N
    = dwdown (m ((c : Thread nD τ).loc main_arg0)) (m ((c : Thread nD τ).loc main_arg1))
      (m ((c : Thread nD τ).loc main_arg3)) := by
  refine (dats m 0 c).arrAt_eq_of_covers 7 _ (by decide +kernel) fun t hf y => ?_
  blk_simp
  rw [after0_7, Pipeline.eq_sum_fin_of_reset_step_apply_of_flush (fun n h => (outsAt0 m c n h).2.2) 16 (fun _ => 0) _
    (fun t h j => by rw [outsAt0_A m c t h]; frame_out; rw [step, fill])
    (fun t h j => by rw [outsAt0_B m c t h]; frame_out; rw [step])
    t ((flush0_7 t).mp hf) _, zero_add]
  pointwise [k0_pay4, k0_pay2, dwdown, sg]
  refine Fin.sum_mul_add_congr fun s k hl => ?_
  blk_simp [iblk, V]
  entry_read
  pointwise
  blk_point [idx_val t, idx_val ⟨_, Pipeline.run_point_lt_of_flush t ((flush0_7 t).mp hf) s⟩]

end Cert.GateKernelIdeal.ValueGate

end
-- ==== Proof.ClaimGate.lean ====
/- The claims about the gate's backward call: its frames and its value. -/
module

public import proofs.«01_k».proof.Defs
public import proofs.«01_k».proof.Proof.ValueGate
public import proofs.«01_k».proof.Proof.Gen.GateKernel.Frame
public import proofs.«01_k».proof.Proof.Gen.GateReferenceIdeal.Run
public import proofs.«01_k».proof.Proof.Gen.Pre_gate_finite
public import Idealize.ShloMosaic.Lib.Claim

@[expose] public section

set_option maxRecDepth 16384

noncomputable section

namespace Cert.ClaimGate

open Idealize.ShloMosaic Idealize.SL.Sem Cert.GateKernelIdeal.ValueGate

/-- The precondition makes every element of `up`, `w_down` and `ct` a real. -/
theorem real (x0 x1 : FVec Ideal Cert.Pre_gate_finite.S8192x2816 .f32) (x2 : FVec Ideal Cert.Pre_gate_finite.S1x2816x1024 .f32)
    (x3 : FVec Ideal Cert.Pre_gate_finite.S8192x1024 .f32)
    (h : Cert.Pre_gate_finite.fn (F := Ideal) x0 x1 x2 x3 = fun _ => 1#1) :
    (∀ i, ∃ r : ℝ, x1 i = (r : EReal)) ∧ (∀ i, ∃ r : ℝ, x2 i = (r : EReal)) ∧ (∀ i, ∃ r : ℝ, x3 i = (r : EReal)) := by
  obtain ⟨h12, h3⟩ := Finite.and_one h
  obtain ⟨h1, h2⟩ := Finite.and_one h12
  exact ⟨Finite.real_of_all (fun _ => Finite.ofBits_inf) h1, Finite.real_of_all (fun _ => Finite.ofBits_inf) h2,
    Finite.real_of_all (fun _ => Finite.ofBits_inf) h3⟩

theorem frame_kernel : Cert.quiescent_GateKernel := fun m ρ _ => Cert.GateKernel.Gen.frame m ρ

theorem frame_ideal : Cert.quiescent_GateKernelIdeal := fun m ρ _ => Cert.GateKernelIdeal.Gen.frame m ρ

theorem frame_ideal_pre : Cert.quiescent_GateKernelIdeal_pre_gate_finite := fun m ρ _ => Cert.GateKernelIdeal.Gen.frame m ρ

theorem frame_reference : Cert.quiescent_GateReferenceIdeal := fun m ρ _ =>
  (θ_run Cert.GateReferenceIdeal.defs _ _).mono (fun r h => ⟨fun c => (h c).2.2.2, sem_eq_zero_of_no_sems (by decide) r.2⟩)
    (Cert.GateReferenceIdeal.Value.run m ρ)

theorem frame_reference_pre : Cert.quiescent_GateReferenceIdeal_pre_gate_finite := fun m ρ _ => frame_reference m ρ trivial

theorem algebraic : Cert.algebraic_GateKernelIdeal_GateReferenceIdeal_pre_gate_finite := by
  pair_intro
  · run_from Cert.GateKernelIdeal.Value.run_blocks m g
  · run_from Cert.GateReferenceIdeal.Value.run m' g'
    · obtain ⟨hu, hw, hct⟩ := real _ _ _ _ (hpre c)
      exact (ref_dgate _ _ _ _ hu hw hct).trans (final_dgate m c).symm
    · exact (ref_dup _ _ _).trans (final_dup m c).symm
    · exact (ref_dwdown _ _ _).trans (final_dwdown m c).symm

end Cert.ClaimGate

end
-- ==== Proof.SbCheck.lean ====
module

public import proofs.«01_k».proof.SbKernel
public import proofs.«01_k».proof.SbKernelIdeal

/-! Where the key-block loop of the stick-breaking backward kernel starts. The kernel reads the first
block from a word and clips it to lie between zero and the query block's own index, so every row of a
block the two loops touch lies in its array whatever the word is, and the second of the two loops (the
remainder of an unrolling by one) has no trips. -/

@[expose] public section

namespace Cert.Sb

open Idealize.ShloMosaic

/-- The start of the loop over the key blocks, from the query block's index and the word read. -/
@[reducible] def start (a v : BitVec 32) : BitVec 32 := Scalar.minsi a (Scalar.maxsi 0#32 v)

/-- The loop over the key blocks, from the query block's index and the start. -/
@[reducible] def loop1 (a x : BitVec 32) : Scf.Loop 32 :=
  ⟨x, Scalar.addi x (Scalar.muli (Scalar.divsi (Scalar.subi a x) 1#32) 1#32), 1#32⟩

/-- Its remainder. -/
@[reducible] def loop2 (a x : BitVec 32) : Scf.Loop 32 :=
  ⟨Scalar.addi x (Scalar.muli (Scalar.divsi (Scalar.subi a x) 1#32) 1#32), Scalar.addi x (Scalar.subi a x), 1#32⟩

/-- The clipped start is a block at or before the query block. -/
theorem start_eq (a : ℕ) (ha : a < 32) (v : BitVec 32) :
    ∃ n : ℕ, n ≤ a ∧ start (BitVec.ofNat 32 a) v = BitVec.ofNat 32 n := by
  have hA : (BitVec.ofNat 32 a).toInt = a := by
    rw [BitVec.toInt_eq_toNat_of_lt] <;> rw [BitVec.toNat_ofNat] <;> omega
  unfold start Scalar.minsi Scalar.maxsi IntOp.minsi IntOp.maxsi
  simp only [BitVec.slt_eq_decide, BitVec.toInt_zero, decide_eq_true_eq]
  by_cases hv : v.toInt < 0
  · have e : (if v.toInt < 0 then 0#32 else v) = 0#32 := if_pos hv
    rw [e, if_neg (by rw [hA]; simp)]
    exact ⟨0, Nat.zero_le _, rfl⟩
  · have e : (if v.toInt < 0 then 0#32 else v) = v := if_neg hv
    rw [e, hA]
    by_cases h : (a : ℤ) < v.toInt
    · exact ⟨a, le_refl _, if_pos h⟩
    · refine ⟨v.toNat, ?_, by rw [if_neg h]; simp⟩
      have hc := BitVec.toInt_eq_toNat_cond v
      have hl := v.isLt
      by_cases h2 : 2 * v.toNat < 2 ^ 32
      · rw [if_pos h2] at hc; omega
      · rw [if_neg h2] at hc; omega

/-- The first loop runs over the key blocks from the start up to the query block, the second has no trips. -/
theorem loops : ∀ a n : Fin 32, n ≤ a →
    ((loop1 (BitVec.ofNat 32 a) (BitVec.ofNat 32 n)).OK ∧ (loop1 (BitVec.ofNat 32 a) (BitVec.ofNat 32 n)).trips = a - n)
    ∧ (loop2 (BitVec.ofNat 32 a) (BitVec.ofNat 32 n)).OK ∧ (loop2 (BitVec.ofNat 32 a) (BitVec.ofNat 32 n)).trips = 0 := by
  decide +kernel

/-- The block a trip reads lies before the query block. -/
theorem block_lt (a n k : ℕ) (ha : a < 32) (hn : n ≤ a) (hk : k < a - n) :
    (Scf.iv (BitVec.ofNat 32 n) 1#32 k).toNat = n + k := by
  unfold Scf.iv; simp; omega

end Cert.Sb

namespace Cert.SbKernelIdeal

open Idealize.ShloMosaic Cert.Sb

/-- A head's block of rows lies in its array: of the keys and values, -/
theorem rows (g b : ℕ) (hg : g < 4) (hb : b < 32) :
    ∀ a, (![g, b, 0, 0] : Fin 4 → ℕ) a + S1x1x256x64.size a ≤ S4x32x256x64.size a := by
  intro a; fin_cases a <;> simp [S1x1x256x64, S4x32x256x64] <;> omega

/-- of the saved sums, -/
theorem sums (g b : ℕ) (hg : g < 4) (hb : b < 32) :
    ∀ a, (![g, 0, b, 0, 0] : Fin 5 → ℕ) a + S1x1x1x8x256.size a ≤ S4x1x32x8x256.size a := by
  intro a; fin_cases a <;> simp [S1x1x1x8x256, S4x1x32x8x256] <;> omega

/-- of the transposed keys, -/
theorem cols (g b : ℕ) (hg : g < 4) (hb : b < 32) :
    ∀ a, (![g, b, 0, 0] : Fin 4 → ℕ) a + S1x1x64x256.size a ≤ S4x32x64x256.size a := by
  intro a; fin_cases a <;> simp [S1x1x64x256, S4x32x64x256] <;> omega

/-- and of the running gradients. -/
theorem grads (g b : ℕ) (hg : g < 4) (hb : b < 32) :
    ∀ a, (![b, 64 * g, 0] : Fin 3 → ℕ) a + S1x64x256.size a ≤ S32x256x256.size a := by
  intro a; fin_cases a <;> simp [S1x64x256, S32x256x256] <;> omega

/-- Every side condition of the loops holds at every word. -/
theorem chk (i : grid0.Coords) (v : BitVec 32) : k0_chk1 i v := by
  obtain ⟨n, hn, hx⟩ := start_eq (i 1).val (i 1).isLt v
  obtain ⟨⟨ok1, t1⟩, ok2, t2⟩ := loops (i 1) ⟨n, lt_of_le_of_lt hn (i 1).isLt⟩ hn
  have e1 : k0_t1_loop i v = loop1 (BitVec.ofNat 32 (i 1).val) (start (BitVec.ofNat 32 (i 1).val) v) := rfl
  have e2 : k0_t2_loop i v = loop2 (BitVec.ofNat 32 (i 1).val) (start (BitVec.ofNat 32 (i 1).val) v) := rfl
  rw [hx] at e1 e2
  have none : ∀ k : Fin (k0_t2_loop i v).trips, False := fun k => absurd (lt_of_lt_of_eq k.isLt ((congrArg Scf.Loop.trips e2).trans t2)) (Nat.not_lt_zero _)
  have blk : ∀ k : Fin (k0_t1_loop i v).trips, (Scf.iv (start (BitVec.ofNat 32 (i 1).val) v) 1#32 k).toNat < 32 := fun k => by
    have hk : (k : ℕ) < (i 1).val - n := lt_of_lt_of_eq k.isLt ((congrArg Scf.Loop.trips e1).trans (t1.trans rfl))
    rw [hx, block_lt (i 1).val n k (i 1).isLt hn hk]
    have := (i 1).isLt; have : (i 1).val < 32 := this; omega
  have o1 : (k0_t1_loop i v).OK := by rw [e1]; exact ok1
  have o2 : (k0_t2_loop i v).OK := by rw [e2]; exact ok2
  exact ⟨⟨o1,
    fun k => rows 0 _ (by decide) (blk k), fun k => rows 1 _ (by decide) (blk k),
    fun k => rows 2 _ (by decide) (blk k), fun k => rows 3 _ (by decide) (blk k),
    fun k => sums 0 _ (by decide) (blk k), fun k => sums 1 _ (by decide) (blk k),
    fun k => sums 2 _ (by decide) (blk k), fun k => sums 3 _ (by decide) (blk k),
    fun k => cols 0 _ (by decide) (blk k), fun k => cols 1 _ (by decide) (blk k),
    fun k => cols 2 _ (by decide) (blk k), fun k => cols 3 _ (by decide) (blk k),
    fun k => grads 0 _ (by decide) (blk k), fun k => grads 1 _ (by decide) (blk k),
    fun k => grads 2 _ (by decide) (blk k), fun k => grads 3 _ (by decide) (blk k), o2,
    fun k => (none k).elim, fun k => (none k).elim, fun k => (none k).elim, fun k => (none k).elim,
    fun k => (none k).elim, fun k => (none k).elim, fun k => (none k).elim, fun k => (none k).elim,
    fun k => (none k).elim, fun k => (none k).elim, fun k => (none k).elim, fun k => (none k).elim,
    fun k => (none k).elim, fun k => (none k).elim⟩, fun k => (none k).elim, fun k => (none k).elim⟩

end Cert.SbKernelIdeal
-- ==== Proof.SbStart.lean ====
module

public import proofs.«01_k».proof.Proof.SbCheck
public import proofs.«01_k».proof.Proof.Gen.SbKernelIdeal.Loops
public import proofs.«01_k».proof.Proof.Gen.SbKernelIdeal.Frame

/-! The two conditions of the stick-breaking backward body, at the points of its grid. -/

@[expose] public section

namespace Cert.SbKernelIdeal

open Idealize.ShloMosaic Gen

/-- The condition under which the body clears the running gradients. -/
@[reducible] def zeroHere (i : grid0.Coords) : BitVec 1 :=
  Scalar.cmpi .ne (Scalar.extui (Scalar.cmpi .eq (BitVec.ofNat 32 (i 1).val) 0#32)) 0#32

/-- It holds at the first query block of a head group. -/
theorem zero_iff (t : Fin cfg0.N) : zeroHere (grid0.coords t) = 1#1 ↔ t.val % 32 = 0 := by
  revert t; decide +kernel

/-- The other holds at the last. -/
theorem last_iff (t : Fin cfg0.N) : k0_cond2 (grid0.coords t) = 1#1 ↔ t.val % 32 = 31 := by
  revert t; decide +kernel

end Cert.SbKernelIdeal
-- ==== Proof.SbRunB.lean ====
module

public import proofs.«01_k».proof.Proof.SbStart

/-! The stick-breaking backward body at a query block between the first and the last. -/

@[expose] public section

set_option maxRecDepth 16384

noncomputable section

namespace Cert.SbKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen
open Cert.Sb

variable {F : FTy → Type} [FloatOps F]

local notation "𝕄" => MT nD τ sig Unit (Elt F) ℕ (UR sig nD τ) ℕ

set_option maxHeartbeats 4000000 in
/-- The body at such a point, from the blocks it reads, to the pieces it leaves in what it writes. -/
noncomputable def run_B (c : Dev nD) (i : grid0.Coords) (arg2 : Memref sig .tc .vmem S4x64x256 .bf16) (harg2 : arg2.IsWhole) (arg3 : Memref sig .tc .vmem S4x32x256x64 .bf16) (harg3 : arg3.IsWhole) (arg4 : Memref sig .tc .vmem S4x32x64x256 .bf16) (harg4 : arg4.IsWhole) (arg5 : Memref sig .tc .vmem S4x32x256x64 .bf16) (harg5 : arg5.IsWhole) (arg6 : Memref sig .tc .vmem S4x64x256 .bf16) (harg6 : arg6.IsWhole) (arg7 : Memref sig .tc .vmem S4x1x32x8x256 .f32) (harg7 : arg7.IsWhole) (arg8 : Memref sig .tc .vmem S1x1x8x128 .f32) (harg8 : arg8.IsWhole) (arg9 : Memref sig .tc .vmem S256x256 .bf16) (harg9 : arg9.IsWhole) (arg10 : Memref sig .tc .vmem S8192x256 .bf16) (harg10 : arg10.IsWhole) (arg11 : Memref sig .tc .vmem S8192x256 .bf16) (harg11 : arg11.IsWhole) (arg12 : Memref sig .tc .vmem S32x256x256 .f32) (harg12 : arg12.IsWhole) (arg13 : Memref sig .tc .vmem S32x256x256 .f32) (harg13 : arg13.IsWhole)
    (hz : ¬ zeroHere i = 1#1) (hl : ¬ k0_cond2 i = 1#1) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32) (x10 x11 : Vec F S32x256x256 .f32) :
    Σ' (L9 : List (View.Piece (Elt F) S256x256 .bf16)), Σ' (L12 : List (View.Piece (Elt F) S32x256x256 .f32)), { L13 : List (View.Piece (Elt F) S32x256x256 .f32) //
      ∀ (E : Set ℕ) (K : PUnit → sProp 𝕄) (x8 x9 : Vec F S8192x256 .bf16),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9 ∗ owns (c : Thread nD τ) arg12 fullShare x10 ∗ owns (c : Thread nD τ) arg13 fullShare x11 ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L9) ∗ owns (c : Thread nD τ) arg10 fullShare x8 ∗ owns (c : Thread nD τ) arg11 fullShare x9 ∗ (arg12.view.loc (c : Thread nD τ) ↦[arg12.view.set]{fullShare} arg12.view.writes (Elt F) (harg12.unread x10) L12) ∗ (arg13.view.loc (c : Thread nD τ) ↦[arg13.view.set]{fullShare} arg13.view.writes (Elt F) (harg13.unread x11) L13)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun E K x8 x9 => ?run⟩
  case run =>
    simp only [cc0_sb_bwd_eq_skeleton]; unfold cc0_sb_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg10.eq_unread hf10
    obtain rfl := harg11.eq_unread hf11
    obtain rfl := harg12.eq_unread hf12
    obtain rfl := harg13.eq_unread hf13
    sl_exec (disch := first | sl_exact chk _ _ | sl_exact hz | sl_exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; isplitr; · ipureintro; exact harg10.read_unread _
      iexact H10
    isplitl [H11]
    · iexists _; isplitr; · ipureintro; exact harg11.read_unread _
      iexact H11
    isplitl [H12]
    · iexact H12
    iexact H13

end Cert.SbKernelIdeal

end
-- ==== Proof.SbRunA.lean ====
module

public import proofs.«01_k».proof.Proof.SbRunB

/-! The stick-breaking backward body at the first query block of a head group, which clears the running gradients. -/

@[expose] public section

set_option maxRecDepth 16384

noncomputable section

namespace Cert.SbKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen
open Cert.Sb

variable {F : FTy → Type} [FloatOps F]

local notation "𝕄" => MT nD τ sig Unit (Elt F) ℕ (UR sig nD τ) ℕ

set_option maxHeartbeats 4000000 in
/-- The body at such a point, from the blocks it reads, to the pieces it leaves in what it writes. -/
noncomputable def run_A (c : Dev nD) (i : grid0.Coords) (arg2 : Memref sig .tc .vmem S4x64x256 .bf16) (harg2 : arg2.IsWhole) (arg3 : Memref sig .tc .vmem S4x32x256x64 .bf16) (harg3 : arg3.IsWhole) (arg4 : Memref sig .tc .vmem S4x32x64x256 .bf16) (harg4 : arg4.IsWhole) (arg5 : Memref sig .tc .vmem S4x32x256x64 .bf16) (harg5 : arg5.IsWhole) (arg6 : Memref sig .tc .vmem S4x64x256 .bf16) (harg6 : arg6.IsWhole) (arg7 : Memref sig .tc .vmem S4x1x32x8x256 .f32) (harg7 : arg7.IsWhole) (arg8 : Memref sig .tc .vmem S1x1x8x128 .f32) (harg8 : arg8.IsWhole) (arg9 : Memref sig .tc .vmem S256x256 .bf16) (harg9 : arg9.IsWhole) (arg10 : Memref sig .tc .vmem S8192x256 .bf16) (harg10 : arg10.IsWhole) (arg11 : Memref sig .tc .vmem S8192x256 .bf16) (harg11 : arg11.IsWhole) (arg12 : Memref sig .tc .vmem S32x256x256 .f32) (harg12 : arg12.IsWhole) (arg13 : Memref sig .tc .vmem S32x256x256 .f32) (harg13 : arg13.IsWhole)
    (hz : zeroHere i = 1#1) (hl : ¬ k0_cond2 i = 1#1) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32) :
    Σ' (L9 : List (View.Piece (Elt F) S256x256 .bf16)), Σ' (L12 : List (View.Piece (Elt F) S32x256x256 .f32)), { L13 : List (View.Piece (Elt F) S32x256x256 .f32) //
      ∀ (E : Set ℕ) (K : PUnit → sProp 𝕄) (x8 x9 : Vec F S8192x256 .bf16),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L9) ∗ owns (c : Thread nD τ) arg10 fullShare x8 ∗ owns (c : Thread nD τ) arg11 fullShare x9 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12 arg13 harg13) K } := by
  refine ⟨?_, ?_, ?_, fun E K x8 x9 => ?run⟩
  case run =>
    simp only [cc0_sb_bwd_eq_skeleton]; unfold cc0_sb_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%d13, %f13, -, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg10.eq_unread hf10
    obtain rfl := harg11.eq_unread hf11
    sl_exec (disch := first | sl_exact chk _ _ | sl_exact hz | sl_exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    iexists _; iexact H13

end Cert.SbKernelIdeal

end
-- ==== Proof.SbRunC.lean ====
module

public import proofs.«01_k».proof.Proof.SbRunA

/-! The stick-breaking backward body at the last query block of a head group, which writes the gradients of the keys and values out. -/

@[expose] public section

set_option maxRecDepth 16384

noncomputable section

namespace Cert.SbKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen
open Cert.Sb

variable {F : FTy → Type} [FloatOps F]

local notation "𝕄" => MT nD τ sig Unit (Elt F) ℕ (UR sig nD τ) ℕ

set_option maxHeartbeats 4000000 in
/-- The body at such a point, from the blocks it reads, to the pieces it leaves in what it writes. -/
noncomputable def run_C (c : Dev nD) (i : grid0.Coords) (arg2 : Memref sig .tc .vmem S4x64x256 .bf16) (harg2 : arg2.IsWhole) (arg3 : Memref sig .tc .vmem S4x32x256x64 .bf16) (harg3 : arg3.IsWhole) (arg4 : Memref sig .tc .vmem S4x32x64x256 .bf16) (harg4 : arg4.IsWhole) (arg5 : Memref sig .tc .vmem S4x32x256x64 .bf16) (harg5 : arg5.IsWhole) (arg6 : Memref sig .tc .vmem S4x64x256 .bf16) (harg6 : arg6.IsWhole) (arg7 : Memref sig .tc .vmem S4x1x32x8x256 .f32) (harg7 : arg7.IsWhole) (arg8 : Memref sig .tc .vmem S1x1x8x128 .f32) (harg8 : arg8.IsWhole) (arg9 : Memref sig .tc .vmem S256x256 .bf16) (harg9 : arg9.IsWhole) (arg10 : Memref sig .tc .vmem S8192x256 .bf16) (harg10 : arg10.IsWhole) (arg11 : Memref sig .tc .vmem S8192x256 .bf16) (harg11 : arg11.IsWhole) (arg12 : Memref sig .tc .vmem S32x256x256 .f32) (harg12 : arg12.IsWhole) (arg13 : Memref sig .tc .vmem S32x256x256 .f32) (harg13 : arg13.IsWhole)
    (hz : ¬ zeroHere i = 1#1) (hl : k0_cond2 i = 1#1) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32) (x10 x11 : Vec F S32x256x256 .f32) :
    Σ' (L9 : List (View.Piece (Elt F) S256x256 .bf16)), Σ' (L10 : List (View.Piece (Elt F) S8192x256 .bf16)), Σ' (L11 : List (View.Piece (Elt F) S8192x256 .bf16)), Σ' (L12 : List (View.Piece (Elt F) S32x256x256 .f32)), { L13 : List (View.Piece (Elt F) S32x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x10 ∗ owns (c : Thread nD τ) arg13 fullShare x11 ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread x10) L12) ∗ (arg13.view.loc (c : Thread nD τ) ↦[arg13.view.set]{fullShare} arg13.view.writes (Elt F) (harg13.unread x11) L13)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_sb_bwd_eq_skeleton]; unfold cc0_sb_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg12.eq_unread hf12
    obtain rfl := harg13.eq_unread hf13
    sl_exec (disch := first | sl_exact chk _ _ | sl_exact hz | sl_exact hl)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexists _; iexact H11
    isplitl [H12]
    · iexact H12
    iexact H13

end Cert.SbKernelIdeal

end
-- ==== Proof.SbFlush.lean ====
module

public import proofs.«01_k».proof.Proof.SbRunC
public import Idealize.ShloMosaic.Lib.VecWindow

/-! The loop that writes the gradients of the keys and values out: trip `j` stores the transpose of block `j`
of each running gradient into rows `256 j` to `256 j + 255` of its result, so the thirty-two trips cover it. -/

@[expose] public section

set_option maxRecDepth 16384

noncomputable section

namespace Cert.SbKernelIdeal

open Idealize.ShloMosaic Idealize.ShloMosaic.TcCoe Idealize.ShloMosaic.Tactic
open Gen

variable {F : FTy → Type} [FloatOps F]

/-- Trip `j` reads block `j` of a running gradient, -/
theorem flush_from : ∀ j : Fin k0_t3_loop.trips, k0_off49 j = ![j.val, 0, 0] := by decide +kernel
/-- and writes rows `256 j` on of its result. -/
theorem flush_to : ∀ j : Fin k0_t3_loop.trips, k0_off50 j = ![256 * j.val, 0] := by decide +kernel
theorem flush_trips : k0_t3_loop.trips = 32 := by decide +kernel

variable (𝒱 : Variants) (c : Dev nD) (bd : Option 𝒱.V) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole)
  (hl : k0_cond2 i = 1#1) (X : BufTy.Contents (Elt F) a12.view.ty) (Y : BufTy.Contents (Elt F) a13.view.ty)

/-- What trip `j` stores of the keys' gradient, and of the values'. -/
def flushK (j : Fin k0_t3_loop.trips) : View.Piece (Elt F) S8192x256 .bf16 :=
  ⟨Rect.unit (s := S8192x256) (k0_off50 j) S256x256.size (k0_off50_inb i j hl),
    k0_pay3 (View.readAt (Elt F) a12.view (Rect.unit (s := S32x256x256) (k0_off49 j) S1x256x256.size (k0_off49_inb i j hl)).toLoadRect X)⟩
@[inherit_doc flushK] def flushV (j : Fin k0_t3_loop.trips) : View.Piece (Elt F) S8192x256 .bf16 :=
  ⟨Rect.unit (s := S8192x256) (k0_off50 j) S256x256.size (k0_off50_inb i j hl),
    k0_pay4 (View.readAt (Elt F) a13.view (Rect.unit (s := S32x256x256) (k0_off49 j) S1x256x256.size (k0_off49_inb i j hl)).toLoadRect Y)⟩

theorem trip_flush (j : Fin k0_t3_loop.trips) :
    tripL_k0_t3 (F := F) 𝒱 c bd i a2 h2 a3 h3 a4 h4 a5 h5 a6 h6 a7 h7 a8 h8 a9 h9 a10 h10 a11 h11 a12 h12 a13 h13 hl X Y j = ([flushK i a12 hl X j], [flushV i a13 hl Y j]) := by
  unfold tripL_k0_t3 trip_k0_t3 flushK flushV; rfl

/-- The pieces of the trips before `n` are those of each such trip. -/
theorem mem_flush (n : ℕ) (hn : n ≤ k0_t3_loop.trips) :
    (∀ p, p ∈ (pb_k0_t3 (F := F) 𝒱 c bd i a2 h2 a3 h3 a4 h4 a5 h5 a6 h6 a7 h7 a8 h8 a9 h9 a10 h10 a11 h11 a12 h12 a13 h13 hl X Y n).1 ↔ ∃ j : Fin k0_t3_loop.trips, j.val < n ∧ p = flushK i a12 hl X j)
    ∧ ∀ p, p ∈ (pb_k0_t3 (F := F) 𝒱 c bd i a2 h2 a3 h3 a4 h4 a5 h5 a6 h6 a7 h7 a8 h8 a9 h9 a10 h10 a11 h11 a12 h12 a13 h13 hl X Y n).2 ↔ ∃ j : Fin k0_t3_loop.trips, j.val < n ∧ p = flushV i a13 hl Y j := by
  induction n with
  | zero => exact ⟨fun p => by simp [pb_k0_t3], fun p => by simp [pb_k0_t3]⟩
  | succ n ih =>
    obtain ⟨ihK, ihV⟩ := ih (by omega)
    have h := pb_k0_t3_succ (F := F) 𝒱 c bd i a2 h2 a3 h3 a4 h4 a5 h5 a6 h6 a7 h7 a8 h8 a9 h9 a10 h10 a11 h11 a12 h12 a13 h13 hl X Y ⟨n, hn⟩
    rw [trip_flush] at h
    dsimp only at h
    rw [h]
    constructor <;> intro p <;> simp only [List.cons_append, List.nil_append, List.mem_cons, ihK, ihV] <;> constructor
    · rintro (rfl | ⟨j, hj, rfl⟩)
      · exact ⟨⟨n, hn⟩, by simp, rfl⟩
      · exact ⟨j, by omega, rfl⟩
    · rintro ⟨j, hj, rfl⟩
      rcases Nat.lt_succ_iff_lt_or_eq.mp hj with h | h
      · exact .inr ⟨j, h, rfl⟩
      · exact .inl (congrArg _ (Fin.ext h))
    · rintro (rfl | ⟨j, hj, rfl⟩)
      · exact ⟨⟨n, hn⟩, by simp, rfl⟩
      · exact ⟨j, by omega, rfl⟩
    · rintro ⟨j, hj, rfl⟩
      rcases Nat.lt_succ_iff_lt_or_eq.mp hj with h | h
      · exact .inr ⟨j, h, rfl⟩
      · exact .inl (congrArg _ (Fin.ext h))

/-- Rows `256 j` on are trip `j`'s. -/
theorem mem_rows (y : S8192x256.Idx) (j : Fin k0_t3_loop.trips) (hj : j.val = (y 0).val / 256) :
    y ∈ (Rect.unit (s := S8192x256) (k0_off50 j) S256x256.size (k0_off50_inb i j hl)).set := by
  refine Rect.mem_set_unit.mpr fun a => ?_
  rw [flush_to]
  have h0 := (y 0).isLt
  have h1 := (y 1).isLt
  match a with
  | ⟨0, _⟩ => show 256 * j.val ≤ (y 0).val ∧ (y 0).val < 256 * j.val + 256; omega
  | ⟨1, _⟩ => show 0 ≤ (y 1).val ∧ (y 1).val < 0 + 256; exact ⟨Nat.zero_le _, by simpa using h1⟩

theorem flush_cover10 (y : S8192x256.Idx) :
    ∃ p ∈ (pb_k0_t3 (F := F) 𝒱 c bd i a2 h2 a3 h3 a4 h4 a5 h5 a6 h6 a7 h7 a8 h8 a9 h9 a10 h10 a11 h11 a12 h12 a13 h13 hl X Y k0_t3_loop.trips).1, y ∈ p.1.set := by
  have h0 : (y 0).val < 8192 := (y 0).isLt
  have hj : (y 0).val / 256 < k0_t3_loop.trips := by rw [flush_trips]; omega
  exact ⟨_, ((mem_flush 𝒱 c bd i a2 h2 a3 h3 a4 h4 a5 h5 a6 h6 a7 h7 a8 h8 a9 h9 a10 h10 a11 h11 a12 h12 a13 h13 hl X Y _ le_rfl).1 _).mpr ⟨⟨_, hj⟩, hj, rfl⟩, mem_rows i hl y _ rfl⟩

theorem flush_cover11 (y : S8192x256.Idx) :
    ∃ p ∈ (pb_k0_t3 (F := F) 𝒱 c bd i a2 h2 a3 h3 a4 h4 a5 h5 a6 h6 a7 h7 a8 h8 a9 h9 a10 h10 a11 h11 a12 h12 a13 h13 hl X Y k0_t3_loop.trips).2, y ∈ p.1.set := by
  have h0 : (y 0).val < 8192 := (y 0).isLt
  have hj : (y 0).val / 256 < k0_t3_loop.trips := by rw [flush_trips]; omega
  exact ⟨_, ((mem_flush 𝒱 c bd i a2 h2 a3 h3 a4 h4 a5 h5 a6 h6 a7 h7 a8 h8 a9 h9 a10 h10 a11 h11 a12 h12 a13 h13 hl X Y _ le_rfl).2 _).mpr ⟨⟨_, hj⟩, hj, rfl⟩, mem_rows i hl y _ rfl⟩

end Cert.SbKernelIdeal

end
-- ==== Proof.SbFrame.lean ====
module

public import proofs.«01_k».proof.Proof.SbFlush
public import Idealize.ShloMosaic.Lib.Claim

/-! The stick-breaking backward call at every point of its grid: what the running gradients hold before
each point, what the results' buffers hold after it, and so the run of the whole call. -/

@[expose] public section

set_option maxRecDepth 16384

noncomputable section

namespace Cert.SbKernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two running gradients, of the keys and of the values. -/
abbrev sc0 : Memref sig .tc .vmem S32x256x256 .f32 := Memref.whole cc0_scratch0
@[inherit_doc sc0] abbrev sc1 : Memref sig .tc .vmem S32x256x256 .f32 := Memref.whole cc0_scratch1
/-- A buffer of each result, through which its contents are stated (which one does not matter). -/
abbrev VO7 : View sig .tc .vmem S256x256 .bf16 := (Memref.whole cc0_stg7_0 : Memref sig .tc .vmem S256x256 .bf16).view
@[inherit_doc VO7] abbrev VO8 : View sig .tc .vmem S8192x256 .bf16 := (Memref.whole cc0_stg8_0 : Memref sig .tc .vmem S8192x256 .bf16).view
@[inherit_doc VO7] abbrev VO9 : View sig .tc .vmem S8192x256 .bf16 := (Memref.whole cc0_stg9_0 : Memref sig .tc .vmem S8192x256 .bf16).view
/-- Window 0's staging buffer at point `t` is whole. -/
abbrev hst0_0 (t : Fin cfg0.N) : (st0_0 t).IsWhole := hstage0_0 ((cfg0.slots t 0).cast nbuf0_0)
/-- Window 1's staging buffer at point `t` is whole. -/
abbrev hst0_1 (t : Fin cfg0.N) : (st0_1 t).IsWhole := hstage0_1 ((cfg0.slots t 1).cast nbuf0_1)
/-- Window 2's staging buffer at point `t` is whole. -/
abbrev hst0_2 (t : Fin cfg0.N) : (st0_2 t).IsWhole := hstage0_2 ((cfg0.slots t 2).cast nbuf0_2)
/-- Window 3's staging buffer at point `t` is whole. -/
abbrev hst0_3 (t : Fin cfg0.N) : (st0_3 t).IsWhole := hstage0_3 ((cfg0.slots t 3).cast nbuf0_3)
/-- Window 4's staging buffer at point `t` is whole. -/
abbrev hst0_4 (t : Fin cfg0.N) : (st0_4 t).IsWhole := hstage0_4 ((cfg0.slots t 4).cast nbuf0_4)
/-- Window 5's staging buffer at point `t` is whole. -/
abbrev hst0_5 (t : Fin cfg0.N) : (st0_5 t).IsWhole := hstage0_5 ((cfg0.slots t 5).cast nbuf0_5)
/-- Window 6's staging buffer at point `t` is whole. -/
abbrev hst0_6 (t : Fin cfg0.N) : (st0_6 t).IsWhole := hstage0_6 ((cfg0.slots t 6).cast nbuf0_6)
/-- Window 7's staging buffer at point `t` is whole. -/
abbrev hst0_7 (t : Fin cfg0.N) : (st0_7 t).IsWhole := hstage0_7 ((cfg0.slots t 7).cast nbuf0_7)
/-- Window 8's staging buffer at point `t` is whole. -/
abbrev hst0_8 (t : Fin cfg0.N) : (st0_8 t).IsWhole := hstage0_8 ((cfg0.slots t 8).cast nbuf0_8)
/-- Window 9's staging buffer at point `t` is whole. -/
abbrev hst0_9 (t : Fin cfg0.N) : (st0_9 t).IsWhole := hstage0_9 ((cfg0.slots t 9).cast nbuf0_9)

/-- The run at point `t`, on the buffers the pipeline passes. -/
def at_A (c : Dev nD) (t : Fin cfg0.N) (h0 : t.val % 32 = 0) (h1 : ¬t.val % 32 = 31) :=
  run_A c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) ((zero_iff t).mpr h0) (fun h => h1 ((last_iff t).mp h)) (iblk m c 0 t) (iblk m c 1 t) (iblk m c 2 t) (iblk m c 3 t) (iblk m c 4 t) (iblk m c 5 t) (iblk m c 6 t)

/-- The run at point `t`, on the buffers the pipeline passes. -/
def at_B (c : Dev nD) (t : Fin cfg0.N) (h0 : ¬t.val % 32 = 0) (h1 : ¬t.val % 32 = 31) (x10 x11 : Vec F S32x256x256 .f32) :=
  run_B c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (fun h => h0 ((zero_iff t).mp h)) (fun h => h1 ((last_iff t).mp h)) (iblk m c 0 t) (iblk m c 1 t) (iblk m c 2 t) (iblk m c 3 t) (iblk m c 4 t) (iblk m c 5 t) (iblk m c 6 t) x10 x11

/-- The run at point `t`, on the buffers the pipeline passes. -/
def at_C (c : Dev nD) (t : Fin cfg0.N) (h0 : ¬t.val % 32 = 0) (h1 : t.val % 32 = 31) (x10 x11 : Vec F S32x256x256 .f32) :=
  run_C c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (fun h => h0 ((zero_iff t).mp h)) ((last_iff t).mpr h1) (iblk m c 0 t) (iblk m c 1 t) (iblk m c 2 t) (iblk m c 3 t) (iblk m c 4 t) (iblk m c 5 t) (iblk m c 6 t) x10 x11

/-- The running gradients after point `t`, from those before it. -/
def step (c : Dev nD) (t : Fin cfg0.N) (s : Vec F S32x256x256 .f32 × Vec F S32x256x256 .f32) : Vec F S32x256x256 .f32 × Vec F S32x256x256 .f32 :=
  if h0 : t.val % 32 = 0 then
    have h1 : ¬t.val % 32 = 31 := by omega
    (sc0.view.read (Elt F) (sc0.view.writes (Elt F) sc0.view.junk (at_A m c t h0 h1).2.1),
      sc1.view.read (Elt F) (sc1.view.writes (Elt F) sc1.view.junk (at_A m c t h0 h1).2.2.1))
  else if h1 : t.val % 32 = 31 then
    (sc0.view.read (Elt F) (sc0.view.writes (Elt F) ((Memref.isWhole_whole cc0_scratch0).unread s.1) (at_C m c t h0 h1 s.1 s.2).2.2.2.1),
      sc1.view.read (Elt F) (sc1.view.writes (Elt F) ((Memref.isWhole_whole cc0_scratch1).unread s.2) (at_C m c t h0 h1 s.1 s.2).2.2.2.2.1))
  else
    (sc0.view.read (Elt F) (sc0.view.writes (Elt F) ((Memref.isWhole_whole cc0_scratch0).unread s.1) (at_B m c t h0 h1 s.1 s.2).2.1),
      sc1.view.read (Elt F) (sc1.view.writes (Elt F) ((Memref.isWhole_whole cc0_scratch1).unread s.2) (at_B m c t h0 h1 s.1 s.2).2.2.1))

/-- The running gradients before point `n`: before the first of all, anything. -/
def scAt (c : Dev nD) : ℕ → Vec F S32x256x256 .f32 × Vec F S32x256x256 .f32
  | 0 => (sc0.view.read (Elt F) sc0.view.junk, sc1.view.read (Elt F) sc1.view.junk)
  | n + 1 => if h : n < cfg0.N then step m c ⟨n, h⟩ (scAt c n) else scAt c n

theorem scAt_succ (c : Dev nD) (t : Fin cfg0.N) : scAt m c (t.val + 1) = step m c t (scAt m c t.val) := by
  rw [scAt, dif_pos t.isLt]

theorem step_A (c : Dev nD) (t : Fin cfg0.N) (h0 : t.val % 32 = 0) (h1 : ¬t.val % 32 = 31) :
    scAt m c (t.val + 1) = (sc0.view.read (Elt F) (sc0.view.writes (Elt F) sc0.view.junk (at_A m c t h0 h1).2.1),
      sc1.view.read (Elt F) (sc1.view.writes (Elt F) sc1.view.junk (at_A m c t h0 h1).2.2.1)) := by
  rw [scAt_succ, step, dif_pos h0]

theorem step_B (c : Dev nD) (t : Fin cfg0.N) (h0 : ¬t.val % 32 = 0) (h1 : ¬t.val % 32 = 31) :
    scAt m c (t.val + 1) = (sc0.view.read (Elt F) (sc0.view.writes (Elt F) ((Memref.isWhole_whole cc0_scratch0).unread (scAt m c t.val).1) (at_B m c t h0 h1 (scAt m c t.val).1 (scAt m c t.val).2).2.1),
      sc1.view.read (Elt F) (sc1.view.writes (Elt F) ((Memref.isWhole_whole cc0_scratch1).unread (scAt m c t.val).2) (at_B m c t h0 h1 (scAt m c t.val).1 (scAt m c t.val).2).2.2.1)) := by
  rw [scAt_succ, step, dif_neg h0, dif_neg h1]

/-- The gradient of the queries that point `t` writes. -/
def dqAt (c : Dev nD) (t : Fin cfg0.N) : Vec F S256x256 .bf16 :=
  if h0 : t.val % 32 = 0 then
    have h1 : ¬t.val % 32 = 31 := by omega
    VO7.read (Elt F) (VO7.writes (Elt F) VO7.junk (at_A m c t h0 h1).1)
  else if h1 : t.val % 32 = 31 then VO7.read (Elt F) (VO7.writes (Elt F) VO7.junk (at_C m c t h0 h1 (scAt m c t.val).1 (scAt m c t.val).2).1)
  else VO7.read (Elt F) (VO7.writes (Elt F) VO7.junk (at_B m c t h0 h1 (scAt m c t.val).1 (scAt m c t.val).2).1)

/-- The gradients of the keys and values that the last point of a head group writes. -/
def dkAt (c : Dev nD) (t : Fin cfg0.N) : Vec F S8192x256 .bf16 :=
  if h1 : t.val % 32 = 31 then
    VO8.read (Elt F) (VO8.writes (Elt F) VO8.junk (at_C m c t (by omega) h1 (scAt m c t.val).1 (scAt m c t.val).2).2.1)
  else VO8.read (Elt F) VO8.junk
@[inherit_doc dkAt] def dvAt (c : Dev nD) (t : Fin cfg0.N) : Vec F S8192x256 .bf16 :=
  if h1 : t.val % 32 = 31 then
    VO9.read (Elt F) (VO9.writes (Elt F) VO9.junk (at_C m c t (by omega) h1 (scAt m c t.val).1 (scAt m c t.val).2).2.2.1)
  else VO9.read (Elt F) VO9.junk

/-- What the running gradients' buffers hold before point `n`: anything before the first point of a head group. -/
def phi (c : Dev nD) (n : ℕ) : sProp 𝕄 :=
  if n % 32 = 0 then iprop(((∃ d, owns (c : Thread nD τ) sc0 fullShare d) ∗ (∃ d, owns (c : Thread nD τ) sc1 fullShare d)) ∗ ∃ r, prngReg c r)
  else iprop((owns (c : Thread nD τ) sc0 fullShare (scAt m c n).1 ∗ owns (c : Thread nD τ) sc1 fullShare (scAt m c n).2) ∗ ∃ r, prngReg c r)

theorem phi_none (c : Dev nD) (n : ℕ) (h : n % 32 = 0) : phi m c n ⊢
    iprop(((∃ d, owns (c : Thread nD τ) sc0 fullShare d) ∗ (∃ d, owns (c : Thread nD τ) sc1 fullShare d)) ∗ ∃ r, prngReg c r) := by
  unfold phi; rw [if_pos h]
theorem phi_end (c : Dev nD) (n : ℕ) (h : n % 32 = 0) :
    iprop(((∃ d, owns (c : Thread nD τ) sc0 fullShare d) ∗ (∃ d, owns (c : Thread nD τ) sc1 fullShare d)) ∗ ∃ r, prngReg c r) ⊢ phi m c n := by
  unfold phi; rw [if_pos h]
theorem phi_some (c : Dev nD) (n : ℕ) (h : ¬n % 32 = 0) : phi m c n ⊢
    iprop((owns (c : Thread nD τ) sc0 fullShare (scAt m c n).1 ∗ owns (c : Thread nD τ) sc1 fullShare (scAt m c n).2) ∗ ∃ r, prngReg c r) := by
  unfold phi; rw [if_neg h]
theorem phi_next (c : Dev nD) (t : Fin cfg0.N) (h : ¬(t.val + 1) % 32 = 0) :
    iprop((owns (c : Thread nD τ) sc0 fullShare (scAt m c (t.val + 1)).1 ∗ owns (c : Thread nD τ) sc1 fullShare (scAt m c (t.val + 1)).2) ∗ ∃ r, prngReg c r) ⊢ phi m c (t.val + 1) := by
  unfold phi; rw [if_neg h]

/-- The launch's own account of the two buffers. -/
theorem phi_launch (c : Dev nD) : (Pipeline.ΦA spec0 c : sProp 𝕄)
    = iprop(((∃ d, owns (c : Thread nD τ) sc0 fullShare d) ∗ (∃ d, owns (c : Thread nD τ) sc1 fullShare d)) ∗ ∃ r, prngReg c r) := by
  unfold Pipeline.ΦA; rw [scopedRest0_eq]; simp only [owns_whole]; rfl

/-- The proof data: each input's buffer holds its block, each result's what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t
    | ⟨8, _⟩ => dkAt m c t
    | ⟨9, _⟩ => dvAt m c t
  Φ t := phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAt m c t := by dsimp only [dats]
theorem after0_8 (c : Dev nD) (t : Fin cfg0.N) : (dats m 0 c).after 8 t = dkAt m c t := by dsimp only [dats]
theorem after0_9 (c : Dev nD) (t : Fin cfg0.N) : (dats m 0 c).after 9 t = dvAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem dq_A (c : Dev nD) (t : Fin cfg0.N) (h0 : t.val % 32 = 0) (h1 : ¬t.val % 32 = 31) :
    dqAt m c t = VO7.read (Elt F) (VO7.writes (Elt F) VO7.junk (at_A m c t h0 h1).1) := by unfold dqAt; rw [dif_pos h0]
theorem dq_B (c : Dev nD) (t : Fin cfg0.N) (h0 : ¬t.val % 32 = 0) (h1 : ¬t.val % 32 = 31) :
    dqAt m c t = VO7.read (Elt F) (VO7.writes (Elt F) VO7.junk (at_B m c t h0 h1 (scAt m c t.val).1 (scAt m c t.val).2).1) := by unfold dqAt; rw [dif_neg h0, dif_neg h1]
theorem dq_C (c : Dev nD) (t : Fin cfg0.N) (h0 : ¬t.val % 32 = 0) (h1 : t.val % 32 = 31) :
    dqAt m c t = VO7.read (Elt F) (VO7.writes (Elt F) VO7.junk (at_C m c t h0 h1 (scAt m c t.val).1 (scAt m c t.val).2).1) := by unfold dqAt; rw [dif_neg h0, dif_pos h1]

/-- What a point leaves covers what it says it leaves. -/
theorem cover_A_9 (c : Dev nD) (t : Fin cfg0.N) (h0 : t.val % 32 = 0) (h1 : ¬t.val % 32 = 31) (y : S256x256.Idx) : ∃ p ∈ (at_A m c t h0 h1).1, y ∈ p.1.set :=
  View.cover_of_tiledL _ S256x256.size (by sl_kernel_rfl) y
theorem cover_B_9 (c : Dev nD) (t : Fin cfg0.N) (h0 : ¬t.val % 32 = 0) (h1 : ¬t.val % 32 = 31) (x10 x11) (y : S256x256.Idx) : ∃ p ∈ (at_B m c t h0 h1 x10 x11).1, y ∈ p.1.set :=
  View.cover_of_tiledL _ S256x256.size (by sl_kernel_rfl) y
theorem cover_C_9 (c : Dev nD) (t : Fin cfg0.N) (h0 : ¬t.val % 32 = 0) (h1 : t.val % 32 = 31) (x10 x11) (y : S256x256.Idx) : ∃ p ∈ (at_C m c t h0 h1 x10 x11).1, y ∈ p.1.set :=
  View.cover_of_tiledL _ S256x256.size (by sl_kernel_rfl) y
theorem cover_A_12 (c : Dev nD) (t : Fin cfg0.N) (h0 : t.val % 32 = 0) (h1 : ¬t.val % 32 = 31) (y : S32x256x256.Idx) : ∃ p ∈ (at_A m c t h0 h1).2.1, y ∈ p.1.set :=
  View.cover_of_wholeMem _ (by unfold at_A run_A; dsimp only; sl_whole_mem) y
theorem cover_A_13 (c : Dev nD) (t : Fin cfg0.N) (h0 : t.val % 32 = 0) (h1 : ¬t.val % 32 = 31) (y : S32x256x256.Idx) : ∃ p ∈ (at_A m c t h0 h1).2.2.1, y ∈ p.1.set :=
  View.cover_of_wholeMem _ (by unfold at_A run_A; dsimp only; sl_whole_mem) y
theorem cover_C_10 (c : Dev nD) (t : Fin cfg0.N) (h0 : ¬t.val % 32 = 0) (h1 : t.val % 32 = 31) (x10 x11) (y : S8192x256.Idx) : ∃ p ∈ (at_C m c t h0 h1 x10 x11).2.1, y ∈ p.1.set := by
  unfold at_C run_C; dsimp only; apply flush_cover10
theorem cover_C_11 (c : Dev nD) (t : Fin cfg0.N) (h0 : ¬t.val % 32 = 0) (h1 : t.val % 32 = 31) (x10 x11) (y : S8192x256.Idx) : ∃ p ∈ (at_C m c t h0 h1 x10 x11).2.2.1, y ∈ p.1.set := by
  unfold at_C run_C; dsimp only; apply flush_cover11

/-- What is left in the buffers of the keys' and values' gradients: as found, but at the last point of a head group. -/
def left8 (c : Dev nD) (t : Fin cfg0.N) : sProp 𝕄 :=
  match cfg0.idle 8 (cfg0.grid.coords t) with
  | true => match (cfg0.win 8).flush t with
    | false => iprop(∃ d, owns (c : Thread nD τ) (st0_8 t) fullShare ((dats m 0 c).before 8 t d))
    | true => owns (c : Thread nD τ) (st0_8 t) fullShare ((dats m 0 c).after 8 t)
  | false => owns (c : Thread nD τ) (st0_8 t) fullShare ((dats m 0 c).after 8 t)
@[inherit_doc left8] def left9 (c : Dev nD) (t : Fin cfg0.N) : sProp 𝕄 :=
  match cfg0.idle 9 (cfg0.grid.coords t) with
  | true => match (cfg0.win 9).flush t with
    | false => iprop(∃ d, owns (c : Thread nD τ) (st0_9 t) fullShare ((dats m 0 c).before 9 t d))
    | true => owns (c : Thread nD τ) (st0_9 t) fullShare ((dats m 0 c).after 9 t)
  | false => owns (c : Thread nD τ) (st0_9 t) fullShare ((dats m 0 c).after 9 t)

theorem idle8 : ∀ t : Fin cfg0.N, cfg0.idle 8 (cfg0.grid.coords t) = decide (¬t.val % 32 = 31) := by decide +kernel
theorem idle9 : ∀ t : Fin cfg0.N, cfg0.idle 9 (cfg0.grid.coords t) = decide (¬t.val % 32 = 31) := by decide +kernel

theorem left8_last (c : Dev nD) (t : Fin cfg0.N) (h1 : t.val % 32 = 31) : iprop(owns (c : Thread nD τ) (st0_8 t) fullShare (VO8.read (Elt F) (VO8.writes (Elt F) VO8.junk (at_C m c t (by omega) h1 (scAt m c t.val).1 (scAt m c t.val).2).2.1))) ⊢ left8 m c t := by
  unfold left8; rw [idle8 t, decide_eq_false (not_not.mpr h1), after0_8]; unfold dkAt; rw [dif_pos h1]
theorem left9_last (c : Dev nD) (t : Fin cfg0.N) (h1 : t.val % 32 = 31) : iprop(owns (c : Thread nD τ) (st0_9 t) fullShare (VO9.read (Elt F) (VO9.writes (Elt F) VO9.junk (at_C m c t (by omega) h1 (scAt m c t.val).1 (scAt m c t.val).2).2.2.1))) ⊢ left9 m c t := by
  unfold left9; rw [idle9 t, decide_eq_false (not_not.mpr h1), after0_9]; unfold dvAt; rw [dif_pos h1]
theorem left8_idle (c : Dev nD) (t : Fin cfg0.N) (h1 : ¬t.val % 32 = 31) : iprop(∃ d, owns (c : Thread nD τ) (st0_8 t) fullShare ((dats m 0 c).before 8 t d)) ⊢ left8 m c t := by
  unfold left8; rw [idle8 t, decide_eq_true h1, Bool.eq_false_iff.mpr fun h => h1 ((flush0_8 t).mp h)]
theorem left9_idle (c : Dev nD) (t : Fin cfg0.N) (h1 : ¬t.val % 32 = 31) : iprop(∃ d, owns (c : Thread nD τ) (st0_9 t) fullShare ((dats m 0 c).before 9 t d)) ⊢ left9 m c t := by
  unfold left9; rw [idle9 t, decide_eq_true h1, Bool.eq_false_iff.mpr fun h => h1 ((flush0_9 t).mp h)]

/-- What the body is called with at point `t`, -/
def bodyPre (c : Dev nD) (t : Fin cfg0.N) : sProp 𝕄 :=
  iprop(phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop(phi m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ left8 m c t
    ∗ left9 m c t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  by_cases h0 : t.val % 32 = 0
  · have h1 : ¬t.val % 32 = 31 := by omega
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HΦ' := (phi_none m c t.val h0) $$ HΦ
    icases HΦ' with ⟨⟨HS, HT⟩, HR⟩
    iapply ((at_A m c t h0 h1).2.2.2 Set.univ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS]; · iexact HS
    isplitl [HT]; · iexact HT
    iintro ⟨H0, H1, H2, H3, H4, H5, H6, ⟨%e7, H7⟩, H8, H9, ⟨%gS, HS⟩, ⟨%gT, HT⟩⟩
    isplitl [HS HT HR]
    · iapply (phi_next m c t (by omega)); rw [step_A m c t h0 h1]; isplitr [HR]; swap; · iexact HR
      isplitl [HS]
      · unfold owns; iexists _; isplitr; swap; · iexact HS
        ipureintro; exact View.read_writes_of_cover sc0.view gS sc0.view sc0.view.junk _ (cover_A_12 m c t h0 h1)
      unfold owns; iexists _; isplitr; swap; · iexact HT
      ipureintro; exact View.read_writes_of_cover sc1.view gT sc1.view sc1.view.junk _ (cover_A_13 m c t h0 h1)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [dq_A m c t h0 h1]; unfold owns; iexists _; isplitr; swap; · iexact H7
      ipureintro; exact View.read_writes_of_cover _ _ _ _ _ (cover_A_9 m c t h0 h1)
    isplitl [H8]
    · iapply (left8_idle m c t h1); iexists _; iexact H8
    iapply (left9_idle m c t h1); iexists _; iexact H9
  by_cases h1 : t.val % 32 = 31
  · skip
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HΦ' := (phi_some m c t.val h0) $$ HΦ
    icases HΦ' with ⟨⟨HS, HT⟩, HR⟩
    iapply ((at_C m c t h0 h1 (scAt m c t.val).1 (scAt m c t.val).2).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    isplitl [HT]; · iexact HT
    iintro ⟨H0, H1, H2, H3, H4, H5, H6, ⟨%e7, H7⟩, ⟨%e8, H8⟩, ⟨%e9, H9⟩, HS, HT⟩
    isplitl [HS HT HR]
    · iapply (phi_end m c (t.val + 1) (by omega)); isplitr [HR]; swap; · iexact HR
      isplitl [HS]
      · iexists _; unfold owns; iexists _; isplitr; swap; · iexact HS
        ipureintro; rfl
      iexists _; unfold owns; iexists _; isplitr; swap; · iexact HT
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [dq_C m c t h0 h1]; unfold owns; iexists _; isplitr; swap; · iexact H7
      ipureintro; exact View.read_writes_of_cover _ _ _ _ _ (cover_C_9 m c t h0 h1 (scAt m c t.val).1 (scAt m c t.val).2)
    isplitl [H8]
    · iapply (left8_last m c t h1); unfold owns; iexists _; isplitr; swap; · iexact H8
      ipureintro; exact View.read_writes_of_cover _ _ _ _ _ (cover_C_10 m c t h0 h1 (scAt m c t.val).1 (scAt m c t.val).2)
    iapply (left9_last m c t h1); unfold owns; iexists _; isplitr; swap; · iexact H9
    ipureintro; exact View.read_writes_of_cover _ _ _ _ _ (cover_C_11 m c t h0 h1 (scAt m c t.val).1 (scAt m c t.val).2)
  · skip
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HΦ' := (phi_some m c t.val h0) $$ HΦ
    icases HΦ' with ⟨⟨HS, HT⟩, HR⟩
    iapply ((at_B m c t h0 h1 (scAt m c t.val).1 (scAt m c t.val).2).2.2.2 Set.univ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS]; · iexact HS
    isplitl [HT]; · iexact HT
    iintro ⟨H0, H1, H2, H3, H4, H5, H6, ⟨%e7, H7⟩, H8, H9, HS, HT⟩
    isplitl [HS HT HR]
    · iapply (phi_next m c t (by omega)); rw [step_B m c t h0 h1]; isplitr [HR]; swap; · iexact HR
      isplitl [HS]
      · unfold owns; iexists _; isplitr; swap; · iexact HS
        ipureintro; exact rfl
      unfold owns; iexists _; isplitr; swap; · iexact HT
      ipureintro; exact rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [dq_B m c t h0 h1]; unfold owns; iexists _; isplitr; swap; · iexact H7
      ipureintro; exact View.read_writes_of_cover _ _ _ _ _ (cover_B_9 m c t h0 h1 (scAt m c t.val).1 (scAt m c t.val).2)
    isplitl [H8]
    · iapply (left8_idle m c t h1); iexists _; iexact H8
    iapply (left9_idle m c t h1); iexists _; iexact H9

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole call, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (Entails.of_eq (phi_launch c)).trans (phi_end m c 0 rfl))
    (hout := fun c => (phi_none m c 64 rfl).trans (Entails.of_eq (phi_launch c).symm))

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.SbKernelIdeal

end
-- ==== Proof.SbTrip.lean ====
module

public import proofs.«01_k».proof.Proof.SbFrame
public import Idealize.ShloMosaic.Lib.VecWindow
public import Idealize.ShloMosaic.Lib.Pipeline.ValueKit

/-! One key block of the stick-breaking backward body, head by head. The four heads of a grid point run
the same operations on their own blocks, so they are named once here, and a trip of the loop over the key
blocks is read as these functions of the blocks it loads: what it carries on, and what the two running
gradients hold after it. -/

@[expose] public section

set_option maxRecDepth 16384

noncomputable section

namespace Cert.SbKernelIdeal

open Idealize.ShloMosaic Idealize.ShloMosaic.TcCoe Idealize.ShloMosaic.Tactic
open Gen
open Cert.Sb

variable {F : FTy → Type} [FloatOps F]

/-! ## One head's operations -/

/-- The product of a head's scaled queries (or cotangents) with a block of rows, summed over the queries. -/
def nt (x : FVec F S64x256 .bf16) (y : FVec F S256x256 .bf16) : FVec F S64x256 .f32 :=
  matmul dot_S64x256_S256x256_S64x256_1_1_0_0_n_n none x y (constant S64x256 .f32 0x00000000#32)

/-- The weights of a block of keys below the diagonal. -/
def att (q : FVec F S64x256 .bf16) (kb : Vec F S1x1x256x64 .bf16) (rs : Vec F S1x1x1x8x256 .f32) : FVec F S256x256 .f32 :=
  k0_pay22 k0_pay113 (k0_pay13 (k0_pay5 q kb)) (k0_pay14 (k0_pay5 q kb)) rs

/-- Their gradients times the weights. -/
def et (q w : FVec F S64x256 .bf16) (kb vb : Vec F S1x1x256x64 .bf16) (rs : Vec F S1x1x1x8x256 .f32) : FVec F S256x256 .f32 :=
  k0_pay27 (k0_pay9 w vb) (att q kb rs)

/-- The gradients of the block's scores, from what the earlier blocks' sums carry. -/
def dz (s : FVec F S1x256 .f32) (q w : FVec F S64x256 .bf16) (kb vb : Vec F S1x1x256x64 .bf16) (rs : Vec F S1x1x1x8x256 .f32) : FVec F S256x256 .bf16 :=
  k0_pay36 s (k0_pay13 (k0_pay5 q kb)) (et q w kb vb rs) (k0_pay33 k0_pay114 (k0_pay9 w vb) (att q kb rs))

/-- The query gradient with a block's part added. -/
def dqn (acc : FVec F S64x256 .f32) (kT : Vec F S1x1x64x256 .bf16) (d : FVec F S256x256 .bf16) : FVec F S64x256 .f32 :=
  addf acc (matmul dot_S64x256_S256x256_S64x256_1_0_0_1_n_n none (shapeCast S64x256 kT shapeCasts_S1x1x64x256_S64x256) d (constant S64x256 .f32 0x00000000#32))

/-- A running gradient with one head's part added at a block. -/
def addAt (s : Vec F S32x256x256 .f32) (n g : ℕ) (w : FVec F S64x256 .f32) : Vec F S32x256x256 .f32 := fun y =>
  if (y 0).val = n ∧ (y 1).val / 64 = g then FloatOps.addf (s y) (w (ix2 ⟨(y 1).val % 64, Nat.mod_lt _ (by decide)⟩ (y 2))) else s y

/-- With all four heads' parts. -/
def addAll (s : Vec F S32x256x256 .f32) (n : ℕ) (w0 w1 w2 w3 : FVec F S64x256 .f32) : Vec F S32x256x256 .f32 :=
  addAt (addAt (addAt (addAt s n 0 w0) n 1 w1) n 2 w2) n 3 w3

/-- A store of a head's rows with its part added is that. -/
theorem read_add (a : Memref sig .tc .vmem S32x256x256 .f32) (f : a.view.ty.Contents (Elt F)) (L : List (View.Piece (Elt F) S32x256x256 .f32))
    (off : Fin 3 → ℕ) (inb : ∀ x, off x + S1x64x256.size x ≤ S32x256x256.size x) (n g : ℕ) (hn : n < 32) (hg : g < 4) (e : off = ![n, 64 * g, 0]) (w : FVec F S64x256 .f32) :
    a.view.read (Elt F) (a.view.writes (Elt F) f (⟨Rect.unit (s := S32x256x256) off S1x64x256.size inb, shapeCast S1x64x256 (addf (shapeCast S64x256 (a.view.readAt (Elt F) (Rect.unit (s := S32x256x256) off S1x64x256.size inb).toLoadRect (a.view.writes (Elt F) f L) : Vec F S1x64x256 .f32) shapeCasts_S1x64x256_S64x256) w) shapeCasts_S64x256_S1x64x256⟩ :: L))
      = addAt (a.view.read (Elt F) (a.view.writes (Elt F) f L)) n g w := by
  subst e
  funext y
  rw [View.read_writes_cons_put a.view f inb _ L rfl, View.readAt_unit a.view _ inb rfl inb]
  generalize a.view.read (Elt F) (a.view.writes (Elt F) f L) = s
  unfold VecWindow.put addAt
  have hy2 : (y 2).val < 256 := (y 2).isLt
  by_cases h : (y 0).val = n ∧ (y 1).val / 64 = g
  · have h' : ∀ x, (![n, 64 * g, 0] : Fin 3 → ℕ) x ≤ (y x).val ∧ (y x).val < (![n, 64 * g, 0] : Fin 3 → ℕ) x + S1x64x256.size x := by
      intro x; fin_cases x
      · exact ⟨le_of_eq h.1.symm, by show (y 0).val < n + 1; omega⟩
      · exact ⟨by show 64 * g ≤ (y 1).val; omega, by show (y 1).val < 64 * g + 64; omega⟩
      · exact ⟨Nat.zero_le _, by show (y 2).val < 0 + 256; omega⟩
    rw [dif_pos h', if_pos h]
    have h1 : 64 * g ≤ (y 1).val ∧ (y 1).val < 64 * g + 64 := h' 1
    have h0 : (y 0).val = n := h.1
    refine (shapeCast_apply _ shapeCasts_S64x256_S1x64x256 _ (ix2 ⟨(y 1).val % 64, Nat.mod_lt _ (by decide)⟩ (y 2)) ?_).trans ?_
    · rw [Shape.rowMajor_val_three, Shape.rowMajor_val_two]
      show (y 1).val % 64 * 256 + (y 2).val = (((y 0).val - n) * 64 + ((y 1).val - 64 * g)) * 256 + ((y 2).val - 0)
      omega
    refine congrArg (fun u => FloatOps.addf u _) ((shapeCast_apply _ shapeCasts_S1x64x256_S64x256 _ (ix3 (0 : Fin 1) ⟨(y 1).val % 64, Nat.mod_lt _ (by decide)⟩ (y 2)) ?_).trans (congrArg s ?_))
    · rw [Shape.rowMajor_val_three, Shape.rowMajor_val_two]
      show (0 * 64 + (y 1).val % 64) * 256 + (y 2).val = (y 1).val % 64 * 256 + (y 2).val
      omega
    · funext a
      fin_cases a <;> refine Fin.ext ?_
      · show n + 1 * 0 = (y 0).val; omega
      · show 64 * g + 1 * ((y 1).val % 64) = (y 1).val; omega
      · show 0 + 1 * (y 2).val = (y 2).val; omega
  · rw [dif_neg, if_neg h]
    intro h'
    have h0 := h' 0
    have h1 := h' 1
    refine h ⟨?_, ?_⟩
    · have : n ≤ (y 0).val ∧ (y 0).val < n + 1 := h0
      omega
    · have : 64 * g ≤ (y 1).val ∧ (y 1).val < 64 * g + 64 := h1
      omega

/-! ## The blocks a trip loads -/

/-- A head's block of key (or value) rows, -/
def kb (x : Vec F S4x32x256x64 .bf16) (g : Fin 4) (n : ℕ) (hn : n < 32) : Vec F S1x1x256x64 .bf16 :=
  VecWindow.window x ![g.val, n, 0, 0] S1x1x256x64.size (rows g n g.isLt hn)

/-- of transposed key rows, -/
def tb (x : Vec F S4x32x64x256 .bf16) (g : Fin 4) (n : ℕ) (hn : n < 32) : Vec F S1x1x64x256 .bf16 :=
  VecWindow.window x ![g.val, n, 0, 0] S1x1x64x256.size (cols g n g.isLt hn)

/-- and of saved sums. -/
def sb (x : Vec F S4x1x32x8x256 .f32) (g : Fin 4) (n : ℕ) (hn : n < 32) : Vec F S1x1x1x8x256 .f32 :=
  VecWindow.window x ![g.val, 0, n, 0, 0] S1x1x1x8x256.size (sums g n g.isLt hn)

theorem load_kb (a : Memref sig .tc .vmem S4x32x256x64 .bf16) (h : a.IsWhole) (x : Vec F S4x32x256x64 .bf16) (g : Fin 4) (n : ℕ) (hn : n < 32)
    (off : Fin 4 → ℕ) (inb : ∀ y, off y + S1x1x256x64.size y ≤ S4x32x256x64.size y) (e : off = ![g.val, n, 0, 0]) :
    a.view.readAt (Elt F) (Rect.unit (s := S4x32x256x64) off S1x1x256x64.size inb).toLoadRect (h.unread x) = kb x g n hn := by
  rw [View.readAt_unit a.view _ inb e (rows g n g.isLt hn), h.read_unread]; rfl

theorem load_tb (a : Memref sig .tc .vmem S4x32x64x256 .bf16) (h : a.IsWhole) (x : Vec F S4x32x64x256 .bf16) (g : Fin 4) (n : ℕ) (hn : n < 32)
    (off : Fin 4 → ℕ) (inb : ∀ y, off y + S1x1x64x256.size y ≤ S4x32x64x256.size y) (e : off = ![g.val, n, 0, 0]) :
    a.view.readAt (Elt F) (Rect.unit (s := S4x32x64x256) off S1x1x64x256.size inb).toLoadRect (h.unread x) = tb x g n hn := by
  rw [View.readAt_unit a.view _ inb e (cols g n g.isLt hn), h.read_unread]; rfl

theorem load_sb (a : Memref sig .tc .vmem S4x1x32x8x256 .f32) (h : a.IsWhole) (x : Vec F S4x1x32x8x256 .f32) (g : Fin 4) (n : ℕ) (hn : n < 32)
    (off : Fin 5 → ℕ) (inb : ∀ y, off y + S1x1x1x8x256.size y ≤ S4x1x32x8x256.size y) (e : off = ![g.val, 0, n, 0, 0]) :
    a.view.readAt (Elt F) (Rect.unit (s := S4x1x32x8x256) off S1x1x1x8x256.size inb).toLoadRect (h.unread x) = sb x g n hn := by
  rw [View.readAt_unit a.view _ inb e (sums g n g.isLt hn), h.read_unread]; rfl

/-! ## A trip -/

section
variable (c : Dev nD) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole) (arg1 : BitVec 32) (v8 v14 v20 v26 v28 v30 : FVec F S64x256 .bf16) (v31 v33 : Vec F S1x64x256 .bf16) (v53 : BitVec 32) (hw1 : k0_chk1 i v53) (v55 : BitVec 32) (x1 : Vec F S4x32x256x64 .bf16) (x2 : Vec F S4x32x64x256 .bf16) (x3 : Vec F S4x32x256x64 .bf16) (x5 : Vec F S4x1x32x8x256 .f32) (j : Fin (k0_t1_loop i v53).trips) (n : ℕ) (hn : n < 32) (e : (Scf.iv (k0_t1_loop i v53).lb 1#32 j).toNat = n)
include e

/-- What a trip carries on. -/
theorem trip_carry (acc : FVec F S1x256 .f32 × FVec F S64x256 .f32 × FVec F S1x256 .f32 × FVec F S64x256 .f32 × FVec F S1x256 .f32 × FVec F S64x256 .f32 × FVec F S1x256 .f32 × FVec F S64x256 .f32) (f12 f13) :
    (trip_k0_t1 Variants.none c none i a2 h2 a3 h3 a4 h4 a5 h5 a6 h6 a7 h7 a8 h8 a9 h9 a10 h10 a11 h11 a12 h12 a13 h13 arg1 v8 v14 v20 v26 v28 v30 v31 v33 v53 hw1 v55 (h3.unread x1) (h4.unread x2) (h5.unread x3) (h7.unread x5) j).1 acc f12 f13
      = (k0_pay127 acc.1 (et v8 v28 (kb x1 0 n hn) (kb x3 0 n hn) (sb x5 0 n hn)), dqn acc.2.1 (tb x2 0 n hn) (dz acc.1 v8 v28 (kb x1 0 n hn) (kb x3 0 n hn) (sb x5 0 n hn)), k0_pay127 acc.2.2.1 (et v14 v30 (kb x1 1 n hn) (kb x3 1 n hn) (sb x5 1 n hn)), dqn acc.2.2.2.1 (tb x2 1 n hn) (dz acc.2.2.1 v14 v30 (kb x1 1 n hn) (kb x3 1 n hn) (sb x5 1 n hn)), k0_pay127 acc.2.2.2.2.1 (et v20 (k0_pay111 v31) (kb x1 2 n hn) (kb x3 2 n hn) (sb x5 2 n hn)), dqn acc.2.2.2.2.2.1 (tb x2 2 n hn) (dz acc.2.2.2.2.1 v20 (k0_pay111 v31) (kb x1 2 n hn) (kb x3 2 n hn) (sb x5 2 n hn)), k0_pay127 acc.2.2.2.2.2.2.1 (et v26 (k0_pay112 v33) (kb x1 3 n hn) (kb x3 3 n hn) (sb x5 3 n hn)), dqn acc.2.2.2.2.2.2.2 (tb x2 3 n hn) (dz acc.2.2.2.2.2.2.1 v26 (k0_pay112 v33) (kb x1 3 n hn) (kb x3 3 n hn) (sb x5 3 n hn))) := by
  subst e
  rw [← load_kb a3 h3 x1 0 _ hn (k0_off1 i v53 j) (k0_off1_inb i v53 hw1 j) rfl, ← load_kb a5 h5 x3 0 _ hn (k0_off1 i v53 j) (k0_off1_inb i v53 hw1 j) rfl, ← load_sb a7 h7 x5 0 _ hn (k0_off5 i v53 j) (k0_off5_inb i v53 hw1 j) rfl, ← load_tb a4 h4 x2 0 _ hn (k0_off9 i v53 j) (k0_off9_inb i v53 hw1 j) rfl, ← load_kb a3 h3 x1 1 _ hn (k0_off2 i v53 j) (k0_off2_inb i v53 hw1 j) rfl, ← load_kb a5 h5 x3 1 _ hn (k0_off2 i v53 j) (k0_off2_inb i v53 hw1 j) rfl, ← load_sb a7 h7 x5 1 _ hn (k0_off6 i v53 j) (k0_off6_inb i v53 hw1 j) rfl, ← load_tb a4 h4 x2 1 _ hn (k0_off10 i v53 j) (k0_off10_inb i v53 hw1 j) rfl, ← load_kb a3 h3 x1 2 _ hn (k0_off3 i v53 j) (k0_off3_inb i v53 hw1 j) rfl, ← load_kb a5 h5 x3 2 _ hn (k0_off3 i v53 j) (k0_off3_inb i v53 hw1 j) rfl, ← load_sb a7 h7 x5 2 _ hn (k0_off7 i v53 j) (k0_off7_inb i v53 hw1 j) rfl, ← load_tb a4 h4 x2 2 _ hn (k0_off11 i v53 j) (k0_off11_inb i v53 hw1 j) rfl, ← load_kb a3 h3 x1 3 _ hn (k0_off4 i v53 j) (k0_off4_inb i v53 hw1 j) rfl, ← load_kb a5 h5 x3 3 _ hn (k0_off4 i v53 j) (k0_off4_inb i v53 hw1 j) rfl, ← load_sb a7 h7 x5 3 _ hn (k0_off8 i v53 j) (k0_off8_inb i v53 hw1 j) rfl, ← load_tb a4 h4 x2 3 _ hn (k0_off12 i v53 j) (k0_off12_inb i v53 hw1 j) rfl]
  unfold trip_k0_t1
  rfl

/-- What it leaves in the running key gradient. -/
theorem trip_dk (acc : FVec F S1x256 .f32 × FVec F S64x256 .f32 × FVec F S1x256 .f32 × FVec F S64x256 .f32 × FVec F S1x256 .f32 × FVec F S64x256 .f32 × FVec F S1x256 .f32 × FVec F S64x256 .f32) (f12 f13) :
    a12.view.read (Elt F) (a12.view.writes (Elt F) f12 ((trip_k0_t1 Variants.none c none i a2 h2 a3 h3 a4 h4 a5 h5 a6 h6 a7 h7 a8 h8 a9 h9 a10 h10 a11 h11 a12 h12 a13 h13 arg1 v8 v14 v20 v26 v28 v30 v31 v33 v53 hw1 v55 (h3.unread x1) (h4.unread x2) (h5.unread x3) (h7.unread x5) j).2.1 acc f12 f13))
      = addAll (a12.view.read (Elt F) f12) n (nt v8 (dz acc.1 v8 v28 (kb x1 0 n hn) (kb x3 0 n hn) (sb x5 0 n hn))) (nt v14 (dz acc.2.2.1 v14 v30 (kb x1 1 n hn) (kb x3 1 n hn) (sb x5 1 n hn))) (nt v20 (dz acc.2.2.2.2.1 v20 (k0_pay111 v31) (kb x1 2 n hn) (kb x3 2 n hn) (sb x5 2 n hn))) (nt v26 (dz acc.2.2.2.2.2.2.1 v26 (k0_pay112 v33) (kb x1 3 n hn) (kb x3 3 n hn) (sb x5 3 n hn))) := by
  subst e
  rw [← load_kb a3 h3 x1 0 _ hn (k0_off1 i v53 j) (k0_off1_inb i v53 hw1 j) rfl, ← load_kb a5 h5 x3 0 _ hn (k0_off1 i v53 j) (k0_off1_inb i v53 hw1 j) rfl, ← load_sb a7 h7 x5 0 _ hn (k0_off5 i v53 j) (k0_off5_inb i v53 hw1 j) rfl, ← load_kb a3 h3 x1 1 _ hn (k0_off2 i v53 j) (k0_off2_inb i v53 hw1 j) rfl, ← load_kb a5 h5 x3 1 _ hn (k0_off2 i v53 j) (k0_off2_inb i v53 hw1 j) rfl, ← load_sb a7 h7 x5 1 _ hn (k0_off6 i v53 j) (k0_off6_inb i v53 hw1 j) rfl, ← load_kb a3 h3 x1 2 _ hn (k0_off3 i v53 j) (k0_off3_inb i v53 hw1 j) rfl, ← load_kb a5 h5 x3 2 _ hn (k0_off3 i v53 j) (k0_off3_inb i v53 hw1 j) rfl, ← load_sb a7 h7 x5 2 _ hn (k0_off7 i v53 j) (k0_off7_inb i v53 hw1 j) rfl, ← load_kb a3 h3 x1 3 _ hn (k0_off4 i v53 j) (k0_off4_inb i v53 hw1 j) rfl, ← load_kb a5 h5 x3 3 _ hn (k0_off4 i v53 j) (k0_off4_inb i v53 hw1 j) rfl, ← load_sb a7 h7 x5 3 _ hn (k0_off8 i v53 j) (k0_off8_inb i v53 hw1 j) rfl]
  unfold addAll
  refine Eq.trans ?_ ((read_add a12 f12 _ (k0_off16 i v53 j) (k0_off16_inb i v53 hw1 j) _ 3 hn (by decide) rfl _).trans (congrArg (fun s => addAt s _ 3 _)
    ((read_add a12 f12 _ (k0_off15 i v53 j) (k0_off15_inb i v53 hw1 j) _ 2 hn (by decide) rfl _).trans (congrArg (fun s => addAt s _ 2 _)
      ((read_add a12 f12 _ (k0_off14 i v53 j) (k0_off14_inb i v53 hw1 j) _ 1 hn (by decide) rfl _).trans (congrArg (fun s => addAt s _ 1 _)
        (read_add a12 f12 [] (k0_off13 i v53 j) (k0_off13_inb i v53 hw1 j) _ 0 hn (by decide) rfl _)))))))
  unfold trip_k0_t1
  rfl

/-- What it leaves in the running value gradient. -/
theorem trip_dv (acc : FVec F S1x256 .f32 × FVec F S64x256 .f32 × FVec F S1x256 .f32 × FVec F S64x256 .f32 × FVec F S1x256 .f32 × FVec F S64x256 .f32 × FVec F S1x256 .f32 × FVec F S64x256 .f32) (f12 f13) :
    a13.view.read (Elt F) (a13.view.writes (Elt F) f13 ((trip_k0_t1 Variants.none c none i a2 h2 a3 h3 a4 h4 a5 h5 a6 h6 a7 h7 a8 h8 a9 h9 a10 h10 a11 h11 a12 h12 a13 h13 arg1 v8 v14 v20 v26 v28 v30 v31 v33 v53 hw1 v55 (h3.unread x1) (h4.unread x2) (h5.unread x3) (h7.unread x5) j).2.2.1 acc f12 f13))
      = addAll (a13.view.read (Elt F) f13) n (nt v28 (truncf .bf16 (att v8 (kb x1 0 n hn) (sb x5 0 n hn)) bitsLt_bf16_f32)) (nt v30 (truncf .bf16 (att v14 (kb x1 1 n hn) (sb x5 1 n hn)) bitsLt_bf16_f32)) (nt (k0_pay111 v31) (truncf .bf16 (att v20 (kb x1 2 n hn) (sb x5 2 n hn)) bitsLt_bf16_f32)) (nt (k0_pay112 v33) (truncf .bf16 (att v26 (kb x1 3 n hn) (sb x5 3 n hn)) bitsLt_bf16_f32)) := by
  subst e
  rw [← load_kb a3 h3 x1 0 _ hn (k0_off1 i v53 j) (k0_off1_inb i v53 hw1 j) rfl, ← load_sb a7 h7 x5 0 _ hn (k0_off5 i v53 j) (k0_off5_inb i v53 hw1 j) rfl, ← load_kb a3 h3 x1 1 _ hn (k0_off2 i v53 j) (k0_off2_inb i v53 hw1 j) rfl, ← load_sb a7 h7 x5 1 _ hn (k0_off6 i v53 j) (k0_off6_inb i v53 hw1 j) rfl, ← load_kb a3 h3 x1 2 _ hn (k0_off3 i v53 j) (k0_off3_inb i v53 hw1 j) rfl, ← load_sb a7 h7 x5 2 _ hn (k0_off7 i v53 j) (k0_off7_inb i v53 hw1 j) rfl, ← load_kb a3 h3 x1 3 _ hn (k0_off4 i v53 j) (k0_off4_inb i v53 hw1 j) rfl, ← load_sb a7 h7 x5 3 _ hn (k0_off8 i v53 j) (k0_off8_inb i v53 hw1 j) rfl]
  unfold addAll
  refine Eq.trans ?_ ((read_add a13 f13 _ (k0_off16 i v53 j) (k0_off16_inb i v53 hw1 j) _ 3 hn (by decide) rfl _).trans (congrArg (fun s => addAt s _ 3 _)
    ((read_add a13 f13 _ (k0_off15 i v53 j) (k0_off15_inb i v53 hw1 j) _ 2 hn (by decide) rfl _).trans (congrArg (fun s => addAt s _ 2 _)
      ((read_add a13 f13 _ (k0_off14 i v53 j) (k0_off14_inb i v53 hw1 j) _ 1 hn (by decide) rfl _).trans (congrArg (fun s => addAt s _ 1 _)
        (read_add a13 f13 [] (k0_off13 i v53 j) (k0_off13_inb i v53 hw1 j) _ 0 hn (by decide) rfl _)))))))
  unfold trip_k0_t1
  rfl

end

end Cert.SbKernelIdeal

end
-- ==== Proof.SbRun.lean ====
module

public import proofs.«01_k».proof.Proof.SbTrip

/-! The stick-breaking backward body at a grid point, as a function of the blocks it reads: the loop over
the key blocks before the query block and the query block's own, masked, part, over the carried sums and
the two running gradients. Each of the three runs of the body leaves what these functions say. -/

@[expose] public section

set_option maxRecDepth 16384

noncomputable section

namespace Cert.SbKernelIdeal

open Idealize.ShloMosaic Idealize.ShloMosaic.TcCoe Idealize.ShloMosaic.Tactic
open Gen
open Cert.Sb

variable {F : FTy → Type} [FloatOps F]

/-- What the loop carries: for each head the sum of the gradients' products so far and the query gradient. -/
abbrev Carry (F : FTy → Type) := FVec F S1x256 .f32 × FVec F S64x256 .f32 × FVec F S1x256 .f32 × FVec F S64x256 .f32 × FVec F S1x256 .f32 × FVec F S64x256 .f32 × FVec F S1x256 .f32 × FVec F S64x256 .f32

/-- The carried values and the two running gradients. -/
abbrev State (F : FTy → Type) := Carry F × Vec F S32x256x256 .f32 × Vec F S32x256x256 .f32

section
variable (q w : Fin 4 → FVec F S64x256 .bf16) (x1 : Vec F S4x32x256x64 .bf16) (x2 : Vec F S4x32x64x256 .bf16) (x3 : Vec F S4x32x256x64 .bf16) (x5 : Vec F S4x1x32x8x256 .f32) (n : ℕ) (hn : n < 32)

/-- One key block before the query block. -/
def trip1 (s : State F) : State F :=
  ((k0_pay127 s.1.1 (et (q 0) (w 0) (kb x1 0 n hn) (kb x3 0 n hn) (sb x5 0 n hn)), dqn s.1.2.1 (tb x2 0 n hn) (dz s.1.1 (q 0) (w 0) (kb x1 0 n hn) (kb x3 0 n hn) (sb x5 0 n hn)), k0_pay127 s.1.2.2.1 (et (q 1) (w 1) (kb x1 1 n hn) (kb x3 1 n hn) (sb x5 1 n hn)), dqn s.1.2.2.2.1 (tb x2 1 n hn) (dz s.1.2.2.1 (q 1) (w 1) (kb x1 1 n hn) (kb x3 1 n hn) (sb x5 1 n hn)), k0_pay127 s.1.2.2.2.2.1 (et (q 2) (w 2) (kb x1 2 n hn) (kb x3 2 n hn) (sb x5 2 n hn)), dqn s.1.2.2.2.2.2.1 (tb x2 2 n hn) (dz s.1.2.2.2.2.1 (q 2) (w 2) (kb x1 2 n hn) (kb x3 2 n hn) (sb x5 2 n hn)), k0_pay127 s.1.2.2.2.2.2.2.1 (et (q 3) (w 3) (kb x1 3 n hn) (kb x3 3 n hn) (sb x5 3 n hn)), dqn s.1.2.2.2.2.2.2.2 (tb x2 3 n hn) (dz s.1.2.2.2.2.2.2.1 (q 3) (w 3) (kb x1 3 n hn) (kb x3 3 n hn) (sb x5 3 n hn))),
    addAll s.2.1 n (nt (q 0) (dz s.1.1 (q 0) (w 0) (kb x1 0 n hn) (kb x3 0 n hn) (sb x5 0 n hn))) (nt (q 1) (dz s.1.2.2.1 (q 1) (w 1) (kb x1 1 n hn) (kb x3 1 n hn) (sb x5 1 n hn))) (nt (q 2) (dz s.1.2.2.2.2.1 (q 2) (w 2) (kb x1 2 n hn) (kb x3 2 n hn) (sb x5 2 n hn))) (nt (q 3) (dz s.1.2.2.2.2.2.2.1 (q 3) (w 3) (kb x1 3 n hn) (kb x3 3 n hn) (sb x5 3 n hn))),
    addAll s.2.2 n (nt (w 0) (truncf .bf16 (att (q 0) (kb x1 0 n hn) (sb x5 0 n hn)) bitsLt_bf16_f32)) (nt (w 1) (truncf .bf16 (att (q 1) (kb x1 1 n hn) (sb x5 1 n hn)) bitsLt_bf16_f32)) (nt (w 2) (truncf .bf16 (att (q 2) (kb x1 2 n hn) (sb x5 2 n hn)) bitsLt_bf16_f32)) (nt (w 3) (truncf .bf16 (att (q 3) (kb x1 3 n hn) (sb x5 3 n hn)) bitsLt_bf16_f32)))

/-- The key blocks before block `n`. -/
def loopV (s : State F) : ℕ → State F
  | 0 => s
  | n + 1 => if hn : n < 32 then trip1 q w x1 x2 x3 x5 n hn (loopV s n) else loopV s n

/-! The query block's own keys, masked to those before the query. -/

/-- Its weights, -/
def attm (q : FVec F S64x256 .bf16) (kb : Vec F S1x1x256x64 .bf16) (rs : Vec F S1x1x1x8x256 .f32) : FVec F S256x256 .f32 :=
  k0_pay159 k0_pay115 (k0_pay147 (k0_pay137 q kb)) (k0_pay154 k0_pay113 (k0_pay148 k0_pay115 (k0_pay137 q kb))) rs

/-- their gradients times them, -/
def etm (q w : FVec F S64x256 .bf16) (kb vb : Vec F S1x1x256x64 .bf16) (rs : Vec F S1x1x1x8x256 .f32) : FVec F S256x256 .f32 :=
  k0_pay163 k0_pay115 (k0_pay141 w vb) (k0_pay147 (k0_pay137 q kb)) (k0_pay154 k0_pay113 (k0_pay148 k0_pay115 (k0_pay137 q kb))) rs

/-- and the gradients of the scores. -/
def dzm (s : FVec F S1x256 .f32) (q w : FVec F S64x256 .bf16) (kb vb : Vec F S1x1x256x64 .bf16) (rs : Vec F S1x1x1x8x256 .f32) : FVec F S256x256 .bf16 :=
  k0_pay177 k0_pay115 s (k0_pay147 (k0_pay137 q kb)) (etm q w kb vb rs) (k0_pay171 k0_pay114 (etm q w kb vb rs))

/-- The query gradient the point writes. -/
def diagQ (s : State F) : Vec F S256x256 .bf16 :=
  k0_pay2 (dqn s.1.2.1 (tb x2 0 n hn) (dzm s.1.1 (q 0) (w 0) (kb x1 0 n hn) (kb x3 0 n hn) (sb x5 0 n hn))) (dqn s.1.2.2.2.1 (tb x2 1 n hn) (dzm s.1.2.2.1 (q 1) (w 1) (kb x1 1 n hn) (kb x3 1 n hn) (sb x5 1 n hn))) (dqn s.1.2.2.2.2.2.1 (tb x2 2 n hn) (dzm s.1.2.2.2.2.1 (q 2) (w 2) (kb x1 2 n hn) (kb x3 2 n hn) (sb x5 2 n hn))) (dqn s.1.2.2.2.2.2.2.2 (tb x2 3 n hn) (dzm s.1.2.2.2.2.2.2.1 (q 3) (w 3) (kb x1 3 n hn) (kb x3 3 n hn) (sb x5 3 n hn)))

/-- The running gradient of the keys after it, -/
def diagK (s : State F) : Vec F S32x256x256 .f32 :=
  addAll s.2.1 n (nt (q 0) (dzm s.1.1 (q 0) (w 0) (kb x1 0 n hn) (kb x3 0 n hn) (sb x5 0 n hn))) (nt (q 1) (dzm s.1.2.2.1 (q 1) (w 1) (kb x1 1 n hn) (kb x3 1 n hn) (sb x5 1 n hn))) (nt (q 2) (dzm s.1.2.2.2.2.1 (q 2) (w 2) (kb x1 2 n hn) (kb x3 2 n hn) (sb x5 2 n hn))) (nt (q 3) (dzm s.1.2.2.2.2.2.2.1 (q 3) (w 3) (kb x1 3 n hn) (kb x3 3 n hn) (sb x5 3 n hn)))

/-- and of the values. -/
def diagV (s : State F) : Vec F S32x256x256 .f32 :=
  addAll s.2.2 n (nt (w 0) (truncf .bf16 (attm (q 0) (kb x1 0 n hn) (sb x5 0 n hn)) bitsLt_bf16_f32)) (nt (w 1) (truncf .bf16 (attm (q 1) (kb x1 1 n hn) (sb x5 1 n hn)) bitsLt_bf16_f32)) (nt (w 2) (truncf .bf16 (attm (q 2) (kb x1 2 n hn) (sb x5 2 n hn)) bitsLt_bf16_f32)) (nt (w 3) (truncf .bf16 (attm (q 3) (kb x1 3 n hn) (sb x5 3 n hn)) bitsLt_bf16_f32))
end

/-- The loop's carried values at its start. -/
def carry0 : Carry F := (k0_pay117, k0_pay118, k0_pay119, k0_pay120, k0_pay121, k0_pay122, k0_pay123, k0_pay124)

/-- A head's block of columns. -/
def colb (x : Vec F S4x64x256 .bf16) (g : Fin 4) : Vec F S1x64x256 .bf16 :=
  VecWindow.window x ![g.val, 0, 0] S1x64x256.size (by intro a; have := g.isLt; fin_cases a <;> simp [S1x64x256, S4x64x256] <;> omega)

/-- The heads' scaled queries, -/
def qs (x : Vec F S4x64x256 .bf16) (g : Fin 4) : FVec F S64x256 .bf16 := k0_pay105 (colb x g)
/-- and cotangents. -/
def ws (x : Vec F S4x64x256 .bf16) (g : Fin 4) : FVec F S64x256 .bf16 := k0_pay109 (colb x g)

theorem load_col (a : Memref sig .tc .vmem S4x64x256 .bf16) (h : a.IsWhole) (x : Vec F S4x64x256 .bf16) (g : Fin 4)
    (inb : ∀ y, (![g.val, 0, 0] : Fin 3 → ℕ) y + S1x64x256.size y ≤ S4x64x256.size y) :
    a.view.readAt (Elt F) (Rect.unit (s := S4x64x256) ![g.val, 0, 0] S1x64x256.size inb).toLoadRect (h.unread x) = colb x g := by
  rw [View.readAt_unit a.view _ inb rfl inb, h.read_unread]; rfl

/-- With a zero word the loop starts at the first block, -/
theorem start_zero : ∀ a : Fin 32, start (BitVec.ofNat 32 a) 0#32 = 0#32 := by decide

theorem trips1 (i : grid0.Coords) : (k0_t1_loop i 0#32).trips = (i 1).val := by
  have e1 : k0_t1_loop i 0#32 = loop1 (BitVec.ofNat 32 (i 1).val) (start (BitVec.ofNat 32 (i 1).val) 0#32) := rfl
  rw [e1, start_zero (i 1)]
  exact (loops (i 1) 0 (Fin.zero_le _)).1.2.trans (Nat.sub_zero _)

theorem trips2 (i : grid0.Coords) : (k0_t2_loop i 0#32).trips = 0 := by
  have e1 : k0_t2_loop i 0#32 = loop2 (BitVec.ofNat 32 (i 1).val) (start (BitVec.ofNat 32 (i 1).val) 0#32) := rfl
  rw [e1, start_zero (i 1)]
  exact (loops (i 1) 0 (Fin.zero_le _)).2.2

/-- and its trip `n` reads block `n`. -/
theorem trip_block (i : grid0.Coords) (n : ℕ) (hn : n < 32) : (Scf.iv (k0_t1_loop i 0#32).lb 1#32 n).toNat = n := by
  have e1 : (k0_t1_loop i 0#32).lb = start (BitVec.ofNat 32 (i 1).val) 0#32 := rfl
  rw [e1, start_zero (i 1)]
  unfold Scf.iv; simp; omega

section
variable (c : Dev nD) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole) (arg1 : BitVec 32) (q w : Fin 4 → FVec F S64x256 .bf16) (v31 v33 : Vec F S1x64x256 .bf16) (e2 : k0_pay111 v31 = w 2) (e3 : k0_pay112 v33 = w 3) (hw1 : k0_chk1 i 0#32) (v55 : BitVec 32) (x1 : Vec F S4x32x256x64 .bf16) (x2 : Vec F S4x32x64x256 .bf16) (x3 : Vec F S4x32x256x64 .bf16) (x5 : Vec F S4x1x32x8x256 .f32)
include e2 e3

/-- The generated loop state is that function's. -/
theorem loop_eq (G12 : BufTy.Contents (Elt F) a12.view.ty) (G13 : BufTy.Contents (Elt F) a13.view.ty) : ∀ n, n ≤ (i 1).val →
    (fun st => ((st.1, a12.view.read (Elt F) (a12.view.writes (Elt F) G12 st.2.1), a13.view.read (Elt F) (a13.view.writes (Elt F) G13 st.2.2)) : State F))
      (st_k0_t1 Variants.none c none i a2 h2 a3 h3 a4 h4 a5 h5 a6 h6 a7 h7 a8 h8 a9 h9 a10 h10 a11 h11 a12 h12 a13 h13 arg1 (q 0) (q 1) (q 2) (q 3) (w 0) (w 1) v31 v33 0#32 hw1 v55 (h3.unread x1) (h4.unread x2) (h5.unread x3) (h7.unread x5) G12 G13 carry0 n)
      = loopV q w x1 x2 x3 x5 (carry0, a12.view.read (Elt F) G12, a13.view.read (Elt F) G13) n
  | 0, _ => rfl
  | n + 1, hle => by
    have hn : n < 32 := lt_of_lt_of_le (Nat.lt_of_succ_le hle) (le_of_lt (i 1).isLt)
    have ih := loop_eq G12 G13 n (Nat.le_of_succ_le hle)
    rw [loopV, dif_pos hn, ← ih]
    have hs := st_k0_t1_succ (F := F) Variants.none c none i a2 h2 a3 h3 a4 h4 a5 h5 a6 h6 a7 h7 a8 h8 a9 h9 a10 h10 a11 h11 a12 h12 a13 h13 arg1 (q 0) (q 1) (q 2) (q 3) (w 0) (w 1) v31 v33 0#32 hw1 v55 (h3.unread x1) (h4.unread x2) (h5.unread x3) (h7.unread x5) G12 G13 carry0 ⟨n, lt_of_lt_of_eq (Nat.lt_of_succ_le hle) (trips1 i).symm⟩
    rw [show n + 1 = (⟨n, lt_of_lt_of_eq (Nat.lt_of_succ_le hle) (trips1 i).symm⟩ : Fin (k0_t1_loop i 0#32).trips).val + 1 from rfl, hs]
    have kc := trip_carry c i a2 h2 a3 h3 a4 h4 a5 h5 a6 h6 a7 h7 a8 h8 a9 h9 a10 h10 a11 h11 a12 h12 a13 h13 arg1 (q 0) (q 1) (q 2) (q 3) (w 0) (w 1) v31 v33 0#32 hw1 v55 x1 x2 x3 x5 ⟨n, lt_of_lt_of_eq (Nat.lt_of_succ_le hle) (trips1 i).symm⟩ n hn (trip_block i n hn)
    have kk := trip_dk c i a2 h2 a3 h3 a4 h4 a5 h5 a6 h6 a7 h7 a8 h8 a9 h9 a10 h10 a11 h11 a12 h12 a13 h13 arg1 (q 0) (q 1) (q 2) (q 3) (w 0) (w 1) v31 v33 0#32 hw1 v55 x1 x2 x3 x5 ⟨n, lt_of_lt_of_eq (Nat.lt_of_succ_le hle) (trips1 i).symm⟩ n hn (trip_block i n hn)
    have kv := trip_dv c i a2 h2 a3 h3 a4 h4 a5 h5 a6 h6 a7 h7 a8 h8 a9 h9 a10 h10 a11 h11 a12 h12 a13 h13 arg1 (q 0) (q 1) (q 2) (q 3) (w 0) (w 1) v31 v33 0#32 hw1 v55 x1 x2 x3 x5 ⟨n, lt_of_lt_of_eq (Nat.lt_of_succ_le hle) (trips1 i).symm⟩ n hn (trip_block i n hn)
    rw [e2, e3] at kc kk kv
    refine Prod.ext ?_ (Prod.ext ?_ ?_)
    · exact kc _ _ _
    · exact (congrArg (a12.view.read (Elt F)) (View.writes_append _ _ _ _)).trans (kk _ _ _)
    · exact (congrArg (a13.view.read (Elt F)) (View.writes_append _ _ _ _)).trans (kv _ _ _)
end

theorem word (i : grid0.Coords) : (BitVec.ofNat 32 (i 1).val).toNat = (i 1).val := by
  have h : (i 1).val < 32 := (i 1).isLt
  rw [BitVec.toNat_ofNat]; omega

/-! Where the query block's own part reads and writes. -/

theorem off33 (i : grid0.Coords) : k0_off33 i = ![0, (i 1).val, 0, 0] := (show _ = ![0, (BitVec.ofNat 32 (i 1).val).toNat, 0, 0] from rfl).trans (by rw [word])
theorem off37 (i : grid0.Coords) : k0_off37 i = ![0, 0, (i 1).val, 0, 0] := (show _ = ![0, 0, (BitVec.ofNat 32 (i 1).val).toNat, 0, 0] from rfl).trans (by rw [word])
theorem off41 (i : grid0.Coords) : k0_off41 i = ![0, (i 1).val, 0, 0] := (show _ = ![0, (BitVec.ofNat 32 (i 1).val).toNat, 0, 0] from rfl).trans (by rw [word])
theorem off45 (i : grid0.Coords) : k0_off45 i = ![(i 1).val, 64 * 0, 0] := (show _ = ![(BitVec.ofNat 32 (i 1).val).toNat, 64 * 0, 0] from rfl).trans (by rw [word])

theorem off34 (i : grid0.Coords) : k0_off34 i = ![1, (i 1).val, 0, 0] := (show _ = ![1, (BitVec.ofNat 32 (i 1).val).toNat, 0, 0] from rfl).trans (by rw [word])
theorem off38 (i : grid0.Coords) : k0_off38 i = ![1, 0, (i 1).val, 0, 0] := (show _ = ![1, 0, (BitVec.ofNat 32 (i 1).val).toNat, 0, 0] from rfl).trans (by rw [word])
theorem off42 (i : grid0.Coords) : k0_off42 i = ![1, (i 1).val, 0, 0] := (show _ = ![1, (BitVec.ofNat 32 (i 1).val).toNat, 0, 0] from rfl).trans (by rw [word])
theorem off46 (i : grid0.Coords) : k0_off46 i = ![(i 1).val, 64 * 1, 0] := (show _ = ![(BitVec.ofNat 32 (i 1).val).toNat, 64 * 1, 0] from rfl).trans (by rw [word])

theorem off35 (i : grid0.Coords) : k0_off35 i = ![2, (i 1).val, 0, 0] := (show _ = ![2, (BitVec.ofNat 32 (i 1).val).toNat, 0, 0] from rfl).trans (by rw [word])
theorem off39 (i : grid0.Coords) : k0_off39 i = ![2, 0, (i 1).val, 0, 0] := (show _ = ![2, 0, (BitVec.ofNat 32 (i 1).val).toNat, 0, 0] from rfl).trans (by rw [word])
theorem off43 (i : grid0.Coords) : k0_off43 i = ![2, (i 1).val, 0, 0] := (show _ = ![2, (BitVec.ofNat 32 (i 1).val).toNat, 0, 0] from rfl).trans (by rw [word])
theorem off47 (i : grid0.Coords) : k0_off47 i = ![(i 1).val, 64 * 2, 0] := (show _ = ![(BitVec.ofNat 32 (i 1).val).toNat, 64 * 2, 0] from rfl).trans (by rw [word])

theorem off36 (i : grid0.Coords) : k0_off36 i = ![3, (i 1).val, 0, 0] := (show _ = ![3, (BitVec.ofNat 32 (i 1).val).toNat, 0, 0] from rfl).trans (by rw [word])
theorem off40 (i : grid0.Coords) : k0_off40 i = ![3, 0, (i 1).val, 0, 0] := (show _ = ![3, 0, (BitVec.ofNat 32 (i 1).val).toNat, 0, 0] from rfl).trans (by rw [word])
theorem off44 (i : grid0.Coords) : k0_off44 i = ![3, (i 1).val, 0, 0] := (show _ = ![3, (BitVec.ofNat 32 (i 1).val).toNat, 0, 0] from rfl).trans (by rw [word])
theorem off48 (i : grid0.Coords) : k0_off48 i = ![(i 1).val, 64 * 3, 0] := (show _ = ![(BitVec.ofNat 32 (i 1).val).toNat, 64 * 3, 0] from rfl).trans (by rw [word])

/-! ## What each run leaves -/

section
variable (c : Dev nD) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32) (v53 : BitVec 32) (G12 : BufTy.Contents (Elt F) a12.view.ty) (G13 : BufTy.Contents (Elt F) a13.view.ty)

/-- The first loop's last state, -/
def st1 := (st_k0_t1 Variants.none c none i a2 h2 a3 h3 a4 h4 a5 h5 a6 h6 a7 h7 a8 h8 a9 h9 a10 h10 a11 h11 a12 h12 a13 h13 (BitVec.ofNat 32 (i 1).val) (qs x0 0) (qs x0 1) (qs x0 2) (qs x0 3) (ws x4 0) (ws x4 1) (colb x4 2) (colb x4 3) v53 (chk i v53) (start (BitVec.ofNat 32 (i 1).val) v53) (h3.unread x1) (h4.unread x2) (h5.unread x3) (h7.unread x5) G12 G13 carry0 (k0_t1_loop i v53).trips)

/-- and the second loop's, which has no trips. -/
def st2 (H12 : BufTy.Contents (Elt F) a12.view.ty) (H13 : BufTy.Contents (Elt F) a13.view.ty) := st_k0_t2 Variants.none c none i a2 h2 a3 h3 a4 h4 a5 h5 a6 h6 a7 h7 a8 h8 a9 h9 a10 h10 a11 h11 a12 h12 a13 h13 (BitVec.ofNat 32 (i 1).val) (qs x0 0) (qs x0 1) (qs x0 2) (qs x0 3) (ws x4 0) (ws x4 1) (k0_pay111 (colb x4 2)) (k0_pay112 (colb x4 3)) k0_pay113 k0_pay114 v53 (chk i v53) (Scalar.addi (start (BitVec.ofNat 32 (i 1).val) v53) (Scalar.muli (Scalar.divsi (Scalar.subi (BitVec.ofNat 32 (i 1).val) (start (BitVec.ofNat 32 (i 1).val) v53)) 1#32) 1#32))
  (st1 c i a2 h2 a3 h3 a4 h4 a5 h5 a6 h6 a7 h7 a8 h8 a9 h9 a10 h10 a11 h11 a12 h12 a13 h13 x0 x1 x2 x3 x4 x5 v53 G12 G13).1.1 (st1 c i a2 h2 a3 h3 a4 h4 a5 h5 a6 h6 a7 h7 a8 h8 a9 h9 a10 h10 a11 h11 a12 h12 a13 h13 x0 x1 x2 x3 x4 x5 v53 G12 G13).1.2.1 (st1 c i a2 h2 a3 h3 a4 h4 a5 h5 a6 h6 a7 h7 a8 h8 a9 h9 a10 h10 a11 h11 a12 h12 a13 h13 x0 x1 x2 x3 x4 x5 v53 G12 G13).1.2.2.1 (st1 c i a2 h2 a3 h3 a4 h4 a5 h5 a6 h6 a7 h7 a8 h8 a9 h9 a10 h10 a11 h11 a12 h12 a13 h13 x0 x1 x2 x3 x4 x5 v53 G12 G13).1.2.2.2.1 (st1 c i a2 h2 a3 h3 a4 h4 a5 h5 a6 h6 a7 h7 a8 h8 a9 h9 a10 h10 a11 h11 a12 h12 a13 h13 x0 x1 x2 x3 x4 x5 v53 G12 G13).1.2.2.2.2.1 (st1 c i a2 h2 a3 h3 a4 h4 a5 h5 a6 h6 a7 h7 a8 h8 a9 h9 a10 h10 a11 h11 a12 h12 a13 h13 x0 x1 x2 x3 x4 x5 v53 G12 G13).1.2.2.2.2.2.1 (st1 c i a2 h2 a3 h3 a4 h4 a5 h5 a6 h6 a7 h7 a8 h8 a9 h9 a10 h10 a11 h11 a12 h12 a13 h13 x0 x1 x2 x3 x4 x5 v53 G12 G13).1.2.2.2.2.2.2.1 (st1 c i a2 h2 a3 h3 a4 h4 a5 h5 a6 h6 a7 h7 a8 h8 a9 h9 a10 h10 a11 h11 a12 h12 a13 h13 x0 x1 x2 x3 x4 x5 v53 G12 G13).1.2.2.2.2.2.2.2
  (h3.unread x1) (h4.unread x2) (h5.unread x3) (h7.unread x5)
  H12 H13
  ((st1 c i a2 h2 a3 h3 a4 h4 a5 h5 a6 h6 a7 h7 a8 h8 a9 h9 a10 h10 a11 h11 a12 h12 a13 h13 x0 x1 x2 x3 x4 x5 v53 G12 G13).1.1, (st1 c i a2 h2 a3 h3 a4 h4 a5 h5 a6 h6 a7 h7 a8 h8 a9 h9 a10 h10 a11 h11 a12 h12 a13 h13 x0 x1 x2 x3 x4 x5 v53 G12 G13).1.2.1, (st1 c i a2 h2 a3 h3 a4 h4 a5 h5 a6 h6 a7 h7 a8 h8 a9 h9 a10 h10 a11 h11 a12 h12 a13 h13 x0 x1 x2 x3 x4 x5 v53 G12 G13).1.2.2.1, (st1 c i a2 h2 a3 h3 a4 h4 a5 h5 a6 h6 a7 h7 a8 h8 a9 h9 a10 h10 a11 h11 a12 h12 a13 h13 x0 x1 x2 x3 x4 x5 v53 G12 G13).1.2.2.2.1, (st1 c i a2 h2 a3 h3 a4 h4 a5 h5 a6 h6 a7 h7 a8 h8 a9 h9 a10 h10 a11 h11 a12 h12 a13 h13 x0 x1 x2 x3 x4 x5 v53 G12 G13).1.2.2.2.2.1, (st1 c i a2 h2 a3 h3 a4 h4 a5 h5 a6 h6 a7 h7 a8 h8 a9 h9 a10 h10 a11 h11 a12 h12 a13 h13 x0 x1 x2 x3 x4 x5 v53 G12 G13).1.2.2.2.2.2.1, (st1 c i a2 h2 a3 h3 a4 h4 a5 h5 a6 h6 a7 h7 a8 h8 a9 h9 a10 h10 a11 h11 a12 h12 a13 h13 x0 x1 x2 x3 x4 x5 v53 G12 G13).1.2.2.2.2.2.2.1, (st1 c i a2 h2 a3 h3 a4 h4 a5 h5 a6 h6 a7 h7 a8 h8 a9 h9 a10 h10 a11 h11 a12 h12 a13 h13 x0 x1 x2 x3 x4 x5 v53 G12 G13).1.2.2.2.2.2.2.2) (k0_t2_loop i v53).trips

end

end Cert.SbKernelIdeal

end
-- ==== Proof.SbBlock.lean ====
module

public import proofs.«01_k».proof.Proof.SbRun
public import proofs.«01_k».proof.Proof.Gate
public import proofs.«01_k».proof.Proof.Finite

/-! One head's operations on a block of keys, at real data: each is the real formula, the two-part products
of a sum collapsing to one product because the low part of a real is zero. -/

@[expose] public section

set_option maxRecDepth 16384

noncomputable section

namespace Cert.Sb

open Idealize.ShloMosaic
open scoped BigOperators

/-- The logarithm of the sigmoid. -/
def lb (x : ℝ) : ℝ := min x 0 - Real.log (1 + Real.exp (-|x|))

/-- The weights of a block of keys: `M` says which keys a query sees, `Z` is the scores, `R` what the later blocks sum to. -/
def aB (M : Fin 256 → Fin 256 → Prop) [∀ r c, Decidable (M r c)] (Z : Fin 256 → Fin 256 → ℝ) (R : Fin 256 → ℝ) (r c : Fin 256) : ℝ :=
  if M r c then Real.exp (lb (Z r c) + (R c + ∑ x, if r < x then (if M x c then lb (Z x c) - Z x c else 0) else 0)) else 0

/-- The gradients of the scores: `E` is the weights times their gradients, `C` what `E` sums to over the earlier blocks. -/
def dB (M : Fin 256 → Fin 256 → Prop) [∀ r c, Decidable (M r c)] (Z E : Fin 256 → Fin 256 → ℝ) (C : Fin 256 → ℝ) (r c : Fin 256) : ℝ :=
  if M r c then E r c * (1 - Real.exp (lb (Z r c))) - (C c + ∑ x, if x < r then E x c else 0) * Real.exp (lb (Z r c)) else 0

/-- A comparison of two small numbers as a float. -/
theorem mask_gt (x r : Fin 256) : (FloatOps.sitofp .f32 (BitVec.setWidth 32 (IntOp.cmpi CmpIPredicate.sgt (BitVec.ofNat 32 ↑x) (BitVec.ofNat 32 ↑r))) : Ideal .f32)
    = ((if r < x then 1 else 0 : ℝ) : EReal) := by
  have e : ∀ y : Fin 256, (BitVec.ofNat 32 y.val).toInt = y.val := fun y => by
    rw [BitVec.toInt_eq_toNat_of_lt] <;> rw [BitVec.toNat_ofNat] <;> omega
  have h : IntOp.cmpi CmpIPredicate.sgt (BitVec.ofNat 32 x.val) (BitVec.ofNat 32 r.val) = if r < x then 1#1 else 0#1 := by
    simp only [IntOp.cmpi, BitVec.slt_eq_decide, e, Nat.cast_lt, Fin.val_fin_lt]
    by_cases hh : r < x <;> simp [hh]
  rw [h]
  by_cases hh : r < x <;> simp only [hh, if_true, if_false]
  · show (((BitVec.setWidth 32 1#1).toInt : ℝ) : EReal) = _
    norm_num
  · show (((BitVec.setWidth 32 0#1).toInt : ℝ) : EReal) = _
    norm_num

theorem mask_lt (x r : Fin 256) : (FloatOps.sitofp .f32 (BitVec.setWidth 32 (IntOp.cmpi CmpIPredicate.slt (BitVec.ofNat 32 ↑x) (BitVec.ofNat 32 ↑r))) : Ideal .f32)
    = ((if x < r then 1 else 0 : ℝ) : EReal) :=
  mask_gt r x

/-- The comparison as a bit. -/
theorem bit_lt (x r : Fin 256) : (IntOp.cmpi CmpIPredicate.slt (BitVec.ofNat 32 ↑x) (BitVec.ofNat 32 ↑r) = 1#1) ↔ x < r := by
  have e : ∀ y : Fin 256, (BitVec.ofNat 32 y.val).toInt = y.val := fun y => by
    rw [BitVec.toInt_eq_toNat_of_lt] <;> rw [BitVec.toNat_ofNat] <;> omega
  simp only [IntOp.cmpi, BitVec.slt_eq_decide, e, Nat.cast_lt, Fin.val_fin_lt]
  by_cases hh : x < r <;> simp [hh]

theorem select_lt {α : Type} (x r : Fin 256) (a b : α) :
    Scalar.select (IntOp.cmpi CmpIPredicate.slt (BitVec.ofNat 32 ↑x) (BitVec.ofNat 32 ↑r)) a b = if x < r then a else b := by
  show (if IntOp.cmpi CmpIPredicate.slt (BitVec.ofNat 32 ↑x) (BitVec.ofNat 32 ↑r) = 1#1 then a else b) = _
  simp only [bit_lt]

theorem lb_real (x : ℝ) : min (x : EReal) 0 - Ideal.log (1 + Ideal.exp (0 - (FloatOps.absf (x : Ideal .f32) : Ideal .f32))) = (lb x : EReal) := by
  have h : (FloatOps.absf (x : Ideal .f32) : Ideal .f32) = ((|x| : ℝ) : EReal) := by
    show max (x : EReal) (-(x : EReal)) = _
    rw [← EReal.coe_neg, ← EReal.coe_strictMono.monotone.map_max]; rfl
  have hp : ¬ (1 + Real.exp (-|x|)) ≤ 0 := not_le.mpr (by positivity)
  rw [h, ← EReal.coe_zero, ← EReal.coe_sub, Cert.Gate.exp_coe, ← EReal.coe_one, ← EReal.coe_add, ← EReal.coe_strictMono.monotone.map_min]
  have hl : Ideal.log ((1 + Real.exp (0 - |x|) : ℝ) : EReal) = (Real.log (1 + Real.exp (0 - |x|)) : EReal) := by
    rw [zero_sub]
    show (if (1 + Real.exp (-|x|)) ≤ 0 then (⊥ : EReal) else _) = _
    rw [if_neg hp]
  rw [hl, ← EReal.coe_sub, zero_sub]; rfl

/-- A product with a mask of ones in two parts, the second of zeros, is a masked sum. -/
theorem split_sum (p : Fin 256 → Prop) [DecidablePred p] (f : Fin 256 → ℝ) :
    (∑ x, ((if p x then 1 else 0 : ℝ) : EReal) * (f x : EReal)) + ∑ x, ((if p x then 1 else 0 : ℝ) : EReal) * ((f x : EReal) - (f x : EReal))
      = ((∑ x, if p x then f x else 0 : ℝ) : EReal) := by
  simp only [← EReal.coe_sub, sub_self, ← EReal.coe_mul, mul_zero, ← Finite.coe_sum, Finset.sum_const_zero, ← EReal.coe_add, add_zero, ite_mul, one_mul, zero_mul]

end Cert.Sb

namespace Cert.SbKernelIdeal

open Idealize.ShloMosaic Idealize.ShloMosaic.TcCoe
open Gen
open Cert.Sb
open scoped BigOperators

section
variable (q w : FVec Ideal S64x256 .bf16) (kb vb : Vec Ideal S1x1x256x64 .bf16) (rs : Vec Ideal S1x1x1x8x256 .f32)
  {K V : Fin 256 → Fin 64 → ℝ} {Q W : Fin 64 → Fin 256 → ℝ} {R : Fin 256 → ℝ}
  (hq : ∀ d c, q (ix2 d c) = (Q d c : EReal)) (hw : ∀ d c, w (ix2 d c) = (W d c : EReal))
  (hk : ∀ r d, kb (ix4 0 0 r d) = (K r d : EReal)) (hv : ∀ r d, vb (ix4 0 0 r d) = (V r d : EReal))
  (hr : ∀ c, rs (ix5 0 0 0 0 c) = (R c : EReal))

include hq hk in
theorem score_real (r c : Fin 256) : k0_pay5 (F := Ideal) q kb (ix2 r c) = ((∑ d, K r d * Q d c : ℝ) : EReal) := by
  pointwise [k0_pay5]
  simp only [hq, hk, ← EReal.coe_mul, ← Finite.coe_sum]

theorem lb_at (z : FVec Ideal S256x256 .f32) {Z : Fin 256 → Fin 256 → ℝ} (hz : ∀ r c, z (ix2 r c) = (Z r c : EReal)) (r c : Fin 256) :
    k0_pay13 (F := Ideal) z (ix2 r c) = (lb (Z r c) : EReal) := by
  pointwise [k0_pay13]
  rw [hz, lb_real]

theorem lm_at (z : FVec Ideal S256x256 .f32) {Z : Fin 256 → Fin 256 → ℝ} (hz : ∀ r c, z (ix2 r c) = (Z r c : EReal)) (r c : Fin 256) :
    k0_pay14 (F := Ideal) z (ix2 r c) = ((lb (Z r c) - Z r c : ℝ) : EReal) := by
  have h : k0_pay14 (F := Ideal) z (ix2 r c) = k0_pay13 (F := Ideal) z (ix2 r c) - z (ix2 r c) := rfl
  rw [h, lb_at z hz, hz, ← EReal.coe_sub]

include hq hk hr in
theorem att_real (r c : Fin 256) : att (F := Ideal) q kb rs (ix2 r c) = (aB (fun _ _ => True) (fun r c => ∑ d, K r d * Q d c) R r c : EReal) := by
  have hz := score_real q kb hq hk
  have h1 := lb_at _ hz
  have h2 := lm_at _ hz
  unfold att
  generalize k0_pay13 (F := Ideal) (k0_pay5 q kb) = l1 at h1
  generalize k0_pay14 (F := Ideal) (k0_pay5 q kb) = l2 at h2
  pointwise [k0_pay22, k0_pay113]
  simp only [mask_gt, h1, h2, hr]
  rw [split_sum, ← EReal.coe_add, ← EReal.coe_add, Cert.Gate.exp_coe]
  simp only [aB, if_true]

include hw hv in
theorem da_real (r c : Fin 256) : k0_pay5 (F := Ideal) w vb (ix2 r c) = ((∑ d, V r d * W d c : ℝ) : EReal) := score_real w vb hw hv r c

theorem score_m : k0_pay137 (F := Ideal) q kb = k0_pay5 q kb := rfl
theorem da_m : k0_pay141 (F := Ideal) w vb = k0_pay5 w vb := rfl
theorem lb_m (z : FVec Ideal S256x256 .f32) : k0_pay147 (F := Ideal) z = k0_pay13 z := rfl

include hq hk hr in
theorem attm_real (r c : Fin 256) : attm (F := Ideal) q kb rs (ix2 r c) = (aB (fun r c => r < c) (fun r c => ∑ d, K r d * Q d c) R r c : EReal) := by
  have hz := score_real q kb hq hk
  have h1 := lb_at _ hz
  unfold attm
  rw [score_m, lb_m]
  generalize k0_pay5 (F := Ideal) q kb = z at h1 hz
  have h2 : ∀ r c, k0_pay148 (F := Ideal) k0_pay115 z (ix2 r c) = ((if r < c then lb (∑ d, K r d * Q d c) - (∑ d, K r d * Q d c) else 0 : ℝ) : EReal) := by
    intro r c
    pointwise [k0_pay148, k0_pay115]
    rw [lb_m, h1, hz, select_lt, ← EReal.coe_sub]
    split <;> rfl
  generalize k0_pay13 (F := Ideal) z = l1 at h1
  generalize k0_pay148 (F := Ideal) k0_pay115 z = l2 at h2
  pointwise [k0_pay159, k0_pay154, k0_pay115, k0_pay113]
  simp only [mask_gt, h1, h2, hr]
  rw [split_sum, ← EReal.coe_add, ← EReal.coe_add, Cert.Gate.exp_coe, select_lt]
  simp only [aB]
  split <;> rfl

include hq hw hk hv hr in
theorem et_real (r c : Fin 256) : et (F := Ideal) q w kb vb rs (ix2 r c)
    = (((∑ d, V r d * W d c) * aB (fun _ _ => True) (fun r c => ∑ d, K r d * Q d c) R r c : ℝ) : EReal) := by
  have h : et (F := Ideal) q w kb vb rs (ix2 r c) = k0_pay5 w vb (ix2 r c) * att q kb rs (ix2 r c) := rfl
  rw [h, da_real w vb hw hv, att_real q kb rs hq hk hr, ← EReal.coe_mul]

include hq hw hk hv hr in
theorem etm_real (r c : Fin 256) : etm (F := Ideal) q w kb vb rs (ix2 r c)
    = (((∑ d, V r d * W d c) * aB (fun r c => r < c) (fun r c => ∑ d, K r d * Q d c) R r c : ℝ) : EReal) := by
  have h : etm (F := Ideal) q w kb vb rs (ix2 r c) = k0_pay5 w vb (ix2 r c) * attm q kb rs (ix2 r c) := rfl
  rw [h, da_real w vb hw hv, attm_real q kb rs hq hk hr, ← EReal.coe_mul]

/-- What the earlier keys of a block sum to. -/
theorem cum_real (e : FVec Ideal S256x256 .f32) {E : Fin 256 → Fin 256 → ℝ} (he : ∀ r c, e (ix2 r c) = (E r c : EReal)) (r c : Fin 256) :
    k0_pay171 (F := Ideal) k0_pay114 e (ix2 r c) = ((∑ x, if x < r then E x c else 0 : ℝ) : EReal) := by
  pointwise [k0_pay171, k0_pay114]
  simp only [mask_lt, he]
  exact split_sum _ _

theorem d_real (M : Fin 256 → Fin 256 → Prop) [∀ r c, Decidable (M r c)] {Z E : Fin 256 → Fin 256 → ℝ} {C : Fin 256 → ℝ} (r c : Fin 256) (hM : M r c) :
    ((E r c : ℝ) : EReal) * (1 - Ideal.exp (lb (Z r c) : EReal)) - ((C c : EReal) + ((∑ x, if x < r then E x c else 0 : ℝ) : EReal)) * Ideal.exp (lb (Z r c) : EReal) = (dB M Z E C r c : EReal) := by
  rw [Cert.Gate.exp_coe, ← EReal.coe_one, ← EReal.coe_sub, ← EReal.coe_mul, ← EReal.coe_add, ← EReal.coe_mul, ← EReal.coe_sub, dB, if_pos hM]

variable (s : FVec Ideal S1x256 .f32) {C : Fin 256 → ℝ} (hs : ∀ c, s (ix2 0 c) = (C c : EReal))

include hq hw hk hv hr hs in
theorem dz_real (r c : Fin 256) : dz (F := Ideal) s q w kb vb rs (ix2 r c)
    = (dB (fun _ _ => True) (fun r c => ∑ d, K r d * Q d c) (fun r c => (∑ d, V r d * W d c) * aB (fun _ _ => True) (fun r c => ∑ d, K r d * Q d c) R r c) C r c : EReal) := by
  have h1 := lb_at _ (score_real q kb hq hk)
  have he := et_real q w kb vb rs hq hw hk hv hr
  have h : k0_pay33 (F := Ideal) k0_pay114 (k0_pay9 w vb) (att q kb rs) = k0_pay171 k0_pay114 (et q w kb vb rs) := rfl
  have hc := cum_real _ he
  unfold dz
  rw [h]
  generalize k0_pay171 (F := Ideal) k0_pay114 (et q w kb vb rs) = cc at hc
  generalize et (F := Ideal) q w kb vb rs = e at he
  generalize k0_pay13 (F := Ideal) (k0_pay5 q kb) = l1 at h1
  pointwise [k0_pay36]
  rw [h1, he, hc, hs]
  exact d_real (fun _ _ => True) (Z := fun r c => ∑ d, K r d * Q d c) (E := fun r c => (∑ d, V r d * W d c) * aB (fun _ _ => True) (fun r c => ∑ d, K r d * Q d c) R r c) r c trivial

include hq hw hk hv hr hs in
theorem dzm_real (r c : Fin 256) : dzm (F := Ideal) s q w kb vb rs (ix2 r c)
    = (dB (fun r c => r < c) (fun r c => ∑ d, K r d * Q d c) (fun r c => (∑ d, V r d * W d c) * aB (fun r c => r < c) (fun r c => ∑ d, K r d * Q d c) R r c) C r c : EReal) := by
  have h1 := lb_at _ (score_real q kb hq hk)
  have he := etm_real q w kb vb rs hq hw hk hv hr
  have hc := cum_real _ he
  unfold dzm
  rw [score_m, lb_m]
  generalize k0_pay171 (F := Ideal) k0_pay114 (etm q w kb vb rs) = cc at hc
  generalize etm (F := Ideal) q w kb vb rs = e at he
  generalize k0_pay13 (F := Ideal) (k0_pay5 q kb) = l1 at h1
  pointwise [k0_pay177, k0_pay115]
  rw [h1, he, hc, hs, select_lt]
  split
  · next h => exact d_real (fun r c => r < c) (Z := fun r c => ∑ d, K r d * Q d c) (E := fun r c => (∑ d, V r d * W d c) * aB (fun r c => r < c) (fun r c => ∑ d, K r d * Q d c) R r c) r c h
  · next h => rw [dB, if_neg h]; rfl

include hs in
theorem carry_real (e : FVec Ideal S256x256 .f32) {E : Fin 256 → Fin 256 → ℝ} (he : ∀ r c, e (ix2 r c) = (E r c : EReal)) (c : Fin 256) :
    k0_pay127 (F := Ideal) s e (ix2 0 c) = ((C c + ∑ x, E x c : ℝ) : EReal) := by
  pointwise [k0_pay127]
  simp only [hs, he, ← Finite.coe_sum, ← EReal.coe_add]
end

theorem dqn_real (acc : FVec Ideal S64x256 .f32) (kT : Vec Ideal S1x1x64x256 .bf16) (d : FVec Ideal S256x256 .bf16)
    {A : Fin 64 → Fin 256 → ℝ} {K : Fin 256 → Fin 64 → ℝ} {D : Fin 256 → Fin 256 → ℝ}
    (ha : ∀ d c, acc (ix2 d c) = (A d c : EReal)) (hk : ∀ d r, kT (ix4 0 0 d r) = (K r d : EReal)) (hd : ∀ r c, d (ix2 r c) = (D r c : EReal))
    (y : Fin 64) (c : Fin 256) : dqn acc kT d (ix2 y c) = ((A y c + ∑ x, K x y * D x c : ℝ) : EReal) := by
  pointwise [dqn]
  simp only [ha, hk, hd, ← EReal.coe_mul, ← Finite.coe_sum, ← EReal.coe_add]

theorem nt_real (x : FVec Ideal S64x256 .bf16) (y : FVec Ideal S256x256 .bf16) {Q : Fin 64 → Fin 256 → ℝ} {D : Fin 256 → Fin 256 → ℝ}
    (hx : ∀ d c, x (ix2 d c) = (Q d c : EReal)) (hy : ∀ r c, y (ix2 r c) = (D r c : EReal)) (d : Fin 64) (r : Fin 256) :
    nt x y (ix2 d r) = ((∑ c, Q d c * D r c : ℝ) : EReal) := by
  pointwise [nt]
  simp only [hx, hy, ← EReal.coe_mul, ← Finite.coe_sum]

end Cert.SbKernelIdeal

end
-- ==== Proof.SbReal.lean ====
module

public import proofs.«01_k».proof.Proof.SbBlock

/-! The gradient of a stick-breaking head over the reals, and its sums taken block by block. -/

@[expose] public section

noncomputable section

namespace Cert.Sb

open scoped BigOperators

/-! ### Sums over blocks of 256 -/

theorem sum_lt (f : ℕ → ℝ) (r : Fin 256) : (∑ x : Fin 256, if x < r then f x.val else 0) = ∑ x ∈ Finset.range r.val, f x := by
  have h : (∑ x : Fin 256, if x < r then f x.val else 0) = ∑ x : Fin 256, (fun x : ℕ => if x < r.val then f x else 0) x.val :=
    Finset.sum_congr rfl fun x _ => by simp only [Fin.lt_def]
  rw [h, Fin.sum_univ_eq_sum_range (fun x : ℕ => if x < r.val then f x else 0) 256, ← Finset.sum_filter]
  refine Finset.sum_congr (Finset.ext fun x => ?_) fun _ _ => rfl
  have := r.isLt
  simp only [Finset.mem_filter, Finset.mem_range]; omega

theorem sum_gt (f : ℕ → ℝ) (r : Fin 256) : (∑ x : Fin 256, if r < x then f x.val else 0) = ∑ x ∈ Finset.range 256, f x - ∑ x ∈ Finset.range (r.val + 1), f x := by
  have h : (∑ x : Fin 256, if r < x then f x.val else 0) = ∑ x : Fin 256, (fun x : ℕ => f x - if x < r.val + 1 then f x else 0) x.val :=
    Finset.sum_congr rfl fun x _ => by
      by_cases hx : r < x
      · have : ¬ x.val < r.val + 1 := by have := Fin.lt_def.mp hx; omega
        simp only [hx, this, if_true, if_false, sub_zero]
      · have : x.val < r.val + 1 := by have := fun h => hx (Fin.lt_def.mpr h); omega
        simp only [hx, this, if_true, if_false, sub_self]
  rw [h, Fin.sum_univ_eq_sum_range (fun x : ℕ => f x - if x < r.val + 1 then f x else 0) 256, Finset.sum_sub_distrib, ← Finset.sum_filter]
  congr 1
  refine Finset.sum_congr (Finset.ext fun x => ?_) fun _ _ => rfl
  have := r.isLt
  simp only [Finset.mem_filter, Finset.mem_range]; omega

/-- The next block of a sum. -/
theorem sum_block (f : ℕ → ℝ) (n : ℕ) : ∑ y ∈ Finset.range (256 * (n + 1)), f y = ∑ y ∈ Finset.range (256 * n), f y + ∑ x : Fin 256, f (256 * n + x.val) := by
  rw [Nat.mul_add, Nat.mul_one, Finset.sum_range_add, Fin.sum_univ_eq_sum_range (fun x => f (256 * n + x)) 256]

/-! ### One head -/

section
variable (k q v w : ℕ → Fin 64 → ℝ)

/-- The score of key `x` at query `y`. -/
def sc (x y : ℕ) : ℝ := ∑ d, k x d * (q y d * (1 / 8))
/-- The logarithm of what the key leaves to the earlier ones. -/
def lm (x y : ℕ) : ℝ := if x < y then lb (sc k q x y) - sc k q x y else 0
/-- What the keys from `n` on leave. -/
def rest (n y : ℕ) : ℝ := ∑ x ∈ Finset.range 8192, lm k q x y - ∑ x ∈ Finset.range n, lm k q x y
/-- The weight of the key. -/
def wt (x y : ℕ) : ℝ := if x < y then Real.exp (lb (sc k q x y) + rest k q (x + 1) y) else 0
/-- The weight's gradient times it. -/
def et (x y : ℕ) : ℝ := (∑ d, v x d * w y d) * wt k q x y
/-- The score's gradient. -/
def dsc (x y : ℕ) : ℝ := if x < y then et k q v w x y * (1 - Real.exp (lb (sc k q x y))) - (∑ x' ∈ Finset.range x, et k q v w x' y) * Real.exp (lb (sc k q x y)) else 0
/-- The part of the query's gradient from the keys before `n`, unscaled. -/
def dqP (n y : ℕ) (d : Fin 64) : ℝ := ∑ x ∈ Finset.range n, k x d * dsc k q v w x y
/-- The part of the key's gradient from the queries before `n`. -/
def dkP (n x : ℕ) (d : Fin 64) : ℝ := ∑ y ∈ Finset.range n, (q y d * (1 / 8)) * dsc k q v w x y
/-- The part of the value's gradient from the queries before `n`. -/
def dvP (n x : ℕ) (d : Fin 64) : ℝ := ∑ y ∈ Finset.range n, w y d * wt k q x y

theorem wt_zero {x y : ℕ} (h : y ≤ x) : wt k q x y = 0 := if_neg (by omega)
theorem dsc_zero {x y : ℕ} (h : y ≤ x) : dsc k q v w x y = 0 := if_neg (by omega)

variable (M : Fin 256 → Fin 256 → Prop) [∀ r c, Decidable (M r c)] (n i : ℕ) (hM : ∀ r c : Fin 256, M r c ↔ 256 * n + r.val < 256 * i + c.val)
include hM

theorem wt_block (r c : Fin 256) : aB M (fun r c => ∑ d, k (256 * n + r.val) d * (q (256 * i + c.val) d * (1 / 8))) (fun c => rest k q (256 * (n + 1)) (256 * i + c.val)) r c
    = wt k q (256 * n + r.val) (256 * i + c.val) := by
  have h : (∑ x : Fin 256, if r < x then (if M x c then lb (sc k q (256 * n + x.val) (256 * i + c.val)) - sc k q (256 * n + x.val) (256 * i + c.val) else 0) else 0)
      = ∑ x ∈ Finset.range 256, lm k q (256 * n + x) (256 * i + c.val) - ∑ x ∈ Finset.range (r.val + 1), lm k q (256 * n + x) (256 * i + c.val) := by
    refine Eq.trans ?_ (sum_gt (fun x => lm k q (256 * n + x) (256 * i + c.val)) r)
    refine Finset.sum_congr rfl fun x _ => ?_
    simp only [lm, hM]
  rw [aB]
  change (if M r c then Real.exp (lb (sc k q (256 * n + r.val) (256 * i + c.val)) + (_ + ∑ x : Fin 256, if r < x then (if M x c then lb (sc k q (256 * n + x.val) (256 * i + c.val)) - sc k q (256 * n + x.val) (256 * i + c.val) else 0) else 0)) else 0) = _
  rw [h, wt, rest, rest, sum_block]
  simp only [hM, Nat.add_assoc (256 * n) r.val 1]
  rw [Finset.sum_range_add (fun x => lm k q x (256 * i + c.val)) (256 * n) (r.val + 1), Fin.sum_univ_eq_sum_range (fun x => lm k q (256 * n + x) (256 * i + c.val)) 256]
  have e : ∀ a b c d : ℝ, a - (b + c) + (c - d) = a - (b + d) := by intros; ring
  rw [e]

theorem dsc_block (r c : Fin 256) (C : Fin 256 → ℝ) (hC : C c = ∑ x ∈ Finset.range (256 * n), et k q v w x (256 * i + c.val)) :
    dB M (fun r c => ∑ d, k (256 * n + r.val) d * (q (256 * i + c.val) d * (1 / 8)))
      (fun r c => (∑ d, v (256 * n + r.val) d * w (256 * i + c.val) d) * aB M (fun r c => ∑ d, k (256 * n + r.val) d * (q (256 * i + c.val) d * (1 / 8))) (fun c => rest k q (256 * (n + 1)) (256 * i + c.val)) r c) C r c
    = dsc k q v w (256 * n + r.val) (256 * i + c.val) := by
  simp only [dB, wt_block k q M n i hM]
  change (if M r c then et k q v w (256 * n + r.val) (256 * i + c.val) * (1 - Real.exp (lb (sc k q (256 * n + r.val) (256 * i + c.val)))) - (C c + ∑ x : Fin 256, if x < r then et k q v w (256 * n + x.val) (256 * i + c.val) else 0) * Real.exp (lb (sc k q (256 * n + r.val) (256 * i + c.val))) else 0) = _
  rw [hC, sum_lt (fun x => et k q v w (256 * n + x) (256 * i + c.val)) r, dsc, Finset.sum_range_add]
  simp only [hM]
end

end Cert.Sb

end
-- ==== Proof.SbLeftA.lean ====
module

public import proofs.«01_k».proof.Proof.SbRun

/-! What the stick-breaking backward body leaves at the first query block of a head group, in the functions of a key block. -/

@[expose] public section

set_option maxRecDepth 16384

noncomputable section

namespace Cert.SbKernelIdeal

open Idealize.ShloMosaic Idealize.ShloMosaic.TcCoe Idealize.ShloMosaic.Tactic
open Gen
open Cert.Sb

variable {F : FTy → Type} [FloatOps F]
variable (c : Dev nD) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32) (v53 : BitVec 32)

section
variable (hz : zeroHere i = 1#1) (hl : ¬ k0_cond2 i = 1#1)  (hv : v53 = Scalar.fptosi 32 (k0_pay116 (a8.view.readAt (Elt F) (Rect.unit (s := S1x1x8x128) ![0, 0, 0, 0] S1x1x8x128.size inb_S1x1x8x128_S1x1x8x128_0_0_0_0).toLoadRect (h8.unread x6))))
include hv

set_option maxHeartbeats 4000000 in
theorem dq_A_eq (f) : a9.view.read (Elt F) (a9.view.writes (Elt F) f (run_A c i a2 h2 a3 h3 a4 h4 a5 h5 a6 h6 a7 h7 a8 h8 a9 h9 a10 h10 a11 h11 a12 h12 a13 h13 hz hl x0 x1 x2 x3 x4 x5 x6).1)
    = k0_pay2 (dqn (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.2.1 (tb x2 0 (i 1).val (i 1).isLt) (dzm (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.1 (qs x0 0) (ws x4 0) (kb x1 0 (i 1).val (i 1).isLt) (kb x3 0 (i 1).val (i 1).isLt) (sb x5 0 (i 1).val (i 1).isLt))) (dqn (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.2.2.2.1 (tb x2 1 (i 1).val (i 1).isLt) (dzm (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.2.2.1 (qs x0 1) (ws x4 1) (kb x1 1 (i 1).val (i 1).isLt) (kb x3 1 (i 1).val (i 1).isLt) (sb x5 1 (i 1).val (i 1).isLt))) (dqn (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.2.2.2.2.2.1 (tb x2 2 (i 1).val (i 1).isLt) (dzm (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.2.2.2.2.1 (qs x0 2) (ws x4 2) (kb x1 2 (i 1).val (i 1).isLt) (kb x3 2 (i 1).val (i 1).isLt) (sb x5 2 (i 1).val (i 1).isLt))) (dqn (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.2.2.2.2.2.2.2 (tb x2 3 (i 1).val (i 1).isLt) (dzm (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.2.2.2.2.2.2.1 (qs x0 3) (ws x4 3) (kb x1 3 (i 1).val (i 1).isLt) (kb x3 3 (i 1).val (i 1).isLt) (sb x5 3 (i 1).val (i 1).isLt))) := by
  refine Eq.trans ?_ (View.read_writes_full a9.view f inb_S256x256_S256x256_0_0 _ [])
  subst hv
  unfold st2 st1 qs ws
  rw [← load_col a2 h2 x0 0 inb_S4x64x256_S1x64x256_0_0_0, ← load_col a2 h2 x0 1 inb_S4x64x256_S1x64x256_1_0_0, ← load_col a2 h2 x0 2 inb_S4x64x256_S1x64x256_2_0_0, ← load_col a2 h2 x0 3 inb_S4x64x256_S1x64x256_3_0_0, ← load_col a6 h6 x4 0 inb_S4x64x256_S1x64x256_0_0_0, ← load_col a6 h6 x4 1 inb_S4x64x256_S1x64x256_1_0_0, ← load_col a6 h6 x4 2 inb_S4x64x256_S1x64x256_2_0_0, ← load_col a6 h6 x4 3 inb_S4x64x256_S1x64x256_3_0_0, ← load_kb a3 h3 x1 0 _ (i 1).isLt (k0_off33 i) (k0_off33_inb i) (off33 i), ← load_kb a5 h5 x3 0 _ (i 1).isLt (k0_off33 i) (k0_off33_inb i) (off33 i), ← load_sb a7 h7 x5 0 _ (i 1).isLt (k0_off37 i) (k0_off37_inb i) (off37 i), ← load_tb a4 h4 x2 0 _ (i 1).isLt (k0_off41 i) (k0_off41_inb i) (off41 i), ← load_kb a3 h3 x1 1 _ (i 1).isLt (k0_off34 i) (k0_off34_inb i) (off34 i), ← load_kb a5 h5 x3 1 _ (i 1).isLt (k0_off34 i) (k0_off34_inb i) (off34 i), ← load_sb a7 h7 x5 1 _ (i 1).isLt (k0_off38 i) (k0_off38_inb i) (off38 i), ← load_tb a4 h4 x2 1 _ (i 1).isLt (k0_off42 i) (k0_off42_inb i) (off42 i), ← load_kb a3 h3 x1 2 _ (i 1).isLt (k0_off35 i) (k0_off35_inb i) (off35 i), ← load_kb a5 h5 x3 2 _ (i 1).isLt (k0_off35 i) (k0_off35_inb i) (off35 i), ← load_sb a7 h7 x5 2 _ (i 1).isLt (k0_off39 i) (k0_off39_inb i) (off39 i), ← load_tb a4 h4 x2 2 _ (i 1).isLt (k0_off43 i) (k0_off43_inb i) (off43 i), ← load_kb a3 h3 x1 3 _ (i 1).isLt (k0_off36 i) (k0_off36_inb i) (off36 i), ← load_kb a5 h5 x3 3 _ (i 1).isLt (k0_off36 i) (k0_off36_inb i) (off36 i), ← load_sb a7 h7 x5 3 _ (i 1).isLt (k0_off40 i) (k0_off40_inb i) (off40 i), ← load_tb a4 h4 x2 3 _ (i 1).isLt (k0_off44 i) (k0_off44_inb i) (off44 i)]
  unfold run_A
  rfl

set_option maxHeartbeats 4000000 in
theorem dk_A_eq : a12.view.read (Elt F) (a12.view.writes (Elt F) a12.view.junk (run_A c i a2 h2 a3 h3 a4 h4 a5 h5 a6 h6 a7 h7 a8 h8 a9 h9 a10 h10 a11 h11 a12 h12 a13 h13 hz hl x0 x1 x2 x3 x4 x5 x6).2.1)
    = addAll (a12.view.read (Elt F) (a12.view.writes (Elt F) a12.view.junk ((st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).2.1 ++ ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])))) (i 1).val (nt (qs x0 0) (dzm (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.1 (qs x0 0) (ws x4 0) (kb x1 0 (i 1).val (i 1).isLt) (kb x3 0 (i 1).val (i 1).isLt) (sb x5 0 (i 1).val (i 1).isLt))) (nt (qs x0 1) (dzm (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.2.2.1 (qs x0 1) (ws x4 1) (kb x1 1 (i 1).val (i 1).isLt) (kb x3 1 (i 1).val (i 1).isLt) (sb x5 1 (i 1).val (i 1).isLt))) (nt (qs x0 2) (dzm (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.2.2.2.2.1 (qs x0 2) (ws x4 2) (kb x1 2 (i 1).val (i 1).isLt) (kb x3 2 (i 1).val (i 1).isLt) (sb x5 2 (i 1).val (i 1).isLt))) (nt (qs x0 3) (dzm (st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).1.2.2.2.2.2.2.1 (qs x0 3) (ws x4 3) (kb x1 3 (i 1).val (i 1).isLt) (kb x3 3 (i 1).val (i 1).isLt) (sb x5 3 (i 1).val (i 1).isLt))) := by
  subst hv
  unfold addAll st2 st1 qs ws
  rw [← load_col a2 h2 x0 0 inb_S4x64x256_S1x64x256_0_0_0, ← load_col a2 h2 x0 1 inb_S4x64x256_S1x64x256_1_0_0, ← load_col a2 h2 x0 2 inb_S4x64x256_S1x64x256_2_0_0, ← load_col a2 h2 x0 3 inb_S4x64x256_S1x64x256_3_0_0, ← load_col a6 h6 x4 0 inb_S4x64x256_S1x64x256_0_0_0, ← load_col a6 h6 x4 1 inb_S4x64x256_S1x64x256_1_0_0, ← load_col a6 h6 x4 2 inb_S4x64x256_S1x64x256_2_0_0, ← load_col a6 h6 x4 3 inb_S4x64x256_S1x64x256_3_0_0, ← load_kb a3 h3 x1 0 _ (i 1).isLt (k0_off33 i) (k0_off33_inb i) (off33 i), ← load_kb a5 h5 x3 0 _ (i 1).isLt (k0_off33 i) (k0_off33_inb i) (off33 i), ← load_sb a7 h7 x5 0 _ (i 1).isLt (k0_off37 i) (k0_off37_inb i) (off37 i), ← load_kb a3 h3 x1 1 _ (i 1).isLt (k0_off34 i) (k0_off34_inb i) (off34 i), ← load_kb a5 h5 x3 1 _ (i 1).isLt (k0_off34 i) (k0_off34_inb i) (off34 i), ← load_sb a7 h7 x5 1 _ (i 1).isLt (k0_off38 i) (k0_off38_inb i) (off38 i), ← load_kb a3 h3 x1 2 _ (i 1).isLt (k0_off35 i) (k0_off35_inb i) (off35 i), ← load_kb a5 h5 x3 2 _ (i 1).isLt (k0_off35 i) (k0_off35_inb i) (off35 i), ← load_sb a7 h7 x5 2 _ (i 1).isLt (k0_off39 i) (k0_off39_inb i) (off39 i), ← load_kb a3 h3 x1 3 _ (i 1).isLt (k0_off36 i) (k0_off36_inb i) (off36 i), ← load_kb a5 h5 x3 3 _ (i 1).isLt (k0_off36 i) (k0_off36_inb i) (off36 i), ← load_sb a7 h7 x5 3 _ (i 1).isLt (k0_off40 i) (k0_off40_inb i) (off40 i)]
  refine Eq.trans ?_ ((read_add a12 a12.view.junk _ (k0_off48 i) (k0_off48_inb i) _ 3 (i 1).isLt (by decide) (off48 i) _).trans (congrArg (fun s => addAt s _ 3 _)
    ((read_add a12 a12.view.junk _ (k0_off47 i) (k0_off47_inb i) _ 2 (i 1).isLt (by decide) (off47 i) _).trans (congrArg (fun s => addAt s _ 2 _)
      ((read_add a12 a12.view.junk _ (k0_off46 i) (k0_off46_inb i) _ 1 (i 1).isLt (by decide) (off46 i) _).trans (congrArg (fun s => addAt s _ 1 _)
        (read_add a12 a12.view.junk _ (k0_off45 i) (k0_off45_inb i) _ 0 (i 1).isLt (by decide) (off45 i) _)))))))
  unfold run_A
  rfl

set_option maxHeartbeats 4000000 in
theorem dv_A_eq : a13.view.read (Elt F) (a13.view.writes (Elt F) a13.view.junk (run_A c i a2 h2 a3 h3 a4 h4 a5 h5 a6 h6 a7 h7 a8 h8 a9 h9 a10 h10 a11 h11 a12 h12 a13 h13 hz hl x0 x1 x2 x3 x4 x5 x6).2.2.1)
    = addAll (a13.view.read (Elt F) (a13.view.writes (Elt F) a13.view.junk ((st2 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)]) (a12.view.writes (Elt F) a12.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.1 ++ [(⟨Rect.unit (s := S32x256x256) ![0, 0, 0] S32x256x256.size inb_S32x256x256_S32x256x256_0_0_0, k0_pay103⟩ : View.Piece (Elt F) S32x256x256 .f32)])) (a13.view.writes (Elt F) a13.view.junk ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)]))).2.2 ++ ((st1 c i a2 h2 a3 h3 a4 h4 a5 h5 a6 h6 a7 h7 a8 h8 a9 h9 a10 h10 a11 h11 a12 h12 a13 h13 x0 x1 x2 x3 x4 x5 v53 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])).2.2 ++ [(⟨Rect.unit (s := S32x256x256) ![0, 0, 0] S32x256x256.size inb_S32x256x256_S32x256x256_0_0_0, k0_pay104⟩ : View.Piece (Elt F) S32x256x256 .f32)])))) (i 1).val (nt (ws x4 0) (truncf .bf16 (attm (qs x0 0) (kb x1 0 (i 1).val (i 1).isLt) (sb x5 0 (i 1).val (i 1).isLt)) bitsLt_bf16_f32)) (nt (ws x4 1) (truncf .bf16 (attm (qs x0 1) (kb x1 1 (i 1).val (i 1).isLt) (sb x5 1 (i 1).val (i 1).isLt)) bitsLt_bf16_f32)) (nt (ws x4 2) (truncf .bf16 (attm (qs x0 2) (kb x1 2 (i 1).val (i 1).isLt) (sb x5 2 (i 1).val (i 1).isLt)) bitsLt_bf16_f32)) (nt (ws x4 3) (truncf .bf16 (attm (qs x0 3) (kb x1 3 (i 1).val (i 1).isLt) (sb x5 3 (i 1).val (i 1).isLt)) bitsLt_bf16_f32)) := by
  subst hv
  unfold addAll st2 st1 qs ws
  rw [← load_col a2 h2 x0 0 inb_S4x64x256_S1x64x256_0_0_0, ← load_col a2 h2 x0 1 inb_S4x64x256_S1x64x256_1_0_0, ← load_col a2 h2 x0 2 inb_S4x64x256_S1x64x256_2_0_0, ← load_col a2 h2 x0 3 inb_S4x64x256_S1x64x256_3_0_0, ← load_col a6 h6 x4 0 inb_S4x64x256_S1x64x256_0_0_0, ← load_col a6 h6 x4 1 inb_S4x64x256_S1x64x256_1_0_0, ← load_col a6 h6 x4 2 inb_S4x64x256_S1x64x256_2_0_0, ← load_col a6 h6 x4 3 inb_S4x64x256_S1x64x256_3_0_0, ← load_kb a3 h3 x1 0 _ (i 1).isLt (k0_off33 i) (k0_off33_inb i) (off33 i), ← load_sb a7 h7 x5 0 _ (i 1).isLt (k0_off37 i) (k0_off37_inb i) (off37 i), ← load_kb a3 h3 x1 1 _ (i 1).isLt (k0_off34 i) (k0_off34_inb i) (off34 i), ← load_sb a7 h7 x5 1 _ (i 1).isLt (k0_off38 i) (k0_off38_inb i) (off38 i), ← load_kb a3 h3 x1 2 _ (i 1).isLt (k0_off35 i) (k0_off35_inb i) (off35 i), ← load_sb a7 h7 x5 2 _ (i 1).isLt (k0_off39 i) (k0_off39_inb i) (off39 i), ← load_kb a3 h3 x1 3 _ (i 1).isLt (k0_off36 i) (k0_off36_inb i) (off36 i), ← load_sb a7 h7 x5 3 _ (i 1).isLt (k0_off40 i) (k0_off40_inb i) (off40 i)]
  refine Eq.trans ?_ ((read_add a13 a13.view.junk _ (k0_off48 i) (k0_off48_inb i) _ 3 (i 1).isLt (by decide) (off48 i) _).trans (congrArg (fun s => addAt s _ 3 _)
    ((read_add a13 a13.view.junk _ (k0_off47 i) (k0_off47_inb i) _ 2 (i 1).isLt (by decide) (off47 i) _).trans (congrArg (fun s => addAt s _ 2 _)
      ((read_add a13 a13.view.junk _ (k0_off46 i) (k0_off46_inb i) _ 1 (i 1).isLt (by decide) (off46 i) _).trans (congrArg (fun s => addAt s _ 1 _)
        (read_add a13 a13.view.junk _ (k0_off45 i) (k0_off45_inb i) _ 0 (i 1).isLt (by decide) (off45 i) _)))))))
  unfold run_A
  rfl

end

end Cert.SbKernelIdeal

end
-- ==== Proof.SbLeftB.lean ====
module

public import proofs.«01_k».proof.Proof.SbRun

/-! What the stick-breaking backward body leaves at a query block between the first and the last, in the functions of a key block. -/

@[expose] public section

set_option maxRecDepth 16384

noncomputable section

namespace Cert.SbKernelIdeal

open Idealize.ShloMosaic Idealize.ShloMosaic.TcCoe Idealize.ShloMosaic.Tactic
open Gen
open Cert.Sb

variable {F : FTy → Type} [FloatOps F]
variable (c : Dev nD) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32) (v53 : BitVec 32)

section
variable (hz : ¬ zeroHere i = 1#1) (hl : ¬ k0_cond2 i = 1#1) (x10 x11 : Vec F S32x256x256 .f32) (hv : v53 = Scalar.fptosi 32 (k0_pay116 (a8.view.readAt (Elt F) (Rect.unit (s := S1x1x8x128) ![0, 0, 0, 0] S1x1x8x128.size inb_S1x1x8x128_S1x1x8x128_0_0_0_0).toLoadRect (h8.unread x6))))
include hv

set_option maxHeartbeats 4000000 in
theorem dq_B_eq (f) : a9.view.read (Elt F) (a9.view.writes (Elt F) f (run_B c i a2 h2 a3 h3 a4 h4 a5 h5 a6 h6 a7 h7 a8 h8 a9 h9 a10 h10 a11 h11 a12 h12 a13 h13 hz hl x0 x1 x2 x3 x4 x5 x6 x10 x11).1)
    = k0_pay2 (dqn (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.1 (tb x2 0 (i 1).val (i 1).isLt) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.1 (qs x0 0) (ws x4 0) (kb x1 0 (i 1).val (i 1).isLt) (kb x3 0 (i 1).val (i 1).isLt) (sb x5 0 (i 1).val (i 1).isLt))) (dqn (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.1 (tb x2 1 (i 1).val (i 1).isLt) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.1 (qs x0 1) (ws x4 1) (kb x1 1 (i 1).val (i 1).isLt) (kb x3 1 (i 1).val (i 1).isLt) (sb x5 1 (i 1).val (i 1).isLt))) (dqn (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.2.1 (tb x2 2 (i 1).val (i 1).isLt) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.1 (qs x0 2) (ws x4 2) (kb x1 2 (i 1).val (i 1).isLt) (kb x3 2 (i 1).val (i 1).isLt) (sb x5 2 (i 1).val (i 1).isLt))) (dqn (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.2.2.2 (tb x2 3 (i 1).val (i 1).isLt) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.2.2.1 (qs x0 3) (ws x4 3) (kb x1 3 (i 1).val (i 1).isLt) (kb x3 3 (i 1).val (i 1).isLt) (sb x5 3 (i 1).val (i 1).isLt))) := by
  refine Eq.trans ?_ (View.read_writes_full a9.view f inb_S256x256_S256x256_0_0 _ [])
  subst hv
  unfold st2 st1 qs ws
  rw [← load_col a2 h2 x0 0 inb_S4x64x256_S1x64x256_0_0_0, ← load_col a2 h2 x0 1 inb_S4x64x256_S1x64x256_1_0_0, ← load_col a2 h2 x0 2 inb_S4x64x256_S1x64x256_2_0_0, ← load_col a2 h2 x0 3 inb_S4x64x256_S1x64x256_3_0_0, ← load_col a6 h6 x4 0 inb_S4x64x256_S1x64x256_0_0_0, ← load_col a6 h6 x4 1 inb_S4x64x256_S1x64x256_1_0_0, ← load_col a6 h6 x4 2 inb_S4x64x256_S1x64x256_2_0_0, ← load_col a6 h6 x4 3 inb_S4x64x256_S1x64x256_3_0_0, ← load_kb a3 h3 x1 0 _ (i 1).isLt (k0_off33 i) (k0_off33_inb i) (off33 i), ← load_kb a5 h5 x3 0 _ (i 1).isLt (k0_off33 i) (k0_off33_inb i) (off33 i), ← load_sb a7 h7 x5 0 _ (i 1).isLt (k0_off37 i) (k0_off37_inb i) (off37 i), ← load_tb a4 h4 x2 0 _ (i 1).isLt (k0_off41 i) (k0_off41_inb i) (off41 i), ← load_kb a3 h3 x1 1 _ (i 1).isLt (k0_off34 i) (k0_off34_inb i) (off34 i), ← load_kb a5 h5 x3 1 _ (i 1).isLt (k0_off34 i) (k0_off34_inb i) (off34 i), ← load_sb a7 h7 x5 1 _ (i 1).isLt (k0_off38 i) (k0_off38_inb i) (off38 i), ← load_tb a4 h4 x2 1 _ (i 1).isLt (k0_off42 i) (k0_off42_inb i) (off42 i), ← load_kb a3 h3 x1 2 _ (i 1).isLt (k0_off35 i) (k0_off35_inb i) (off35 i), ← load_kb a5 h5 x3 2 _ (i 1).isLt (k0_off35 i) (k0_off35_inb i) (off35 i), ← load_sb a7 h7 x5 2 _ (i 1).isLt (k0_off39 i) (k0_off39_inb i) (off39 i), ← load_tb a4 h4 x2 2 _ (i 1).isLt (k0_off43 i) (k0_off43_inb i) (off43 i), ← load_kb a3 h3 x1 3 _ (i 1).isLt (k0_off36 i) (k0_off36_inb i) (off36 i), ← load_kb a5 h5 x3 3 _ (i 1).isLt (k0_off36 i) (k0_off36_inb i) (off36 i), ← load_sb a7 h7 x5 3 _ (i 1).isLt (k0_off40 i) (k0_off40_inb i) (off40 i), ← load_tb a4 h4 x2 3 _ (i 1).isLt (k0_off44 i) (k0_off44_inb i) (off44 i)]
  unfold run_B
  rfl

set_option maxHeartbeats 4000000 in
theorem dk_B_eq : a12.view.read (Elt F) (a12.view.writes (Elt F) (h12.unread x10) (run_B c i a2 h2 a3 h3 a4 h4 a5 h5 a6 h6 a7 h7 a8 h8 a9 h9 a10 h10 a11 h11 a12 h12 a13 h13 hz hl x0 x1 x2 x3 x4 x5 x6 x10 x11).2.1)
    = addAll (a12.view.read (Elt F) (a12.view.writes (Elt F) (h12.unread x10) ((st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).2.1 ++ (st1 c i a2 h2 a3 h3 a4 h4 a5 h5 a6 h6 a7 h7 a8 h8 a9 h9 a10 h10 a11 h11 a12 h12 a13 h13 x0 x1 x2 x3 x4 x5 v53 (h12.unread x10) (h13.unread x11)).2.1))) (i 1).val (nt (qs x0 0) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.1 (qs x0 0) (ws x4 0) (kb x1 0 (i 1).val (i 1).isLt) (kb x3 0 (i 1).val (i 1).isLt) (sb x5 0 (i 1).val (i 1).isLt))) (nt (qs x0 1) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.1 (qs x0 1) (ws x4 1) (kb x1 1 (i 1).val (i 1).isLt) (kb x3 1 (i 1).val (i 1).isLt) (sb x5 1 (i 1).val (i 1).isLt))) (nt (qs x0 2) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.1 (qs x0 2) (ws x4 2) (kb x1 2 (i 1).val (i 1).isLt) (kb x3 2 (i 1).val (i 1).isLt) (sb x5 2 (i 1).val (i 1).isLt))) (nt (qs x0 3) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.2.2.1 (qs x0 3) (ws x4 3) (kb x1 3 (i 1).val (i 1).isLt) (kb x3 3 (i 1).val (i 1).isLt) (sb x5 3 (i 1).val (i 1).isLt))) := by
  subst hv
  unfold addAll st2 st1 qs ws
  rw [← load_col a2 h2 x0 0 inb_S4x64x256_S1x64x256_0_0_0, ← load_col a2 h2 x0 1 inb_S4x64x256_S1x64x256_1_0_0, ← load_col a2 h2 x0 2 inb_S4x64x256_S1x64x256_2_0_0, ← load_col a2 h2 x0 3 inb_S4x64x256_S1x64x256_3_0_0, ← load_col a6 h6 x4 0 inb_S4x64x256_S1x64x256_0_0_0, ← load_col a6 h6 x4 1 inb_S4x64x256_S1x64x256_1_0_0, ← load_col a6 h6 x4 2 inb_S4x64x256_S1x64x256_2_0_0, ← load_col a6 h6 x4 3 inb_S4x64x256_S1x64x256_3_0_0, ← load_kb a3 h3 x1 0 _ (i 1).isLt (k0_off33 i) (k0_off33_inb i) (off33 i), ← load_kb a5 h5 x3 0 _ (i 1).isLt (k0_off33 i) (k0_off33_inb i) (off33 i), ← load_sb a7 h7 x5 0 _ (i 1).isLt (k0_off37 i) (k0_off37_inb i) (off37 i), ← load_kb a3 h3 x1 1 _ (i 1).isLt (k0_off34 i) (k0_off34_inb i) (off34 i), ← load_kb a5 h5 x3 1 _ (i 1).isLt (k0_off34 i) (k0_off34_inb i) (off34 i), ← load_sb a7 h7 x5 1 _ (i 1).isLt (k0_off38 i) (k0_off38_inb i) (off38 i), ← load_kb a3 h3 x1 2 _ (i 1).isLt (k0_off35 i) (k0_off35_inb i) (off35 i), ← load_kb a5 h5 x3 2 _ (i 1).isLt (k0_off35 i) (k0_off35_inb i) (off35 i), ← load_sb a7 h7 x5 2 _ (i 1).isLt (k0_off39 i) (k0_off39_inb i) (off39 i), ← load_kb a3 h3 x1 3 _ (i 1).isLt (k0_off36 i) (k0_off36_inb i) (off36 i), ← load_kb a5 h5 x3 3 _ (i 1).isLt (k0_off36 i) (k0_off36_inb i) (off36 i), ← load_sb a7 h7 x5 3 _ (i 1).isLt (k0_off40 i) (k0_off40_inb i) (off40 i)]
  refine Eq.trans ?_ ((read_add a12 (h12.unread x10) _ (k0_off48 i) (k0_off48_inb i) _ 3 (i 1).isLt (by decide) (off48 i) _).trans (congrArg (fun s => addAt s _ 3 _)
    ((read_add a12 (h12.unread x10) _ (k0_off47 i) (k0_off47_inb i) _ 2 (i 1).isLt (by decide) (off47 i) _).trans (congrArg (fun s => addAt s _ 2 _)
      ((read_add a12 (h12.unread x10) _ (k0_off46 i) (k0_off46_inb i) _ 1 (i 1).isLt (by decide) (off46 i) _).trans (congrArg (fun s => addAt s _ 1 _)
        (read_add a12 (h12.unread x10) _ (k0_off45 i) (k0_off45_inb i) _ 0 (i 1).isLt (by decide) (off45 i) _)))))))
  unfold run_B
  rfl

set_option maxHeartbeats 4000000 in
theorem dv_B_eq : a13.view.read (Elt F) (a13.view.writes (Elt F) (h13.unread x11) (run_B c i a2 h2 a3 h3 a4 h4 a5 h5 a6 h6 a7 h7 a8 h8 a9 h9 a10 h10 a11 h11 a12 h12 a13 h13 hz hl x0 x1 x2 x3 x4 x5 x6 x10 x11).2.2.1)
    = addAll (a13.view.read (Elt F) (a13.view.writes (Elt F) (h13.unread x11) ((st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).2.2 ++ (st1 c i a2 h2 a3 h3 a4 h4 a5 h5 a6 h6 a7 h7 a8 h8 a9 h9 a10 h10 a11 h11 a12 h12 a13 h13 x0 x1 x2 x3 x4 x5 v53 (h12.unread x10) (h13.unread x11)).2.2))) (i 1).val (nt (ws x4 0) (truncf .bf16 (attm (qs x0 0) (kb x1 0 (i 1).val (i 1).isLt) (sb x5 0 (i 1).val (i 1).isLt)) bitsLt_bf16_f32)) (nt (ws x4 1) (truncf .bf16 (attm (qs x0 1) (kb x1 1 (i 1).val (i 1).isLt) (sb x5 1 (i 1).val (i 1).isLt)) bitsLt_bf16_f32)) (nt (ws x4 2) (truncf .bf16 (attm (qs x0 2) (kb x1 2 (i 1).val (i 1).isLt) (sb x5 2 (i 1).val (i 1).isLt)) bitsLt_bf16_f32)) (nt (ws x4 3) (truncf .bf16 (attm (qs x0 3) (kb x1 3 (i 1).val (i 1).isLt) (sb x5 3 (i 1).val (i 1).isLt)) bitsLt_bf16_f32)) := by
  subst hv
  unfold addAll st2 st1 qs ws
  rw [← load_col a2 h2 x0 0 inb_S4x64x256_S1x64x256_0_0_0, ← load_col a2 h2 x0 1 inb_S4x64x256_S1x64x256_1_0_0, ← load_col a2 h2 x0 2 inb_S4x64x256_S1x64x256_2_0_0, ← load_col a2 h2 x0 3 inb_S4x64x256_S1x64x256_3_0_0, ← load_col a6 h6 x4 0 inb_S4x64x256_S1x64x256_0_0_0, ← load_col a6 h6 x4 1 inb_S4x64x256_S1x64x256_1_0_0, ← load_col a6 h6 x4 2 inb_S4x64x256_S1x64x256_2_0_0, ← load_col a6 h6 x4 3 inb_S4x64x256_S1x64x256_3_0_0, ← load_kb a3 h3 x1 0 _ (i 1).isLt (k0_off33 i) (k0_off33_inb i) (off33 i), ← load_sb a7 h7 x5 0 _ (i 1).isLt (k0_off37 i) (k0_off37_inb i) (off37 i), ← load_kb a3 h3 x1 1 _ (i 1).isLt (k0_off34 i) (k0_off34_inb i) (off34 i), ← load_sb a7 h7 x5 1 _ (i 1).isLt (k0_off38 i) (k0_off38_inb i) (off38 i), ← load_kb a3 h3 x1 2 _ (i 1).isLt (k0_off35 i) (k0_off35_inb i) (off35 i), ← load_sb a7 h7 x5 2 _ (i 1).isLt (k0_off39 i) (k0_off39_inb i) (off39 i), ← load_kb a3 h3 x1 3 _ (i 1).isLt (k0_off36 i) (k0_off36_inb i) (off36 i), ← load_sb a7 h7 x5 3 _ (i 1).isLt (k0_off40 i) (k0_off40_inb i) (off40 i)]
  refine Eq.trans ?_ ((read_add a13 (h13.unread x11) _ (k0_off48 i) (k0_off48_inb i) _ 3 (i 1).isLt (by decide) (off48 i) _).trans (congrArg (fun s => addAt s _ 3 _)
    ((read_add a13 (h13.unread x11) _ (k0_off47 i) (k0_off47_inb i) _ 2 (i 1).isLt (by decide) (off47 i) _).trans (congrArg (fun s => addAt s _ 2 _)
      ((read_add a13 (h13.unread x11) _ (k0_off46 i) (k0_off46_inb i) _ 1 (i 1).isLt (by decide) (off46 i) _).trans (congrArg (fun s => addAt s _ 1 _)
        (read_add a13 (h13.unread x11) _ (k0_off45 i) (k0_off45_inb i) _ 0 (i 1).isLt (by decide) (off45 i) _)))))))
  unfold run_B
  rfl

end

end Cert.SbKernelIdeal

end
-- ==== Proof.SbLeftC.lean ====
module

public import proofs.«01_k».proof.Proof.SbRun

/-! What the stick-breaking backward body leaves at the last query block, in the functions of a key block. -/

@[expose] public section

set_option maxRecDepth 16384

noncomputable section

namespace Cert.SbKernelIdeal

open Idealize.ShloMosaic Idealize.ShloMosaic.TcCoe Idealize.ShloMosaic.Tactic
open Gen
open Cert.Sb

variable {F : FTy → Type} [FloatOps F]
variable (c : Dev nD) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32) (v53 : BitVec 32)

section
variable (hz : ¬ zeroHere i = 1#1) (hl : k0_cond2 i = 1#1) (x10 x11 : Vec F S32x256x256 .f32) (hv : v53 = Scalar.fptosi 32 (k0_pay116 (a8.view.readAt (Elt F) (Rect.unit (s := S1x1x8x128) ![0, 0, 0, 0] S1x1x8x128.size inb_S1x1x8x128_S1x1x8x128_0_0_0_0).toLoadRect (h8.unread x6))))
include hv

set_option maxHeartbeats 4000000 in
theorem dq_C_eq (f) : a9.view.read (Elt F) (a9.view.writes (Elt F) f (run_C c i a2 h2 a3 h3 a4 h4 a5 h5 a6 h6 a7 h7 a8 h8 a9 h9 a10 h10 a11 h11 a12 h12 a13 h13 hz hl x0 x1 x2 x3 x4 x5 x6 x10 x11).1)
    = k0_pay2 (dqn (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.1 (tb x2 0 (i 1).val (i 1).isLt) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.1 (qs x0 0) (ws x4 0) (kb x1 0 (i 1).val (i 1).isLt) (kb x3 0 (i 1).val (i 1).isLt) (sb x5 0 (i 1).val (i 1).isLt))) (dqn (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.1 (tb x2 1 (i 1).val (i 1).isLt) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.1 (qs x0 1) (ws x4 1) (kb x1 1 (i 1).val (i 1).isLt) (kb x3 1 (i 1).val (i 1).isLt) (sb x5 1 (i 1).val (i 1).isLt))) (dqn (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.2.1 (tb x2 2 (i 1).val (i 1).isLt) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.1 (qs x0 2) (ws x4 2) (kb x1 2 (i 1).val (i 1).isLt) (kb x3 2 (i 1).val (i 1).isLt) (sb x5 2 (i 1).val (i 1).isLt))) (dqn (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.2.2.2 (tb x2 3 (i 1).val (i 1).isLt) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.2.2.1 (qs x0 3) (ws x4 3) (kb x1 3 (i 1).val (i 1).isLt) (kb x3 3 (i 1).val (i 1).isLt) (sb x5 3 (i 1).val (i 1).isLt))) := by
  refine Eq.trans ?_ (View.read_writes_full a9.view f inb_S256x256_S256x256_0_0 _ [])
  subst hv
  unfold st2 st1 qs ws
  rw [← load_col a2 h2 x0 0 inb_S4x64x256_S1x64x256_0_0_0, ← load_col a2 h2 x0 1 inb_S4x64x256_S1x64x256_1_0_0, ← load_col a2 h2 x0 2 inb_S4x64x256_S1x64x256_2_0_0, ← load_col a2 h2 x0 3 inb_S4x64x256_S1x64x256_3_0_0, ← load_col a6 h6 x4 0 inb_S4x64x256_S1x64x256_0_0_0, ← load_col a6 h6 x4 1 inb_S4x64x256_S1x64x256_1_0_0, ← load_col a6 h6 x4 2 inb_S4x64x256_S1x64x256_2_0_0, ← load_col a6 h6 x4 3 inb_S4x64x256_S1x64x256_3_0_0, ← load_kb a3 h3 x1 0 _ (i 1).isLt (k0_off33 i) (k0_off33_inb i) (off33 i), ← load_kb a5 h5 x3 0 _ (i 1).isLt (k0_off33 i) (k0_off33_inb i) (off33 i), ← load_sb a7 h7 x5 0 _ (i 1).isLt (k0_off37 i) (k0_off37_inb i) (off37 i), ← load_tb a4 h4 x2 0 _ (i 1).isLt (k0_off41 i) (k0_off41_inb i) (off41 i), ← load_kb a3 h3 x1 1 _ (i 1).isLt (k0_off34 i) (k0_off34_inb i) (off34 i), ← load_kb a5 h5 x3 1 _ (i 1).isLt (k0_off34 i) (k0_off34_inb i) (off34 i), ← load_sb a7 h7 x5 1 _ (i 1).isLt (k0_off38 i) (k0_off38_inb i) (off38 i), ← load_tb a4 h4 x2 1 _ (i 1).isLt (k0_off42 i) (k0_off42_inb i) (off42 i), ← load_kb a3 h3 x1 2 _ (i 1).isLt (k0_off35 i) (k0_off35_inb i) (off35 i), ← load_kb a5 h5 x3 2 _ (i 1).isLt (k0_off35 i) (k0_off35_inb i) (off35 i), ← load_sb a7 h7 x5 2 _ (i 1).isLt (k0_off39 i) (k0_off39_inb i) (off39 i), ← load_tb a4 h4 x2 2 _ (i 1).isLt (k0_off43 i) (k0_off43_inb i) (off43 i), ← load_kb a3 h3 x1 3 _ (i 1).isLt (k0_off36 i) (k0_off36_inb i) (off36 i), ← load_kb a5 h5 x3 3 _ (i 1).isLt (k0_off36 i) (k0_off36_inb i) (off36 i), ← load_sb a7 h7 x5 3 _ (i 1).isLt (k0_off40 i) (k0_off40_inb i) (off40 i), ← load_tb a4 h4 x2 3 _ (i 1).isLt (k0_off44 i) (k0_off44_inb i) (off44 i)]
  unfold run_C
  rfl

set_option maxHeartbeats 4000000 in
theorem dk_C_eq : a12.view.read (Elt F) (a12.view.writes (Elt F) (h12.unread x10) (run_C c i a2 h2 a3 h3 a4 h4 a5 h5 a6 h6 a7 h7 a8 h8 a9 h9 a10 h10 a11 h11 a12 h12 a13 h13 hz hl x0 x1 x2 x3 x4 x5 x6 x10 x11).2.2.2.1)
    = addAll (a12.view.read (Elt F) (a12.view.writes (Elt F) (h12.unread x10) ((st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).2.1 ++ (st1 c i a2 h2 a3 h3 a4 h4 a5 h5 a6 h6 a7 h7 a8 h8 a9 h9 a10 h10 a11 h11 a12 h12 a13 h13 x0 x1 x2 x3 x4 x5 v53 (h12.unread x10) (h13.unread x11)).2.1))) (i 1).val (nt (qs x0 0) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.1 (qs x0 0) (ws x4 0) (kb x1 0 (i 1).val (i 1).isLt) (kb x3 0 (i 1).val (i 1).isLt) (sb x5 0 (i 1).val (i 1).isLt))) (nt (qs x0 1) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.1 (qs x0 1) (ws x4 1) (kb x1 1 (i 1).val (i 1).isLt) (kb x3 1 (i 1).val (i 1).isLt) (sb x5 1 (i 1).val (i 1).isLt))) (nt (qs x0 2) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.1 (qs x0 2) (ws x4 2) (kb x1 2 (i 1).val (i 1).isLt) (kb x3 2 (i 1).val (i 1).isLt) (sb x5 2 (i 1).val (i 1).isLt))) (nt (qs x0 3) (dzm (st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).1.2.2.2.2.2.2.1 (qs x0 3) (ws x4 3) (kb x1 3 (i 1).val (i 1).isLt) (kb x3 3 (i 1).val (i 1).isLt) (sb x5 3 (i 1).val (i 1).isLt))) := by
  subst hv
  unfold addAll st2 st1 qs ws
  rw [← load_col a2 h2 x0 0 inb_S4x64x256_S1x64x256_0_0_0, ← load_col a2 h2 x0 1 inb_S4x64x256_S1x64x256_1_0_0, ← load_col a2 h2 x0 2 inb_S4x64x256_S1x64x256_2_0_0, ← load_col a2 h2 x0 3 inb_S4x64x256_S1x64x256_3_0_0, ← load_col a6 h6 x4 0 inb_S4x64x256_S1x64x256_0_0_0, ← load_col a6 h6 x4 1 inb_S4x64x256_S1x64x256_1_0_0, ← load_col a6 h6 x4 2 inb_S4x64x256_S1x64x256_2_0_0, ← load_col a6 h6 x4 3 inb_S4x64x256_S1x64x256_3_0_0, ← load_kb a3 h3 x1 0 _ (i 1).isLt (k0_off33 i) (k0_off33_inb i) (off33 i), ← load_kb a5 h5 x3 0 _ (i 1).isLt (k0_off33 i) (k0_off33_inb i) (off33 i), ← load_sb a7 h7 x5 0 _ (i 1).isLt (k0_off37 i) (k0_off37_inb i) (off37 i), ← load_kb a3 h3 x1 1 _ (i 1).isLt (k0_off34 i) (k0_off34_inb i) (off34 i), ← load_kb a5 h5 x3 1 _ (i 1).isLt (k0_off34 i) (k0_off34_inb i) (off34 i), ← load_sb a7 h7 x5 1 _ (i 1).isLt (k0_off38 i) (k0_off38_inb i) (off38 i), ← load_kb a3 h3 x1 2 _ (i 1).isLt (k0_off35 i) (k0_off35_inb i) (off35 i), ← load_kb a5 h5 x3 2 _ (i 1).isLt (k0_off35 i) (k0_off35_inb i) (off35 i), ← load_sb a7 h7 x5 2 _ (i 1).isLt (k0_off39 i) (k0_off39_inb i) (off39 i), ← load_kb a3 h3 x1 3 _ (i 1).isLt (k0_off36 i) (k0_off36_inb i) (off36 i), ← load_kb a5 h5 x3 3 _ (i 1).isLt (k0_off36 i) (k0_off36_inb i) (off36 i), ← load_sb a7 h7 x5 3 _ (i 1).isLt (k0_off40 i) (k0_off40_inb i) (off40 i)]
  refine Eq.trans ?_ ((read_add a12 (h12.unread x10) _ (k0_off48 i) (k0_off48_inb i) _ 3 (i 1).isLt (by decide) (off48 i) _).trans (congrArg (fun s => addAt s _ 3 _)
    ((read_add a12 (h12.unread x10) _ (k0_off47 i) (k0_off47_inb i) _ 2 (i 1).isLt (by decide) (off47 i) _).trans (congrArg (fun s => addAt s _ 2 _)
      ((read_add a12 (h12.unread x10) _ (k0_off46 i) (k0_off46_inb i) _ 1 (i 1).isLt (by decide) (off46 i) _).trans (congrArg (fun s => addAt s _ 1 _)
        (read_add a12 (h12.unread x10) _ (k0_off45 i) (k0_off45_inb i) _ 0 (i 1).isLt (by decide) (off45 i) _)))))))
  unfold run_C
  rfl

set_option maxHeartbeats 4000000 in
theorem dv_C_eq : a13.view.read (Elt F) (a13.view.writes (Elt F) (h13.unread x11) (run_C c i a2 h2 a3 h3 a4 h4 a5 h5 a6 h6 a7 h7 a8 h8 a9 h9 a10 h10 a11 h11 a12 h12 a13 h13 hz hl x0 x1 x2 x3 x4 x5 x6 x10 x11).2.2.2.2.1)
    = addAll (a13.view.read (Elt F) (a13.view.writes (Elt F) (h13.unread x11) ((st2 c i a2 h2 a3 h3 a4 h4 a5 h5 a6 h6 a7 h7 a8 h8 a9 h9 a10 h10 a11 h11 a12 h12 a13 h13 x0 x1 x2 x3 x4 x5 v53 (h12.unread x10) (h13.unread x11) (a12.view.writes (Elt F) (h12.unread x10) (st1 c i a2 h2 a3 h3 a4 h4 a5 h5 a6 h6 a7 h7 a8 h8 a9 h9 a10 h10 a11 h11 a12 h12 a13 h13 x0 x1 x2 x3 x4 x5 v53 (h12.unread x10) (h13.unread x11)).2.1) (a13.view.writes (Elt F) (h13.unread x11) (st1 c i a2 h2 a3 h3 a4 h4 a5 h5 a6 h6 a7 h7 a8 h8 a9 h9 a10 h10 a11 h11 a12 h12 a13 h13 x0 x1 x2 x3 x4 x5 v53 (h12.unread x10) (h13.unread x11)).2.2)).2.2 ++ (st1 c i a2 h2 a3 h3 a4 h4 a5 h5 a6 h6 a7 h7 a8 h8 a9 h9 a10 h10 a11 h11 a12 h12 a13 h13 x0 x1 x2 x3 x4 x5 v53 (h12.unread x10) (h13.unread x11)).2.2))) (i 1).val (nt (ws x4 0) (truncf .bf16 (attm (qs x0 0) (kb x1 0 (i 1).val (i 1).isLt) (sb x5 0 (i 1).val (i 1).isLt)) bitsLt_bf16_f32)) (nt (ws x4 1) (truncf .bf16 (attm (qs x0 1) (kb x1 1 (i 1).val (i 1).isLt) (sb x5 1 (i 1).val (i 1).isLt)) bitsLt_bf16_f32)) (nt (ws x4 2) (truncf .bf16 (attm (qs x0 2) (kb x1 2 (i 1).val (i 1).isLt) (sb x5 2 (i 1).val (i 1).isLt)) bitsLt_bf16_f32)) (nt (ws x4 3) (truncf .bf16 (attm (qs x0 3) (kb x1 3 (i 1).val (i 1).isLt) (sb x5 3 (i 1).val (i 1).isLt)) bitsLt_bf16_f32)) := by
  subst hv
  unfold addAll st2 st1 qs ws
  rw [← load_col a2 h2 x0 0 inb_S4x64x256_S1x64x256_0_0_0, ← load_col a2 h2 x0 1 inb_S4x64x256_S1x64x256_1_0_0, ← load_col a2 h2 x0 2 inb_S4x64x256_S1x64x256_2_0_0, ← load_col a2 h2 x0 3 inb_S4x64x256_S1x64x256_3_0_0, ← load_col a6 h6 x4 0 inb_S4x64x256_S1x64x256_0_0_0, ← load_col a6 h6 x4 1 inb_S4x64x256_S1x64x256_1_0_0, ← load_col a6 h6 x4 2 inb_S4x64x256_S1x64x256_2_0_0, ← load_col a6 h6 x4 3 inb_S4x64x256_S1x64x256_3_0_0, ← load_kb a3 h3 x1 0 _ (i 1).isLt (k0_off33 i) (k0_off33_inb i) (off33 i), ← load_sb a7 h7 x5 0 _ (i 1).isLt (k0_off37 i) (k0_off37_inb i) (off37 i), ← load_kb a3 h3 x1 1 _ (i 1).isLt (k0_off34 i) (k0_off34_inb i) (off34 i), ← load_sb a7 h7 x5 1 _ (i 1).isLt (k0_off38 i) (k0_off38_inb i) (off38 i), ← load_kb a3 h3 x1 2 _ (i 1).isLt (k0_off35 i) (k0_off35_inb i) (off35 i), ← load_sb a7 h7 x5 2 _ (i 1).isLt (k0_off39 i) (k0_off39_inb i) (off39 i), ← load_kb a3 h3 x1 3 _ (i 1).isLt (k0_off36 i) (k0_off36_inb i) (off36 i), ← load_sb a7 h7 x5 3 _ (i 1).isLt (k0_off40 i) (k0_off40_inb i) (off40 i)]
  refine Eq.trans ?_ ((read_add a13 (h13.unread x11) _ (k0_off48 i) (k0_off48_inb i) _ 3 (i 1).isLt (by decide) (off48 i) _).trans (congrArg (fun s => addAt s _ 3 _)
    ((read_add a13 (h13.unread x11) _ (k0_off47 i) (k0_off47_inb i) _ 2 (i 1).isLt (by decide) (off47 i) _).trans (congrArg (fun s => addAt s _ 2 _)
      ((read_add a13 (h13.unread x11) _ (k0_off46 i) (k0_off46_inb i) _ 1 (i 1).isLt (by decide) (off46 i) _).trans (congrArg (fun s => addAt s _ 1 _)
        (read_add a13 (h13.unread x11) _ (k0_off45 i) (k0_off45_inb i) _ 0 (i 1).isLt (by decide) (off45 i) _)))))))
  unfold run_C
  rfl

end

end Cert.SbKernelIdeal

end
-- ==== Proof.SbState.lean ====
module

public import proofs.«01_k».proof.Proof.SbLeftA
public import proofs.«01_k».proof.Proof.SbLeftB
public import proofs.«01_k».proof.Proof.SbLeftC
public import proofs.«01_k».proof.Proof.SbFrame

/-! What a point leaves, when the forward pass skipped nothing: one function of its blocks and of the running gradients. -/

@[expose] public section

set_option maxRecDepth 16384

noncomputable section

namespace Cert.SbKernelIdeal

open Idealize.ShloMosaic Idealize.ShloMosaic.TcCoe Idealize.ShloMosaic.Tactic
open Gen
open Cert.Sb

variable {F : FTy → Type} [FloatOps F]

section
variable (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32)
  (X Y : Vec F S32x256x256 .f32) (n : ℕ) (hn : n < 32)

/-- The state after all the key blocks before the query block `n`. -/
def before : State F := loopV (qs x0) (ws x4) x1 x2 x3 x5 (carry0, X, Y) n

/-- What the point leaves: the query gradient, -/
def leftQ : Vec F S256x256 .bf16 := diagQ (qs x0) (ws x4) x1 x2 x3 x5 n hn (before x0 x1 x2 x3 x4 x5 X Y n)
/-- and the running gradients of the keys -/
def leftK : Vec F S32x256x256 .f32 := diagK (qs x0) (ws x4) x1 x3 x5 n hn (before x0 x1 x2 x3 x4 x5 X Y n)
/-- and of the values. -/
def leftV : Vec F S32x256x256 .f32 := diagV (qs x0) (ws x4) x1 x5 n hn (before x0 x1 x2 x3 x4 x5 X Y n)
end

section
variable (c : Dev nD) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32)
  (G12 : BufTy.Contents (Elt F) a12.view.ty) (G13 : BufTy.Contents (Elt F) a13.view.ty)

theorem st1_eq : (((st1 c i a2 h2 a3 h3 a4 h4 a5 h5 a6 h6 a7 h7 a8 h8 a9 h9 a10 h10 a11 h11 a12 h12 a13 h13 x0 x1 x2 x3 x4 x5 0#32 G12 G13).1, a12.view.read (Elt F) (a12.view.writes (Elt F) G12 (st1 c i a2 h2 a3 h3 a4 h4 a5 h5 a6 h6 a7 h7 a8 h8 a9 h9 a10 h10 a11 h11 a12 h12 a13 h13 x0 x1 x2 x3 x4 x5 0#32 G12 G13).2.1), a13.view.read (Elt F) (a13.view.writes (Elt F) G13 (st1 c i a2 h2 a3 h3 a4 h4 a5 h5 a6 h6 a7 h7 a8 h8 a9 h9 a10 h10 a11 h11 a12 h12 a13 h13 x0 x1 x2 x3 x4 x5 0#32 G12 G13).2.2)) : State F)
    = before x0 x1 x2 x3 x4 x5 (a12.view.read (Elt F) G12) (a13.view.read (Elt F) G13) (i 1).val := by
  have h := loop_eq c i a2 h2 a3 h3 a4 h4 a5 h5 a6 h6 a7 h7 a8 h8 a9 h9 a10 h10 a11 h11 a12 h12 a13 h13 (BitVec.ofNat 32 (i 1).val) (qs x0) (ws x4) (colb x4 2) (colb x4 3) (e2 := rfl) (e3 := rfl) (hw1 := chk i 0#32) (v55 := start (BitVec.ofNat 32 (i 1).val) 0#32) (x1 := x1) (x2 := x2) (x3 := x3) (x5 := x5) G12 G13 (i 1).val le_rfl
  rw [before, ← h]
  unfold st1
  rw [trips1]

theorem st2_eq (H12 : BufTy.Contents (Elt F) a12.view.ty) (H13 : BufTy.Contents (Elt F) a13.view.ty) :
    st2 c i a2 h2 a3 h3 a4 h4 a5 h5 a6 h6 a7 h7 a8 h8 a9 h9 a10 h10 a11 h11 a12 h12 a13 h13 x0 x1 x2 x3 x4 x5 0#32 G12 G13 H12 H13 = ((st1 c i a2 h2 a3 h3 a4 h4 a5 h5 a6 h6 a7 h7 a8 h8 a9 h9 a10 h10 a11 h11 a12 h12 a13 h13 x0 x1 x2 x3 x4 x5 0#32 G12 G13).1, [], []) := by
  unfold st2
  rw [trips2]
  rfl
end

section
variable (c : Dev nD) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32)
variable (hz : zeroHere i = 1#1) (hl : ¬ k0_cond2 i = 1#1)
  (hv : 0#32 = Scalar.fptosi 32 (k0_pay116 (a8.view.readAt (Elt F) (Rect.unit (s := S1x1x8x128) ![0, 0, 0, 0] S1x1x8x128.size inb_S1x1x8x128_S1x1x8x128_0_0_0_0).toLoadRect (h8.unread x6))))
include hv

theorem leftQ_A (f) : a9.view.read (Elt F) (a9.view.writes (Elt F) f (run_A c i a2 h2 a3 h3 a4 h4 a5 h5 a6 h6 a7 h7 a8 h8 a9 h9 a10 h10 a11 h11 a12 h12 a13 h13 hz hl x0 x1 x2 x3 x4 x5 x6).1) = leftQ x0 x1 x2 x3 x4 x5 k0_pay103 k0_pay104 (i 1).val (i 1).isLt := by
  have h := st1_eq c i a2 h2 a3 h3 a4 h4 a5 h5 a6 h6 a7 h7 a8 h8 a9 h9 a10 h10 a11 h11 a12 h12 a13 h13 x0 x1 x2 x3 x4 x5 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])
  have e12 : a12.view.read (Elt F) (a12.view.writes (Elt F) a12.view.junk [(⟨Rect.unit (s := S32x256x256) ![0, 0, 0] S32x256x256.size inb_S32x256x256_S32x256x256_0_0_0, k0_pay103⟩ : View.Piece (Elt F) S32x256x256 .f32)]) = k0_pay103 := View.read_writes_full a12.view _ inb_S32x256x256_S32x256x256_0_0_0 _ []
  have e13 : a13.view.read (Elt F) (a13.view.writes (Elt F) a13.view.junk [(⟨Rect.unit (s := S32x256x256) ![0, 0, 0] S32x256x256.size inb_S32x256x256_S32x256x256_0_0_0, k0_pay104⟩ : View.Piece (Elt F) S32x256x256 .f32)]) = k0_pay104 := View.read_writes_full a13.view _ inb_S32x256x256_S32x256x256_0_0_0 _ []
  rw [e12, e13] at h
  rw [dq_A_eq (v53 := 0#32) (hv := hv), st2_eq]; unfold leftQ; rw [← h]; rfl

theorem leftK_A : a12.view.read (Elt F) (a12.view.writes (Elt F) a12.view.junk (run_A c i a2 h2 a3 h3 a4 h4 a5 h5 a6 h6 a7 h7 a8 h8 a9 h9 a10 h10 a11 h11 a12 h12 a13 h13 hz hl x0 x1 x2 x3 x4 x5 x6).2.1) = leftK x0 x1 x2 x3 x4 x5 k0_pay103 k0_pay104 (i 1).val (i 1).isLt := by
  have h := st1_eq c i a2 h2 a3 h3 a4 h4 a5 h5 a6 h6 a7 h7 a8 h8 a9 h9 a10 h10 a11 h11 a12 h12 a13 h13 x0 x1 x2 x3 x4 x5 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])
  have e12 : a12.view.read (Elt F) (a12.view.writes (Elt F) a12.view.junk [(⟨Rect.unit (s := S32x256x256) ![0, 0, 0] S32x256x256.size inb_S32x256x256_S32x256x256_0_0_0, k0_pay103⟩ : View.Piece (Elt F) S32x256x256 .f32)]) = k0_pay103 := View.read_writes_full a12.view _ inb_S32x256x256_S32x256x256_0_0_0 _ []
  have e13 : a13.view.read (Elt F) (a13.view.writes (Elt F) a13.view.junk [(⟨Rect.unit (s := S32x256x256) ![0, 0, 0] S32x256x256.size inb_S32x256x256_S32x256x256_0_0_0, k0_pay104⟩ : View.Piece (Elt F) S32x256x256 .f32)]) = k0_pay104 := View.read_writes_full a13.view _ inb_S32x256x256_S32x256x256_0_0_0 _ []
  rw [e12, e13] at h
  rw [dk_A_eq (v53 := 0#32) (hv := hv), st2_eq]; unfold leftK; rw [← h]
  dsimp only
  rw [List.nil_append, View.writes_append]; rfl

theorem leftV_A : a13.view.read (Elt F) (a13.view.writes (Elt F) a13.view.junk (run_A c i a2 h2 a3 h3 a4 h4 a5 h5 a6 h6 a7 h7 a8 h8 a9 h9 a10 h10 a11 h11 a12 h12 a13 h13 hz hl x0 x1 x2 x3 x4 x5 x6).2.2.1) = leftV x0 x1 x2 x3 x4 x5 k0_pay103 k0_pay104 (i 1).val (i 1).isLt := by
  have h := st1_eq c i a2 h2 a3 h3 a4 h4 a5 h5 a6 h6 a7 h7 a8 h8 a9 h9 a10 h10 a11 h11 a12 h12 a13 h13 x0 x1 x2 x3 x4 x5 (a12.view.writes (Elt F) a12.view.junk [(⟨Rect.unit (s := S32x256x256) ![0, 0, 0] S32x256x256.size inb_S32x256x256_S32x256x256_0_0_0, k0_pay103⟩ : View.Piece (Elt F) S32x256x256 .f32)]) (a13.view.writes (Elt F) a13.view.junk [(⟨Rect.unit (s := S32x256x256) ![0, 0, 0] S32x256x256.size inb_S32x256x256_S32x256x256_0_0_0, k0_pay104⟩ : View.Piece (Elt F) S32x256x256 .f32)])
  have e12 : a12.view.read (Elt F) (a12.view.writes (Elt F) a12.view.junk [(⟨Rect.unit (s := S32x256x256) ![0, 0, 0] S32x256x256.size inb_S32x256x256_S32x256x256_0_0_0, k0_pay103⟩ : View.Piece (Elt F) S32x256x256 .f32)]) = k0_pay103 := View.read_writes_full a12.view _ inb_S32x256x256_S32x256x256_0_0_0 _ []
  have e13 : a13.view.read (Elt F) (a13.view.writes (Elt F) a13.view.junk [(⟨Rect.unit (s := S32x256x256) ![0, 0, 0] S32x256x256.size inb_S32x256x256_S32x256x256_0_0_0, k0_pay104⟩ : View.Piece (Elt F) S32x256x256 .f32)]) = k0_pay104 := View.read_writes_full a13.view _ inb_S32x256x256_S32x256x256_0_0_0 _ []
  rw [e12, e13] at h
  rw [dv_A_eq (v53 := 0#32) (hv := hv), st2_eq]; unfold leftV; rw [← h]
  dsimp only
  rw [List.nil_append, View.writes_append]; rfl

end

section
variable (c : Dev nD) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32)
variable (hz : ¬ zeroHere i = 1#1) (hl : ¬ k0_cond2 i = 1#1) (x10 x11 : Vec F S32x256x256 .f32)
  (hv : 0#32 = Scalar.fptosi 32 (k0_pay116 (a8.view.readAt (Elt F) (Rect.unit (s := S1x1x8x128) ![0, 0, 0, 0] S1x1x8x128.size inb_S1x1x8x128_S1x1x8x128_0_0_0_0).toLoadRect (h8.unread x6))))
include hv

theorem leftQ_B (f) : a9.view.read (Elt F) (a9.view.writes (Elt F) f (run_B c i a2 h2 a3 h3 a4 h4 a5 h5 a6 h6 a7 h7 a8 h8 a9 h9 a10 h10 a11 h11 a12 h12 a13 h13 hz hl x0 x1 x2 x3 x4 x5 x6 x10 x11).1) = leftQ x0 x1 x2 x3 x4 x5 x10 x11 (i 1).val (i 1).isLt := by
  have h := st1_eq c i a2 h2 a3 h3 a4 h4 a5 h5 a6 h6 a7 h7 a8 h8 a9 h9 a10 h10 a11 h11 a12 h12 a13 h13 x0 x1 x2 x3 x4 x5 (h12.unread x10) (h13.unread x11)
  have e12 : a12.view.read (Elt F) (h12.unread x10) = x10 := h12.read_unread x10
  have e13 : a13.view.read (Elt F) (h13.unread x11) = x11 := h13.read_unread x11
  rw [e12, e13] at h
  rw [dq_B_eq (v53 := 0#32) (hv := hv), st2_eq]; unfold leftQ; rw [← h]; rfl

theorem leftK_B : a12.view.read (Elt F) (a12.view.writes (Elt F) (h12.unread x10) (run_B c i a2 h2 a3 h3 a4 h4 a5 h5 a6 h6 a7 h7 a8 h8 a9 h9 a10 h10 a11 h11 a12 h12 a13 h13 hz hl x0 x1 x2 x3 x4 x5 x6 x10 x11).2.1) = leftK x0 x1 x2 x3 x4 x5 x10 x11 (i 1).val (i 1).isLt := by
  have h := st1_eq c i a2 h2 a3 h3 a4 h4 a5 h5 a6 h6 a7 h7 a8 h8 a9 h9 a10 h10 a11 h11 a12 h12 a13 h13 x0 x1 x2 x3 x4 x5 (h12.unread x10) (h13.unread x11)
  have e12 : a12.view.read (Elt F) (h12.unread x10) = x10 := h12.read_unread x10
  have e13 : a13.view.read (Elt F) (h13.unread x11) = x11 := h13.read_unread x11
  rw [e12, e13] at h
  rw [dk_B_eq (v53 := 0#32) (hv := hv), st2_eq]; unfold leftK; rw [← h]
  dsimp only
  rw [List.nil_append]; rfl

theorem leftV_B : a13.view.read (Elt F) (a13.view.writes (Elt F) (h13.unread x11) (run_B c i a2 h2 a3 h3 a4 h4 a5 h5 a6 h6 a7 h7 a8 h8 a9 h9 a10 h10 a11 h11 a12 h12 a13 h13 hz hl x0 x1 x2 x3 x4 x5 x6 x10 x11).2.2.1) = leftV x0 x1 x2 x3 x4 x5 x10 x11 (i 1).val (i 1).isLt := by
  have h := st1_eq c i a2 h2 a3 h3 a4 h4 a5 h5 a6 h6 a7 h7 a8 h8 a9 h9 a10 h10 a11 h11 a12 h12 a13 h13 x0 x1 x2 x3 x4 x5 (h12.unread x10) (h13.unread x11)
  have e12 : a12.view.read (Elt F) (h12.unread x10) = x10 := h12.read_unread x10
  have e13 : a13.view.read (Elt F) (h13.unread x11) = x11 := h13.read_unread x11
  rw [e12, e13] at h
  rw [dv_B_eq (v53 := 0#32) (hv := hv), st2_eq]; unfold leftV; rw [← h]
  dsimp only
  rw [List.nil_append]; rfl

end

section
variable (c : Dev nD) (i : grid0.Coords) (a2 : Memref sig .tc .vmem S4x64x256 .bf16) (h2 : a2.IsWhole) (a3 : Memref sig .tc .vmem S4x32x256x64 .bf16) (h3 : a3.IsWhole) (a4 : Memref sig .tc .vmem S4x32x64x256 .bf16) (h4 : a4.IsWhole) (a5 : Memref sig .tc .vmem S4x32x256x64 .bf16) (h5 : a5.IsWhole) (a6 : Memref sig .tc .vmem S4x64x256 .bf16) (h6 : a6.IsWhole) (a7 : Memref sig .tc .vmem S4x1x32x8x256 .f32) (h7 : a7.IsWhole) (a8 : Memref sig .tc .vmem S1x1x8x128 .f32) (h8 : a8.IsWhole) (a9 : Memref sig .tc .vmem S256x256 .bf16) (h9 : a9.IsWhole) (a10 : Memref sig .tc .vmem S8192x256 .bf16) (h10 : a10.IsWhole) (a11 : Memref sig .tc .vmem S8192x256 .bf16) (h11 : a11.IsWhole) (a12 : Memref sig .tc .vmem S32x256x256 .f32) (h12 : a12.IsWhole) (a13 : Memref sig .tc .vmem S32x256x256 .f32) (h13 : a13.IsWhole) (x0 : Vec F S4x64x256 .bf16) (x1 : Vec F S4x32x256x64 .bf16) (x2 : Vec F S4x32x64x256 .bf16) (x3 : Vec F S4x32x256x64 .bf16) (x4 : Vec F S4x64x256 .bf16) (x5 : Vec F S4x1x32x8x256 .f32) (x6 : Vec F S1x1x8x128 .f32)
variable (hz : ¬ zeroHere i = 1#1) (hl : k0_cond2 i = 1#1) (x10 x11 : Vec F S32x256x256 .f32)
  (hv : 0#32 = Scalar.fptosi 32 (k0_pay116 (a8.view.readAt (Elt F) (Rect.unit (s := S1x1x8x128) ![0, 0, 0, 0] S1x1x8x128.size inb_S1x1x8x128_S1x1x8x128_0_0_0_0).toLoadRect (h8.unread x6))))
include hv

theorem leftQ_C (f) : a9.view.read (Elt F) (a9.view.writes (Elt F) f (run_C c i a2 h2 a3 h3 a4 h4 a5 h5 a6 h6 a7 h7 a8 h8 a9 h9 a10 h10 a11 h11 a12 h12 a13 h13 hz hl x0 x1 x2 x3 x4 x5 x6 x10 x11).1) = leftQ x0 x1 x2 x3 x4 x5 x10 x11 (i 1).val (i 1).isLt := by
  have h := st1_eq c i a2 h2 a3 h3 a4 h4 a5 h5 a6 h6 a7 h7 a8 h8 a9 h9 a10 h10 a11 h11 a12 h12 a13 h13 x0 x1 x2 x3 x4 x5 (h12.unread x10) (h13.unread x11)
  have e12 : a12.view.read (Elt F) (h12.unread x10) = x10 := h12.read_unread x10
  have e13 : a13.view.read (Elt F) (h13.unread x11) = x11 := h13.read_unread x11
  rw [e12, e13] at h
  rw [dq_C_eq (v53 := 0#32) (hv := hv), st2_eq]; unfold leftQ; rw [← h]; rfl

theorem leftK_C : a12.view.read (Elt F) (a12.view.writes (Elt F) (h12.unread x10) (run_C c i a2 h2 a3 h3 a4 h4 a5 h5 a6 h6 a7 h7 a8 h8 a9 h9 a10 h10 a11 h11 a12 h12 a13 h13 hz hl x0 x1 x2 x3 x4 x5 x6 x10 x11).2.2.2.1) = leftK x0 x1 x2 x3 x4 x5 x10 x11 (i 1).val (i 1).isLt := by
  have h := st1_eq c i a2 h2 a3 h3 a4 h4 a5 h5 a6 h6 a7 h7 a8 h8 a9 h9 a10 h10 a11 h11 a12 h12 a13 h13 x0 x1 x2 x3 x4 x5 (h12.unread x10) (h13.unread x11)
  have e12 : a12.view.read (Elt F) (h12.unread x10) = x10 := h12.read_unread x10
  have e13 : a13.view.read (Elt F) (h13.unread x11) = x11 := h13.read_unread x11
  rw [e12, e13] at h
  rw [dk_C_eq (v53 := 0#32) (hv := hv), st2_eq]; unfold leftK; rw [← h]
  dsimp only
  rw [List.nil_append]; rfl

theorem leftV_C : a13.view.read (Elt F) (a13.view.writes (Elt F) (h13.unread x11) (run_C c i a2 h2 a3 h3 a4 h4 a5 h5 a6 h6 a7 h7 a8 h8 a9 h9 a10 h10 a11 h11 a12 h12 a13 h13 hz hl x0 x1 x2 x3 x4 x5 x6 x10 x11).2.2.2.2.1) = leftV x0 x1 x2 x3 x4 x5 x10 x11 (i 1).val (i 1).isLt := by
  have h := st1_eq c i a2 h2 a3 h3 a4 h4 a5 h5 a6 h6 a7 h7 a8 h8 a9 h9 a10 h10 a11 h11 a12 h12 a13 h13 x0 x1 x2 x3 x4 x5 (h12.unread x10) (h13.unread x11)
  have e12 : a12.view.read (Elt F) (h12.unread x10) = x10 := h12.read_unread x10
  have e13 : a13.view.read (Elt F) (h13.unread x11) = x11 := h13.read_unread x11
  rw [e12, e13] at h
  rw [dv_C_eq (v53 := 0#32) (hv := hv), st2_eq]; unfold leftV; rw [← h]
  dsimp only
  rw [List.nil_append]; rfl

end

end Cert.SbKernelIdeal

end
-- ==== Proof.SbLoop.lean ====
module

public import proofs.«01_k».proof.Proof.SbReal
public import proofs.«01_k».proof.Proof.SbState

/-! The state of the loop over key blocks at real data: the sums of the real gradient over the blocks so far. -/

@[expose] public section

set_option maxRecDepth 16384

noncomputable section

namespace Cert.SbKernelIdeal

open Idealize.ShloMosaic Idealize.ShloMosaic.TcCoe
open Gen
open Cert.Sb
open scoped BigOperators

theorem eighth : Ideal.ofBits .f32 0x3E000000#32 = ((1 / 8 : ℝ) : EReal) := by
  simp [Ideal.ofBits, Ideal.ieee, -EReal.coe_mul]; norm_num

/-- The row of a running gradient that head `g` keeps dimension `d` in. -/
def row (g : Fin 4) (d : Fin 64) : Fin 256 := ⟨64 * g.val + d.val, by have := g.isLt; have := d.isLt; omega⟩

theorem addAt_row (S : Vec Ideal S32x256x256 .f32) (n : ℕ) (h : Fin 4) (W : FVec Ideal S64x256 .f32) (n' : Fin 32) (g : Fin 4) (d : Fin 64) (r : Fin 256) :
    addAt (F := Ideal) S n h.val W (ix3 n' (row g d) r) = if n'.val = n ∧ g = h then S (ix3 n' (row g d) r) + W (ix2 d r) else S (ix3 n' (row g d) r) := by
  have e1 : (64 * g.val + d.val) / 64 = g.val := by have := d.isLt; omega
  have e2 : (64 * g.val + d.val) % 64 = d.val := by have := d.isLt; omega
  have ed : (⟨(64 * g.val + d.val) % 64, Nat.mod_lt _ (by decide)⟩ : Fin 64) = d := Fin.ext e2
  show (if n'.val = n ∧ (64 * g.val + d.val) / 64 = h.val then S (ix3 n' (row g d) r) + W (ix2 (⟨(64 * g.val + d.val) % 64, Nat.mod_lt _ (by decide)⟩ : Fin 64) r) else _) = _
  rw [ed, e1]
  simp only [Fin.ext_iff]

theorem addAll_row (S : Vec Ideal S32x256x256 .f32) (n : ℕ) (W : Fin 4 → FVec Ideal S64x256 .f32) (n' : Fin 32) (g : Fin 4) (d : Fin 64) (r : Fin 256) :
    addAll (F := Ideal) S n (W 0) (W 1) (W 2) (W 3) (ix3 n' (row g d) r) = if n'.val = n then S (ix3 n' (row g d) r) + W g (ix2 d r) else S (ix3 n' (row g d) r) := by
  show addAt (addAt (addAt (addAt S n (0 : Fin 4).val (W 0)) n (1 : Fin 4).val (W 1)) n (2 : Fin 4).val (W 2)) n (3 : Fin 4).val (W 3) _ = _
  simp only [addAt_row]
  by_cases h : n'.val = n
  · simp only [h, true_and, if_true]
    match g with
    | 0 => simp (decide := true) only [if_true, if_false]
    | 1 => simp (decide := true) only [if_true, if_false]
    | 2 => simp (decide := true) only [if_true, if_false]
    | 3 => simp (decide := true) only [if_true, if_false]
  · simp only [h, false_and, if_false]

theorem kb_apply (x : Vec Ideal S4x32x256x64 .bf16) (g : Fin 4) (n : ℕ) (hn : n < 32) (r : Fin 256) (d : Fin 64) : kb (F := Ideal) x g n hn (ix4 0 0 r d) = x (ix4 g ⟨n, hn⟩ r d) :=
  congrArg x (funext fun a => Fin.ext (by
    match a with
    | ⟨0, _⟩ => show g.val + 1 * 0 = g.val; omega
    | ⟨1, _⟩ => show n + 1 * 0 = n; omega
    | ⟨2, _⟩ => show 0 + 1 * r.val = r.val; omega
    | ⟨3, _⟩ => show 0 + 1 * d.val = d.val; omega))

theorem tb_apply (x : Vec Ideal S4x32x64x256 .bf16) (g : Fin 4) (n : ℕ) (hn : n < 32) (d : Fin 64) (r : Fin 256) : tb (F := Ideal) x g n hn (ix4 0 0 d r) = x (ix4 g ⟨n, hn⟩ d r) :=
  congrArg x (funext fun a => Fin.ext (by
    match a with
    | ⟨0, _⟩ => show g.val + 1 * 0 = g.val; omega
    | ⟨1, _⟩ => show n + 1 * 0 = n; omega
    | ⟨2, _⟩ => show 0 + 1 * d.val = d.val; omega
    | ⟨3, _⟩ => show 0 + 1 * r.val = r.val; omega))

theorem sb_apply (x : Vec Ideal S4x1x32x8x256 .f32) (g : Fin 4) (n : ℕ) (hn : n < 32) (c : Fin 256) : sb (F := Ideal) x g n hn (ix5 0 0 0 0 c) = x (ix5 g 0 ⟨n, hn⟩ 0 c) :=
  congrArg x (funext fun a => Fin.ext (by
    match a with
    | ⟨0, _⟩ => show g.val + 1 * 0 = g.val; omega
    | ⟨1, _⟩ => show 0 + 1 * 0 = 0; omega
    | ⟨2, _⟩ => show n + 1 * 0 = n; omega
    | ⟨3, _⟩ => show 0 + 1 * 0 = 0; omega
    | ⟨4, _⟩ => show 0 + 1 * c.val = c.val; omega))

theorem col_apply (x : Vec Ideal S4x64x256 .bf16) (g : Fin 4) (d : Fin 64) (c : Fin 256) : colb (F := Ideal) x g (ix3 0 d c) = x (ix3 g d c) :=
  congrArg x (funext fun a => Fin.ext (by
    match a with
    | ⟨0, _⟩ => show g.val + 1 * 0 = g.val; omega
    | ⟨1, _⟩ => show 0 + 1 * d.val = d.val; omega
    | ⟨2, _⟩ => show 0 + 1 * c.val = c.val; omega))

theorem ws_apply (x : Vec Ideal S4x64x256 .bf16) (g : Fin 4) (d : Fin 64) (c : Fin 256) : ws (F := Ideal) x g (ix2 d c) = x (ix3 g d c) := by
  have h := col_apply x g d c
  unfold ws
  generalize colb (F := Ideal) x g = y at h
  pointwise [k0_pay109]
  exact h

theorem qs_apply (x : Vec Ideal S4x64x256 .bf16) (g : Fin 4) (d : Fin 64) (c : Fin 256) {a : ℝ} (ha : x (ix3 g d c) = (a : EReal)) : qs (F := Ideal) x g (ix2 d c) = ((a * (1 / 8) : ℝ) : EReal) := by
  have h := col_apply x g d c
  unfold qs
  generalize colb (F := Ideal) x g = y at h
  pointwise [k0_pay105]
  rw [h, ha, eighth, ← EReal.coe_mul]

/-- The transposed and scaled query gradients, head by head. -/
theorem outQ (A : Fin 4 → FVec Ideal S64x256 .f32) (g : Fin 4) (d : Fin 64) (c : Fin 256) {a : ℝ} (ha : A g (ix2 d c) = (a : EReal)) :
    k0_pay2 (F := Ideal) (A 0) (A 1) (A 2) (A 3) (ix2 c (row g d)) = ((a * (1 / 8) : ℝ) : EReal) := by
  have hr : (row g d).val = 64 * g.val + d.val := rfl
  have hd := d.isLt
  pointwise [k0_pay2]
  rw [eighth, EReal.coe_mul, ← ha]
  congr 1
  match g with
  | 0 => rw [dif_pos (by rw [hr]; show 64 * 0 + d.val < 64; omega)]; exact congrArg (fun x => A 0 (ix2 x c)) (Fin.ext (by rw [hr]; show 64 * 0 + d.val = d.val; omega))
  | 1 => rw [dif_neg (by rw [hr]; show ¬64 * 1 + d.val < 64; omega), dif_pos (by rw [hr]; show 64 * 1 + d.val - 64 < 64; omega)]; exact congrArg (fun x => A 1 (ix2 x c)) (Fin.ext (by show (row 1 d).val - 64 = d.val; rw [hr]; show 64 * 1 + d.val - 64 = d.val; omega))
  | 2 => rw [dif_neg (by rw [hr]; show ¬64 * 2 + d.val < 64; omega), dif_neg (by rw [hr]; show ¬64 * 2 + d.val - 64 < 64; omega), dif_pos (by rw [hr]; show 64 * 2 + d.val - 64 - 64 < 64; omega)]; exact congrArg (fun x => A 2 (ix2 x c)) (Fin.ext (by show (row 2 d).val - 64 - 64 = d.val; rw [hr]; show 64 * 2 + d.val - 64 - 64 = d.val; omega))
  | 3 => rw [dif_neg (by rw [hr]; show ¬64 * 3 + d.val < 64; omega), dif_neg (by rw [hr]; show ¬64 * 3 + d.val - 64 < 64; omega), dif_neg (by rw [hr]; show ¬64 * 3 + d.val - 64 - 64 < 64; omega)]; exact congrArg (fun x => A 3 (ix2 x c)) (Fin.ext (by show (row 3 d).val - 64 - 64 - 64 = d.val; rw [hr]; show 64 * 3 + d.val - 64 - 64 - 64 = d.val; omega))

section
variable (k q v w : Fin 4 → ℕ → Fin 64 → ℝ) (i : ℕ)

/-- A running gradient of the keys that holds the queries' parts before block `i`, and before block `i + 1` at the key blocks before `n`. -/
def SK (n : ℕ) (S : Vec Ideal S32x256x256 .f32) : Prop := ∀ (n' : Fin 32) (g : Fin 4) (d : Fin 64) (r : Fin 256),
  S (ix3 n' (row g d) r) = (dkP (k g) (q g) (v g) (w g) (256 * if n'.val < n then i + 1 else i) (256 * n'.val + r.val) d : EReal)
@[inherit_doc SK] def SV (n : ℕ) (S : Vec Ideal S32x256x256 .f32) : Prop := ∀ (n' : Fin 32) (g : Fin 4) (d : Fin 64) (r : Fin 256),
  S (ix3 n' (row g d) r) = (dvP (k g) (q g) (w g) (256 * if n'.val < n then i + 1 else i) (256 * n'.val + r.val) d : EReal)

/-- A head's carried values after `n` key blocks. -/
def HC (n : ℕ) (g : Fin 4) (s : FVec Ideal S1x256 .f32) (a : FVec Ideal S64x256 .f32) : Prop :=
  (∀ c : Fin 256, s (ix2 0 c) = ((∑ x ∈ Finset.range (256 * n), Cert.Sb.et (k g) (q g) (v g) (w g) x (256 * i + c.val) : ℝ) : EReal))
  ∧ ∀ (d : Fin 64) (c : Fin 256), a (ix2 d c) = (dqP (k g) (q g) (v g) (w g) (256 * n) (256 * i + c.val) d : EReal)

/-- The state after `n` key blocks. -/
structure St (n : ℕ) (s : State Ideal) : Prop where
  h0 : HC k q v w i n 0 s.1.1 s.1.2.1
  h1 : HC k q v w i n 1 s.1.2.2.1 s.1.2.2.2.1
  h2 : HC k q v w i n 2 s.1.2.2.2.2.1 s.1.2.2.2.2.2.1
  h3 : HC k q v w i n 3 s.1.2.2.2.2.2.2.1 s.1.2.2.2.2.2.2.2
  dk : SK k q v w i n s.2.1
  dv : SV k q w i n s.2.2

/-- Adding a block's part. -/
theorem sk_step {n : ℕ} {S : Vec Ideal S32x256x256 .f32} (h : SK k q v w i n S) (W : Fin 4 → FVec Ideal S64x256 .f32)
    (hW : ∀ g d r, W g (ix2 d r) = ((∑ c : Fin 256, (q g (256 * i + c.val) d * (1 / 8)) * dsc (k g) (q g) (v g) (w g) (256 * n + r.val) (256 * i + c.val) : ℝ) : EReal)) :
    SK k q v w i (n + 1) (addAll S n (W 0) (W 1) (W 2) (W 3)) := fun n' g d r => by
  rw [addAll_row, h, hW]
  by_cases hn : n'.val = n
  · rw [if_pos hn, if_neg (by omega), if_pos (by omega), ← EReal.coe_add, dkP, dkP, sum_block, hn]
  · rw [if_neg hn]
    by_cases hl : n'.val < n
    · rw [if_pos hl, if_pos (by omega)]
    · rw [if_neg hl, if_neg (by omega)]

theorem sv_step {n : ℕ} {S : Vec Ideal S32x256x256 .f32} (h : SV k q w i n S) (W : Fin 4 → FVec Ideal S64x256 .f32)
    (hW : ∀ g d r, W g (ix2 d r) = ((∑ c : Fin 256, w g (256 * i + c.val) d * wt (k g) (q g) (256 * n + r.val) (256 * i + c.val) : ℝ) : EReal)) :
    SV k q w i (n + 1) (addAll S n (W 0) (W 1) (W 2) (W 3)) := fun n' g d r => by
  rw [addAll_row, h, hW]
  by_cases hn : n'.val = n
  · rw [if_pos hn, if_neg (by omega), if_pos (by omega), ← EReal.coe_add, dvP, dvP, sum_block, hn]
  · rw [if_neg hn]
    by_cases hl : n'.val < n
    · rw [if_pos hl, if_pos (by omega)]
    · rw [if_neg hl, if_neg (by omega)]

variable (x0 : Vec Ideal S4x64x256 .bf16) (x1 : Vec Ideal S4x32x256x64 .bf16) (x2 : Vec Ideal S4x32x64x256 .bf16) (x3 : Vec Ideal S4x32x256x64 .bf16) (x4 : Vec Ideal S4x64x256 .bf16) (x5 : Vec Ideal S4x1x32x8x256 .f32)

/-- The blocks of point `i`: of real data, and of the sums over the later key blocks. -/
structure Data : Prop where
  hq : ∀ g d (c : Fin 256), x0 (ix3 g d c) = (q g (256 * i + c.val) d : EReal)
  hk : ∀ g (n : Fin 32) (r : Fin 256) d, x1 (ix4 g n r d) = (k g (256 * n.val + r.val) d : EReal)
  ht : ∀ g (n : Fin 32) d (r : Fin 256), x2 (ix4 g n d r) = (k g (256 * n.val + r.val) d : EReal)
  hv : ∀ g (n : Fin 32) (r : Fin 256) d, x3 (ix4 g n r d) = (v g (256 * n.val + r.val) d : EReal)
  hw : ∀ g d (c : Fin 256), x4 (ix3 g d c) = (w g (256 * i + c.val) d : EReal)
  hs : ∀ g (n : Fin 32) (c : Fin 256), x5 (ix5 g 0 n 0 c) = (rest (k g) (q g) (256 * (n.val + 1)) (256 * i + c.val) : EReal)

variable {k q v w i x0 x1 x2 x3 x4 x5} (D : Data k q v w i x0 x1 x2 x3 x4 x5) (n : ℕ) (hn : n < 32) (g : Fin 4)
include D

theorem wt_at (hi : n < i) (r c : Fin 256) : att (F := Ideal) (qs x0 g) (kb x1 g n hn) (sb x5 g n hn) (ix2 r c) = (wt (k g) (q g) (256 * n + r.val) (256 * i + c.val) : EReal) := by
  rw [att_real (qs x0 g) (kb x1 g n hn) (sb x5 g n hn) (fun d c => qs_apply x0 g d c (D.hq g d c)) (fun r d => (kb_apply x1 g n hn r d).trans (D.hk g ⟨n, hn⟩ r d)) (fun c => (sb_apply x5 g n hn c).trans (D.hs g ⟨n, hn⟩ c))]
  exact congrArg _ (wt_block (k g) (q g) (fun _ _ => True) n i (fun r c => ⟨fun _ => by have := r.isLt; have := c.isLt; omega, fun _ => trivial⟩) r c)

theorem et_at (hi : n < i) (r c : Fin 256) : et (F := Ideal) (qs x0 g) (ws x4 g) (kb x1 g n hn) (kb x3 g n hn) (sb x5 g n hn) (ix2 r c) = (Cert.Sb.et (k g) (q g) (v g) (w g) (256 * n + r.val) (256 * i + c.val) : EReal) := by
  rw [et_real (qs x0 g) (ws x4 g) (kb x1 g n hn) (kb x3 g n hn) (sb x5 g n hn) (fun d c => qs_apply x0 g d c (D.hq g d c)) (fun d c => (ws_apply x4 g d c).trans (D.hw g d c)) (fun r d => (kb_apply x1 g n hn r d).trans (D.hk g ⟨n, hn⟩ r d)) (fun r d => (kb_apply x3 g n hn r d).trans (D.hv g ⟨n, hn⟩ r d)) (fun c => (sb_apply x5 g n hn c).trans (D.hs g ⟨n, hn⟩ c))]
  refine congrArg _ ?_
  rw [wt_block (k g) (q g) (fun _ _ => True) n i (fun r c => ⟨fun _ => by have := r.isLt; have := c.isLt; omega, fun _ => trivial⟩) r c]; rfl

theorem dsc_at (hi : n < i) {s : FVec Ideal S1x256 .f32} {a : FVec Ideal S64x256 .f32} (h : HC k q v w i n g s a) (r c : Fin 256) :
    dz (F := Ideal) s (qs x0 g) (ws x4 g) (kb x1 g n hn) (kb x3 g n hn) (sb x5 g n hn) (ix2 r c) = (dsc (k g) (q g) (v g) (w g) (256 * n + r.val) (256 * i + c.val) : EReal) := by
  rw [dz_real (qs x0 g) (ws x4 g) (kb x1 g n hn) (kb x3 g n hn) (sb x5 g n hn) (fun d c => qs_apply x0 g d c (D.hq g d c)) (fun d c => (ws_apply x4 g d c).trans (D.hw g d c)) (fun r d => (kb_apply x1 g n hn r d).trans (D.hk g ⟨n, hn⟩ r d)) (fun r d => (kb_apply x3 g n hn r d).trans (D.hv g ⟨n, hn⟩ r d)) (fun c => (sb_apply x5 g n hn c).trans (D.hs g ⟨n, hn⟩ c)) s h.1]
  exact congrArg _ (dsc_block (k g) (q g) (v g) (w g) (fun _ _ => True) n i (fun r c => ⟨fun _ => by have := r.isLt; have := c.isLt; omega, fun _ => trivial⟩) r c _ rfl)

theorem dq_at (hi : n < i) {s : FVec Ideal S1x256 .f32} {a : FVec Ideal S64x256 .f32} (h : HC k q v w i n g s a) (d : Fin 64) (c : Fin 256) :
    dqn (F := Ideal) a (tb x2 g n hn) (dz s (qs x0 g) (ws x4 g) (kb x1 g n hn) (kb x3 g n hn) (sb x5 g n hn)) (ix2 d c) = (dqP (k g) (q g) (v g) (w g) (256 * (n + 1)) (256 * i + c.val) d : EReal) := by
  rw [dqn_real a (tb x2 g n hn) _ h.2 (fun d r => (tb_apply x2 g n hn d r).trans (D.ht g ⟨n, hn⟩ d r)) (dsc_at D n hn g hi h), dqP, dqP, sum_block]

theorem dk_at (hi : n < i) {s : FVec Ideal S1x256 .f32} {a : FVec Ideal S64x256 .f32} (h : HC k q v w i n g s a) (d : Fin 64) (r : Fin 256) :
    nt (F := Ideal) (qs x0 g) (dz s (qs x0 g) (ws x4 g) (kb x1 g n hn) (kb x3 g n hn) (sb x5 g n hn)) (ix2 d r) = ((∑ c : Fin 256, (q g (256 * i + c.val) d * (1 / 8)) * dsc (k g) (q g) (v g) (w g) (256 * n + r.val) (256 * i + c.val) : ℝ) : EReal) :=
  nt_real (qs x0 g) _ (fun d c => qs_apply x0 g d c (D.hq g d c)) (dsc_at D n hn g hi h) d r

theorem dv_at (hi : n < i) (d : Fin 64) (r : Fin 256) :
    nt (F := Ideal) (ws x4 g) (truncf .bf16 (att (qs x0 g) (kb x1 g n hn) (sb x5 g n hn)) bitsLt_bf16_f32) (ix2 d r) = ((∑ c : Fin 256, w g (256 * i + c.val) d * wt (k g) (q g) (256 * n + r.val) (256 * i + c.val) : ℝ) : EReal) :=
  nt_real (ws x4 g) _ (fun d c => (ws_apply x4 g d c).trans (D.hw g d c)) (fun r c => wt_at D n hn g hi r c) d r

theorem wtm_at (hi : n = i) (r c : Fin 256) : attm (F := Ideal) (qs x0 g) (kb x1 g n hn) (sb x5 g n hn) (ix2 r c) = (wt (k g) (q g) (256 * n + r.val) (256 * i + c.val) : EReal) := by
  rw [attm_real (qs x0 g) (kb x1 g n hn) (sb x5 g n hn) (fun d c => qs_apply x0 g d c (D.hq g d c)) (fun r d => (kb_apply x1 g n hn r d).trans (D.hk g ⟨n, hn⟩ r d)) (fun c => (sb_apply x5 g n hn c).trans (D.hs g ⟨n, hn⟩ c))]
  exact congrArg _ (wt_block (k g) (q g) (fun r c => r < c) n i (fun r c => by subst hi; simp only [Fin.lt_def]; omega) r c)

theorem etm_at (hi : n = i) (r c : Fin 256) : etm (F := Ideal) (qs x0 g) (ws x4 g) (kb x1 g n hn) (kb x3 g n hn) (sb x5 g n hn) (ix2 r c) = (Cert.Sb.et (k g) (q g) (v g) (w g) (256 * n + r.val) (256 * i + c.val) : EReal) := by
  rw [etm_real (qs x0 g) (ws x4 g) (kb x1 g n hn) (kb x3 g n hn) (sb x5 g n hn) (fun d c => qs_apply x0 g d c (D.hq g d c)) (fun d c => (ws_apply x4 g d c).trans (D.hw g d c)) (fun r d => (kb_apply x1 g n hn r d).trans (D.hk g ⟨n, hn⟩ r d)) (fun r d => (kb_apply x3 g n hn r d).trans (D.hv g ⟨n, hn⟩ r d)) (fun c => (sb_apply x5 g n hn c).trans (D.hs g ⟨n, hn⟩ c))]
  refine congrArg _ ?_
  rw [wt_block (k g) (q g) (fun r c => r < c) n i (fun r c => by subst hi; simp only [Fin.lt_def]; omega) r c]; rfl

theorem dscm_at (hi : n = i) {s : FVec Ideal S1x256 .f32} {a : FVec Ideal S64x256 .f32} (h : HC k q v w i n g s a) (r c : Fin 256) :
    dzm (F := Ideal) s (qs x0 g) (ws x4 g) (kb x1 g n hn) (kb x3 g n hn) (sb x5 g n hn) (ix2 r c) = (dsc (k g) (q g) (v g) (w g) (256 * n + r.val) (256 * i + c.val) : EReal) := by
  rw [dzm_real (qs x0 g) (ws x4 g) (kb x1 g n hn) (kb x3 g n hn) (sb x5 g n hn) (fun d c => qs_apply x0 g d c (D.hq g d c)) (fun d c => (ws_apply x4 g d c).trans (D.hw g d c)) (fun r d => (kb_apply x1 g n hn r d).trans (D.hk g ⟨n, hn⟩ r d)) (fun r d => (kb_apply x3 g n hn r d).trans (D.hv g ⟨n, hn⟩ r d)) (fun c => (sb_apply x5 g n hn c).trans (D.hs g ⟨n, hn⟩ c)) s h.1]
  exact congrArg _ (dsc_block (k g) (q g) (v g) (w g) (fun r c => r < c) n i (fun r c => by subst hi; simp only [Fin.lt_def]; omega) r c _ rfl)

theorem dqm_at (hi : n = i) {s : FVec Ideal S1x256 .f32} {a : FVec Ideal S64x256 .f32} (h : HC k q v w i n g s a) (d : Fin 64) (c : Fin 256) :
    dqn (F := Ideal) a (tb x2 g n hn) (dzm s (qs x0 g) (ws x4 g) (kb x1 g n hn) (kb x3 g n hn) (sb x5 g n hn)) (ix2 d c) = (dqP (k g) (q g) (v g) (w g) (256 * (n + 1)) (256 * i + c.val) d : EReal) := by
  rw [dqn_real a (tb x2 g n hn) _ h.2 (fun d r => (tb_apply x2 g n hn d r).trans (D.ht g ⟨n, hn⟩ d r)) (dscm_at D n hn g hi h), dqP, dqP, sum_block]

theorem dkm_at (hi : n = i) {s : FVec Ideal S1x256 .f32} {a : FVec Ideal S64x256 .f32} (h : HC k q v w i n g s a) (d : Fin 64) (r : Fin 256) :
    nt (F := Ideal) (qs x0 g) (dzm s (qs x0 g) (ws x4 g) (kb x1 g n hn) (kb x3 g n hn) (sb x5 g n hn)) (ix2 d r) = ((∑ c : Fin 256, (q g (256 * i + c.val) d * (1 / 8)) * dsc (k g) (q g) (v g) (w g) (256 * n + r.val) (256 * i + c.val) : ℝ) : EReal) :=
  nt_real (qs x0 g) _ (fun d c => qs_apply x0 g d c (D.hq g d c)) (dscm_at D n hn g hi h) d r

theorem dvm_at (hi : n = i) (d : Fin 64) (r : Fin 256) :
    nt (F := Ideal) (ws x4 g) (truncf .bf16 (attm (qs x0 g) (kb x1 g n hn) (sb x5 g n hn)) bitsLt_bf16_f32) (ix2 d r) = ((∑ c : Fin 256, w g (256 * i + c.val) d * wt (k g) (q g) (256 * n + r.val) (256 * i + c.val) : ℝ) : EReal) :=
  nt_real (ws x4 g) _ (fun d c => (ws_apply x4 g d c).trans (D.hw g d c)) (fun r c => wtm_at D n hn g hi r c) d r

theorem hc_step (hi : n < i) {s : FVec Ideal S1x256 .f32} {a : FVec Ideal S64x256 .f32} (h : HC k q v w i n g s a) :
    HC k q v w i (n + 1) g (k0_pay127 s (et (qs x0 g) (ws x4 g) (kb x1 g n hn) (kb x3 g n hn) (sb x5 g n hn))) (dqn a (tb x2 g n hn) (dz s (qs x0 g) (ws x4 g) (kb x1 g n hn) (kb x3 g n hn) (sb x5 g n hn))) :=
  ⟨fun c => by rw [carry_real s h.1 _ (et_at D n hn g hi), sum_block], dq_at D n hn g hi h⟩

/-- One key block before the query block. -/
theorem st_step (hi : n < i) {s : State Ideal} (h : St k q v w i n s) : St k q v w i (n + 1) (trip1 (qs x0) (ws x4) x1 x2 x3 x5 n hn s) where
  h0 := hc_step D n hn 0 hi h.h0
  h1 := hc_step D n hn 1 hi h.h1
  h2 := hc_step D n hn 2 hi h.h2
  h3 := hc_step D n hn 3 hi h.h3
  dk := sk_step k q v w i h.dk (![nt (qs x0 0) (dz s.1.1 (qs x0 0) (ws x4 0) (kb x1 0 n hn) (kb x3 0 n hn) (sb x5 0 n hn)), nt (qs x0 1) (dz s.1.2.2.1 (qs x0 1) (ws x4 1) (kb x1 1 n hn) (kb x3 1 n hn) (sb x5 1 n hn)), nt (qs x0 2) (dz s.1.2.2.2.2.1 (qs x0 2) (ws x4 2) (kb x1 2 n hn) (kb x3 2 n hn) (sb x5 2 n hn)), nt (qs x0 3) (dz s.1.2.2.2.2.2.2.1 (qs x0 3) (ws x4 3) (kb x1 3 n hn) (kb x3 3 n hn) (sb x5 3 n hn))]) (fun g d r => by
    match g with
    | 0 => exact dk_at D n hn 0 hi h.h0 d r
    | 1 => exact dk_at D n hn 1 hi h.h1 d r
    | 2 => exact dk_at D n hn 2 hi h.h2 d r
    | 3 => exact dk_at D n hn 3 hi h.h3 d r
    )
  dv := sv_step k q w i h.dv (fun g => nt (ws x4 g) (truncf .bf16 (att (qs x0 g) (kb x1 g n hn) (sb x5 g n hn)) bitsLt_bf16_f32)) (fun g d r => dv_at D n hn g hi d r)

theorem st_loop {s : State Ideal} (h : St k q v w i 0 s) (hi : i < 32) : ∀ n, n ≤ i → St k q v w i n (loopV (qs x0) (ws x4) x1 x2 x3 x5 s n)
  | 0, _ => h
  | n + 1, hl => by
    rw [loopV, dif_pos (by omega)]
    exact st_step D n _ (by omega) (st_loop h hi n (by omega))

/-- The query block's own keys: the query gradient, -/
theorem diagQ_at (hi : n = i) {s : State Ideal} (h : St k q v w i n s) (d : Fin 64) (c : Fin 256) :
    diagQ (F := Ideal) (qs x0) (ws x4) x1 x2 x3 x5 n hn s (ix2 c (row g d)) = ((dqP (k g) (q g) (v g) (w g) (256 * (n + 1)) (256 * i + c.val) d * (1 / 8) : ℝ) : EReal) := by
  refine outQ ![dqn s.1.2.1 (tb x2 0 n hn) (dzm s.1.1 (qs x0 0) (ws x4 0) (kb x1 0 n hn) (kb x3 0 n hn) (sb x5 0 n hn)), dqn s.1.2.2.2.1 (tb x2 1 n hn) (dzm s.1.2.2.1 (qs x0 1) (ws x4 1) (kb x1 1 n hn) (kb x3 1 n hn) (sb x5 1 n hn)), dqn s.1.2.2.2.2.2.1 (tb x2 2 n hn) (dzm s.1.2.2.2.2.1 (qs x0 2) (ws x4 2) (kb x1 2 n hn) (kb x3 2 n hn) (sb x5 2 n hn)), dqn s.1.2.2.2.2.2.2.2 (tb x2 3 n hn) (dzm s.1.2.2.2.2.2.2.1 (qs x0 3) (ws x4 3) (kb x1 3 n hn) (kb x3 3 n hn) (sb x5 3 n hn))] g d c ?_
  match g with
  | 0 => exact dqm_at D n hn 0 hi h.h0 d c
  | 1 => exact dqm_at D n hn 1 hi h.h1 d c
  | 2 => exact dqm_at D n hn 2 hi h.h2 d c
  | 3 => exact dqm_at D n hn 3 hi h.h3 d c

/-- the keys' and the values'. -/
theorem diagK_at (hi : n = i) {s : State Ideal} (h : St k q v w i n s) : SK k q v w i (n + 1) (diagK (F := Ideal) (qs x0) (ws x4) x1 x3 x5 n hn s) :=
  sk_step k q v w i h.dk (![nt (qs x0 0) (dzm s.1.1 (qs x0 0) (ws x4 0) (kb x1 0 n hn) (kb x3 0 n hn) (sb x5 0 n hn)), nt (qs x0 1) (dzm s.1.2.2.1 (qs x0 1) (ws x4 1) (kb x1 1 n hn) (kb x3 1 n hn) (sb x5 1 n hn)), nt (qs x0 2) (dzm s.1.2.2.2.2.1 (qs x0 2) (ws x4 2) (kb x1 2 n hn) (kb x3 2 n hn) (sb x5 2 n hn)), nt (qs x0 3) (dzm s.1.2.2.2.2.2.2.1 (qs x0 3) (ws x4 3) (kb x1 3 n hn) (kb x3 3 n hn) (sb x5 3 n hn))]) (fun g d r => by
    match g with
    | 0 => exact dkm_at D n hn 0 hi h.h0 d r
    | 1 => exact dkm_at D n hn 1 hi h.h1 d r
    | 2 => exact dkm_at D n hn 2 hi h.h2 d r
    | 3 => exact dkm_at D n hn 3 hi h.h3 d r
    )
theorem diagV_at (hi : n = i) {s : State Ideal} (h : St k q v w i n s) : SV k q w i (n + 1) (diagV (F := Ideal) (qs x0) (ws x4) x1 x5 n hn s) :=
  sv_step k q w i h.dv (fun g => nt (ws x4 g) (truncf .bf16 (attm (qs x0 g) (kb x1 g n hn) (sb x5 g n hn)) bitsLt_bf16_f32)) (fun g d r => dvm_at D n hn g hi d r)

end

end Cert.SbKernelIdeal

end
-- ==== Proof.SbPoint.lean ====
module

public import proofs.«01_k».proof.Proof.SbState

/-! The point's results in its own blocks, when the forward pass skipped nothing. -/

@[expose] public section

set_option maxRecDepth 16384

noncomputable section

namespace Cert.SbKernelIdeal

open Idealize.ShloMosaic Idealize.ShloMosaic.TcCoe Idealize.ShloMosaic.Tactic
open Gen
open Cert.Sb

section
variable {F : FTy → Type} [FloatOps F] (m : (ℓ : Loc nD τ sig) → Buf (Elt F) ℓ) (c : Dev nD) (t : Fin cfg0.N)

/-- The running gradients the point starts from: zeros at the first point of a head group. -/
def scZ : Vec F S32x256x256 .f32 × Vec F S32x256x256 .f32 :=
  if t.val % 32 = 0 then (k0_pay103, k0_pay104) else scAt m c t.val

variable (hf : Scalar.fptosi 32 (k0_pay116 (iblk m c 6 t)) = 0#32)
include hf

theorem word0 : 0#32 = Scalar.fptosi 32 (k0_pay116 ((st0_6 t).view.readAt (Elt F) (Rect.unit (s := S1x1x8x128) ![0, 0, 0, 0] S1x1x8x128.size inb_S1x1x8x128_S1x1x8x128_0_0_0_0).toLoadRect ((hst0_6 t).unread (iblk m c 6 t)))) := by
  rw [View.readAt_full, (hst0_6 t).read_unread, hf]

set_option maxHeartbeats 2000000 in
theorem dqAt_eq : dqAt m c t = leftQ (iblk m c 0 t) (iblk m c 1 t) (iblk m c 2 t) (iblk m c 3 t) (iblk m c 4 t) (iblk m c 5 t) (scZ m c t).1 (scZ m c t).2 (grid0.coords t 1).val (grid0.coords t 1).isLt := by
  have hw := word0 m c t hf
  unfold dqAt scZ
  by_cases h0 : t.val % 32 = 0
  · rw [dif_pos h0, if_pos h0]
    refine (View.read_writes_of_cover VO7 VO7.junk (st0_7 t).view (st0_7 t).view.junk _ (cover_A_9 m c t h0 _)).trans ?_
    unfold at_A
    exact leftQ_A c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (iblk m c 0 t) (iblk m c 1 t) (iblk m c 2 t) (iblk m c 3 t) (iblk m c 4 t) (iblk m c 5 t) (iblk m c 6 t) ((zero_iff t).mpr h0) (fun h => (by omega : ¬t.val % 32 = 31) ((last_iff t).mp h)) hw _
  · rw [dif_neg h0, if_neg h0]
    by_cases h1 : t.val % 32 = 31
    · rw [dif_pos h1]
      refine (View.read_writes_of_cover VO7 VO7.junk (st0_7 t).view (st0_7 t).view.junk _ (cover_C_9 m c t h0 h1 _ _)).trans ?_
      unfold at_C
      exact leftQ_C c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (iblk m c 0 t) (iblk m c 1 t) (iblk m c 2 t) (iblk m c 3 t) (iblk m c 4 t) (iblk m c 5 t) (iblk m c 6 t) (fun h => h0 ((zero_iff t).mp h)) ((last_iff t).mpr h1) (scAt m c t.val).1 (scAt m c t.val).2 hw _
    · rw [dif_neg h1]
      refine (View.read_writes_of_cover VO7 VO7.junk (st0_7 t).view (st0_7 t).view.junk _ (cover_B_9 m c t h0 h1 _ _)).trans ?_
      unfold at_B
      exact leftQ_B c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (iblk m c 0 t) (iblk m c 1 t) (iblk m c 2 t) (iblk m c 3 t) (iblk m c 4 t) (iblk m c 5 t) (iblk m c 6 t) (fun h => h0 ((zero_iff t).mp h)) (fun h => h1 ((last_iff t).mp h)) (scAt m c t.val).1 (scAt m c t.val).2 hw _

set_option maxHeartbeats 2000000 in
theorem scAt_eq : scAt m c (t.val + 1) = (leftK (iblk m c 0 t) (iblk m c 1 t) (iblk m c 2 t) (iblk m c 3 t) (iblk m c 4 t) (iblk m c 5 t) (scZ m c t).1 (scZ m c t).2 (grid0.coords t 1).val (grid0.coords t 1).isLt,
    leftV (iblk m c 0 t) (iblk m c 1 t) (iblk m c 2 t) (iblk m c 3 t) (iblk m c 4 t) (iblk m c 5 t) (scZ m c t).1 (scZ m c t).2 (grid0.coords t 1).val (grid0.coords t 1).isLt) := by
  have hw := word0 m c t hf
  rw [scAt_succ]
  unfold step scZ
  by_cases h0 : t.val % 32 = 0
  · rw [dif_pos h0, if_pos h0]
    unfold at_A
    exact congrArg₂ Prod.mk (leftK_A c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (iblk m c 0 t) (iblk m c 1 t) (iblk m c 2 t) (iblk m c 3 t) (iblk m c 4 t) (iblk m c 5 t) (iblk m c 6 t) ((zero_iff t).mpr h0) (fun h => (by omega : ¬t.val % 32 = 31) ((last_iff t).mp h)) hw) (leftV_A c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (iblk m c 0 t) (iblk m c 1 t) (iblk m c 2 t) (iblk m c 3 t) (iblk m c 4 t) (iblk m c 5 t) (iblk m c 6 t) ((zero_iff t).mpr h0) (fun h => (by omega : ¬t.val % 32 = 31) ((last_iff t).mp h)) hw)
  · rw [dif_neg h0, if_neg h0]
    by_cases h1 : t.val % 32 = 31
    · rw [dif_pos h1]
      unfold at_C
      exact congrArg₂ Prod.mk (leftK_C c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (iblk m c 0 t) (iblk m c 1 t) (iblk m c 2 t) (iblk m c 3 t) (iblk m c 4 t) (iblk m c 5 t) (iblk m c 6 t) (fun h => h0 ((zero_iff t).mp h)) ((last_iff t).mpr h1) (scAt m c t.val).1 (scAt m c t.val).2 hw) (leftV_C c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (iblk m c 0 t) (iblk m c 1 t) (iblk m c 2 t) (iblk m c 3 t) (iblk m c 4 t) (iblk m c 5 t) (iblk m c 6 t) (fun h => h0 ((zero_iff t).mp h)) ((last_iff t).mpr h1) (scAt m c t.val).1 (scAt m c t.val).2 hw)
    · rw [dif_neg h1]
      unfold at_B
      exact congrArg₂ Prod.mk (leftK_B c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (iblk m c 0 t) (iblk m c 1 t) (iblk m c 2 t) (iblk m c 3 t) (iblk m c 4 t) (iblk m c 5 t) (iblk m c 6 t) (fun h => h0 ((zero_iff t).mp h)) (fun h => h1 ((last_iff t).mp h)) (scAt m c t.val).1 (scAt m c t.val).2 hw) (leftV_B c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) (iblk m c 0 t) (iblk m c 1 t) (iblk m c 2 t) (iblk m c 3 t) (iblk m c 4 t) (iblk m c 5 t) (iblk m c 6 t) (fun h => h0 ((zero_iff t).mp h)) (fun h => h1 ((last_iff t).mp h)) (scAt m c t.val).1 (scAt m c t.val).2 hw)
end

variable (m : (ℓ : Loc nD τ sig) → Buf (Elt Ideal) ℓ) (c : Dev nD) (t : Fin cfg0.N)

/-- A running gradient laid out by rows. -/
def rowsOf (s : Vec Ideal S32x256x256 .f32) : Vec Ideal S8192x256 .bf16 := fun y =>
  s (ix3 ⟨(y 0).val / 256, by have h : (y 0).val < 8192 := (y 0).isLt; omega⟩ (y 1) ⟨(y 0).val % 256, by omega⟩)

theorem out_k (v : Vec Ideal S1x256x256 .f32) (r d : Fin 256) : k0_pay3 (F := Ideal) v (ix2 r d) = v (ix3 0 d r) := by
  pointwise [k0_pay3]
theorem out_v (v : Vec Ideal S1x256x256 .f32) (r d : Fin 256) : k0_pay4 (F := Ideal) v (ix2 r d) = v (ix3 0 d r) := by
  pointwise [k0_pay4]

theorem piece_k (i : grid0.Coords) (hl : k0_cond2 i = 1#1) (X : BufTy.Contents (Elt Ideal) sc0.view.ty) (j : Fin k0_t3_loop.trips) (x : S256x256.Idx) :
    (flushK (F := Ideal) i sc0 hl X j).2 x = rowsOf (sc0.view.read (Elt Ideal) X) ((flushK (F := Ideal) i sc0 hl X j).1.emb x) := by
  have hj : j.val < 32 := lt_of_lt_of_eq j.isLt flush_trips
  have h0 : (x 0).val < 256 := (x 0).isLt
  have h1 : (x 1).val < 256 := (x 1).isLt
  obtain ⟨r, d, rfl⟩ : ∃ r d, x = ix2 r d := ⟨(⟨(x 0).val, h0⟩ : Fin 256), (⟨(x 1).val, h1⟩ : Fin 256), by funext a; match a with | ⟨0, _⟩ => rfl | ⟨1, _⟩ => rfl⟩
  refine (out_k _ r d).trans ?_
  refine congrArg (sc0.view.read (Elt Ideal) X) (funext fun b => Fin.ext ?_)
  have e1 := congrFun (flush_from j)
  have e2 := congrFun (flush_to j)
  match b with
  | ⟨0, _⟩ =>
    show k0_off49 j 0 + 1 * 0 = (k0_off50 j 0 + 1 * r.val) / 256
    rw [e1, e2]; show j.val + 1 * 0 = (256 * j.val + 1 * r.val) / 256; omega
  | ⟨1, _⟩ =>
    show k0_off49 j 1 + 1 * d.val = k0_off50 j 1 + 1 * d.val
    rw [e1, e2]; rfl
  | ⟨2, _⟩ =>
    show k0_off49 j 2 + 1 * r.val = (k0_off50 j 0 + 1 * r.val) % 256
    rw [e1, e2]; show 0 + 1 * r.val = (256 * j.val + 1 * r.val) % 256; omega

theorem dkAt_eq (h1 : t.val % 32 = 31) : dkAt m c t = rowsOf (scAt m c (t.val + 1)).1 := by
  have h0 : ¬t.val % 32 = 0 := by omega
  unfold dkAt
  rw [dif_pos h1, scAt_succ]
  unfold step
  rw [dif_neg h0, dif_pos h1]
  funext y
  refine View.read_writes_apply_of_pieces _ _ (rowsOf _) _ ?_ y (cover_C_10 m c t h0 h1 _ _ y)
  unfold at_C run_C
  dsimp only
  intro p hp x
  obtain ⟨j, -, rfl⟩ := ((mem_flush _ c _ (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) ((last_iff t).mpr h1) _ _ _ le_rfl).1 _).mp hp
  exact piece_k _ _ _ j x

theorem piece_v (i : grid0.Coords) (hl : k0_cond2 i = 1#1) (X : BufTy.Contents (Elt Ideal) sc1.view.ty) (j : Fin k0_t3_loop.trips) (x : S256x256.Idx) :
    (flushV (F := Ideal) i sc1 hl X j).2 x = rowsOf (sc1.view.read (Elt Ideal) X) ((flushV (F := Ideal) i sc1 hl X j).1.emb x) := by
  have hj : j.val < 32 := lt_of_lt_of_eq j.isLt flush_trips
  have h0 : (x 0).val < 256 := (x 0).isLt
  have h1 : (x 1).val < 256 := (x 1).isLt
  obtain ⟨r, d, rfl⟩ : ∃ r d, x = ix2 r d := ⟨(⟨(x 0).val, h0⟩ : Fin 256), (⟨(x 1).val, h1⟩ : Fin 256), by funext a; match a with | ⟨0, _⟩ => rfl | ⟨1, _⟩ => rfl⟩
  refine (out_v _ r d).trans ?_
  refine congrArg (sc1.view.read (Elt Ideal) X) (funext fun b => Fin.ext ?_)
  have e1 := congrFun (flush_from j)
  have e2 := congrFun (flush_to j)
  match b with
  | ⟨0, _⟩ =>
    show k0_off49 j 0 + 1 * 0 = (k0_off50 j 0 + 1 * r.val) / 256
    rw [e1, e2]; show j.val + 1 * 0 = (256 * j.val + 1 * r.val) / 256; omega
  | ⟨1, _⟩ =>
    show k0_off49 j 1 + 1 * d.val = k0_off50 j 1 + 1 * d.val
    rw [e1, e2]; rfl
  | ⟨2, _⟩ =>
    show k0_off49 j 2 + 1 * r.val = (k0_off50 j 0 + 1 * r.val) % 256
    rw [e1, e2]; show 0 + 1 * r.val = (256 * j.val + 1 * r.val) % 256; omega

theorem dvAt_eq (h1 : t.val % 32 = 31) : dvAt m c t = rowsOf (scAt m c (t.val + 1)).2 := by
  have h0 : ¬t.val % 32 = 0 := by omega
  unfold dvAt
  rw [dif_pos h1, scAt_succ]
  unfold step
  rw [dif_neg h0, dif_pos h1]
  funext y
  refine View.read_writes_apply_of_pieces _ _ (rowsOf _) _ ?_ y (cover_C_11 m c t h0 h1 _ _ y)
  unfold at_C run_C
  dsimp only
  intro p hp x
  obtain ⟨j, -, rfl⟩ := ((mem_flush _ c _ (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t) (st0_8 t) (hst0_8 t) (st0_9 t) (hst0_9 t) sc0 (Memref.isWhole_whole _) sc1 (Memref.isWhole_whole _) ((last_iff t).mpr h1) _ _ _ le_rfl).2 _).mp hp
  exact piece_v _ _ _ j x

end Cert.SbKernelIdeal

end
-- ==== Proof.SbScan.lean ====
module

public import Idealize.ShloMosaic.Lib.Pipeline.ValueKit
public import Idealize.ShloMosaic.Lib.StableHlo.Run
public import proofs.«01_k».proof.Proof.Finite

/-! Running sums along an axis, written as windows of a padded array. -/

@[expose] public section

noncomputable section

namespace Cert.Sb

open Idealize.ShloMosaic
open scoped BigOperators

theorem foldl_add {ι : Type} (g : ι → EReal) : ∀ (l : List ι) (r : EReal), l.foldl (fun r n => r + g n) r = r + (l.map g).sum
  | [], r => by simp
  | a :: l, r => by rw [List.foldl_cons, foldl_add g l, List.map_cons, List.sum_cons, add_assoc]

/-- A window's sum over its positions, the padding counting zero. -/
theorem window_sum {s t : Shape} (window strides lo hi : Fin s.rank → Nat) (h : s.ReduceWindows window strides lo hi t) (x : s.Idx → EReal) (j : t.Idx) :
    Ideal.hostReduceWindowAdd window strides lo hi h x 0 j
      = ∑ p : (⟨s.rank, window⟩ : Shape).Idx, if hin : ∀ a, lo a ≤ (j (a.cast h.1.symm)).val * strides a + (p a).val
          ∧ (j (a.cast h.1.symm)).val * strides a + (p a).val - lo a < s.size a
        then x (fun a => ⟨(j (a.cast h.1.symm)).val * strides a + (p a).val - lo a, (hin a).2⟩) else 0 := by
  unfold Ideal.hostReduceWindowAdd Host.reduceWindow
  dsimp only
  rw [← Equiv.sum_comp (⟨s.rank, window⟩ : Shape).rowMajor.symm, ← List.sum_ofFn, List.ofFn_eq_map]
  refine (foldl_add _ _ 0).trans ?_
  rw [zero_add]
  refine congrArg List.sum (List.map_congr_left fun n _ => ?_)
  congr

/-- The host's window sum from a zero. -/
theorem host_window {s t u : Shape} (window strides lo hi : Fin s.rank → Nat) (x : FVec Ideal s .f32) (init : FVec Ideal u .f32) (h : s.ReduceWindows window strides lo hi t)
    (hu : 0 < u.numel) (h0 : init (Shape.Idx.first hu) = (0 : EReal)) :
    Host.reduceWindowAdd (F := Ideal) (φ := .f32) window strides lo hi x init h hu = Ideal.hostReduceWindowAdd window strides lo hi h x 0 :=
  congrArg (fun z : EReal => Ideal.hostReduceWindowAdd window strides lo hi h x z) h0

theorem zero_bits : Ideal.ofBits .f32 0x00000000#32 = 0 := by simp [Ideal.ofBits, Ideal.ieee]

theorem sum_from (f : ℕ → ℝ) (N n : ℕ) (hn : n ≤ N) : ∑ a ∈ Finset.range N, (if n + a < N then f (n + a) else 0) = ∑ x ∈ Finset.range N, f x - ∑ x ∈ Finset.range n, f x := by
  obtain ⟨k, rfl⟩ := Nat.exists_eq_add_of_le hn
  have h1 : ∑ x ∈ Finset.range (n + k), f x = ∑ x ∈ Finset.range n, f x + ∑ a ∈ Finset.range k, f (n + a) := Finset.sum_range_add f n k
  have h2 : ∑ a ∈ Finset.range (n + k), (if n + a < n + k then f (n + a) else 0)
      = ∑ a ∈ Finset.range k, (if n + a < n + k then f (n + a) else 0) + ∑ a ∈ Finset.range n, (if n + (k + a) < n + k then f (n + (k + a)) else 0) :=
    (congrArg (fun N => ∑ a ∈ Finset.range N, (if n + a < n + k then f (n + a) else 0)) (Nat.add_comm n k)).trans
      (Finset.sum_range_add (fun a => if n + a < n + k then f (n + a) else 0) k n)
  have h3 : ∑ a ∈ Finset.range n, (if n + (k + a) < n + k then f (n + (k + a)) else 0) = 0 := Finset.sum_eq_zero fun a _ => if_neg (by omega)
  have h4 : ∑ a ∈ Finset.range k, (if n + a < n + k then f (n + a) else 0) = ∑ a ∈ Finset.range k, f (n + a) :=
    Finset.sum_congr rfl fun a ha => if_pos (by have := Finset.mem_range.mp ha; omega)
  rw [h1, h2, h3, h4]; ring

theorem sum_upto (f : ℕ → ℝ) (N n : ℕ) (hn : n < N) : ∑ a ∈ Finset.range N, (if N - 1 ≤ n + a then f (n + a - (N - 1)) else 0) = ∑ x ∈ Finset.range (n + 1), f x := by
  obtain ⟨k, rfl⟩ := Nat.exists_eq_add_of_lt hn
  have h2 : ∑ a ∈ Finset.range (n + k + 1), (if n + k + 1 - 1 ≤ n + a then f (n + a - (n + k + 1 - 1)) else 0)
      = ∑ a ∈ Finset.range k, (if n + k + 1 - 1 ≤ n + a then f (n + a - (n + k + 1 - 1)) else 0)
        + ∑ a ∈ Finset.range (n + 1), (if n + k + 1 - 1 ≤ n + (k + a) then f (n + (k + a) - (n + k + 1 - 1)) else 0) :=
    (congrArg (fun N => ∑ a ∈ Finset.range N, (if n + k + 1 - 1 ≤ n + a then f (n + a - (n + k + 1 - 1)) else 0)) (by omega : n + k + 1 = k + (n + 1))).trans
      (Finset.sum_range_add (fun a => if n + k + 1 - 1 ≤ n + a then f (n + a - (n + k + 1 - 1)) else 0) k (n + 1))
  have h3 : ∑ a ∈ Finset.range k, (if n + k + 1 - 1 ≤ n + a then f (n + a - (n + k + 1 - 1)) else 0) = 0 :=
    Finset.sum_eq_zero fun a ha => if_neg (by have := Finset.mem_range.mp ha; omega)
  rw [h2, h3, zero_add]
  exact Finset.sum_congr rfl fun a _ => by rw [if_pos (by omega), show n + (k + a) - (n + k + 1 - 1) = a by omega]

variable {A N B : ℕ}

/-- Along the middle axis, what is left from a position on. -/
theorem scan_mid (hi : Fin 3 → ℕ) (h : (⟨3, ![A, N, B]⟩ : Shape).ReduceWindows ![1, N, 1] ![1, 1, 1] ![0, 0, 0] hi ⟨3, ![A, N, B]⟩)
    (x : (⟨3, ![A, N, B]⟩ : Shape).Idx → EReal) (a : Fin A) (b : Fin B) (f : ℕ → ℝ) (hf : ∀ n : Fin N, x (ix3 a n b) = (f n.val : EReal)) (n : Fin N) :
    Ideal.hostReduceWindowAdd ![1, N, 1] ![1, 1, 1] ![0, 0, 0] hi h x 0 (ix3 a n b) = ((∑ x ∈ Finset.range N, f x - ∑ x ∈ Finset.range n.val, f x : ℝ) : EReal) := by
  rw [window_sum, ← sum_from f N n.val n.isLt.le, ← Fin.sum_univ_eq_sum_range (fun a => if n.val + a < N then f (n.val + a) else 0) N, Finite.coe_sum]
  refine (sum_idx3 _).trans ?_
  simp only [Finset.univ_unique, Finset.sum_singleton]
  refine Finset.sum_congr rfl fun p _ => ?_
  by_cases hp : n.val + p.val < N
  · rw [if_pos hp, ← hf ⟨n.val + p.val, by omega⟩, dif_pos (by
      intro q
      match q with
      | ⟨0, _⟩ => show 0 ≤ a.val * 1 + 0 ∧ a.val * 1 + 0 - (0) < A; omega
      | ⟨1, _⟩ => show 0 ≤ n.val * 1 + p.val ∧ n.val * 1 + p.val - (0) < N; omega
      | ⟨2, _⟩ => show 0 ≤ b.val * 1 + 0 ∧ b.val * 1 + 0 - (0) < B; omega)]
    refine congrArg x (funext fun q => Fin.ext ?_)
    match q with
    | ⟨0, _⟩ => show a.val * 1 + 0 - (0) = a.val; omega
    | ⟨1, _⟩ => show n.val * 1 + p.val - (0) = n.val + p.val; omega
    | ⟨2, _⟩ => show b.val * 1 + 0 - (0) = b.val; omega
  · rw [if_neg hp, dif_neg, EReal.coe_zero]
    intro hin
    have e : 0 ≤ n.val * 1 + p.val ∧ n.val * 1 + p.val - (0) < N := hin 1
    exact hp (by omega)

/-- Along the last axis, what is left from a position on. -/
theorem scan_last (hi : Fin 3 → ℕ) (h : (⟨3, ![A, B, N]⟩ : Shape).ReduceWindows ![1, 1, N] ![1, 1, 1] ![0, 0, 0] hi ⟨3, ![A, B, N]⟩)
    (x : (⟨3, ![A, B, N]⟩ : Shape).Idx → EReal) (a : Fin A) (b : Fin B) (f : ℕ → ℝ) (hf : ∀ n : Fin N, x (ix3 a b n) = (f n.val : EReal)) (n : Fin N) :
    Ideal.hostReduceWindowAdd ![1, 1, N] ![1, 1, 1] ![0, 0, 0] hi h x 0 (ix3 a b n) = ((∑ x ∈ Finset.range N, f x - ∑ x ∈ Finset.range n.val, f x : ℝ) : EReal) := by
  rw [window_sum, ← sum_from f N n.val n.isLt.le, ← Fin.sum_univ_eq_sum_range (fun a => if n.val + a < N then f (n.val + a) else 0) N, Finite.coe_sum]
  refine (sum_idx3 _).trans ?_
  simp only [Finset.univ_unique, Finset.sum_singleton]
  refine Finset.sum_congr rfl fun p _ => ?_
  by_cases hp : n.val + p.val < N
  · rw [if_pos hp, ← hf ⟨n.val + p.val, by omega⟩, dif_pos (by
      intro q
      match q with
      | ⟨0, _⟩ => show 0 ≤ a.val * 1 + 0 ∧ a.val * 1 + 0 - (0) < A; omega
      | ⟨1, _⟩ => show 0 ≤ b.val * 1 + 0 ∧ b.val * 1 + 0 - (0) < B; omega
      | ⟨2, _⟩ => show 0 ≤ n.val * 1 + p.val ∧ n.val * 1 + p.val - (0) < N; omega)]
    refine congrArg x (funext fun q => Fin.ext ?_)
    match q with
    | ⟨0, _⟩ => show a.val * 1 + 0 - (0) = a.val; omega
    | ⟨1, _⟩ => show b.val * 1 + 0 - (0) = b.val; omega
    | ⟨2, _⟩ => show n.val * 1 + p.val - (0) = n.val + p.val; omega
  · rw [if_neg hp, dif_neg, EReal.coe_zero]
    intro hin
    have e : 0 ≤ n.val * 1 + p.val ∧ n.val * 1 + p.val - (0) < N := hin 2
    exact hp (by omega)

/-- Along the last axis, the sum up to and with a position. -/
theorem scan_upto (hi : Fin 3 → ℕ) (h : (⟨3, ![A, B, N]⟩ : Shape).ReduceWindows ![1, 1, N] ![1, 1, 1] ![0, 0, N - 1] hi ⟨3, ![A, B, N]⟩)
    (x : (⟨3, ![A, B, N]⟩ : Shape).Idx → EReal) (a : Fin A) (b : Fin B) (f : ℕ → ℝ) (hf : ∀ n : Fin N, x (ix3 a b n) = (f n.val : EReal)) (n : Fin N) :
    Ideal.hostReduceWindowAdd ![1, 1, N] ![1, 1, 1] ![0, 0, N - 1] hi h x 0 (ix3 a b n) = ((∑ x ∈ Finset.range (n.val + 1), f x : ℝ) : EReal) := by
  rw [window_sum, ← sum_upto f N n.val n.isLt, ← Fin.sum_univ_eq_sum_range (fun a => if N - 1 ≤ n.val + a then f (n.val + a - (N - 1)) else 0) N, Finite.coe_sum]
  refine (sum_idx3 _).trans ?_
  simp only [Finset.univ_unique, Finset.sum_singleton]
  refine Finset.sum_congr rfl fun p _ => ?_
  by_cases hp : N - 1 ≤ n.val + p.val
  · rw [if_pos hp, ← hf ⟨n.val + p.val - (N - 1), by omega⟩, dif_pos (by
      intro q
      match q with
      | ⟨0, _⟩ => show 0 ≤ a.val * 1 + 0 ∧ a.val * 1 + 0 - (0) < A; omega
      | ⟨1, _⟩ => show 0 ≤ b.val * 1 + 0 ∧ b.val * 1 + 0 - (0) < B; omega
      | ⟨2, _⟩ => show N - 1 ≤ n.val * 1 + p.val ∧ n.val * 1 + p.val - (N - 1) < N; omega)]
    refine congrArg x (funext fun q => Fin.ext ?_)
    match q with
    | ⟨0, _⟩ => show a.val * 1 + 0 - (0) = a.val; omega
    | ⟨1, _⟩ => show b.val * 1 + 0 - (0) = b.val; omega
    | ⟨2, _⟩ => show n.val * 1 + p.val - (N - 1) = n.val + p.val - (N - 1); omega
  · rw [if_neg hp, dif_neg, EReal.coe_zero]
    intro hin
    have e : N - 1 ≤ n.val * 1 + p.val ∧ n.val * 1 + p.val - (N - 1) < N := hin 2
    exact hp (by omega)

end Cert.Sb

end
-- ==== Proof.SbArgs.lean ====
module

public import proofs.«01_k».proof.Proof.SbReal
public import proofs.«01_k».proof.Proof.SbScan

/-! The arguments of stick-breaking attention as real functions of the position and the dimension, head by head. -/

@[expose] public section

noncomputable section

namespace Cert.Sb

open Idealize.ShloMosaic
open scoped BigOperators

/-- Column of head `h` and dimension `d`. -/
abbrev hd (h : Fin 8) (d : Fin 64) : Fin 512 := ⟨64 * h.val + d.val, by have := h.isLt; have := d.isLt; omega⟩

/-- A head's rows of an argument, as reals. -/
def rd (X : (⟨2, ![8192, 512]⟩ : Shape).Idx → EReal) (h : Fin 8) (y : ℕ) (d : Fin 64) : ℝ :=
  if hy : y < 8192 then (X (ix2 ⟨y, hy⟩ (hd h d))).toReal else 0

theorem rd_eq {X : (⟨2, ![8192, 512]⟩ : Shape).Idx → EReal} (hX : ∀ j, ∃ r : ℝ, X j = (r : EReal)) (h : Fin 8) (y : Fin 8192) (d : Fin 64) :
    X (ix2 y (hd h d)) = (rd X h y.val d : EReal) := by
  obtain ⟨r, hr⟩ := hX (ix2 y (hd h d))
  rw [rd, dif_pos y.isLt, hr, EReal.toReal_coe]

/-- The comparison of two positions as a bit. -/
theorem pos_lt (x y : Fin 8192) : (IntOp.cmpi CmpIPredicate.slt (BitVec.ofNat 32 x.val) (BitVec.ofNat 32 y.val) = 1#1) ↔ x.val < y.val := by
  have e : ∀ y : Fin 8192, (BitVec.ofNat 32 y.val).toInt = y.val := fun y => by
    have := y.isLt
    rw [BitVec.toInt_eq_toNat_of_lt] <;> rw [BitVec.toNat_ofNat] <;> omega
  simp only [IntOp.cmpi, BitVec.slt_eq_decide, e, Nat.cast_lt]
  by_cases hh : x.val < y.val <;> simp [hh]

theorem select_pos {α : Type} (x y : Fin 8192) (a b : α) :
    Scalar.select (IntOp.cmpi CmpIPredicate.slt (BitVec.ofNat 32 x.val) (BitVec.ofNat 32 y.val)) a b = if x.val < y.val then a else b := by
  show (if IntOp.cmpi CmpIPredicate.slt (BitVec.ofNat 32 x.val) (BitVec.ofNat 32 y.val) = 1#1 then a else b) = _
  simp only [pos_lt]

end Cert.Sb

end
-- ==== Proof.SbHost.lean ====
module

public import proofs.«01_k».proof.Proof.SbLoop
public import proofs.«01_k».proof.Proof.SbPoint
public import proofs.«01_k».proof.Proof.SbArgs
public import Idealize.ShloMosaic.Lib.Pipeline.ValueKit
public import Idealize.ShloMosaic.Lib.StableHlo.Run

/-! The blocks the points read, from the real arguments. -/

@[expose] public section

set_option maxRecDepth 16384

noncomputable section

namespace Cert.SbKernelIdeal

open Idealize.ShloMosaic Idealize.ShloMosaic.TcCoe Idealize.SL.Sem
open Gen
open Cert.Sb
open scoped BigOperators

theorem idx_val : ∀ t : Fin cfg0.N, win0_0.index t = ![t.val / 32, 0, t.val % 32]
    ∧ win0_1.index t = ![t.val / 32, 0, 0, 0]
    ∧ win0_2.index t = ![t.val / 32, 0, 0, 0]
    ∧ win0_3.index t = ![t.val / 32, 0, 0, 0]
    ∧ win0_4.index t = ![t.val / 32, 0, t.val % 32] := by decide +kernel
theorem idx_val5 : ∀ t : Fin cfg0.N, win0_5.index t = ![t.val / 32, t.val % 32, 0, 0, 0] := by decide +kernel
theorem idx_val6 : ∀ t : Fin cfg0.N, win0_6.index t = ![0, t.val % 32, 0, 0] := by decide +kernel
theorem idx_val7 : ∀ t : Fin cfg0.N, win0_7.index t = ![t.val % 32, t.val / 32] := by decide +kernel
theorem idx_val8 : ∀ t : Fin cfg0.N, win0_8.index t = ![0, t.val / 32] := by decide +kernel
theorem idx_val9 : ∀ t : Fin cfg0.N, win0_9.index t = ![0, t.val / 32] := by decide +kernel

variable (m : (ℓ : Loc nD τ sig) → Buf (Elt Ideal) ℓ) (c : Dev nD) (t : Fin cfg0.N)

/-- The arguments' arrays. -/
def aq : (⟨2, ![8192, 512]⟩ : Shape).Idx → EReal := m ((c : Thread nD τ).loc main_arg0)
@[inherit_doc aq] def ak : (⟨2, ![8192, 512]⟩ : Shape).Idx → EReal := m ((c : Thread nD τ).loc main_arg1)
@[inherit_doc aq] def av : (⟨2, ![8192, 512]⟩ : Shape).Idx → EReal := m ((c : Thread nD τ).loc main_arg2)
@[inherit_doc aq] def aw : (⟨2, ![8192, 512]⟩ : Shape).Idx → EReal := m ((c : Thread nD τ).loc main_arg3)

theorem v2_at (h : Fin 8) (d : Fin 64) (y : Fin 8192) : V m c main_v2 (ix3 h d y) = aq m c (ix2 y (hd h d)) := by
  unfold_abbrev_sides
  simp only [List.flatten_cons, List.flatten_nil, List.append_nil, List.cons_append, List.nil_append, StableHlo.after_cons, StableHlo.after_nil]
  after_results_simp
  pointwise [aq]
  blk_point

theorem v5_at (h : Fin 8) (d : Fin 64) (y : Fin 8192) : V m c main_v5 (ix3 h d y) = aw m c (ix2 y (hd h d)) := by
  unfold_abbrev_sides
  simp only [List.flatten_cons, List.flatten_nil, List.append_nil, List.cons_append, List.nil_append, StableHlo.after_cons, StableHlo.after_nil]
  after_results_simp
  pointwise [aw]
  blk_point

theorem v8_at (h : Fin 8) (n : Fin 32) (r : Fin 256) (d : Fin 64) : V m c main_v8 (ix4 h n r d) = ak m c (ix2 ⟨256 * n.val + r.val, by omega⟩ (hd h d)) := by
  unfold_abbrev_sides
  simp only [List.flatten_cons, List.flatten_nil, List.append_nil, List.cons_append, List.nil_append, StableHlo.after_cons, StableHlo.after_nil]
  after_results_simp
  pointwise [ak]
  blk_point

theorem v11_at (h : Fin 8) (n : Fin 32) (d : Fin 64) (r : Fin 256) : V m c main_v11 (ix4 h n d r) = ak m c (ix2 ⟨256 * n.val + r.val, by omega⟩ (hd h d)) := by
  unfold_abbrev_sides
  simp only [List.flatten_cons, List.flatten_nil, List.append_nil, List.cons_append, List.nil_append, StableHlo.after_cons, StableHlo.after_nil]
  after_results_simp
  pointwise [ak]
  blk_point

theorem v14_at (h : Fin 8) (n : Fin 32) (r : Fin 256) (d : Fin 64) : V m c main_v14 (ix4 h n r d) = av m c (ix2 ⟨256 * n.val + r.val, by omega⟩ (hd h d)) := by
  unfold_abbrev_sides
  simp only [List.flatten_cons, List.flatten_nil, List.append_nil, List.cons_append, List.nil_append, StableHlo.after_cons, StableHlo.after_nil]
  after_results_simp
  pointwise [av]
  blk_point

/-- The host's arrays on the way to the saved sums. -/
abbrev H21 : FVec Ideal S8x8192x8192 .f32 := V m c main_v21
@[inherit_doc H21] abbrev H28 : IVec S1x8192x8192 1 := V m c main_v28
@[inherit_doc H21] abbrev H37 : FVec Ideal S8x8192x8192 .f32 := V m c main_v37
@[inherit_doc H21] abbrev H39 : FVec Ideal S8x8192x8192 .f32 := V m c main_v39
@[inherit_doc H21] abbrev H41 : FVec Ideal S8x32x8192 .f32 := V m c main_v41
@[inherit_doc H21] abbrev H42 : FVec Ideal S8x32x8192 .f32 := V m c main_v42
@[inherit_doc H21] abbrev H46 : FVec Ideal S8x32x32x8x256 .f32 := V m c main_v46
@[inherit_doc H21] abbrev H47 : FVec Ideal S1x32x8x128 .f32 := V m c main_v47

theorem v47_at (y : S1x32x8x128.Idx) : H47 m c y = Ideal.ofBits .f32 0x00000000#32 := by
  unfold_abbrev_sides
  simp only [List.flatten_cons, List.flatten_nil, List.append_nil, List.cons_append, List.nil_append, StableHlo.after_cons, StableHlo.after_nil]
  after_results_simp
  pointwise

theorem v21_at (h : Fin 8) (x y : Fin 8192) : H21 m c (ix3 h x y) = ∑ d : Fin 64, ak m c (ix2 x (hd h d)) * (aq m c (ix2 y (hd h d)) * Ideal.ofBits .f32 0x3E000000#32) := by
  unfold_abbrev_sides
  simp only [List.flatten_cons, List.flatten_nil, List.append_nil, List.cons_append, List.nil_append, StableHlo.after_cons, StableHlo.after_nil]
  after_results_simp
  pointwise [ak, aq]
  refine (show (∑ d : Fin 64, (_ : EReal)) = ∑ d : Fin 64, (_ : EReal) from Finset.sum_congr rfl fun d _ => ?_)
  have e : (⟨h.val * 64 + d.val, by have := h.isLt; have := d.isLt; omega⟩ : Fin 512) = hd h d := Fin.ext (by show h.val * 64 + d.val = 64 * h.val + d.val; omega)
  rw [e]

theorem v28_at (x y : Fin 8192) : H28 m c (ix3 0 x y) = IntOp.cmpi CmpIPredicate.slt (BitVec.ofNat 32 x.val) (BitVec.ofNat 32 y.val) := by
  unfold_abbrev_sides
  simp only [List.flatten_cons, List.flatten_nil, List.append_nil, List.cons_append, List.nil_append, StableHlo.after_cons, StableHlo.after_nil]
  after_results_simp
  pointwise

theorem v37_eq : H37 m c = subf (minimumf (H21 m c) (broadcastInDim S8x8192x8192 ![] bcast_S_S8x8192x8192 (constant S_ .f32 0x00000000#32))) (Host.log (addf (broadcastInDim S8x8192x8192 ![] bcast_S_S8x8192x8192 (constant S_ .f32 0x3F800000#32)) (Host.exp (Host.negf (Host.absf (H21 m c)))))) := by
  unfold_abbrev_sides
  simp only [List.flatten_cons, List.flatten_nil, List.append_nil, List.cons_append, List.nil_append, StableHlo.after_cons, StableHlo.after_nil]
  after_results_simp
  rfl

theorem v39_eq : H39 m c = select (broadcastInDim S8x8192x8192 ![0, 1, 2] bcast_S1x8192x8192_S8x8192x8192_0_1_2 (H28 m c)) (subf (H37 m c) (H21 m c)) (broadcastInDim S8x8192x8192 ![] bcast_S_S8x8192x8192 (constant S_ .f32 0x00000000#32)) := by
  unfold_abbrev_sides
  simp only [List.flatten_cons, List.flatten_nil, List.append_nil, List.cons_append, List.nil_append, StableHlo.after_cons, StableHlo.after_nil]
  after_results_simp
  rfl

theorem v41_eq : H41 m c = Host.reduceAdd (shapeCast S8x32x256x8192 (H39 m c) shapeCasts_S8x8192x8192_S8x32x256x8192) (constant S_ .f32 0x00000000#32) reducesTo_S8x32x256x8192_S8x32x8192_d2 h_S_ := by
  unfold_abbrev_sides
  simp only [List.flatten_cons, List.flatten_nil, List.append_nil, List.cons_append, List.nil_append, StableHlo.after_cons, StableHlo.after_nil]
  after_results_simp
  rfl

theorem v42_eq : H42 m c = Host.reduceWindowAdd ![1, 32, 1] ![1, 1, 1] ![0, 0, 0] ![0, 31, 0] (H41 m c) (broadcastInDim S_ ![] bcast_S_S_ (constant S_ .f32 0x00000000#32)) reduceWindows_S8x32x8192_S8x32x8192_w1s1p0_0_w32s1p0_31_w1s1p0_0 h_S_ := by
  unfold_abbrev_sides
  simp only [List.flatten_cons, List.flatten_nil, List.append_nil, List.cons_append, List.nil_append, StableHlo.after_cons, StableHlo.after_nil]
  after_results_simp
  rfl

theorem V_last (b : DevRef τ sig) : StableHlo.after (List.flatten [hostOps0 (F := Ideal), hostOps0_1, hostOps0_2, hostOps0_3, hostOps0_4]) (fun b => m (c, b)) b
    = StableHlo.after hostOps0_4 (StableHlo.after (List.flatten [hostOps0 (F := Ideal), hostOps0_1, hostOps0_2, hostOps0_3]) (fun b => m (c, b))) b := by
  rw [← StableHlo.after_append]
  rfl

theorem v46_eq : H46 m c = broadcastInDim S8x32x32x8x256 ![0, 1, 2, 3, 4] bcast_S8x32x32x1x256_S8x32x32x8x256_0_1_2_3_4 (transpose S8x32x32x1x256 [0, 2, 1, 3, 4] (shapeCast S8x32x32x1x256 (subf (H42 m c) (H41 m c)) shapeCasts_S8x32x8192_S8x32x32x1x256) transposes_S8x32x32x1x256_S8x32x32x1x256_0_2_1_3_4) := by
  unfold_abbrev_sides
  have e41 : H41 m c = StableHlo.after hostOps0_4 (StableHlo.after (List.flatten [hostOps0 (F := Ideal), hostOps0_1, hostOps0_2, hostOps0_3]) (fun b => m (c, b))) (Proc.tc.devRef main_v41) := V_last m c _
  have e42 : H42 m c = StableHlo.after hostOps0_4 (StableHlo.after (List.flatten [hostOps0 (F := Ideal), hostOps0_1, hostOps0_2, hostOps0_3]) (fun b => m (c, b))) (Proc.tc.devRef main_v42) := V_last m c _
  rw [e41, e42, V_last]
  generalize StableHlo.after (List.flatten [hostOps0 (F := Ideal), hostOps0_1, hostOps0_2, hostOps0_3]) (fun b => m (c, b)) = σ
  simp only [StableHlo.after_cons, StableHlo.after_nil]
  after_results_simp
  rfl

theorem blocks (f : ℕ → ℝ) (n : ℕ) : ∑ n' ∈ Finset.range n, ∑ r : Fin 256, f (256 * n' + r.val) = ∑ x ∈ Finset.range (256 * n), f x := by
  induction n with
  | zero => simp
  | succ n ih => rw [Finset.sum_range_succ, ih, sum_block]

/-! ### Real arguments -/

section
variable (hq : ∀ j, ∃ r : ℝ, aq m c j = (r : EReal)) (hk : ∀ j, ∃ r : ℝ, ak m c j = (r : EReal))
include hq hk

theorem sc_host (h : Fin 8) (x y : Fin 8192) : H21 m c (ix3 h x y) = (sc (rd (ak m c) h) (rd (aq m c) h) x.val y.val : EReal) := by
  rw [v21_at, sc, Finite.coe_sum]
  refine Finset.sum_congr rfl fun d _ => ?_
  rw [rd_eq hk, rd_eq hq, eighth, ← EReal.coe_mul, ← EReal.coe_mul]

theorem lb_host (h : Fin 8) (x y : Fin 8192) : H37 m c (ix3 h x y) = (lb (sc (rd (ak m c) h) (rd (aq m c) h) x.val y.val) : EReal) := by
  have e := sc_host m c hq hk h x y
  rw [v37_eq]
  generalize H21 m c = z at e ⊢
  pointwise
  rw [e, ← lb_real, zero_sub]

theorem lm_host (h : Fin 8) (x y : Fin 8192) : H39 m c (ix3 h x y) = (lm (rd (ak m c) h) (rd (aq m c) h) x.val y.val : EReal) := by
  have e := sc_host m c hq hk h x y
  have e1 := lb_host m c hq hk h x y
  have e2 := v28_at m c x y
  rw [v39_eq]
  generalize H21 m c = z at e ⊢
  generalize H37 m c = l at e1 ⊢
  generalize H28 m c = b at e2 ⊢
  pointwise
  rw [e, e1, e2, select_pos, lm, ← EReal.coe_sub]
  by_cases hxy : x.val < y.val
  · rw [if_pos hxy, if_pos hxy]
  · rw [if_neg hxy, if_neg hxy, EReal.coe_zero]

/-- A block's part of what the later keys leave. -/
theorem block_host (h : Fin 8) (n : Fin 32) (y : Fin 8192) :
    H41 m c (ix3 h n y) = ((∑ r : Fin 256, lm (rd (ak m c) h) (rd (aq m c) h) (256 * n.val + r.val) y.val : ℝ) : EReal) := by
  have e := fun x => lm_host m c hq hk h x y
  rw [v41_eq]
  generalize H39 m c = l at e ⊢
  pointwise
  rw [Finite.coe_sum]
  refine Finset.sum_congr rfl fun r _ => ?_
  refine (e _).trans ?_
  rw [show 256 * n.val + r.val = n.val * 256 + r.val by omega]

theorem saved (h : Fin 8) (i n : Fin 32) (s : Fin 8) (d : Fin 256) :
    H46 m c (ix5 h i n s d) = (rest (rd (ak m c) h) (rd (aq m c) h) (256 * (n.val + 1)) (256 * i.val + d.val) : EReal) := by
  have e1 := fun n => block_host m c hq hk h n ⟨256 * i.val + d.val, by omega⟩
  have e2 : H42 m c (ix3 h n ⟨256 * i.val + d.val, by omega⟩) = _ :=
    (congrFun ((v42_eq m c).trans (host_window _ _ _ _ _ _ _ _ zero_bits)) _).trans (scan_mid ![0, 31, 0] _ _ h ⟨256 * i.val + d.val, by omega⟩ (fun n => ∑ r : Fin 256, lm (rd (ak m c) h) (rd (aq m c) h) (256 * n + r.val) (256 * i.val + d.val)) e1 n)
  rw [blocks (fun x => lm (rd (ak m c) h) (rd (aq m c) h) x (256 * i.val + d.val)), blocks (fun x => lm (rd (ak m c) h) (rd (aq m c) h) x (256 * i.val + d.val))] at e2
  rw [v46_eq]
  generalize H42 m c = a at e2 ⊢
  generalize H41 m c = b at e1 ⊢
  pointwise
  have hi : (⟨i.val * 256 + d.val, by omega⟩ : Fin 8192) = ⟨256 * i.val + d.val, by omega⟩ := Fin.ext (by show i.val * 256 + d.val = 256 * i.val + d.val; omega)
  refine (congrArg₂ (fun x y : Fin 8192 => a (ix3 h n x) - b (ix3 h n y)) hi hi).trans ?_
  rw [e2, e1, ← EReal.coe_sub, rest, sum_block (fun x => lm (rd (ak m c) h) (rd (aq m c) h) x (256 * i.val + d.val)) n.val]
  congr 1
  ring

end

/-! ### The blocks at a point -/

/-- A head of the point's group. -/
def headOf (t : Fin cfg0.N) (g : Fin 4) : Fin 8 := ⟨4 * (t.val / 32) + g.val, by
  have h : t.val < 64 := lt_of_lt_of_eq t.isLt (by decide +kernel)
  have := g.isLt; omega⟩

theorem blk0 (g : Fin 4) (d : Fin 64) (y : Fin 256) : iblk m c 0 t (ix3 g d y) = V m c main_v2 (ix3 (headOf t g) d ⟨256 * (t.val % 32) + y.val, by omega⟩) := by
  pointwise [iblk]
  generalize V m c main_v2 = x
  unfold headOf
  blk_point [idx_val t]

theorem blk4 (g : Fin 4) (d : Fin 64) (y : Fin 256) : iblk m c 4 t (ix3 g d y) = V m c main_v5 (ix3 (headOf t g) d ⟨256 * (t.val % 32) + y.val, by omega⟩) := by
  pointwise [iblk]
  generalize V m c main_v5 = x
  unfold headOf
  blk_point [idx_val t]

theorem blk1 (g : Fin 4) (n : Fin 32) (r : Fin 256) (d : Fin 64) : iblk m c 1 t (ix4 g n r d) = V m c main_v8 (ix4 (headOf t g) n r d) := by
  pointwise [iblk]
  generalize V m c main_v8 = x
  unfold headOf
  blk_point [idx_val t]

theorem blk2 (g : Fin 4) (n : Fin 32) (d : Fin 64) (r : Fin 256) : iblk m c 2 t (ix4 g n d r) = V m c main_v11 (ix4 (headOf t g) n d r) := by
  pointwise [iblk]
  generalize V m c main_v11 = x
  unfold headOf
  blk_point [idx_val t]

theorem blk3 (g : Fin 4) (n : Fin 32) (r : Fin 256) (d : Fin 64) : iblk m c 3 t (ix4 g n r d) = V m c main_v14 (ix4 (headOf t g) n r d) := by
  pointwise [iblk]
  generalize V m c main_v14 = x
  unfold headOf
  blk_point [idx_val t]

theorem blk5 (g : Fin 4) (n : Fin 32) (y : Fin 256) : iblk m c 5 t (ix5 g 0 n 0 y) = V m c main_v46 (ix5 (headOf t g) ⟨t.val % 32, by omega⟩ n 0 y) := by
  pointwise [iblk]
  generalize V m c main_v46 = x
  unfold headOf
  blk_point [idx_val5 t]

theorem blk6 (a : Fin 8) (b : Fin 128) : iblk m c 6 t (ix4 0 0 a b) = V m c main_v47 (ix4 0 ⟨t.val % 32, by omega⟩ a b) := by
  pointwise [iblk]
  generalize V m c main_v47 = x
  blk_point [idx_val6 t]

/-- No block of keys is skipped. -/
theorem first_zero : Scalar.fptosi (F := Ideal) 32 (k0_pay116 (F := Ideal) (iblk m c 6 t)) = 0#32 := by
  have e := fun a b => (blk6 m c t a b).trans ((v47_at m c _).trans zero_bits)
  generalize iblk m c 6 t = x at e ⊢
  pointwise [k0_pay116]
  have b : Ideal.ofBits .f32 0xFF800000#32 = ⊥ := by simp [Ideal.ofBits, Ideal.ieee]
  rw [e, b]
  have f : Finset.fold max (⊥ : EReal) (fun _ => 0) (Finset.univ : Finset (Fin 1)) = 0 := by simp
  refine (congrArg (Ideal.fptosi 32) f).trans ?_
  rw [← EReal.coe_zero]
  show BitVec.ofInt 32 (max _ (min _ (if (0 : ℝ) ≤ 0 then ⌊(0 : ℝ)⌋ else ⌈(0 : ℝ)⌉))) = 0#32
  simp

section
variable (hq : ∀ j, ∃ r : ℝ, aq m c j = (r : EReal)) (hk : ∀ j, ∃ r : ℝ, ak m c j = (r : EReal))
  (hv : ∀ j, ∃ r : ℝ, av m c j = (r : EReal)) (hw : ∀ j, ∃ r : ℝ, aw m c j = (r : EReal))
include hq hk hv hw

/-- The point's blocks hold the arguments. -/
theorem data : Data (fun g => rd (ak m c) (headOf t g)) (fun g => rd (aq m c) (headOf t g)) (fun g => rd (av m c) (headOf t g)) (fun g => rd (aw m c) (headOf t g))
    (t.val % 32) (iblk m c 0 t) (iblk m c 1 t) (iblk m c 2 t) (iblk m c 3 t) (iblk m c 4 t) (iblk m c 5 t) where
  hq g d y := (blk0 m c t g d y).trans ((v2_at m c _ _ _).trans (rd_eq hq _ _ _))
  hk g n r d := (blk1 m c t g n r d).trans ((v8_at m c _ _ _ _).trans (rd_eq hk _ _ _))
  ht g n d r := (blk2 m c t g n d r).trans ((v11_at m c _ _ _ _).trans (rd_eq hk _ _ _))
  hv g n r d := (blk3 m c t g n r d).trans ((v14_at m c _ _ _ _).trans (rd_eq hv _ _ _))
  hw g d y := (blk4 m c t g d y).trans ((v5_at m c _ _ _).trans (rd_eq hw _ _ _))
  hs g n y := (blk5 m c t g n y).trans (saved m c hq hk _ _ _ _ _)

end

end Cert.SbKernelIdeal

end
-- ==== Proof.SbValue.lean ====
module

public import proofs.«01_k».proof.Proof.SbHost

/-! What the stick-breaking call leaves in its three results, as real functions of the arguments. -/

@[expose] public section

set_option maxRecDepth 16384

noncomputable section

namespace Cert.Sb

open Idealize.ShloMosaic
open scoped BigOperators

/-- The head and the dimension of a column. -/
def hOf (j : Fin 512) : Fin 8 := ⟨j.val / 64, by omega⟩
@[inherit_doc hOf] def dOf (j : Fin 512) : Fin 64 := ⟨j.val % 64, by omega⟩

/-- The gradients of the queries, -/
def dq (Q K Vv W : (⟨2, ![8192, 512]⟩ : Shape).Idx → EReal) : (⟨2, ![8192, 512]⟩ : Shape).Idx → EReal := fun j =>
  ((dqP (rd K (hOf (j 1))) (rd Q (hOf (j 1))) (rd Vv (hOf (j 1))) (rd W (hOf (j 1))) 8192 (j 0).val (dOf (j 1)) * (1 / 8) : ℝ) : EReal)
/-- of the keys -/
def dk (Q K Vv W : (⟨2, ![8192, 512]⟩ : Shape).Idx → EReal) : (⟨2, ![8192, 512]⟩ : Shape).Idx → EReal := fun j =>
  (dkP (rd K (hOf (j 1))) (rd Q (hOf (j 1))) (rd Vv (hOf (j 1))) (rd W (hOf (j 1))) 8192 (j 0).val (dOf (j 1)) : EReal)
/-- and of the values. -/
def dv (Q K W : (⟨2, ![8192, 512]⟩ : Shape).Idx → EReal) : (⟨2, ![8192, 512]⟩ : Shape).Idx → EReal := fun j =>
  (dvP (rd K (hOf (j 1))) (rd Q (hOf (j 1))) (rd W (hOf (j 1))) 8192 (j 0).val (dOf (j 1)) : EReal)

section
variable (k q v w : ℕ → Fin 64 → ℝ)

/-- No later query adds to a key. -/
theorem sum_more (f : ℕ → ℝ) (a n : ℕ) (h : a ≤ n) (hz : ∀ y, a ≤ y → f y = 0) : ∑ y ∈ Finset.range a, f y = ∑ y ∈ Finset.range n, f y :=
  Finset.sum_subset (Finset.range_mono h) fun y _ hy => hz y (by simpa using hy)

theorem dkP_early (a n x : ℕ) (ha : a ≤ n) (hn : n ≤ x + 1) (d : Fin 64) : dkP k q v w a x d = dkP k q v w n x d := by
  refine Finset.sum_subset (Finset.range_mono ha) fun y hy _ => ?_
  have := Finset.mem_range.mp hy
  rw [dsc_zero k q v w (by omega : y ≤ x), mul_zero]

theorem dvP_early (a n x : ℕ) (ha : a ≤ n) (hn : n ≤ x + 1) (d : Fin 64) : dvP k q w a x d = dvP k q w n x d := by
  refine Finset.sum_subset (Finset.range_mono ha) fun y hy _ => ?_
  have := Finset.mem_range.mp hy
  rw [wt_zero k q (by omega : y ≤ x), mul_zero]

theorem dqP_late (a n y : ℕ) (ha : a ≤ n) (hy : y < a) (d : Fin 64) : dqP k q v w a y d = dqP k q v w n y d := by
  refine sum_more (fun x => k x d * dsc k q v w x y) a n ha fun x hx => ?_
  show k x d * dsc k q v w x y = 0
  rw [dsc_zero k q v w (by omega : y ≤ x), mul_zero]
end

end Cert.Sb

namespace Cert.SbKernelIdeal

open Idealize.ShloMosaic Idealize.ShloMosaic.TcCoe
open Gen
open Cert.Sb
open scoped BigOperators

theorem sk_next (k q v w : Fin 4 → ℕ → Fin 64 → ℝ) (i : ℕ) {S : Vec Ideal S32x256x256 .f32} (h : SK k q v w i (i + 1) S) : SK k q v w (i + 1) 0 S := fun n' g d r => by
  rw [h n' g d r, if_neg (Nat.not_lt_zero _)]
  by_cases hn : n'.val < i + 1
  · rw [if_pos hn]
  · rw [if_neg hn, dkP_early (k g) (q g) (v g) (w g) (256 * i) (256 * (i + 1)) _ (by omega) (by omega)]

theorem sv_next (k q w : Fin 4 → ℕ → Fin 64 → ℝ) (i : ℕ) {S : Vec Ideal S32x256x256 .f32} (h : SV k q w i (i + 1) S) : SV k q w (i + 1) 0 S := fun n' g d r => by
  rw [h n' g d r, if_neg (Nat.not_lt_zero _)]
  by_cases hn : n'.val < i + 1
  · rw [if_pos hn]
  · rw [if_neg hn, dvP_early (k g) (q g) (w g) (256 * i) (256 * (i + 1)) _ (by omega) (by omega)]

theorem zero_k (j : S32x256x256.Idx) : k0_pay103 (F := Ideal) j = 0 := by pointwise! [k0_pay103]
theorem zero_v (j : S32x256x256.Idx) : k0_pay104 (F := Ideal) j = 0 := by pointwise! [k0_pay104]

/-- Before the first block of keys nothing is carried. -/
theorem st_start (k q v w : Fin 4 → ℕ → Fin 64 → ℝ) (i : ℕ) {X Y : Vec Ideal S32x256x256 .f32} (hX : SK k q v w i 0 X) (hY : SV k q w i 0 Y) :
    St k q v w i 0 (carry0, X, Y) where
  h0 := ⟨fun c => by unfold carry0; pointwise [k0_pay117]; simp, fun d c => by unfold carry0; pointwise [k0_pay118]; simp [dqP]⟩
  h1 := ⟨fun c => by unfold carry0; pointwise [k0_pay119]; simp, fun d c => by unfold carry0; pointwise [k0_pay120]; simp [dqP]⟩
  h2 := ⟨fun c => by unfold carry0; pointwise [k0_pay121]; simp, fun d c => by unfold carry0; pointwise [k0_pay122]; simp [dqP]⟩
  h3 := ⟨fun c => by unfold carry0; pointwise [k0_pay123]; simp, fun d c => by unfold carry0; pointwise [k0_pay124]; simp [dqP]⟩
  dk := hX
  dv := hY

theorem coord1 : ∀ t : Fin cfg0.N, (grid0.coords t 1).val = t.val % 32 := by decide +kernel

variable (m : (ℓ : Loc nD τ sig) → Buf (Elt Ideal) ℓ) (c : Dev nD)
variable (hq : ∀ j, ∃ r : ℝ, aq m c j = (r : EReal)) (hk : ∀ j, ∃ r : ℝ, ak m c j = (r : EReal))
  (hv : ∀ j, ∃ r : ℝ, av m c j = (r : EReal)) (hw : ∀ j, ∃ r : ℝ, aw m c j = (r : EReal))

/-- What a point finds in the running gradients: the parts of the queries before its block. -/
def Found (t : Fin cfg0.N) : Prop :=
  SK (fun g => rd (ak m c) (headOf t g)) (fun g => rd (aq m c) (headOf t g)) (fun g => rd (av m c) (headOf t g)) (fun g => rd (aw m c) (headOf t g)) (t.val % 32) 0 (scZ m c t).1
  ∧ SV (fun g => rd (ak m c) (headOf t g)) (fun g => rd (aq m c) (headOf t g)) (fun g => rd (aw m c) (headOf t g)) (t.val % 32) 0 (scZ m c t).2

/-- What it leaves there. -/
def Left (t : Fin cfg0.N) : Prop :=
  SK (fun g => rd (ak m c) (headOf t g)) (fun g => rd (aq m c) (headOf t g)) (fun g => rd (av m c) (headOf t g)) (fun g => rd (aw m c) (headOf t g)) (t.val % 32) (t.val % 32 + 1) (scAt m c (t.val + 1)).1
  ∧ SV (fun g => rd (ak m c) (headOf t g)) (fun g => rd (aq m c) (headOf t g)) (fun g => rd (aw m c) (headOf t g)) (t.val % 32) (t.val % 32 + 1) (scAt m c (t.val + 1)).2

include hq hk hv hw in
theorem st_at (t : Fin cfg0.N) (h : Found m c t) :
    St (fun g => rd (ak m c) (headOf t g)) (fun g => rd (aq m c) (headOf t g)) (fun g => rd (av m c) (headOf t g)) (fun g => rd (aw m c) (headOf t g)) (t.val % 32) (grid0.coords t 1).val
      (before (iblk m c 0 t) (iblk m c 1 t) (iblk m c 2 t) (iblk m c 3 t) (iblk m c 4 t) (iblk m c 5 t) (scZ m c t).1 (scZ m c t).2 (grid0.coords t 1).val) := by
  unfold before
  exact st_loop (data m c t hq hk hv hw) (st_start _ _ _ _ _ h.1 h.2) (by omega) _ (by rw [coord1 t])

include hq hk hv hw in
theorem left_of_found (t : Fin cfg0.N) (h : Found m c t) : Left m c t := by
  have e := coord1 t
  have hst := st_at m c hq hk hv hw t h
  have D := data m c t hq hk hv hw
  have hK := diagK_at D _ (grid0.coords t 1).isLt e hst
  have hV := diagV_at D _ (grid0.coords t 1).isLt e hst
  unfold Left
  rw [scAt_eq m c t (first_zero m c t), ← e]
  rw [← e] at hK hV
  exact ⟨hK, hV⟩

theorem zero_sk (k q v w : Fin 4 → ℕ → Fin 64 → ℝ) : SK k q v w 0 0 (k0_pay103 (F := Ideal)) := fun n' g d r => by
  rw [zero_k, if_neg (Nat.not_lt_zero _)]; simp [dkP]
theorem zero_sv (k q w : Fin 4 → ℕ → Fin 64 → ℝ) : SV k q w 0 0 (k0_pay104 (F := Ideal)) := fun n' g d r => by
  rw [zero_v, if_neg (Nat.not_lt_zero _)]; simp [dvP]

theorem found_first (t : Fin cfg0.N) (h0 : t.val % 32 = 0) : Found m c t := by
  unfold Found scZ
  rw [if_pos h0, h0]
  exact ⟨zero_sk _ _ _ _, zero_sv _ _ _⟩

include hq hk hv hw in
theorem found : ∀ (n : ℕ) (h : n < cfg0.N), Found m c ⟨n, h⟩
  | 0, h => found_first m c ⟨0, h⟩ rfl
  | n + 1, h => by
    by_cases h0 : (n + 1) % 32 = 0
    · exact found_first m c ⟨n + 1, h⟩ h0
    · have e : scZ m c ⟨n + 1, h⟩ = scAt m c (n + 1) := by unfold scZ; exact if_neg h0
      have hl := left_of_found m c hq hk hv hw ⟨n, by omega⟩ (found n _)
      have eh : headOf ⟨n + 1, h⟩ = headOf ⟨n, by omega⟩ := funext fun g => Fin.ext (by show 4 * ((n + 1) / 32) + g.val = 4 * (n / 32) + g.val; omega)
      have ei : (n + 1) % 32 = n % 32 + 1 := by omega
      unfold Found
      rw [e, eh]
      show SK _ _ _ _ ((n + 1) % 32) 0 _ ∧ SV _ _ _ ((n + 1) % 32) 0 _
      rw [ei]
      exact ⟨sk_next _ _ _ _ _ hl.1, sv_next _ _ _ _ hl.2⟩

/-! ### The arrays at the end -/

theorem split_row (x : Fin 256) : row ⟨x.val / 64, by omega⟩ ⟨x.val % 64, by omega⟩ = x := Fin.ext (by show 64 * (x.val / 64) + x.val % 64 = x.val; omega)

section
variable (t : Fin cfg0.N) (x : Fin 256)

/-- The column a point's block column comes to. -/
abbrev colOf : Fin 512 := hd (headOf t ⟨x.val / 64, by omega⟩) ⟨x.val % 64, by omega⟩

theorem hOf_col : hOf (colOf t x) = headOf t ⟨x.val / 64, by omega⟩ :=
  Fin.ext (by show (64 * (headOf t ⟨x.val / 64, by omega⟩).val + x.val % 64) / 64 = (headOf t ⟨x.val / 64, by omega⟩).val; omega)
theorem dOf_col : dOf (colOf t x) = ⟨x.val % 64, by omega⟩ :=
  Fin.ext (by show (64 * (headOf t ⟨x.val / 64, by omega⟩).val + x.val % 64) % 64 = x.val % 64; omega)
end

include hq hk hv hw in
theorem point_dq (t : Fin cfg0.N) (y x : Fin 256) : dqAt m c t (ix2 y x)
    = dq (aq m c) (ak m c) (av m c) (aw m c) (ix2 ⟨256 * (t.val % 32) + y.val, by omega⟩ (colOf t x)) := by
  have e := coord1 t
  have h := diagQ_at (data m c t hq hk hv hw) _ (grid0.coords t 1).isLt ⟨x.val / 64, by omega⟩ e (st_at m c hq hk hv hw t (found m c hq hk hv hw t.val t.isLt)) ⟨x.val % 64, by omega⟩ y
  rw [split_row] at h
  rw [dqAt_eq m c t (first_zero m c t)]
  refine h.trans ?_
  rw [e, dqP_late _ _ _ _ (256 * (t.val % 32 + 1)) 8192 _ (by omega) (by omega)]
  unfold dq
  simp only [ix2_0, ix2_1, hOf_col, dOf_col]

include hq hk hv hw in
theorem point_dk (t : Fin cfg0.N) (hl : t.val % 32 = 31) (y : Fin 8192) (x : Fin 256) : dkAt m c t (ix2 y x)
    = dk (aq m c) (ak m c) (av m c) (aw m c) (ix2 y (colOf t x)) := by
  have h := (left_of_found m c hq hk hv hw t (found m c hq hk hv hw t.val t.isLt)).1 ⟨y.val / 256, by omega⟩ ⟨x.val / 64, by omega⟩ ⟨x.val % 64, by omega⟩ ⟨y.val % 256, by omega⟩
  rw [split_row] at h
  rw [dkAt_eq m c t hl]
  refine h.trans ?_
  rw [hl, if_pos (by show y.val / 256 < 32; omega)]
  unfold dk
  simp only [ix2_0, ix2_1, hOf_col, dOf_col, show 256 * (y.val / 256) + y.val % 256 = y.val by omega]

include hq hk hv hw in
theorem point_dv (t : Fin cfg0.N) (hl : t.val % 32 = 31) (y : Fin 8192) (x : Fin 256) : dvAt m c t (ix2 y x)
    = dv (aq m c) (ak m c) (aw m c) (ix2 y (colOf t x)) := by
  have h := (left_of_found m c hq hk hv hw t (found m c hq hk hv hw t.val t.isLt)).2 ⟨y.val / 256, by omega⟩ ⟨x.val / 64, by omega⟩ ⟨x.val % 64, by omega⟩ ⟨y.val % 256, by omega⟩
  rw [split_row] at h
  rw [dvAt_eq m c t hl]
  refine h.trans ?_
  rw [hl, if_pos (by show y.val / 256 < 32; omega)]
  unfold dv
  simp only [ix2_0, ix2_1, hOf_col, dOf_col, show 256 * (y.val / 256) + y.val % 256 = y.val by omega]

include hq hk hv hw in
theorem final_dq : (dats m 0 c).arrAt 7 (cfgs 0).N = dq (aq m c) (ak m c) (av m c) (aw m c) := by
  refine (dats m 0 c).arrAt_eq_of_covers 7 _ (by decide +kernel) fun t hf y => ?_
  blk_simp
  rw [after0_7]
  obtain ⟨a, b, rfl⟩ : ∃ (a : Fin 256) (b : Fin 256), y = ix2 a b := ⟨y 0, y 1, (ix2_eta y).symm⟩
  refine (point_dq m c hq hk hv hw t a b).trans ?_
  generalize dq (aq m c) (ak m c) (av m c) (aw m c) = f
  unfold colOf hd headOf
  blk_point [idx_val7 t]

include hq hk hv hw in
theorem final_dk : (dats m 0 c).arrAt 8 (cfgs 0).N = dk (aq m c) (ak m c) (av m c) (aw m c) := by
  refine (dats m 0 c).arrAt_eq_of_covers 8 _ (by decide +kernel) fun t hf y => ?_
  blk_simp
  rw [after0_8]
  obtain ⟨a, b, rfl⟩ : ∃ (a : Fin 8192) (b : Fin 256), y = ix2 a b := ⟨y 0, y 1, (ix2_eta y).symm⟩
  refine (point_dk m c hq hk hv hw t ((flush0_8 t).mp hf) a b).trans ?_
  generalize dk (aq m c) (ak m c) (av m c) (aw m c) = f
  unfold colOf hd headOf
  blk_point [idx_val8 t]

include hq hk hv hw in
theorem final_dv : (dats m 0 c).arrAt 9 (cfgs 0).N = dv (aq m c) (ak m c) (aw m c) := by
  refine (dats m 0 c).arrAt_eq_of_covers 9 _ (by decide +kernel) fun t hf y => ?_
  blk_simp
  rw [after0_9]
  obtain ⟨a, b, rfl⟩ : ∃ (a : Fin 8192) (b : Fin 256), y = ix2 a b := ⟨y 0, y 1, (ix2_eta y).symm⟩
  refine (point_dv m c hq hk hv hw t ((flush0_9 t).mp hf) a b).trans ?_
  generalize dv (aq m c) (ak m c) (aw m c) = f
  unfold colOf hd headOf
  blk_point [idx_val9 t]

end Cert.SbKernelIdeal

end
-- ==== Proof.SbRef.lean ====
module

public import proofs.«01_k».proof.Proof.SbValue
public import proofs.«01_k».proof.Proof.Gen.SbReferenceIdeal.Read

/-! The reference of the stick-breaking call at real arguments. -/

@[expose] public section

set_option maxRecDepth 16384

noncomputable section

namespace Cert.SbReferenceIdeal.Ref

open Idealize.ShloMosaic Idealize.ShloMosaic.TcCoe
open Cert.Sb Cert.SbReferenceIdeal.Read
open scoped BigOperators

/-- `log (1 + e^a)`, as the reference writes it. -/
def sp (a : ℝ) : ℝ := max a 0 + Real.log (1 + Real.exp (-|a|))

/-- The reference's `softplus` of one element, -/
abbrev splus (a : Ideal .f32) : Ideal .f32 :=
  Scalar.select (FloatOps.cmpf CmpFPredicate.une (FloatOps.subf a (FloatOps.ofBits .f32 0#32)) (FloatOps.subf a (FloatOps.ofBits .f32 0#32)))
    (FloatOps.addf a (FloatOps.ofBits .f32 0#32))
    (FloatOps.addf (FloatOps.maximumf a (FloatOps.ofBits .f32 0#32))
      (FloatOps.hostUnary HostUnaryOp.log1p (FloatOps.hostUnary HostUnaryOp.exp (FloatOps.hostNegf (FloatOps.hostAbsf (FloatOps.subf a (FloatOps.ofBits .f32 0#32)))))))

/-- and its derivative as the reference writes it. -/
abbrev dsplus (a : Ideal .f32) : Ideal .f32 :=
  FloatOps.hostUnary HostUnaryOp.exp (FloatOps.subf
    (Scalar.select (FloatOps.cmpf CmpFPredicate.oeq a (FloatOps.ofBits .f32 2139095040#32)) (FloatOps.ofBits .f32 0#32) a)
    (Scalar.select (FloatOps.cmpf CmpFPredicate.oeq (splus a) (FloatOps.ofBits .f32 2139095040#32)) (FloatOps.ofBits .f32 0#32) (splus a)))

theorem zero_word : (FloatOps.ofBits (F := Ideal) .f32 0#32) = (0 : EReal) := zero_bits
theorem top_word : (FloatOps.ofBits (F := Ideal) .f32 2139095040#32) = (⊤ : EReal) := Finite.ofBits_inf

theorem neg_real (a : ℝ) : (FloatOps.hostNegf (F := Ideal) (φ := .f32) (a : EReal)) = ((-a : ℝ) : EReal) := by
  show (-(a : EReal) : EReal) = _
  rw [EReal.coe_neg]

theorem sel_self (a x y : EReal) : Scalar.select (FloatOps.cmpf (F := Ideal) (φ := .f32) CmpFPredicate.une a a) x y = y := by
  have h : FloatOps.cmpf (F := Ideal) (φ := .f32) CmpFPredicate.une a a = 0#1 := by
    show BitVec.ofBool (decide (a ≠ a)) = 0#1
    simp
  rw [h]; rfl

theorem sel_top (a : ℝ) (x y : EReal) : Scalar.select (FloatOps.cmpf (F := Ideal) (φ := .f32) CmpFPredicate.oeq (a : EReal) (⊤ : EReal)) x y = y := by
  have h : FloatOps.cmpf (F := Ideal) (φ := .f32) CmpFPredicate.oeq (a : EReal) (⊤ : EReal) = 0#1 := by
    show BitVec.ofBool (decide ((a : EReal) = ⊤)) = 0#1
    simp
  rw [h]; rfl

theorem splus_real (a : ℝ) : splus (a : EReal) = (sp a : EReal) := by
  have h : (FloatOps.hostAbsf (F := Ideal) (φ := .f32) (a : EReal)) = ((|a| : ℝ) : EReal) := by
    show max (a : EReal) (-(a : EReal)) = _
    rw [← EReal.coe_neg, ← EReal.coe_strictMono.monotone.map_max]; rfl
  have hs : FloatOps.subf (F := Ideal) (φ := .f32) (a : EReal) (0 : EReal) = (a : EReal) := sub_zero _
  have hp : ¬ (1 + Real.exp (-|a|)) ≤ 0 := not_le.mpr (by positivity)
  rw [splus, zero_word, sel_self, hs, h, neg_real]
  show max (a : EReal) 0 + Ideal.log (1 + Ideal.exp ((-|a| : ℝ) : EReal)) = _
  rw [Cert.Gate.exp_coe, ← EReal.coe_one, ← EReal.coe_add]
  have hl : Ideal.log ((1 + Real.exp (-|a|) : ℝ) : EReal) = (Real.log (1 + Real.exp (-|a|)) : EReal) := by
    show (if (1 + Real.exp (-|a|)) ≤ 0 then (⊥ : EReal) else _) = _
    rw [if_neg hp]
  rw [hl, ← EReal.coe_zero, ← EReal.coe_strictMono.monotone.map_max, ← EReal.coe_add]; rfl

theorem dsplus_real (a : ℝ) : dsplus (a : EReal) = (Real.exp (a - sp a) : EReal) := by
  rw [dsplus, splus_real, top_word, sel_top, sel_top]
  show Ideal.exp ((a : EReal) - (sp a : EReal)) = _
  rw [← EReal.coe_sub, Cert.Gate.exp_coe]

theorem neg_sp (z : ℝ) : -sp (-z) = lb z := by
  have : max (-z) 0 = - min z 0 := by rw [← neg_zero, max_neg_neg, neg_zero]
  rw [sp, lb, this, abs_neg]; ring

theorem exp_lb (z : ℝ) : Real.exp (lb z) * (1 + Real.exp (-z)) = 1 := by
  rw [lb, Real.exp_sub, Real.exp_log (by positivity)]
  rcases le_total z 0 with h | h
  · rw [min_eq_left h, abs_of_nonpos h, neg_neg, div_mul_eq_mul_div, div_eq_one_iff_eq (by positivity), mul_add, ← Real.exp_add]
    simp [add_comm]
  · rw [min_eq_right h, abs_of_nonneg h, Real.exp_zero, one_div, inv_mul_cancel₀ (by positivity)]

theorem sp_eq (z : ℝ) : sp z = z - lb z := by
  have h := neg_sp (-z)
  rw [neg_neg] at h
  rw [← neg_inj, h, lb, lb, abs_neg]
  rcases le_total z 0 with h | h
  · rw [min_eq_left h, min_eq_right (by linarith)]; ring
  · rw [min_eq_right h, min_eq_left (by linarith)]; ring

theorem one_sub (z : ℝ) : Real.exp (-z + lb z) = 1 - Real.exp (lb z) := by
  have h := exp_lb z
  rw [Real.exp_add]; linarith

variable (x0 x1 x2 x3 : FVec Ideal S8192x512 .f32)
variable (hq : ∀ j, ∃ r : ℝ, x0 j = (r : EReal)) (hk : ∀ j, ∃ r : ℝ, x1 j = (r : EReal))
  (hv : ∀ j, ∃ r : ℝ, x2 j = (r : EReal)) (hw : ∀ j, ∃ r : ℝ, x3 j = (r : EReal))

/-- An entry of a row cut into heads. -/
theorem head {X : FVec Ideal S8192x512 .f32} (hX : ∀ j, ∃ r : ℝ, X j = (r : EReal)) (h : Fin 8) (y : Fin 8192) (d : Fin 64) (p : h.val * 64 + d.val < 512) :
    X (ix2 y ⟨h.val * 64 + d.val, p⟩) = (rd X h y.val d : EReal) := by
  have e : (⟨h.val * 64 + d.val, p⟩ : Fin 512) = hd h d := Fin.ext (congrArg (· + d.val) (Nat.mul_comm _ _))
  rw [e, rd_eq hX]

include hq hk in
theorem s5 (h : Fin 8) (y x : Fin 8192) : val_main_v5 (F := Ideal) x0 x1 (ix3 h y x) = (sc (rd x1 h) (rd x0 h) x.val y.val : EReal) := by
  pointwise [val_main_v5, val_main_v3, val_main_v0, val_main_v1, val_main_v4, val_main_cst]
  simp only [head hq, head hk]
  refine (congrArg (_ * ·) Cert.SbKernelIdeal.eighth).trans ?_
  simp only [← EReal.coe_mul]
  rw [← Finite.coe_sum, ← EReal.coe_mul, sc, Finset.sum_mul]
  exact congrArg _ (Finset.sum_congr rfl fun d _ => by ring)

include hq hk in
theorem s12_0 (h : Fin 8) (y x : Fin 8192) : val_main_v12_0 (F := Ideal) x0 x1 (ix3 h y x) = (lb (sc (rd x1 h) (rd x0 h) x.val y.val) : EReal) := by
  have e := s5 x0 x1 hq hk h y x
  simp only [val_main_v12_0_apply, val_main_call0_v1_0_apply, val_main_call0_call0_v11_apply, val_main_call0_call0_v10_apply, val_main_call0_call0_v9_apply, val_main_call0_call0_v8_apply, val_main_call0_call0_v7_apply, val_main_call0_call0_v6_apply, val_main_call0_call0_v4_apply, val_main_call0_call0_v3_apply, val_main_call0_call0_v1_apply, val_main_call0_v0_apply, val_main_call0_call0_v0_apply, val_main_call0_call0_v2_apply,
    val_main_call0_call0_v5_apply, val_main_call0_call0_cst_apply, e]
  rw [neg_real]
  exact (congrArg (FloatOps.hostNegf (F := Ideal) (φ := .f32)) (splus_real _)).trans (by rw [neg_real, neg_sp])

include hq hk in
theorem s12_1 (h : Fin 8) (y x : Fin 8192) : val_main_v12_1 (F := Ideal) x0 x1 (ix3 h y x) = ((1 - Real.exp (lb (sc (rd x1 h) (rd x0 h) x.val y.val)) : ℝ) : EReal) := by
  have e := s5 x0 x1 hq hk h y x
  simp only [val_main_v12_1_apply, val_main_call0_call0_v21_apply, val_main_call0_call0_v20_apply, val_main_call0_call0_v19_apply, val_main_call0_call0_v18_apply, val_main_call0_call0_v17_apply, val_main_call0_call0_v16_apply, val_main_call0_call0_v15_apply, val_main_call0_call0_v14_apply, val_main_call0_call0_v13_apply, val_main_call0_call0_cst_0_apply, val_main_call0_call0_cst_1_apply, val_main_call0_call0_cst_2_apply,
    val_main_call0_call0_cst_3_apply, val_main_call0_v1_0_apply, val_main_call0_call0_v11_apply, val_main_call0_call0_v10_apply, val_main_call0_call0_v9_apply, val_main_call0_call0_v8_apply, val_main_call0_call0_v7_apply, val_main_call0_call0_v6_apply, val_main_call0_call0_v4_apply, val_main_call0_call0_v3_apply, val_main_call0_call0_v1_apply, val_main_call0_v0_apply, val_main_call0_call0_v0_apply, val_main_call0_call0_v2_apply,
    val_main_call0_call0_v5_apply, val_main_call0_call0_cst_apply, e]
  rw [neg_real]
  exact (dsplus_real _).trans (by rw [sub_eq_add_neg, neg_sp, one_sub])

include hq hk in
theorem s14_0 (h : Fin 8) (y x : Fin 8192) : val_main_v14_0 (F := Ideal) x0 x1 (ix3 h y x) = ((lb (sc (rd x1 h) (rd x0 h) x.val y.val) - sc (rd x1 h) (rd x0 h) x.val y.val : ℝ) : EReal) := by
  have e := s5 x0 x1 hq hk h y x
  simp only [val_main_v14_0_apply, val_main_v13_apply, val_main_call1_v1_0_apply, val_main_call1_call0_v11_apply, val_main_call1_call0_v10_apply, val_main_call1_call0_v9_apply, val_main_call1_call0_v8_apply, val_main_call1_call0_v7_apply, val_main_call1_call0_v6_apply, val_main_call1_call0_v4_apply, val_main_call1_call0_v3_apply, val_main_call1_call0_v1_apply, val_main_call1_v0_apply, val_main_call1_call0_v0_apply, val_main_call1_call0_v2_apply,
    val_main_call1_call0_v5_apply, val_main_call1_call0_cst_apply, e]
  rw [neg_real, neg_real, neg_neg]
  exact (congrArg (FloatOps.hostNegf (F := Ideal) (φ := .f32)) (splus_real _)).trans (by rw [neg_real, sp_eq, neg_sub])

include hq hk in
theorem s14_1 (h : Fin 8) (y x : Fin 8192) : val_main_v14_1 (F := Ideal) x0 x1 (ix3 h y x) = (Real.exp (lb (sc (rd x1 h) (rd x0 h) x.val y.val)) : EReal) := by
  have e := s5 x0 x1 hq hk h y x
  simp only [val_main_v14_1_apply, val_main_v13_apply, val_main_call1_call0_v21_apply, val_main_call1_call0_v20_apply, val_main_call1_call0_v19_apply, val_main_call1_call0_v18_apply, val_main_call1_call0_v17_apply, val_main_call1_call0_v16_apply, val_main_call1_call0_v15_apply, val_main_call1_call0_v14_apply, val_main_call1_call0_v13_apply, val_main_call1_call0_cst_0_apply, val_main_call1_call0_cst_1_apply, val_main_call1_call0_cst_2_apply,
    val_main_call1_call0_cst_3_apply, val_main_call1_v1_0_apply, val_main_call1_call0_v11_apply, val_main_call1_call0_v10_apply, val_main_call1_call0_v9_apply, val_main_call1_call0_v8_apply, val_main_call1_call0_v7_apply, val_main_call1_call0_v6_apply, val_main_call1_call0_v4_apply, val_main_call1_call0_v3_apply, val_main_call1_call0_v1_apply, val_main_call1_v0_apply, val_main_call1_call0_v0_apply, val_main_call1_call0_v2_apply,
    val_main_call1_call0_v5_apply, val_main_call1_call0_cst_apply, e]
  rw [neg_real, neg_real, neg_neg]
  exact (dsplus_real _).trans (by rw [sp_eq, sub_sub_cancel])

theorem s11 (y x : Fin 8192) : val_main_v11 (F := Ideal) (ix2 y x) = IntOp.cmpi CmpIPredicate.slt (BitVec.ofNat 32 x.val) (BitVec.ofNat 32 y.val) := by
  simp only [val_main_v11_apply, val_main_v9_apply, val_main_v10_apply, val_main_v7_apply, val_main_v8_apply, val_main_v6_apply]
  rfl

/-- The mask keeps the earlier keys, in both places. -/
theorem s15_1 (h : Fin 8) (y x : Fin 8192) : val_main_v15_1 (F := Ideal) (ix3 h y x) = IntOp.cmpi CmpIPredicate.slt (BitVec.ofNat 32 x.val) (BitVec.ofNat 32 y.val) := by
  rw [← s11, val_main_v15_1_apply]; rfl
@[inherit_doc s15_1]
theorem s20_1 (h : Fin 8) (y x : Fin 8192) : val_main_v20_1 (F := Ideal) (ix3 h y x) = IntOp.cmpi CmpIPredicate.slt (BitVec.ofNat 32 x.val) (BitVec.ofNat 32 y.val) := by
  rw [← s11, val_main_v20_1_apply]; rfl

include hq hk in
theorem s15_0 (h : Fin 8) (y x : Fin 8192) : val_main_v15_0 (F := Ideal) x0 x1 (ix3 h y x) = (lm (rd x1 h) (rd x0 h) x.val y.val : EReal) := by
  rw [val_main_v15_0_apply, s15_1, s14_0 x0 x1 hq hk, select_pos, val_main_call2_v2_apply, lm]
  split_ifs
  · rfl
  · exact zero_bits

include hq hk in
theorem s17 (h : Fin 8) (y x : Fin 8192) : val_main_v17 (F := Ideal) x0 x1 (ix3 h y x) = (rest (rd x1 h) (rd x0 h) (x.val + 1) y.val : EReal) := by
  have e : val_main_v16 (F := Ideal) x0 x1 (ix3 h y x) = (rest (rd x1 h) (rd x0 h) x.val y.val : EReal) := by
    unfold val_main_v16
    rw [host_window _ _ _ _ _ _ _ _ zero_bits]
    exact scan_last _ _ _ h y (fun x => lm (rd x1 h) (rd x0 h) x y.val) (fun n => s15_0 x0 x1 hq hk h y n) x
  rw [val_main_v17_apply, e, s15_0 x0 x1 hq hk]
  refine (EReal.coe_sub _ _).symm.trans (congrArg _ ?_)
  rw [rest, rest, Finset.sum_range_succ _ x.val, sub_sub]

include hq hk in
theorem s19 (h : Fin 8) (y x : Fin 8192) : val_main_v19 (F := Ideal) x0 x1 (ix3 h y x) = (Real.exp (lb (sc (rd x1 h) (rd x0 h) x.val y.val) + rest (rd x1 h) (rd x0 h) (x.val + 1) y.val) : EReal) := by
  rw [val_main_v19_apply, val_main_v18_apply, s12_0 x0 x1 hq hk, s17 x0 x1 hq hk]
  refine (congrArg Ideal.exp (EReal.coe_add _ _).symm).trans (Cert.Gate.exp_coe _)

include hq hk in
theorem s20_0 (h : Fin 8) (y x : Fin 8192) : val_main_v20_0 (F := Ideal) x0 x1 (ix3 h y x) = (wt (rd x1 h) (rd x0 h) x.val y.val : EReal) := by
  rw [val_main_v20_0_apply, s20_1, s19 x0 x1 hq hk, select_pos, val_main_call4_v2_apply, wt]
  split_ifs
  · rfl
  · exact zero_bits

include hq hk hv hw in
theorem s30 (h : Fin 8) (y x : Fin 8192) : val_main_v30 (F := Ideal) x0 x1 x2 x3 (ix3 h y x) = (et (rd x1 h) (rd x0 h) (rd x2 h) (rd x3 h) x.val y.val : EReal) := by
  have e : val_main_v26 (F := Ideal) x2 x3 (ix3 h y x) = ((∑ d, rd x2 h x.val d * rd x3 h y.val d : ℝ) : EReal) := by
    pointwise [val_main_v26, val_main_v25, val_main_v24, val_main_v2]
    simp only [head hv, head hw]
    rw [Finite.coe_sum]
    exact Finset.sum_congr rfl fun d _ => by rw [EReal.coe_mul, mul_comm]
  rw [val_main_v30_apply, val_main_v29_apply, s20_1, s19 x0 x1 hq hk, select_pos, e, Cert.Sb.et, wt]
  split_ifs
  · exact (EReal.coe_mul _ _).symm
  · refine (congrArg (fun z : EReal => z * _) zero_bits).trans ?_
    rw [zero_mul, mul_zero]; rfl

include hq hk hv hw in
theorem s38 (h : Fin 8) (y x : Fin 8192) : val_main_v38 (F := Ideal) x0 x1 x2 x3 (ix3 h y x) = (dsc (rd x1 h) (rd x0 h) (rd x2 h) (rd x3 h) x.val y.val : EReal) := by
  have e : val_main_v32 (F := Ideal) x0 x1 x2 x3 (ix3 h y x) = ((∑ x' ∈ Finset.range (x.val + 1), et (rd x1 h) (rd x0 h) (rd x2 h) (rd x3 h) x' y.val : ℝ) : EReal) := by
    unfold val_main_v32
    rw [host_window _ _ _ _ _ _ _ _ zero_bits]
    exact scan_upto _ _ _ h y (fun x => et (rd x1 h) (rd x0 h) (rd x2 h) (rd x3 h) x y.val) (fun n => s30 x0 x1 x2 x3 hq hk hv hw h y n) x
  have e33 : val_main_v33 (F := Ideal) x0 x1 x2 x3 (ix3 h y x) = ((∑ x' ∈ Finset.range x.val, et (rd x1 h) (rd x0 h) (rd x2 h) (rd x3 h) x' y.val : ℝ) : EReal) := by
    rw [val_main_v33_apply, val_main_v31_apply, e, s30 x0 x1 x2 x3 hq hk hv hw, neg_real]
    refine (EReal.coe_add _ _).symm.trans (congrArg _ ?_)
    rw [Finset.sum_range_succ]; ring
  rw [val_main_v38_apply, val_main_v36_apply, val_main_v35_apply, val_main_call8_v1_apply, val_main_call8_v0_apply, val_main_v34_apply, val_main_v37_apply, val_main_call9_v1_apply, val_main_call9_v0_apply, s15_1, select_pos, e33, s30 x0 x1 x2 x3 hq hk hv hw,
    s14_1 x0 x1 hq hk, s12_1 x0 x1 hq hk, dsc]
  have fin (a b c d : ℝ) : FloatOps.addf (F := Ideal) (φ := .f32) (FloatOps.hostNegf (FloatOps.hostNegf (FloatOps.mulf (FloatOps.hostNegf (a : EReal)) (b : EReal))))
      (FloatOps.hostNegf (FloatOps.mulf (FloatOps.hostNegf (c : EReal)) (d : EReal))) = ((c * d - a * b : ℝ) : EReal) := by
    have mul (a b : ℝ) : FloatOps.mulf (F := Ideal) (φ := .f32) (a : EReal) (b : EReal) = ((a * b : ℝ) : EReal) := (EReal.coe_mul _ _).symm
    rw [neg_real, neg_real, mul, mul, neg_real, neg_real, neg_real]
    refine (EReal.coe_add _ _).symm.trans (congrArg _ ?_)
    ring
  split_ifs with hxy
  · exact fin _ _ _ _
  · rw [Cert.Sb.et, wt, if_neg hxy, mul_zero]
    refine (congrArg₂ (fun a b => FloatOps.addf (F := Ideal) (φ := .f32) (FloatOps.hostNegf (FloatOps.hostNegf (FloatOps.mulf (FloatOps.hostNegf a) _))) b) zero_bits rfl).trans ((fin 0 _ 0 _).trans ?_)
    rw [zero_mul, zero_mul, sub_zero]

include hq hk hv hw in
theorem s40 (h : Fin 8) (y x : Fin 8192) : val_main_v40 (F := Ideal) x0 x1 x2 x3 (ix3 h y x) = ((dsc (rd x1 h) (rd x0 h) (rd x2 h) (rd x3 h) x.val y.val * (1 / 8) : ℝ) : EReal) := by
  rw [val_main_v40_apply, s38 x0 x1 x2 x3 hq hk hv hw, val_main_v39_apply]
  exact (congrArg (FloatOps.mulf (F := Ideal) (φ := .f32) _) Cert.SbKernelIdeal.eighth).trans (EReal.coe_mul _ _).symm

/-- An entry by its head and its place in it. -/
theorem col {X : FVec Ideal S8192x512 .f32} (hX : ∀ j, ∃ r : ℝ, X j = (r : EReal)) (y : Fin 8192) (c : Fin 512) : X (ix2 y c) = (rd X (hOf c) y.val (dOf c) : EReal) := by
  have e : c = hd (hOf c) (dOf c) := Fin.ext (Nat.div_add_mod c.val 64).symm
  exact (congrArg (fun c => X (ix2 y c)) e).trans (rd_eq hX _ _ _)

include hq hk hv hw in
theorem ref_dq : val_main_v48 (F := Ideal) x0 x1 x2 x3 = dq x0 x1 x2 x3 := by
  funext j
  have e := s40 x0 x1 x2 x3 hq hk hv hw
  obtain ⟨y, c, rfl⟩ : ∃ y c, j = ix2 y c := ⟨j 0, j 1, (ix2_eta j).symm⟩
  unfold val_main_v48 val_main_v47 val_main_v44 val_main_v43
  generalize val_main_v40 (F := Ideal) x0 x1 x2 x3 = z at e ⊢
  pointwise [val_main_v1]
  refine (Finset.sum_congr rfl fun x _ => congrArg₂ (· * ·) (e (hOf c) y x) (col hk x c)).trans ?_
  simp only [← EReal.coe_mul]
  rw [← Finite.coe_sum]
  refine congrArg _ ?_
  refine (Fin.sum_univ_eq_sum_range (fun x => dsc (rd x1 (hOf c)) (rd x0 (hOf c)) (rd x2 (hOf c)) (rd x3 (hOf c)) x y.val * (1 / 8) * rd x1 (hOf c) x (dOf c)) 8192).trans ?_
  show _ = dqP (rd x1 (hOf c)) (rd x0 (hOf c)) (rd x2 (hOf c)) (rd x3 (hOf c)) 8192 y.val (dOf c) * (1 / 8)
  rw [dqP, Finset.sum_mul]
  exact Finset.sum_congr rfl fun x _ => by ring

include hq hk hv hw in
theorem ref_dk : val_main_v49 (F := Ideal) x0 x1 x2 x3 = dk x0 x1 x2 x3 := by
  funext j
  have e := s40 x0 x1 x2 x3 hq hk hv hw
  obtain ⟨y, c, rfl⟩ : ∃ y c, j = ix2 y c := ⟨j 0, j 1, (ix2_eta j).symm⟩
  unfold val_main_v49 val_main_v46 val_main_v42 val_main_v41
  generalize val_main_v40 (F := Ideal) x0 x1 x2 x3 = z at e ⊢
  pointwise [val_main_v0]
  refine (Finset.sum_congr rfl fun x _ => congrArg₂ (· * ·) (e (hOf c) x y) (col hq x c)).trans ?_
  simp only [← EReal.coe_mul]
  rw [← Finite.coe_sum]
  refine congrArg _ ?_
  refine (Fin.sum_univ_eq_sum_range (fun x => dsc (rd x1 (hOf c)) (rd x0 (hOf c)) (rd x2 (hOf c)) (rd x3 (hOf c)) y.val x * (1 / 8) * rd x0 (hOf c) x (dOf c)) 8192).trans ?_
  show _ = dkP (rd x1 (hOf c)) (rd x0 (hOf c)) (rd x2 (hOf c)) (rd x3 (hOf c)) 8192 y.val (dOf c)
  rw [dkP]
  exact Finset.sum_congr rfl fun x _ => by ring

include hq hk hw in
theorem ref_dv : val_main_v50 (F := Ideal) x0 x1 x3 = dv x0 x1 x3 := by
  funext j
  have e := s20_0 x0 x1 hq hk
  obtain ⟨y, c, rfl⟩ : ∃ y c, j = ix2 y c := ⟨j 0, j 1, (ix2_eta j).symm⟩
  unfold val_main_v50 val_main_v45 val_main_v28 val_main_v27
  generalize val_main_v20_0 (F := Ideal) x0 x1 = z at e ⊢
  pointwise [val_main_v25, val_main_v24]
  refine (Finset.sum_congr rfl fun x _ => congrArg₂ (· * ·) (col hw x c) (e (hOf c) x y)).trans ?_
  simp only [← EReal.coe_mul]
  rw [← Finite.coe_sum]
  exact congrArg _ (Fin.sum_univ_eq_sum_range (fun x => rd x3 (hOf c) x (dOf c) * wt (rd x1 (hOf c)) (rd x0 (hOf c)) y.val x) 8192)

end Cert.SbReferenceIdeal.Ref

end
-- ==== Proof.ClaimSb.lean ====
/- The claims about the stick-breaking attention's backward call: its frames and its value. -/
module

public import proofs.«01_k».proof.Defs
public import proofs.«01_k».proof.Proof.SbRef
public import proofs.«01_k».proof.Proof.Gen.SbKernel
public import proofs.«01_k».proof.Proof.Gen.SbReferenceIdeal
public import proofs.«01_k».proof.Proof.Gen.Pre_sb_finite
public import proofs.«01_k».proof.Proof.Gen.SbReferenceIdeal.Run
public import Idealize.ShloMosaic.Lib.Claim

@[expose] public section

set_option maxRecDepth 16384

noncomputable section

namespace Cert.ClaimSb

open Idealize.ShloMosaic Idealize.ShloMosaic.Tactic Idealize.SL.Sem

/-- The program is the same text for both readings of the floats. -/
theorem defs_eq : (Cert.SbKernel.defs (F := Bits)) = Cert.SbKernelIdeal.defs (F := Bits) := by sl_kernel_rfl

theorem main_eq : (Cert.SbKernel.main (F := Bits)) = Cert.SbKernelIdeal.main (F := Bits) := by sl_kernel_rfl

theorem frame_kernel : Cert.quiescent_SbKernel := fun m ρ _ => by
  rw [defs_eq, main_eq]
  exact Cert.SbKernelIdeal.frame (F := Bits) m ρ

theorem frame_ideal : Cert.quiescent_SbKernelIdeal := fun m ρ _ => Cert.SbKernelIdeal.frame m ρ

theorem frame_reference : Cert.quiescent_SbReferenceIdeal := fun m ρ _ =>
  (θ_run Cert.SbReferenceIdeal.defs _ _).mono (fun r h => ⟨fun c => (h c).2.2.2, sem_eq_zero_of_no_sems (by decide) r.2⟩)
    (Cert.SbReferenceIdeal.Value.run m ρ)

theorem frame_ideal_pre : Cert.quiescent_SbKernelIdeal_pre_sb_finite := fun m ρ _ => Cert.SbKernelIdeal.frame m ρ

theorem frame_reference_pre : Cert.quiescent_SbReferenceIdeal_pre_sb_finite := fun m ρ _ => frame_reference m ρ trivial

/-- The precondition makes every element of the four arguments a real. -/
theorem real (x0 x1 x2 x3 : FVec Ideal Cert.Pre_sb_finite.S8192x512 .f32) (h : Cert.Pre_sb_finite.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  obtain ⟨h012, h3⟩ := Finite.and_one h
  obtain ⟨h01, h2⟩ := Finite.and_one h012
  obtain ⟨h0, h1⟩ := Finite.and_one h01
  exact ⟨Finite.real_of_all (fun _ => Finite.ofBits_inf) h0, Finite.real_of_all (fun _ => Finite.ofBits_inf) h1,
    Finite.real_of_all (fun _ => Finite.ofBits_inf) h2, Finite.real_of_all (fun _ => Finite.ofBits_inf) h3⟩

section
open Cert.SbKernelIdeal Cert.SbKernelIdeal.Gen

/-- The kernel's run: each result is what the pipeline leaves in it, and the arguments keep their contents. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48_0) = (dats m 0 c).arrAt 7 (cfgs 0).N
      ∧ r.2.mem ((c.tc : Thread nD τ).loc main_v48_1) = (dats m 0 c).arrAt 8 (cfgs 0).N
      ∧ r.2.mem ((c.tc : Thread nD τ).loc main_v48_2) = (dats m 0 c).arrAt 9 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 7, (h.1 c).1 8, (h.1 c).1 9,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (run_main_quiescent m ρ)

end

section
open Cert.SbKernelIdeal
variable (m : (ℓ : Loc nD τ sig) → Buf (Elt Ideal) ℓ) (h : Cert.Pre_SbKernelIdeal_sb_finite m) (c : Dev nD)
include h

theorem real_at : (∀ i, ∃ r : ℝ, aq m c i = (r : EReal)) ∧ (∀ i, ∃ r : ℝ, ak m c i = (r : EReal)) ∧ (∀ i, ∃ r : ℝ, av m c i = (r : EReal)) ∧ (∀ i, ∃ r : ℝ, aw m c i = (r : EReal)) :=
  real (aq m c) (ak m c) (av m c) (aw m c) (h c)

theorem same_dq : Cert.SbReferenceIdeal.Read.val_main_v48 (F := Ideal) (aq m c) (ak m c) (av m c) (aw m c) = (dats m 0 c).arrAt 7 (cfgs 0).N := by
  obtain ⟨hq, hk, hv, hw⟩ := real_at m h c
  exact (Cert.SbReferenceIdeal.Ref.ref_dq _ _ _ _ hq hk hv hw).trans (final_dq m c hq hk hv hw).symm

theorem same_dk : Cert.SbReferenceIdeal.Read.val_main_v49 (F := Ideal) (aq m c) (ak m c) (av m c) (aw m c) = (dats m 0 c).arrAt 8 (cfgs 0).N := by
  obtain ⟨hq, hk, hv, hw⟩ := real_at m h c
  exact (Cert.SbReferenceIdeal.Ref.ref_dk _ _ _ _ hq hk hv hw).trans (final_dk m c hq hk hv hw).symm

theorem same_dv : Cert.SbReferenceIdeal.Read.val_main_v50 (F := Ideal) (aq m c) (ak m c) (aw m c) = (dats m 0 c).arrAt 9 (cfgs 0).N := by
  obtain ⟨hq, hk, hv, hw⟩ := real_at m h c
  exact (Cert.SbReferenceIdeal.Ref.ref_dv _ _ _ hq hk hw).trans (final_dv m c hq hk hv hw).symm

end

theorem algebraic : Cert.algebraic_SbKernelIdeal_SbReferenceIdeal_pre_sb_finite := by
  pair_intro
  · run_from run m g
  · run_from Cert.SbReferenceIdeal.Value.run m' g'
    all_goals obtain ⟨e0, e1, e2, e3⟩ := hagree c
    · rw [Cert.SbReferenceIdeal.Read.val_main_v48_eq, e0, e1, e2, e3]
      exact same_dq m hpre c
    · rw [Cert.SbReferenceIdeal.Read.val_main_v49_eq, e0, e1, e2, e3]
      exact same_dk m hpre c
    · rw [Cert.SbReferenceIdeal.Read.val_main_v50_eq, e0, e1, e3]
      exact same_dv m hpre c

end Cert.ClaimSb

end
-- ==== Proof.Norm.lean ====
/- The gradient of a layer norm's row of 1024 numbers: the form the kernels compute, the form `jax.vjp` of the forward lines computes, and that
   they agree on rows of reals. -/
module

public import proofs.«01_k».proof.Proof.Finite

@[expose] public section

noncomputable section

namespace Cert.Norm

open Idealize.ShloMosaic
open scoped BigOperators

/-- The mean of a row. -/
abbrev mean (f : Fin 1024 → EReal) : EReal := Ideal.div (∑ k, f k) (Ideal.ofBits .f32 0x44800000#32)
/-- A row less its mean. -/
abbrev dev (x : Fin 1024 → EReal) (j : Fin 1024) : EReal := x j - mean x
/-- The variance of a row plus the norm's small constant. -/
abbrev vare (x : Fin 1024 → EReal) : EReal := mean (fun k => dev x k * dev x k) + Ideal.ofBits .f32 0x3727C5AC#32
/-- One over the deviation of a row. -/
abbrev rstd (x : Fin 1024 → EReal) : EReal := Ideal.rsqrt (vare x)
/-- A row normalised. -/
abbrev hat (x : Fin 1024 → EReal) (j : Fin 1024) : EReal := dev x j * rstd x

/-- The gradient of a row `x`, from the gradient `u` of the row normalised: the kernels' form. -/
abbrev back (x u : Fin 1024 → EReal) (j : Fin 1024) : EReal :=
  rstd x * (u j - mean u - hat x j * mean (fun k => u k * hat x k))

/-- What reaches the variance, over the length of the row. -/
abbrev dvar (x u : Fin 1024 → EReal) : EReal :=
  Ideal.div ((∑ k, dev x k * u k) * (Ideal.ofBits .f32 0xBF000000#32 * Ideal.div (rstd x) (vare x))) (Ideal.ofBits .f32 0x44800000#32)

/-- The same gradient as the adjoint of the forward lines: through the normalised row, the variance and the mean. -/
abbrev adj (x u : Fin 1024 → EReal) (j : Fin 1024) : EReal :=
  u j * rstd x + dvar x u * (Ideal.ofBits .f32 0x40000000#32 * dev x j)
    + Ideal.div ((∑ k, -(u k * rstd x)) + ∑ k, -(dvar x u * (Ideal.ofBits .f32 0x40000000#32 * dev x k))) (Ideal.ofBits .f32 0x44800000#32)

theorem w1024 : Ideal.ofBits .f32 0x44800000#32 = ((1024 : ℝ) : EReal) := by
  simp [Ideal.ofBits, Ideal.ieee, -EReal.coe_mul]; norm_num

theorem w2 : Ideal.ofBits .f32 0x40000000#32 = ((2 : ℝ) : EReal) := by
  simp [Ideal.ofBits, Ideal.ieee, -EReal.coe_mul]; norm_num

theorem wnhalf : Ideal.ofBits .f32 0xBF000000#32 = ((-1 / 2 : ℝ) : EReal) := by
  simp [Ideal.ofBits, Ideal.ieee, -EReal.coe_mul, -EReal.coe_neg]; norm_num

theorem whalf : Ideal.ofBits .f32 0x3F000000#32 = ((1 / 2 : ℝ) : EReal) := by
  simp [Ideal.ofBits, Ideal.ieee, -EReal.coe_mul]; norm_num

theorem winv1024 : Ideal.ofBits .f32 0x3A800000#32 = ((1 / 1024 : ℝ) : EReal) := by
  simp [Ideal.ofBits, Ideal.ieee, -EReal.coe_mul]; norm_num

/-- The residual's factor is a real. -/
theorem walpha : ∃ a : ℝ, Ideal.ofBits .f32 0x3F9837F0#32 = (a : EReal) :=
  ⟨_, by simp [Ideal.ofBits, Ideal.ieee, -EReal.coe_mul]; rfl⟩

/-- The norm's small constant is a positive real. -/
theorem weps : ∃ e : ℝ, 0 < e ∧ Ideal.ofBits .f32 0x3727C5AC#32 = (e : EReal) := by
  refine ⟨_, ?_, by simp [Ideal.ofBits, Ideal.ieee, -EReal.coe_mul]; rfl⟩
  positivity

theorem div_coe (a : ℝ) {b : ℝ} (hb : b ≠ 0) : Ideal.div (a : EReal) (b : EReal) = ((a / b : ℝ) : EReal) := by
  have hb' : (b : EReal) ≠ 0 := by exact_mod_cast hb
  rw [Ideal.div, if_neg hb', ← EReal.coe_inv, ← EReal.coe_mul, div_eq_mul_inv]

theorem rsqrt_coe {a : ℝ} (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg ha.le.not_gt, if_neg ha.ne']

theorem mean_coe (f : Fin 1024 → ℝ) : mean (fun k => (f k : EReal)) = (((∑ k, f k) / 1024 : ℝ) : EReal) := by
  rw [mean, w1024, ← Finite.coe_sum, div_coe _ (by norm_num)]

/-- The parts of a row of reals: its deviations sum to zero, and the square of one over its deviation is one over the variance. -/
theorem parts (X : Fin 1024 → ℝ) : ∃ (D : Fin 1024 → ℝ) (V r : ℝ), 0 < V ∧ r * r * V = 1 ∧ ∑ k, D k = 0 ∧
    (∀ j, dev (fun k => (X k : EReal)) j = (D j : EReal)) ∧ vare (fun k => (X k : EReal)) = (V : EReal)
    ∧ rstd (fun k => (X k : EReal)) = (r : EReal) := by
  obtain ⟨e, he, hE⟩ := weps
  have hD : ∀ j, dev (fun k => (X k : EReal)) j = ((X j - (∑ k, X k) / 1024 : ℝ) : EReal) := fun j => by
    rw [dev, mean_coe, ← EReal.coe_sub]
  have hV : vare (fun k => (X k : EReal))
      = (((∑ k, (X k - (∑ k, X k) / 1024) * (X k - (∑ k, X k) / 1024)) / 1024 + e : ℝ) : EReal) := by
    rw [vare, hE, EReal.coe_add, ← mean_coe]
    congr 2
    funext k
    rw [hD k, ← EReal.coe_mul]
  have hpos : 0 < (∑ k, (X k - (∑ k, X k) / 1024) * (X k - (∑ k, X k) / 1024)) / 1024 + e :=
    add_pos_of_nonneg_of_pos (div_nonneg (Finset.sum_nonneg fun k _ => mul_self_nonneg _) (by norm_num)) he
  refine ⟨_, _, _, hpos, ?_, ?_, hD, hV, by rw [rstd, hV, rsqrt_coe hpos]⟩
  · rw [← mul_inv, Real.mul_self_sqrt hpos.le, inv_mul_cancel₀ hpos.ne']
  · rw [Finset.sum_sub_distrib, Finset.sum_const, Finset.card_univ, Fintype.card_fin, nsmul_eq_mul]
    push_cast
    ring

/-- The two forms agree on rows of reals. -/
theorem adj_eq_back {x u : Fin 1024 → EReal} (hx : ∀ k, ∃ r : ℝ, x k = (r : EReal)) (hu : ∀ k, ∃ r : ℝ, u k = (r : EReal))
    (j : Fin 1024) : adj x u j = back x u j := by
  choose X hX using hx
  choose U hU using hu
  obtain rfl : x = fun k => (X k : EReal) := funext hX
  obtain rfl : u = fun k => (U k : EReal) := funext hU
  obtain ⟨D, V, r, hV0, hr, hD0, hD, hV, hR⟩ := parts X
  have hdv : dvar (fun k => (X k : EReal)) (fun k => (U k : EReal)) = (((∑ k, D k * U k) * (-1 / 2 * (r / V)) / 1024 : ℝ) : EReal) := by
    simp only [dvar, hD, hV, hR, w1024, wnhalf]
    simp only [← EReal.coe_mul, ← Finite.coe_sum]
    rw [div_coe _ hV0.ne', ← EReal.coe_mul, ← EReal.coe_mul, div_coe _ (by norm_num)]
  have hrV : r / V = r * r * r := by
    field_simp
    linear_combination (-r) * hr
  rw [adj, back, hdv, mean_coe]
  simp only [hat, hD, hR, w1024, w2]
  simp only [← EReal.coe_mul, ← EReal.coe_neg, ← Finite.coe_sum, ← EReal.coe_add, mean_coe, ← EReal.coe_sub]
  rw [div_coe _ (by norm_num), ← EReal.coe_add]
  congr 1
  have h1 : ∑ k, -(U k * r) = -((∑ k, U k) * r) := by rw [Finset.sum_neg_distrib, Finset.sum_mul]
  have h2 : ∀ a : ℝ, ∑ k, -(a * (2 * D k)) = 0 := fun a => by
    rw [Finset.sum_neg_distrib, ← Finset.mul_sum, ← Finset.mul_sum, hD0]; ring
  have h3 : ∑ k, U k * (D k * r) = (∑ k, D k * U k) * r := by
    rw [Finset.sum_mul]; exact Finset.sum_congr rfl fun k _ => by ring
  rw [h1, h2, h3, hrV]
  ring

/-- A normalised row of reals is a row of reals. -/
theorem hat_real {x : Fin 1024 → EReal} (hx : ∀ k, ∃ r : ℝ, x k = (r : EReal)) (j : Fin 1024) : ∃ r : ℝ, hat x j = (r : EReal) := by
  choose X hX using hx
  obtain rfl : x = fun k => (X k : EReal) := funext hX
  obtain ⟨D, V, r, -, -, -, hD, -, hR⟩ := parts X
  exact ⟨D j * r, by rw [hat, hD, hR, EReal.coe_mul]⟩

end Cert.Norm

end
-- ==== Proof.ValueUp.lean ====
/- The value of the backward call of the feed-forward's input: the product with the gate and up weights, and the first layer norm's gradient. -/
module

public import proofs.«01_k».proof.Proof.Gen.UpKernelIdeal.Value
public import proofs.«01_k».proof.Proof.Gen.UpReferenceIdeal.Read
public import proofs.«01_k».proof.Proof.Norm
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.UpKernelIdeal.ValueUp

open Cert.UpKernelIdeal Cert.UpKernelIdeal.Gen Cert.Norm

/-! ## The gradients, one element at a time, over the arguments -/

section
variable (p : FVec Ideal S8192x1024 .f32) (g : FVec Ideal S1x1024 .f32) (w : FVec Ideal S1x1024x5632 .f32)
  (ct : FVec Ideal S8192x1024 .f32) (dg du : FVec Ideal S8192x2816 .f32)

/-- The cotangent of the normed row `y`: the residual's part and the two products with the weights. -/
def dh (y : Fin 8192) (k : Fin 1024) : EReal :=
  Ideal.ofBits .f32 0x3F9837F0#32 * ct (ix2 y k)
    + ((∑ x : Fin 2816, dg (ix2 y x) * w (ix3 0 k ⟨x.val, by omega⟩))
      + ∑ x : Fin 2816, du (ix2 y x) * w (ix3 0 k ⟨2816 + x.val, by omega⟩))

/-- Row `y` of the norm's input. -/
def row (y : Fin 8192) (k : Fin 1024) : EReal := p (ix2 y k)

/-- The gradient of the normalised row `y`. -/
def dxh (y : Fin 8192) (k : Fin 1024) : EReal := dh w ct dg du y k * g (ix2 0 k)

/-- The gradient of the norm's input, in the kernel's form. -/
def dpre (i : S8192x1024.Idx) : EReal := back (row p (i 0)) (dxh g w ct dg du (i 0)) (i 1)

/-- The gradient of the norm's scale. -/
def dgam (i : S1x1024.Idx) : EReal := ∑ y : Fin 8192, dh w ct dg du y (i 1) * hat (row p y) (i 1)

/-- The gradient of the norm's shift. -/
def dbet (i : S1x1024.Idx) : EReal := ∑ y : Fin 8192, dh w ct dg du y (i 1)
end

/-! ## The reference -/

section
open Cert.UpReferenceIdeal.Read

variable (p : FVec Ideal S8192x1024 .f32) (g : FVec Ideal S1x1024 .f32) (w : FVec Ideal S1x1024x5632 .f32)
  (ct : FVec Ideal S8192x1024 .f32) (dg du : FVec Ideal S8192x2816 .f32)

theorem ref_dh (y : Fin 8192) (k : Fin 1024) : val_main_v41 (F := Ideal) w ct dg du (ix2 y k) = dh w ct dg du y k := by
  pointwise [val_main_v41, val_main_v40, val_main_v39, val_main_v38, val_main_v37, val_main_cst_7, val_main_v31, dh]

theorem ref_dev (y : Fin 8192) (k : Fin 1024) : val_main_v7 (F := Ideal) p (ix2 y k) = dev (row p y) k := by
  pointwise [val_main_v7, val_main_v6, val_main_v5, val_main_v4, val_main_v3, val_main_v2, val_main_cst_0, val_main_cst, dev, mean, row]

theorem ref_vare (y : Fin 8192) : val_main_v18 (F := Ideal) p (ix2 y 0) = vare (row p y) := by
  pointwise [val_main_v18, val_main_v17, val_main_cst_4, val_main_v14, val_main_v12, val_main_v11, val_main_v13, val_main_cst_3,
    val_main_v8, val_main_cst_2, ref_dev, row]

theorem ref_rstd (y : Fin 8192) : val_main_v19 (F := Ideal) p (ix2 y 0) = rstd (row p y) := by
  pointwise [val_main_v19, ref_vare]

theorem ref_hat (y : Fin 8192) (k : Fin 1024) : val_main_v24 (F := Ideal) p (ix2 y k) = hat (row p y) k := by
  pointwise [val_main_v24, val_main_v23, val_main_v16, val_main_v15, val_main_v5, val_main_v4, val_main_v3, val_main_v2, val_main_cst_0,
    val_main_cst, ref_rstd, hat, dev, mean, row]

theorem ref_dxh (y : Fin 8192) (k : Fin 1024) : val_main_v49 (F := Ideal) g w ct dg du (ix2 y k) = dxh g w ct dg du y k := by
  pointwise [val_main_v49, val_main_v48, val_main_v25, val_main_v0, ref_dh, dxh]

theorem ref_dvar (y : Fin 8192) (k : Fin 1024) :
    val_main_v63 (F := Ideal) p g w ct dg du (ix2 y k) = dvar (row p y) (dxh g w ct dg du y) := by
  pointwise [val_main_v63, val_main_v62, val_main_cst_15, val_main_v61, val_main_v60, val_main_cst_14, val_main_v56, val_main_v53, val_main_v52,
    val_main_cst_12, val_main_v51, val_main_v16, val_main_v15, val_main_v5, val_main_v4, val_main_v3, val_main_v2, val_main_cst_0,
    val_main_cst, val_main_v22, val_main_v21, val_main_cst_5, val_main_v20, ref_dxh, dvar, dev, mean, row]
  rw [Fin.sum_univ_one, ref_rstd, ref_vare]

theorem ref_dvar_dev (y : Fin 8192) (k : Fin 1024) :
    val_main_v64 (F := Ideal) p g w ct dg du (ix2 y k)
      = dvar (row p y) (dxh g w ct dg du y) * (Ideal.ofBits .f32 0x40000000#32 * dev (row p y) k) := by
  pointwise [val_main_v64, val_main_v10, val_main_v9, val_main_cst_1, ref_dvar, ref_dev]

theorem ref_adj (y : Fin 8192) (k : Fin 1024) :
    val_main_v74 (F := Ideal) p g w ct dg du (ix2 y k) = adj (row p y) (dxh g w ct dg du y) k := by
  pointwise [val_main_v74, val_main_v73, val_main_v72, val_main_cst_18, val_main_v71, val_main_v70, val_main_cst_17, val_main_v69, val_main_v68,
    val_main_v67, val_main_v66, val_main_cst_16, val_main_v65, val_main_v59, val_main_v58, val_main_cst_13, val_main_v57, val_main_v55,
    val_main_v54, ref_dvar_dev, ref_dxh, ref_rstd, adj]
  rw [Fin.sum_univ_one]

theorem ref_dpre (hp : ∀ i, ∃ r : ℝ, p i = (r : EReal)) (hu : ∀ y k, ∃ r : ℝ, dxh g w ct dg du y k = (r : EReal)) :
    val_main_v74 (F := Ideal) p g w ct dg du = dpre p g w ct dg du := by
  funext i
  rw [ValueIdx.eq_ix2 i]
  exact (ref_adj p g w ct dg du (i 0) (i 1)).trans (adj_eq_back (fun k => hp _) (hu _) _)

/-- On real arguments the gradient of the normalised rows is real. -/
theorem dxh_real (hg : ∀ i, ∃ r : ℝ, g i = (r : EReal)) (hw : ∀ i, ∃ r : ℝ, w i = (r : EReal)) (hct : ∀ i, ∃ r : ℝ, ct i = (r : EReal))
    (hdg : ∀ i, ∃ r : ℝ, dg i = (r : EReal)) (hdu : ∀ i, ∃ r : ℝ, du i = (r : EReal)) (y : Fin 8192) (k : Fin 1024) :
    ∃ r : ℝ, dxh g w ct dg du y k = (r : EReal) :=
  Finite.mul (Finite.add (Finite.mul walpha (hct _)) (Finite.add (Finite.sum fun _ => Finite.mul (hdg _) (hw _))
    (Finite.sum fun _ => Finite.mul (hdu _) (hw _)))) (hg _)

theorem ref_dgam : val_main_v76 (F := Ideal) p w ct dg du = dgam p w ct dg du := by
  funext i
  pointwise [val_main_v76, val_main_v50, val_main_cst_11, val_main_v47, val_main_v46, val_main_cst_10, val_main_v45, ref_hat, ref_dh, dgam]
  rw [Fin.sum_univ_one]
  exact Finset.sum_congr rfl fun y _ => mul_comm _ _

theorem ref_dbet : val_main_v75 (F := Ideal) w ct dg du = dbet w ct dg du := by
  funext i
  pointwise [val_main_v75, val_main_v44, val_main_cst_9, val_main_v43, val_main_v42, val_main_cst_8, ref_dh, dbet]
  rw [Fin.sum_univ_one]

end

/-! ## The kernel -/

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![0, 0, 0]
    ∧ win0_3.index t = ![t.val, 0]
    ∧ win0_4.index t = ![t.val, 0]
    ∧ win0_5.index t = ![0, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- The stacked weights hold the columns of `w_gate_up`, a quarter in each layer. -/
theorem stacked (c : Dev nD) (d : Fin 1024) (k : Fin 1408) :
    V m c main_v13 (ix3 0 d k) = m ((c : Thread nD τ).loc main_arg3) (ix3 0 d ⟨k.val, by omega⟩)
    ∧ V m c main_v13 (ix3 1 d k) = m ((c : Thread nD τ).loc main_arg3) (ix3 0 d ⟨1408 + k.val, by omega⟩)
    ∧ V m c main_v13 (ix3 2 d k) = m ((c : Thread nD τ).loc main_arg3) (ix3 0 d ⟨2816 + k.val, by omega⟩)
    ∧ V m c main_v13 (ix3 3 d k) = m ((c : Thread nD τ).loc main_arg3) (ix3 0 d ⟨4224 + k.val, by omega⟩) := by
  refine ⟨?_, ?_, ?_, ?_⟩ <;>
  · unfold_abbrev_sides
    simp only [List.flatten_cons, List.flatten_nil, List.append_nil, List.cons_append, List.nil_append, StableHlo.after_cons,
      StableHlo.after_nil]
    after_results_simp
    pointwise
    after_results_simp
    pointwise

/-- The gradients of gate and up reach the kernel as they are. -/
theorem cast_gate (c : Dev nD) (y : Fin 8192) (k : Fin 2816) :
    V m c main_v14 (ix2 y k) = m ((c : Thread nD τ).loc main_arg5) (ix2 y k) := by
  unfold_abbrev_sides
  simp only [List.flatten_cons, List.flatten_nil, List.append_nil, List.cons_append, List.nil_append, StableHlo.after_cons,
    StableHlo.after_nil]
  after_results_simp
  pointwise

theorem cast_up (c : Dev nD) (y : Fin 8192) (k : Fin 2816) :
    V m c main_v15 (ix2 y k) = m ((c : Thread nD τ).loc main_arg6) (ix2 y k) := by
  unfold_abbrev_sides
  simp only [List.flatten_cons, List.flatten_nil, List.append_nil, List.cons_append, List.nil_append, StableHlo.after_cons,
    StableHlo.after_nil]
  after_results_simp
  pointwise

/-- A sum over the hidden columns is the sum over their two halves. -/
theorem halves (f : Fin 2816 → EReal) :
    ∑ x, f x = ∑ x : Fin 1408, f ⟨x.val, by omega⟩ + ∑ x : Fin 1408, f ⟨1408 + x.val, by omega⟩ :=
  Fin.sum_univ_add (a := 1408) (b := 1408) f

abbrev A (c : Dev nD) := m ((c : Thread nD τ).loc main_arg0)
abbrev G (c : Dev nD) := m ((c : Thread nD τ).loc main_arg1)
abbrev W (c : Dev nD) := m ((c : Thread nD τ).loc main_arg3)
abbrev C (c : Dev nD) := m ((c : Thread nD τ).loc main_arg4)
abbrev Dg (c : Dev nD) := m ((c : Thread nD τ).loc main_arg5)
abbrev Du (c : Dev nD) := m ((c : Thread nD τ).loc main_arg6)

/-- The first part of a block of `dh`: the residual, and three of the four products. -/
abbrev part3 (b0 b1 : Vec Ideal S256x2816 .bf16) (b2 : Vec Ideal S4x1024x1408 .bf16) (b3 : Vec Ideal S256x1024 .f32) : FVec Ideal S256x1024 .f32 :=
  k0_pay5 b3 (View.ld b0 (Rect.unit ![0, 0] ![256, 1408] inb_S256x2816_S256x1408_0_0))
    (View.ld b2 (Rect.unit ![0, 0, 0] ![1, 1024, 1408] inb_S4x1024x1408_S1x1024x1408_0_0_0))
    (View.ld b1 (Rect.unit ![0, 0] ![256, 1408] inb_S256x2816_S256x1408_0_0))
    (View.ld b2 (Rect.unit ![2, 0, 0] ![1, 1024, 1408] inb_S4x1024x1408_S1x1024x1408_2_0_0))
    (View.ld b0 (Rect.unit ![0, 1408] ![256, 1408] inb_S256x2816_S256x1408_0_1408))
    (View.ld b2 (Rect.unit ![1, 0, 0] ![1, 1024, 1408] inb_S4x1024x1408_S1x1024x1408_1_0_0))

/-- The fourth product of a block of `dh`. -/
abbrev part1 (b1 : Vec Ideal S256x2816 .bf16) (b2 : Vec Ideal S4x1024x1408 .bf16) : FVec Ideal S256x1024 .f32 :=
  k0_pay6 (View.ld b1 (Rect.unit ![0, 1408] ![256, 1408] inb_S256x2816_S256x1408_0_1408))
    (View.ld b2 (Rect.unit ![3, 0, 0] ![1, 1024, 1408] inb_S4x1024x1408_S1x1024x1408_3_0_0))

/-- A block of `dh` over the blocks it reads. -/
theorem parts_eq (b0 b1 : Vec Ideal S256x2816 .bf16) (b2 : Vec Ideal S4x1024x1408 .bf16) (b3 : Vec Ideal S256x1024 .f32)
    (r : Fin 256) (k : Fin 1024) :
    part3 b0 b1 b2 b3 (ix2 r k) + part1 b1 b2 (ix2 r k) = Ideal.ofBits .f32 0x3F9837F0#32 * b3 (ix2 r k)
      + (∑ x : Fin 1408, b0 (ix2 r ⟨x.val, by omega⟩) * b2 (ix3 0 k x))
      + (∑ x : Fin 1408, b1 (ix2 r ⟨x.val, by omega⟩) * b2 (ix3 2 k x))
      + (∑ x : Fin 1408, b0 (ix2 r ⟨1408 + x.val, by omega⟩) * b2 (ix3 1 k x))
      + ∑ x : Fin 1408, b1 (ix2 r ⟨1408 + x.val, by omega⟩) * b2 (ix3 3 k x) := by
  pointwise [part3, part1, k0_pay5, k0_pay6]

theorem row_lt (t : Fin cfg0.N) (r : Fin 256) : t.val * 256 + r.val < 8192 := by
  have : t.val < 32 := t.isLt
  omega

/-- Row `r` of point `t`. -/
abbrev at_ (t : Fin cfg0.N) (r : Fin 256) : Fin 8192 := ⟨t.val * 256 + r.val, row_lt t r⟩

theorem blk0 (c : Dev nD) (t : Fin cfg0.N) (r : Fin 256) (k : Fin 2816) : iblk m c 0 t (ix2 r k) = Dg m c (ix2 (at_ t r) k) := by
  refine Eq.trans ?_ (cast_gate m c _ _)
  pointwise [iblk]
  generalize V m c main_v14 = x
  blk_point [idx_val t]

theorem blk1 (c : Dev nD) (t : Fin cfg0.N) (r : Fin 256) (k : Fin 2816) : iblk m c 1 t (ix2 r k) = Du m c (ix2 (at_ t r) k) := by
  refine Eq.trans ?_ (cast_up m c _ _)
  pointwise [iblk]
  generalize V m c main_v15 = x
  blk_point [idx_val t]

theorem blk2 (c : Dev nD) (t : Fin cfg0.N) (j : Fin 4) (d : Fin 1024) (k : Fin 1408) : iblk m c 2 t (ix3 j d k) = V m c main_v13 (ix3 j d k) := by
  pointwise [iblk]
  generalize V m c main_v13 = x
  blk_point [idx_val t]

theorem blk3 (c : Dev nD) (t : Fin cfg0.N) (r : Fin 256) (k : Fin 1024) : iblk m c 3 t (ix2 r k) = C m c (ix2 (at_ t r) k) := by
  pointwise [iblk, V, C]
  blk_point [idx_val t]

theorem blk4 (c : Dev nD) (t : Fin cfg0.N) (r : Fin 256) (k : Fin 1024) : iblk m c 4 t (ix2 r k) = A m c (ix2 (at_ t r) k) := by
  pointwise [iblk, V, A]
  blk_point [idx_val t]

theorem blk5 (c : Dev nD) (t : Fin cfg0.N) (k : Fin 1024) : iblk m c 5 t (ix2 0 k) = G m c (ix2 0 k) := by
  pointwise [iblk, V, G]
  blk_point [idx_val t]

/-- A block of `dh` at a point holds `dh` of the point's rows. -/
theorem blk_dh (c : Dev nD) (t : Fin cfg0.N) (r : Fin 256) (k : Fin 1024) :
    part3 (iblk m c 0 t) (iblk m c 1 t) (iblk m c 2 t) (iblk m c 3 t) (ix2 r k) + part1 (iblk m c 1 t) (iblk m c 2 t) (ix2 r k)
      = dh (W m c) (C m c) (Dg m c) (Du m c) (at_ t r) k := by
  rw [parts_eq, dh, halves, halves, add_add_add_comm, ← add_assoc, ← add_assoc, add_assoc (_ * _), add_assoc (_ * _)]
  simp only [blk0, blk1, blk2, blk3, stacked m c]
  simp only [add_assoc]
  have e : ∀ x : Fin 1408, (⟨4224 + x.val, by omega⟩ : Fin 5632) = ⟨2816 + (1408 + x.val), by omega⟩ := fun x => Fin.ext (by show 4224 + x.val = 2816 + (1408 + x.val); omega)
  simp only [e]

/-- The norm's gradient in a block, over the blocks it reads. -/
theorem pay_dpre (a b x : FVec Ideal S256x1024 .f32) (g : FVec Ideal S1x1024 .f32) (r : Fin 256) (k : Fin 1024) :
    k0_pay11 a b x g (ix2 r k) = back (fun k => x (ix2 r k)) (fun k => (a (ix2 r k) + b (ix2 r k)) * g (ix2 0 k)) k := by
  pointwise [k0_pay11, k0_pay7, k0_pay8, k0_pay9, k0_pay10, back, hat, rstd, vare, dev, mean]

/-- The normalised rows of a block. -/
theorem pay_hat (x : FVec Ideal S256x1024 .f32) (r : Fin 256) (k : Fin 1024) :
    k0_pay10 (F := Ideal) x (ix2 r k) = hat (fun k => x (ix2 r k)) k := by
  pointwise [k0_pay8, k0_pay9, k0_pay10, hat, rstd, vare, dev, mean]

theorem point_dpre (c : Dev nD) (t : Fin cfg0.N) (r : Fin 256) (k : Fin 1024) :
    k0_pay11 (part3 (iblk m c 0 t) (iblk m c 1 t) (iblk m c 2 t) (iblk m c 3 t)) (part1 (iblk m c 1 t) (iblk m c 2 t))
        (iblk m c 4 t) (iblk m c 5 t) (ix2 r k)
      = dpre (A m c) (G m c) (W m c) (C m c) (Dg m c) (Du m c) (ix2 (at_ t r) k) := by
  rw [pay_dpre]
  simp only [blk_dh, blk4, blk5]
  rfl

/-- An index is made of its coordinates. -/
theorem ix_eta (y : S256x1024.Idx) : y = ix2 (y 0) (y 1) :=
  (ValueIdx.eq_ix2 y).trans (ix2_eq_valueIdx (n0 := 256) (n1 := 1024) _ _).symm

/-- Where a row block's element lies in its array. -/
theorem emb6 (t : Fin cfg0.N) (y : S256x1024.Idx) (X : S8192x1024.Idx → EReal) :
    X (((cfg0.win 6).blk t).view.emb y) = X (ix2 (at_ t (y 0)) (y 1)) := by
  blk_point [idx_val t]

theorem emb7 (t : Fin cfg0.N) (y : S256x1024.Idx) (X : S8192x1024.Idx → EReal) :
    X (((cfg0.win 7).blk t).view.emb y) = X (ix2 (at_ t (y 0)) (y 1)) := by
  blk_point [idx_val t]

theorem final_dpre (c : Dev nD) : (dats m 0 c).arrAt 6 (cfgs 0).N = dpre (A m c) (G m c) (W m c) (C m c) (Dg m c) (Du m c) := by
  refine (dats m 0 c).arrAt_eq_of_covers 6 _ (by decide +kernel) fun t hf y => ?_
  refine Eq.trans ?_ (emb6 t y (dpre (A m c) (G m c) (W m c) (C m c) (Dg m c) (Du m c))).symm
  have e := (congrArg _ (ix_eta y)).trans (point_dpre m c t (y 0) (y 1))
  blk_simp
  rw [after0_6]
  by_cases h : t.val % 32 = 0
  · rw [outsAt0_A m c t h]; frame_out; exact e
  · rw [outsAt0_B m c t h]; frame_out; exact e

theorem final_dpre_cast (c : Dev nD) : (dats m 0 c).arrAt 7 (cfgs 0).N = dpre (A m c) (G m c) (W m c) (C m c) (Dg m c) (Du m c) := by
  refine (dats m 0 c).arrAt_eq_of_covers 7 _ (by decide +kernel) fun t hf y => ?_
  refine Eq.trans ?_ (emb7 t y (dpre (A m c) (G m c) (W m c) (C m c) (Dg m c) (Du m c))).symm
  have e := (congrArg _ (ix_eta y)).trans (point_dpre m c t (y 0) (y 1))
  blk_simp
  rw [after0_7]
  by_cases h : t.val % 32 = 0
  · rw [outsAt0_A m c t h]; frame_out; exact e
  · rw [outsAt0_B m c t h]; frame_out; exact e

/-- The fills at the first point. -/
theorem fill3 (j : S1x1024.Idx) : k0_pay3 (F := Ideal) j = 0 := by
  pointwise! [k0_pay3]
theorem fill4 (j : S1x1024.Idx) : k0_pay4 (F := Ideal) j = 0 := by
  pointwise! [k0_pay4]

/-- A point adds its rows' part to the scale's gradient. -/
theorem step1 (a x : FVec Ideal S256x1024 .f32) (v : Vec Ideal S1x1024 .f32) (j : S1x1024.Idx) :
    k0_pay1 a x v j = v j + ∑ r : Fin 256, a (ix2 r (j 1)) * x (ix2 r (j 1)) := by
  pointwise [k0_pay1]

/-- A point adds its rows' part to the shift's gradient. -/
theorem step2 (a : FVec Ideal S256x1024 .f32) (v : Vec Ideal S1x1024 .f32) (j : S1x1024.Idx) :
    k0_pay2 a v j = v j + ∑ r : Fin 256, a (ix2 r (j 1)) := by
  pointwise [k0_pay2]

theorem emb8 (t : Fin cfg0.N) (y : S1x1024.Idx) (X : S1x1024.Idx → EReal) : X (((cfg0.win 8).blk t).view.emb y) = X y := by
  blk_point [idx_val t]

theorem emb9 (t : Fin cfg0.N) (y : S1x1024.Idx) (X : S1x1024.Idx → EReal) : X (((cfg0.win 9).blk t).view.emb y) = X y := by
  blk_point [idx_val t]

/-- A block of `dh`, as the kernel adds its two parts. -/
theorem sum_dh (c : Dev nD) (t : Fin cfg0.N) (r : Fin 256) (k : Fin 1024) :
    k0_pay7 (part3 (iblk m c 0 t) (iblk m c 1 t) (iblk m c 2 t) (iblk m c 3 t)) (part1 (iblk m c 1 t) (iblk m c 2 t)) (ix2 r k)
      = dh (W m c) (C m c) (Dg m c) (Du m c) (at_ t r) k := blk_dh m c t r k

/-- A point's part of the scale's gradient. -/
theorem part_dgam (c : Dev nD) (t : Fin cfg0.N) (k : Fin 1024) :
    ∑ r : Fin 256, k0_pay7 (part3 (iblk m c 0 t) (iblk m c 1 t) (iblk m c 2 t) (iblk m c 3 t)) (part1 (iblk m c 1 t) (iblk m c 2 t)) (ix2 r k)
        * k0_pay10 (F := Ideal) (iblk m c 4 t) (ix2 r k)
      = ∑ r : Fin 256, dh (W m c) (C m c) (Dg m c) (Du m c) (at_ t r) k * hat (row (A m c) (at_ t r)) k := by
  refine Finset.sum_congr rfl fun r _ => ?_
  rw [sum_dh, pay_hat]
  simp only [blk4]
  rfl

theorem at_run (t : Fin cfg0.N) (s : Fin 32) (k : Fin 256) (h : 32 * (t.val / 32) + s.val < cfg0.N) (hl : s.val * 256 + k.val < 8192) :
    at_ ⟨32 * (t.val / 32) + s.val, h⟩ k = ⟨s.val * 256 + k.val, hl⟩ := by
  have : t.val < 32 := t.isLt
  refine Fin.ext ?_
  show (32 * (t.val / 32) + s.val) * 256 + k.val = s.val * 256 + k.val
  omega

theorem final_dgam (c : Dev nD) : (dats m 0 c).arrAt 8 (cfgs 0).N = dgam (A m c) (W m c) (C m c) (Dg m c) (Du m c) := by
  refine (dats m 0 c).arrAt_eq_of_covers 8 _ (by decide +kernel) fun t hf y => ?_
  refine Eq.trans ?_ (emb8 t y (dgam (A m c) (W m c) (C m c) (Dg m c) (Du m c))).symm
  blk_simp
  rw [after0_8, Pipeline.eq_sum_fin_of_reset_step_apply_of_flush (fun n h => (outsAt0 m c n h).2.2.1) 32 (fun _ => 0)
    (fun t j => ∑ r : Fin 256, dh (W m c) (C m c) (Dg m c) (Du m c) (at_ t r) (j 1) * hat (row (A m c) (at_ t r)) (j 1))
    (fun t h j => by rw [outsAt0_A m c t h]; frame_out; rw [step1, fill3]; exact congrArg _ (part_dgam m c t (j 1)))
    (fun t h j => by rw [outsAt0_B m c t h]; frame_out; rw [step1]; exact congrArg _ (part_dgam m c t (j 1)))
    t ((flush0_8 t).mp hf) _, zero_add]
  pointwise [dgam]
  refine Fin.sum_mul_add_congr fun s k hl => ?_
  rw [at_run t s k _ hl]

theorem final_dbet (c : Dev nD) : (dats m 0 c).arrAt 9 (cfgs 0).N = dbet (W m c) (C m c) (Dg m c) (Du m c) := by
  refine (dats m 0 c).arrAt_eq_of_covers 9 _ (by decide +kernel) fun t hf y => ?_
  refine Eq.trans ?_ (emb9 t y (dbet (W m c) (C m c) (Dg m c) (Du m c))).symm
  blk_simp
  rw [after0_9, Pipeline.eq_sum_fin_of_reset_step_apply_of_flush (fun n h => (outsAt0 m c n h).2.2.2) 32 (fun _ => 0)
    (fun t j => ∑ r : Fin 256, dh (W m c) (C m c) (Dg m c) (Du m c) (at_ t r) (j 1))
    (fun t h j => by
      rw [outsAt0_A m c t h]; frame_out; rw [step2, fill4]
      exact congrArg _ (Finset.sum_congr rfl fun r _ => sum_dh m c t r (j 1)))
    (fun t h j => by
      rw [outsAt0_B m c t h]; frame_out; rw [step2]
      exact congrArg _ (Finset.sum_congr rfl fun r _ => sum_dh m c t r (j 1)))
    t ((flush0_9 t).mp hf) _, zero_add]
  pointwise [dbet]
  refine Fin.sum_mul_add_congr fun s k hl => ?_
  rw [at_run t s k _ hl]

end Cert.UpKernelIdeal.ValueUp

end
-- ==== Proof.ClaimUp.lean ====
/- The claims about the backward call of the feed-forward's input: its frames and its value. -/
module

public import proofs.«01_k».proof.Defs
public import proofs.«01_k».proof.Proof.ValueUp
public import proofs.«01_k».proof.Proof.Gen.UpKernel.Frame
public import proofs.«01_k».proof.Proof.Gen.UpReferenceIdeal.Run
public import proofs.«01_k».proof.Proof.Gen.Pre_up_finite
public import Idealize.ShloMosaic.Lib.Claim

@[expose] public section

set_option maxRecDepth 16384

noncomputable section

namespace Cert.ClaimUp

open Idealize.ShloMosaic Idealize.SL.Sem Cert.UpKernelIdeal.ValueUp

theorem frame_kernel : Cert.quiescent_UpKernel := fun m ρ _ => Cert.UpKernel.Gen.frame m ρ

theorem frame_ideal : Cert.quiescent_UpKernelIdeal := fun m ρ _ => Cert.UpKernelIdeal.Gen.frame m ρ

theorem frame_ideal_pre : Cert.quiescent_UpKernelIdeal_pre_up_finite := fun m ρ _ => Cert.UpKernelIdeal.Gen.frame m ρ

theorem frame_reference : Cert.quiescent_UpReferenceIdeal := fun m ρ _ =>
  (θ_run Cert.UpReferenceIdeal.defs _ _).mono (fun r h => ⟨fun c => (h c).2.2.2.2, sem_eq_zero_of_no_sems (by decide) r.2⟩)
    (Cert.UpReferenceIdeal.Value.run m ρ)

theorem frame_reference_pre : Cert.quiescent_UpReferenceIdeal_pre_up_finite := fun m ρ _ => frame_reference m ρ trivial

/-- The precondition makes every element of the arguments but the norm's shift a real. -/
theorem real (x0 : FVec Ideal Cert.Pre_up_finite.S8192x1024 .f32) (x1 x2 : FVec Ideal Cert.Pre_up_finite.S1x1024 .f32)
    (x3 : FVec Ideal Cert.Pre_up_finite.S1x1024x5632 .f32) (x4 : FVec Ideal Cert.Pre_up_finite.S8192x1024 .f32)
    (x5 x6 : FVec Ideal Cert.Pre_up_finite.S8192x2816 .f32) (h : Cert.Pre_up_finite.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal)) := by
  obtain ⟨h, h6⟩ := Finite.and_one h
  obtain ⟨h, h5⟩ := Finite.and_one h
  obtain ⟨h, h4⟩ := Finite.and_one h
  obtain ⟨h, h3⟩ := Finite.and_one h
  obtain ⟨h0, h1⟩ := Finite.and_one h
  exact ⟨Finite.real_of_all (fun _ => Finite.ofBits_inf) h0, Finite.real_of_all (fun _ => Finite.ofBits_inf) h1,
    Finite.real_of_all (fun _ => Finite.ofBits_inf) h3, Finite.real_of_all (fun _ => Finite.ofBits_inf) h4,
    Finite.real_of_all (fun _ => Finite.ofBits_inf) h5, Finite.real_of_all (fun _ => Finite.ofBits_inf) h6⟩

section
open Cert.UpKernelIdeal Cert.UpKernelIdeal.Gen
variable (m : (ℓ : Loc nD τ sig) → Buf (Elt Ideal) ℓ) (h : Cert.Pre_UpKernelIdeal_up_finite m) (c : Dev nD)

include h in
theorem same_dpre : Cert.UpReferenceIdeal.Read.val_main_v74 (F := Ideal) (A m c) (G m c) (W m c) (C m c) (Dg m c) (Du m c)
    = dpre (A m c) (G m c) (W m c) (C m c) (Dg m c) (Du m c) := by
  obtain ⟨h0, h1, h3, h4, h5, h6⟩ := real (A m c) (G m c) _ (W m c) (C m c) (Dg m c) (Du m c) (h c)
  exact ref_dpre _ _ _ _ _ _ h0 (dxh_real _ _ _ _ _ h1 h3 h4 h5 h6)

end

theorem algebraic : Cert.algebraic_UpKernelIdeal_UpReferenceIdeal_pre_up_finite := by
  pair_intro
  · run_from Cert.UpKernelIdeal.Value.run_blocks m g
  · run_from Cert.UpReferenceIdeal.Value.run m' g'
    all_goals obtain ⟨e0, e1, e2, e3, e4, e5, e6⟩ := hagree c
    · rw [Cert.UpReferenceIdeal.Read.val_main_v74_eq]
      simp only [e0, e1, e3, e4, e5, e6]
      exact (same_dpre m hpre c).trans (final_dpre m c).symm
    · rw [Cert.UpReferenceIdeal.Read.val_main_v77_eq]
      simp only [e0, e1, e3, e4, e5, e6]
      exact (same_dpre m hpre c).trans (final_dpre_cast m c).symm
    · rw [Cert.UpReferenceIdeal.Read.val_main_v76_eq]
      simp only [e0, e3, e4, e5, e6]
      exact (ref_dgam _ _ _ _ _).trans (final_dgam m c).symm
    · rw [Cert.UpReferenceIdeal.Read.val_main_v75_eq]
      simp only [e3, e4, e5, e6]
      exact (ref_dbet _ _ _ _).trans (final_dbet m c).symm

end Cert.ClaimUp

end
-- ==== Proof.ValueLoss.lean ====
/- The value of the loss's call: the last product, the second layer norm, the squared error, and the norm's gradient. -/
module

public import proofs.«01_k».proof.Proof.Gen.LossKernelIdeal.Value
public import proofs.«01_k».proof.Proof.Gen.LossReferenceIdeal.Read
public import proofs.«01_k».proof.Proof.Norm
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.LossKernelIdeal.ValueLoss

open Cert.LossKernelIdeal Cert.LossKernelIdeal.Gen Cert.Norm

/-! ## The results, one element at a time, over the arguments -/

section
variable (a : FVec Ideal S8192x2816 .f32) (w : FVec Ideal S1x2816x1024 .f32) (p : FVec Ideal S8192x1024 .f32)
  (g1 b1 g2 b2 : FVec Ideal S1x1024 .f32) (tg : FVec Ideal S8192x1024 .f32)

/-- Row `y` of the second norm's input: the residual of the first norm's output and the product with `w_down`. -/
def pre2 (y : Fin 8192) (k : Fin 1024) : EReal :=
  Ideal.ofBits .f32 0x3F9837F0#32 * (hat (fun k => p (ix2 y k)) k * g1 (ix2 0 k) + b1 (ix2 0 k))
    + ∑ x : Fin 2816, a (ix2 y x) * w (ix3 0 x k)

/-- The error of row `y`. -/
def err (y : Fin 8192) (k : Fin 1024) : EReal := hat (pre2 a w p g1 b1 y) k * g2 (ix2 0 k) + b2 (ix2 0 k) - tg (ix2 y k)

/-- The gradient of the second norm's output. -/
def dh2 (y : Fin 8192) (k : Fin 1024) : EReal := err a w p g1 b1 g2 b2 tg y k * Ideal.ofBits .f32 0x3A800000#32

/-- The gradient of the normalised row. -/
def dxh (y : Fin 8192) (k : Fin 1024) : EReal := dh2 a w p g1 b1 g2 b2 tg y k * g2 (ix2 0 k)

/-- The gradient of the norm's input, in the kernel's form. -/
def dpre (i : S8192x1024.Idx) : EReal := back (pre2 a w p g1 b1 (i 0)) (dxh a w p g1 b1 g2 b2 tg (i 0)) (i 1)

/-- The gradient of the norm's scale. -/
def dgam (i : S1x1024.Idx) : EReal := ∑ y : Fin 8192, dh2 a w p g1 b1 g2 b2 tg y (i 1) * hat (pre2 a w p g1 b1 y) (i 1)

/-- The gradient of the norm's shift. -/
def dbet (i : S1x1024.Idx) : EReal := ∑ y : Fin 8192, dh2 a w p g1 b1 g2 b2 tg y (i 1)

/-- The squared errors, summed over the rows. -/
def sq (i : S1x1024.Idx) : EReal := ∑ y : Fin 8192, err a w p g1 b1 g2 b2 tg y (i 1) * err a w p g1 b1 g2 b2 tg y (i 1)
end

/-! ## The reference -/

section
open Cert.LossReferenceIdeal.Read

variable (a : FVec Ideal S8192x2816 .f32) (w : FVec Ideal S1x2816x1024 .f32) (p : FVec Ideal S8192x1024 .f32)
  (g1 b1 g2 b2 : FVec Ideal S1x1024 .f32) (tg : FVec Ideal S8192x1024 .f32)

theorem ref_vare1 (y : Fin 8192) : val_main_v16 (F := Ideal) p (ix2 y 0) = vare (fun k => p (ix2 y k)) := by
  pointwise [val_main_v16, val_main_v15, val_main_cst_3, val_main_v12, val_main_v10, val_main_v9, val_main_v11, val_main_cst_2,
    val_main_v8, val_main_cst_1, val_main_v7, val_main_v6, val_main_v5, val_main_v4, val_main_v3, val_main_v2, val_main_cst_0, val_main_cst,
    vare, dev, mean]

theorem ref_pre2 (y : Fin 8192) (k : Fin 1024) : val_main_v30 (F := Ideal) a w p g1 b1 (ix2 y k) = pre2 a w p g1 b1 y k := by
  pointwise [val_main_v30, val_main_v29, val_main_v28, val_main_v27, val_main_v26, val_main_cst_4, val_main_v25, val_main_v24, val_main_v23,
    val_main_v1, val_main_v22, val_main_v21, val_main_v20, val_main_v0, val_main_v19, val_main_v18, val_main_v17, val_main_v14, val_main_v13,
    val_main_v5, val_main_v4, val_main_v3, val_main_v2, val_main_cst_0, val_main_cst, ref_vare1, pre2, hat, rstd, dev, mean]

theorem ref_dev (y : Fin 8192) (k : Fin 1024) : val_main_v47 (F := Ideal) a w p g1 b1 (ix2 y k) = dev (pre2 a w p g1 b1 y) k := by
  pointwise [val_main_v47, val_main_v46, val_main_v36, val_main_v35, val_main_cst_6, val_main_v34, val_main_v33, val_main_cst_5, ref_pre2, dev, mean]

theorem ref_dev' (y : Fin 8192) (k : Fin 1024) : val_main_v38 (F := Ideal) a w p g1 b1 (ix2 y k) = dev (pre2 a w p g1 b1 y) k :=
  ref_dev a w p g1 b1 y k

theorem ref_vare (y : Fin 8192) : val_main_v49 (F := Ideal) a w p g1 b1 (ix2 y 0) = vare (pre2 a w p g1 b1 y) := by
  pointwise [val_main_v49, val_main_v48, val_main_cst_10, val_main_v45, val_main_v44, val_main_cst_9, val_main_v43, val_main_v42, val_main_cst_8,
    val_main_v39, ref_dev', vare, mean]

theorem ref_rstd (y : Fin 8192) : val_main_v50 (F := Ideal) a w p g1 b1 (ix2 y 0) = rstd (pre2 a w p g1 b1 y) := by
  pointwise [val_main_v50, ref_vare, rstd]

theorem ref_hat (y : Fin 8192) (k : Fin 1024) : val_main_v55 (F := Ideal) a w p g1 b1 (ix2 y k) = hat (pre2 a w p g1 b1 y) k := by
  pointwise [val_main_v55, val_main_v54, ref_rstd, ref_dev, hat]

theorem ref_err (y : Fin 8192) (k : Fin 1024) : val_main_v62 (F := Ideal) a w p g1 b1 g2 b2 tg (ix2 y k) = err a w p g1 b1 g2 b2 tg y k := by
  pointwise [val_main_v62, val_main_v61, val_main_v60, val_main_v59, val_main_v32, val_main_v58, val_main_v57, val_main_v56, val_main_v31, ref_hat, err]

theorem ref_dh2 (y : Fin 8192) (k : Fin 1024) : val_main_v78 (F := Ideal) a w p g1 b1 g2 b2 tg (ix2 y k) = dh2 a w p g1 b1 g2 b2 tg y k := by
  pointwise [val_main_v78, val_main_v77, val_main_v76, val_main_v75, val_main_cst_20, val_main_v74, val_main_v73, val_main_cst_18, val_main_cst_19,
    val_main_v65, val_main_v64, val_main_cst_12, ref_err, dh2]
  rw [whalf, w1024, w2, winv1024, div_coe _ (by norm_num), ← mul_assoc, ← EReal.coe_mul, mul_comm]
  congr 2
  norm_num

theorem ref_dxh (y : Fin 8192) (k : Fin 1024) : val_main_v86 (F := Ideal) a w p g1 b1 g2 b2 tg (ix2 y k) = dxh a w p g1 b1 g2 b2 tg y k := by
  pointwise [val_main_v86, val_main_v85, val_main_v56, val_main_v31, ref_dh2, dxh]

theorem ref_dvar (y : Fin 8192) (k : Fin 1024) : val_main_v100 (F := Ideal) a w p g1 b1 g2 b2 tg (ix2 y k)
    = dvar (pre2 a w p g1 b1 y) (dxh a w p g1 b1 g2 b2 tg y) := by
  pointwise [val_main_v100, val_main_v99, val_main_cst_28, val_main_v98, val_main_v97, val_main_cst_27, val_main_v93, val_main_v90, val_main_v89,
    val_main_cst_25, val_main_v88, val_main_v53, val_main_v52, val_main_cst_11, val_main_v51, ref_dev, ref_dxh, dvar]
  rw [Fin.sum_univ_one, ref_rstd, ref_vare]

theorem ref_dvar_dev (y : Fin 8192) (k : Fin 1024) : val_main_v101 (F := Ideal) a w p g1 b1 g2 b2 tg (ix2 y k)
    = dvar (pre2 a w p g1 b1 y) (dxh a w p g1 b1 g2 b2 tg y) * (Ideal.ofBits .f32 0x40000000#32 * dev (pre2 a w p g1 b1 y) k) := by
  pointwise [val_main_v101, val_main_v41, val_main_v40, val_main_cst_7, ref_dvar, ref_dev']

theorem ref_adj (y : Fin 8192) (k : Fin 1024) : val_main_v111 (F := Ideal) a w p g1 b1 g2 b2 tg (ix2 y k)
    = adj (pre2 a w p g1 b1 y) (dxh a w p g1 b1 g2 b2 tg y) k := by
  pointwise [val_main_v111, val_main_v110, val_main_v109, val_main_cst_31, val_main_v108, val_main_v107, val_main_cst_30, val_main_v106,
    val_main_v105, val_main_v104, val_main_v103, val_main_cst_29, val_main_v102, val_main_v96, val_main_v95, val_main_cst_26, val_main_v94,
    val_main_v92, val_main_v91, ref_dvar_dev, ref_dxh, ref_rstd, adj]
  rw [Fin.sum_univ_one]

/-- On real arguments the second norm's input is real, and so is the gradient of its normalised rows. -/
theorem pre2_real (ha : ∀ i, ∃ r : ℝ, a i = (r : EReal)) (hw : ∀ i, ∃ r : ℝ, w i = (r : EReal)) (hp : ∀ i, ∃ r : ℝ, p i = (r : EReal))
    (hg1 : ∀ i, ∃ r : ℝ, g1 i = (r : EReal)) (hb1 : ∀ i, ∃ r : ℝ, b1 i = (r : EReal)) (y : Fin 8192) (k : Fin 1024) :
    ∃ r : ℝ, pre2 a w p g1 b1 y k = (r : EReal) :=
  Finite.add (Finite.mul walpha (Finite.add (Finite.mul (hat_real (fun _ => hp _) _) (hg1 _)) (hb1 _)))
    (Finite.sum fun _ => Finite.mul (ha _) (hw _))

theorem dxh_real (hx : ∀ y k, ∃ r : ℝ, pre2 a w p g1 b1 y k = (r : EReal))
    (hg2 : ∀ i, ∃ r : ℝ, g2 i = (r : EReal)) (hb2 : ∀ i, ∃ r : ℝ, b2 i = (r : EReal)) (htg : ∀ i, ∃ r : ℝ, tg i = (r : EReal))
    (y : Fin 8192) (k : Fin 1024) : ∃ r : ℝ, dxh a w p g1 b1 g2 b2 tg y k = (r : EReal) :=
  Finite.mul (Finite.mul (Finite.sub (Finite.add (Finite.mul (hat_real (hx y) _) (hg2 _)) (hb2 _)) (htg _)) ⟨_, winv1024⟩) (hg2 _)

theorem ref_dpre (hx : ∀ y k, ∃ r : ℝ, pre2 a w p g1 b1 y k = (r : EReal))
    (hu : ∀ y k, ∃ r : ℝ, dxh a w p g1 b1 g2 b2 tg y k = (r : EReal)) :
    val_main_v111 (F := Ideal) a w p g1 b1 g2 b2 tg = dpre a w p g1 b1 g2 b2 tg := by
  funext i
  rw [ValueIdx.eq_ix2 i]
  exact (ref_adj a w p g1 b1 g2 b2 tg (i 0) (i 1)).trans (adj_eq_back (hx _) (hu _) _)

theorem ref_dgam : val_main_v113 (F := Ideal) a w p g1 b1 g2 b2 tg = dgam a w p g1 b1 g2 b2 tg := by
  funext i
  pointwise [val_main_v113, val_main_v87, val_main_cst_24, val_main_v84, val_main_v83, val_main_cst_23, val_main_v82, ref_hat, ref_dh2, dgam]
  rw [Fin.sum_univ_one]
  exact Finset.sum_congr rfl fun y _ => mul_comm _ _

theorem ref_dbet : val_main_v112 (F := Ideal) a w p g1 b1 g2 b2 tg = dbet a w p g1 b1 g2 b2 tg := by
  funext i
  pointwise [val_main_v112, val_main_v81, val_main_cst_22, val_main_v80, val_main_v79, val_main_cst_21, ref_dh2, dbet]
  rw [Fin.sum_univ_one]

theorem ref_sq : val_main_v72 (F := Ideal) a w p g1 b1 g2 b2 tg = sq a w p g1 b1 g2 b2 tg := by
  funext i
  pointwise [val_main_v72, val_main_v71, val_main_cst_17, val_main_v63, ref_err, sq]

end

/-! ## The kernel -/

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![0, 0]
    ∧ win0_11.index t = ![0, 0]
    ∧ win0_12.index t = ![0, 0] :=
  (by decide +kernel : ∀ t : Fin grid0.N, _)

abbrev Aa (c : Dev nD) := m ((c : Thread nD τ).loc main_arg0)
abbrev Aw (c : Dev nD) := m ((c : Thread nD τ).loc main_arg1)
abbrev Ap (c : Dev nD) := m ((c : Thread nD τ).loc main_arg2)
abbrev Ag1 (c : Dev nD) := m ((c : Thread nD τ).loc main_arg3)
abbrev Ab1 (c : Dev nD) := m ((c : Thread nD τ).loc main_arg4)
abbrev Ag2 (c : Dev nD) := m ((c : Thread nD τ).loc main_arg5)
abbrev Ab2 (c : Dev nD) := m ((c : Thread nD τ).loc main_arg6)
abbrev At (c : Dev nD) := m ((c : Thread nD τ).loc main_arg7)

theorem host_a (c : Dev nD) (y : Fin 8192) (k : Fin 2816) : V m c main_v0 (ix2 y k) = Aa m c (ix2 y k) := by
  unfold_abbrev_sides
  simp only [List.flatten_cons, List.flatten_nil, List.append_nil, List.cons_append, List.nil_append, StableHlo.after_cons,
    StableHlo.after_nil]
  after_results_simp
  pointwise

theorem host_w (c : Dev nD) (x : Fin 2816) (k : Fin 1024) : V m c main_v2 (ix2 x k) = Aw m c (ix3 0 x k) := by
  unfold_abbrev_sides
  simp only [List.flatten_cons, List.flatten_nil, List.append_nil, List.cons_append, List.nil_append, StableHlo.after_cons,
    StableHlo.after_nil]
  after_results_simp
  pointwise

theorem row_lt (t : Fin cfg0.N) (r : Fin 512) : t.val * 512 + r.val < 8192 := by
  have : t.val < 16 := t.isLt
  omega

/-- Row `r` of point `t`. -/
abbrev at_ (t : Fin cfg0.N) (r : Fin 512) : Fin 8192 := ⟨t.val * 512 + r.val, row_lt t r⟩

theorem blk0 (c : Dev nD) (t : Fin cfg0.N) (r : Fin 512) (k : Fin 2816) : iblk m c 0 t (ix2 r k) = Aa m c (ix2 (at_ t r) k) := by
  refine Eq.trans ?_ (host_a m c _ _)
  pointwise [iblk]
  generalize V m c main_v0 = x
  blk_point [idx_val t]

theorem blk1 (c : Dev nD) (t : Fin cfg0.N) (x : Fin 2816) (k : Fin 1024) : iblk m c 1 t (ix2 x k) = Aw m c (ix3 0 x k) := by
  refine Eq.trans ?_ (host_w m c _ _)
  pointwise [iblk]
  generalize V m c main_v2 = x
  blk_point [idx_val t]

theorem blk2 (c : Dev nD) (t : Fin cfg0.N) (r : Fin 512) (k : Fin 1024) : iblk m c 2 t (ix2 r k) = Ap m c (ix2 (at_ t r) k) := by
  pointwise [iblk, V, Ap]
  blk_point [idx_val t]

theorem blk7 (c : Dev nD) (t : Fin cfg0.N) (r : Fin 512) (k : Fin 1024) : iblk m c 7 t (ix2 r k) = At m c (ix2 (at_ t r) k) := by
  pointwise [iblk, V, At]
  blk_point [idx_val t]

/-- The norms' scales and shifts are whole blocks. -/
theorem blkv (c : Dev nD) (t : Fin cfg0.N) (k : Fin 1024) : iblk m c 3 t (ix2 0 k) = Ag1 m c (ix2 0 k)
    ∧ iblk m c 4 t (ix2 0 k) = Ab1 m c (ix2 0 k) ∧ iblk m c 5 t (ix2 0 k) = Ag2 m c (ix2 0 k) ∧ iblk m c 6 t (ix2 0 k) = Ab2 m c (ix2 0 k) := by
  refine ⟨?_, ?_, ?_, ?_⟩ <;>
  · pointwise [iblk, V, Ag1, Ab1, Ag2, Ab2]
    blk_point [idx_val t]

/-! ### One point's arithmetic over its blocks -/

section
variable (x : FVec Ideal S512x1024 .f32) (s n : FVec Ideal S512x1 .f32) (g b : Vec Ideal S1x1024 .f32) (t : Vec Ideal S512x1024 .f32)
  (r : Fin 512) (hs : s (ix2 r 0) = ∑ k : Fin 1024, x (ix2 r k)) (hn : n (ix2 r 0) = Ideal.ofBits .f32 0x44800000#32)
include hs hn

theorem pay_dev (k : Fin 1024) : k0_pay11 x s n (ix2 r k) = dev (fun k => x (ix2 r k)) k := by
  pointwise [k0_pay11, dev, mean]
  rw [hs, hn]

theorem pay_rstd : k0_pay12 x s n (ix2 r 0) = rstd (fun k => x (ix2 r k)) := by
  pointwise [k0_pay12, pay_dev x s n r hs hn, rstd, vare, mean]

theorem pay_hat (k : Fin 1024) : k0_pay13 x s n (ix2 r k) = hat (fun k => x (ix2 r k)) k := by
  pointwise [k0_pay13, pay_dev x s n r hs hn, pay_rstd x s n r hs hn, hat]

theorem pay_err (k : Fin 1024) :
    k0_pay14 x s n g b t (ix2 r k) = hat (fun k => x (ix2 r k)) k * g (ix2 0 k) + b (ix2 0 k) - t (ix2 r k) := by
  pointwise [k0_pay14, pay_hat x s n r hs hn]

theorem pay_dh2 (k : Fin 1024) : k0_pay15 x s n g b t (ix2 r k)
    = (hat (fun k => x (ix2 r k)) k * g (ix2 0 k) + b (ix2 0 k) - t (ix2 r k)) * Ideal.ofBits .f32 0x3A800000#32 := by
  pointwise [k0_pay15, pay_err x s n g b t r hs hn]

theorem pay_dpre (k : Fin 1024) : k0_pay16 x s n g b t g (ix2 r k) = back (fun k => x (ix2 r k))
    (fun k => (hat (fun k => x (ix2 r k)) k * g (ix2 0 k) + b (ix2 0 k) - t (ix2 r k)) * Ideal.ofBits .f32 0x3A800000#32 * g (ix2 0 k)) k := by
  pointwise [k0_pay16, pay_dh2 x s n g b t r hs hn, pay_hat x s n r hs hn, pay_rstd x s n r hs hn, back, mean]
end

section
variable (c : Dev nD) (t : Fin cfg0.N) (r : Fin 512)

/-- A block of the second norm's input. -/
abbrev X : FVec Ideal S512x1024 .f32 := k0_pay8 (iblk m c 2 t) (iblk m c 3 t) (iblk m c 4 t) (iblk m c 0 t) (iblk m c 1 t)
/-- Its rows' sums. -/
abbrev Sx : FVec Ideal S512x1 .f32 := k0_pay9 (iblk m c 2 t) (iblk m c 3 t) (iblk m c 4 t) (iblk m c 0 t) (iblk m c 1 t)

theorem pay_pre2 (v3 : Vec Ideal S512x1024 .f32) (v20 v23 : Vec Ideal S1x1024 .f32) (v28 : Vec Ideal S512x2816 .bf16)
    (v30 : Vec Ideal S2816x1024 .bf16) (k : Fin 1024) : k0_pay8 v3 v20 v23 v28 v30 (ix2 r k)
      = Ideal.ofBits .f32 0x3F9837F0#32 * (hat (fun k => v3 (ix2 r k)) k * v20 (ix2 0 k) + v23 (ix2 0 k))
        + ∑ x : Fin 2816, v28 (ix2 r x) * v30 (ix2 x k) := by
  pointwise [k0_pay8, hat, rstd, vare, dev, mean]

theorem X_row (k : Fin 1024) : X m c t (ix2 r k) = pre2 (Aa m c) (Aw m c) (Ap m c) (Ag1 m c) (Ab1 m c) (at_ t r) k := by
  refine (pay_pre2 r _ _ _ _ _ k).trans ?_
  simp only [blk0, blk1, blk2, blkv]
  rfl

theorem X_rows : (fun k => X m c t (ix2 r k)) = pre2 (Aa m c) (Aw m c) (Ap m c) (Ag1 m c) (Ab1 m c) (at_ t r) :=
  funext fun k => X_row m c t r k

theorem Sx_row : Sx m c t (ix2 r 0) = ∑ k : Fin 1024, X m c t (ix2 r k) := by
  pointwise [Sx, X, k0_pay9]

theorem n_row : k0_pay10 (F := Ideal) (ix2 r 0) = Ideal.ofBits .f32 0x44800000#32 := by
  pointwise [k0_pay10]

theorem point_hat (k : Fin 1024) : k0_pay13 (X m c t) (Sx m c t) k0_pay10 (ix2 r k)
    = hat (pre2 (Aa m c) (Aw m c) (Ap m c) (Ag1 m c) (Ab1 m c) (at_ t r)) k := by
  rw [pay_hat _ _ _ r (Sx_row m c t r) (n_row r), X_rows]

theorem point_err (k : Fin 1024) : k0_pay14 (X m c t) (Sx m c t) k0_pay10 (iblk m c 5 t) (iblk m c 6 t) (iblk m c 7 t) (ix2 r k)
    = err (Aa m c) (Aw m c) (Ap m c) (Ag1 m c) (Ab1 m c) (Ag2 m c) (Ab2 m c) (At m c) (at_ t r) k := by
  rw [pay_err _ _ _ _ _ _ r (Sx_row m c t r) (n_row r), X_rows]
  simp only [blk7, blkv]
  rfl

theorem point_dh2 (k : Fin 1024) : k0_pay15 (X m c t) (Sx m c t) k0_pay10 (iblk m c 5 t) (iblk m c 6 t) (iblk m c 7 t) (ix2 r k)
    = dh2 (Aa m c) (Aw m c) (Ap m c) (Ag1 m c) (Ab1 m c) (Ag2 m c) (Ab2 m c) (At m c) (at_ t r) k := by
  rw [pay_dh2 _ _ _ _ _ _ r (Sx_row m c t r) (n_row r), X_rows]
  simp only [blk7, blkv]
  rfl

theorem point_dpre (k : Fin 1024) :
    k0_pay16 (X m c t) (Sx m c t) k0_pay10 (iblk m c 5 t) (iblk m c 6 t) (iblk m c 7 t) (iblk m c 5 t) (ix2 r k)
      = dpre (Aa m c) (Aw m c) (Ap m c) (Ag1 m c) (Ab1 m c) (Ag2 m c) (Ab2 m c) (At m c) (ix2 (at_ t r) k) := by
  rw [pay_dpre _ _ _ _ _ _ r (Sx_row m c t r) (n_row r), X_rows]
  simp only [blk7, blkv]
  rfl
end

/-! ### The arrays -/

/-- An index is made of its coordinates. -/
theorem ix_eta (y : S512x1024.Idx) : y = ix2 (y 0) (y 1) :=
  (ValueIdx.eq_ix2 y).trans (ix2_eq_valueIdx (n0 := 512) (n1 := 1024) _ _).symm

/-- Where a row block's element lies in its array. -/
theorem emb8 (t : Fin cfg0.N) (y : S512x1024.Idx) (X : S8192x1024.Idx → EReal) :
    X (((cfg0.win 8).blk t).view.emb y) = X (ix2 (at_ t (y 0)) (y 1)) := by
  blk_point [idx_val t]

theorem emb9 (t : Fin cfg0.N) (y : S512x1024.Idx) (X : S8192x1024.Idx → EReal) :
    X (((cfg0.win 9).blk t).view.emb y) = X (ix2 (at_ t (y 0)) (y 1)) := by
  blk_point [idx_val t]

theorem emb10 (t : Fin cfg0.N) (y : S1x1024.Idx) (X : S1x1024.Idx → EReal) : X (((cfg0.win 10).blk t).view.emb y) = X y := by
  blk_point [idx_val t]

theorem emb11 (t : Fin cfg0.N) (y : S1x1024.Idx) (X : S1x1024.Idx → EReal) : X (((cfg0.win 11).blk t).view.emb y) = X y := by
  blk_point [idx_val t]

theorem emb12 (t : Fin cfg0.N) (y : S1x1024.Idx) (X : S1x1024.Idx → EReal) : X (((cfg0.win 12).blk t).view.emb y) = X y := by
  blk_point [idx_val t]

theorem final_dpre (c : Dev nD) : (dats m 0 c).arrAt 8 (cfgs 0).N
    = dpre (Aa m c) (Aw m c) (Ap m c) (Ag1 m c) (Ab1 m c) (Ag2 m c) (Ab2 m c) (At m c) := by
  refine (dats m 0 c).arrAt_eq_of_covers 8 _ (by decide +kernel) fun t hf y => ?_
  refine Eq.trans ?_ (emb8 t y (dpre (Aa m c) (Aw m c) (Ap m c) (Ag1 m c) (Ab1 m c) (Ag2 m c) (Ab2 m c) (At m c))).symm
  have e := (congrArg _ (ix_eta y)).trans (point_dpre m c t (y 0) (y 1))
  blk_simp
  rw [after0_8]
  by_cases h : t.val % 16 = 0
  · rw [outsAt0_A m c t h]; frame_out; exact e
  · rw [outsAt0_B m c t h]; frame_out; exact e

theorem final_dpre_cast (c : Dev nD) : (dats m 0 c).arrAt 9 (cfgs 0).N
    = dpre (Aa m c) (Aw m c) (Ap m c) (Ag1 m c) (Ab1 m c) (Ag2 m c) (Ab2 m c) (At m c) := by
  refine (dats m 0 c).arrAt_eq_of_covers 9 _ (by decide +kernel) fun t hf y => ?_
  refine Eq.trans ?_ (emb9 t y (dpre (Aa m c) (Aw m c) (Ap m c) (Ag1 m c) (Ab1 m c) (Ag2 m c) (Ab2 m c) (At m c))).symm
  have e := (congrArg _ (ix_eta y)).trans (point_dpre m c t (y 0) (y 1))
  blk_simp
  rw [after0_9]
  by_cases h : t.val % 16 = 0
  · rw [outsAt0_A m c t h]; frame_out; exact e
  · rw [outsAt0_B m c t h]; frame_out; exact e

/-- The fills at the first point. -/
theorem fill (j : S1x1024.Idx) : k0_pay5 (F := Ideal) j = 0 ∧ k0_pay6 (F := Ideal) j = 0 ∧ k0_pay7 (F := Ideal) j = 0 := by
  refine ⟨?_, ?_, ?_⟩ <;> pointwise! [k0_pay5, k0_pay6, k0_pay7]

/-- What a point adds to each of the three sums. -/
theorem step_gam (h d : FVec Ideal S512x1024 .f32) (v : Vec Ideal S1x1024 .f32) (j : S1x1024.Idx) :
    k0_pay2 h d v j = v j + ∑ r : Fin 512, d (ix2 r (j 1)) * h (ix2 r (j 1)) := by
  pointwise [k0_pay2]

theorem step_bet (d : FVec Ideal S512x1024 .f32) (v : Vec Ideal S1x1024 .f32) (j : S1x1024.Idx) :
    k0_pay3 d v j = v j + ∑ r : Fin 512, d (ix2 r (j 1)) := by
  pointwise [k0_pay3]

theorem step_sq (d : FVec Ideal S512x1024 .f32) (v : Vec Ideal S1x1024 .f32) (j : S1x1024.Idx) :
    k0_pay4 d v j = v j + ∑ r : Fin 512, d (ix2 r (j 1)) * d (ix2 r (j 1)) := by
  pointwise [k0_pay4]

theorem at_run (t : Fin cfg0.N) (s : Fin 16) (k : Fin 512) (h : 16 * (t.val / 16) + s.val < cfg0.N) (hl : s.val * 512 + k.val < 8192) :
    at_ ⟨16 * (t.val / 16) + s.val, h⟩ k = ⟨s.val * 512 + k.val, hl⟩ := by
  have : t.val < 16 := t.isLt
  refine Fin.ext ?_
  show (16 * (t.val / 16) + s.val) * 512 + k.val = s.val * 512 + k.val
  omega

section
variable (c : Dev nD) (t : Fin cfg0.N) (k : Fin 1024)

theorem part_gam : ∑ r : Fin 512, k0_pay15 (X m c t) (Sx m c t) k0_pay10 (iblk m c 5 t) (iblk m c 6 t) (iblk m c 7 t) (ix2 r k)
      * k0_pay13 (X m c t) (Sx m c t) k0_pay10 (ix2 r k)
    = ∑ r : Fin 512, dh2 (Aa m c) (Aw m c) (Ap m c) (Ag1 m c) (Ab1 m c) (Ag2 m c) (Ab2 m c) (At m c) (at_ t r) k
      * hat (pre2 (Aa m c) (Aw m c) (Ap m c) (Ag1 m c) (Ab1 m c) (at_ t r)) k :=
  Finset.sum_congr rfl fun r _ => congrArg₂ (· * ·) (point_dh2 m c t r k) (point_hat m c t r k)

theorem part_bet : ∑ r : Fin 512, k0_pay15 (X m c t) (Sx m c t) k0_pay10 (iblk m c 5 t) (iblk m c 6 t) (iblk m c 7 t) (ix2 r k)
    = ∑ r : Fin 512, dh2 (Aa m c) (Aw m c) (Ap m c) (Ag1 m c) (Ab1 m c) (Ag2 m c) (Ab2 m c) (At m c) (at_ t r) k :=
  Finset.sum_congr rfl fun r _ => point_dh2 m c t r k

theorem part_sq : ∑ r : Fin 512, k0_pay14 (X m c t) (Sx m c t) k0_pay10 (iblk m c 5 t) (iblk m c 6 t) (iblk m c 7 t) (ix2 r k)
      * k0_pay14 (X m c t) (Sx m c t) k0_pay10 (iblk m c 5 t) (iblk m c 6 t) (iblk m c 7 t) (ix2 r k)
    = ∑ r : Fin 512, err (Aa m c) (Aw m c) (Ap m c) (Ag1 m c) (Ab1 m c) (Ag2 m c) (Ab2 m c) (At m c) (at_ t r) k
      * err (Aa m c) (Aw m c) (Ap m c) (Ag1 m c) (Ab1 m c) (Ag2 m c) (Ab2 m c) (At m c) (at_ t r) k :=
  Finset.sum_congr rfl fun r _ => congrArg₂ (· * ·) (point_err m c t r k) (point_err m c t r k)
end

theorem final_dgam (c : Dev nD) : (dats m 0 c).arrAt 10 (cfgs 0).N
    = dgam (Aa m c) (Aw m c) (Ap m c) (Ag1 m c) (Ab1 m c) (Ag2 m c) (Ab2 m c) (At m c) := by
  refine (dats m 0 c).arrAt_eq_of_covers 10 _ (by decide +kernel) fun t hf y => ?_
  refine Eq.trans ?_ (emb10 t y (dgam (Aa m c) (Aw m c) (Ap m c) (Ag1 m c) (Ab1 m c) (Ag2 m c) (Ab2 m c) (At m c))).symm
  blk_simp
  rw [after0_10, Pipeline.eq_sum_fin_of_reset_step_apply_of_flush (fun n h => (outsAt0 m c n h).2.2.1) 16 (fun _ => 0)
    (fun t j => ∑ r : Fin 512, dh2 (Aa m c) (Aw m c) (Ap m c) (Ag1 m c) (Ab1 m c) (Ag2 m c) (Ab2 m c) (At m c) (at_ t r) (j 1)
      * hat (pre2 (Aa m c) (Aw m c) (Ap m c) (Ag1 m c) (Ab1 m c) (at_ t r)) (j 1))
    (fun t h j => by rw [outsAt0_A m c t h]; frame_out; rw [step_gam]; exact congrArg₂ (· + ·) (fill j).1 (part_gam m c t (j 1)))
    (fun t h j => by rw [outsAt0_B m c t h]; frame_out; rw [step_gam]; exact congrArg _ (part_gam m c t (j 1)))
    t ((flush0_10 t).mp hf) _, zero_add]
  pointwise [dgam]
  refine Fin.sum_mul_add_congr fun s k hl => ?_
  rw [at_run t s k _ hl]

theorem final_dbet (c : Dev nD) : (dats m 0 c).arrAt 11 (cfgs 0).N
    = dbet (Aa m c) (Aw m c) (Ap m c) (Ag1 m c) (Ab1 m c) (Ag2 m c) (Ab2 m c) (At m c) := by
  refine (dats m 0 c).arrAt_eq_of_covers 11 _ (by decide +kernel) fun t hf y => ?_
  refine Eq.trans ?_ (emb11 t y (dbet (Aa m c) (Aw m c) (Ap m c) (Ag1 m c) (Ab1 m c) (Ag2 m c) (Ab2 m c) (At m c))).symm
  blk_simp
  rw [after0_11, Pipeline.eq_sum_fin_of_reset_step_apply_of_flush (fun n h => (outsAt0 m c n h).2.2.2.1) 16 (fun _ => 0)
    (fun t j => ∑ r : Fin 512, dh2 (Aa m c) (Aw m c) (Ap m c) (Ag1 m c) (Ab1 m c) (Ag2 m c) (Ab2 m c) (At m c) (at_ t r) (j 1))
    (fun t h j => by rw [outsAt0_A m c t h]; frame_out; rw [step_bet]; exact congrArg₂ (· + ·) (fill j).1 (part_bet m c t (j 1)))
    (fun t h j => by rw [outsAt0_B m c t h]; frame_out; rw [step_bet]; exact congrArg _ (part_bet m c t (j 1)))
    t ((flush0_11 t).mp hf) _, zero_add]
  pointwise [dbet]
  refine Fin.sum_mul_add_congr fun s k hl => ?_
  rw [at_run t s k _ hl]

theorem final_sq (c : Dev nD) : (dats m 0 c).arrAt 12 (cfgs 0).N
    = sq (Aa m c) (Aw m c) (Ap m c) (Ag1 m c) (Ab1 m c) (Ag2 m c) (Ab2 m c) (At m c) := by
  refine (dats m 0 c).arrAt_eq_of_covers 12 _ (by decide +kernel) fun t hf y => ?_
  refine Eq.trans ?_ (emb12 t y (sq (Aa m c) (Aw m c) (Ap m c) (Ag1 m c) (Ab1 m c) (Ag2 m c) (Ab2 m c) (At m c))).symm
  blk_simp
  rw [after0_12, Pipeline.eq_sum_fin_of_reset_step_apply_of_flush (fun n h => (outsAt0 m c n h).2.2.2.2) 16 (fun _ => 0)
    (fun t j => ∑ r : Fin 512, err (Aa m c) (Aw m c) (Ap m c) (Ag1 m c) (Ab1 m c) (Ag2 m c) (Ab2 m c) (At m c) (at_ t r) (j 1)
      * err (Aa m c) (Aw m c) (Ap m c) (Ag1 m c) (Ab1 m c) (Ag2 m c) (Ab2 m c) (At m c) (at_ t r) (j 1))
    (fun t h j => by rw [outsAt0_A m c t h]; frame_out; rw [step_sq]; exact congrArg₂ (· + ·) (fill j).1 (part_sq m c t (j 1)))
    (fun t h j => by rw [outsAt0_B m c t h]; frame_out; rw [step_sq]; exact congrArg _ (part_sq m c t (j 1)))
    t ((flush0_12 t).mp hf) _, zero_add]
  pointwise [sq]
  refine Fin.sum_mul_add_congr fun s k hl => ?_
  rw [at_run t s k _ hl]

end Cert.LossKernelIdeal.ValueLoss

end
-- ==== Proof.ClaimLoss.lean ====
/- The claims about the call of the loss and of the second norm's gradient: its frames and its value. -/
module

public import proofs.«01_k».proof.Defs
public import proofs.«01_k».proof.Proof.ValueLoss
public import proofs.«01_k».proof.Proof.Gen.LossKernel.Frame
public import proofs.«01_k».proof.Proof.Gen.LossReferenceIdeal.Run
public import proofs.«01_k».proof.Proof.Gen.Pre_loss_finite
public import Idealize.ShloMosaic.Lib.Claim

@[expose] public section

set_option maxRecDepth 16384

noncomputable section

namespace Cert.ClaimLoss

open Idealize.ShloMosaic Idealize.SL.Sem Cert.LossKernelIdeal.ValueLoss

theorem frame_kernel : Cert.quiescent_LossKernel := fun m ρ _ => Cert.LossKernel.Gen.frame m ρ

theorem frame_ideal : Cert.quiescent_LossKernelIdeal := fun m ρ _ => Cert.LossKernelIdeal.Gen.frame m ρ

theorem frame_ideal_pre : Cert.quiescent_LossKernelIdeal_pre_loss_finite := fun m ρ _ => Cert.LossKernelIdeal.Gen.frame m ρ

theorem frame_reference : Cert.quiescent_LossReferenceIdeal := fun m ρ _ =>
  (θ_run Cert.LossReferenceIdeal.defs _ _).mono (fun r h => ⟨fun c => (h c).2.2.2.2.2, sem_eq_zero_of_no_sems (by decide) r.2⟩)
    (Cert.LossReferenceIdeal.Value.run m ρ)

theorem frame_reference_pre : Cert.quiescent_LossReferenceIdeal_pre_loss_finite := fun m ρ _ => frame_reference m ρ trivial

/-- The precondition makes every element of the arguments a real. -/
theorem real (x0 : FVec Ideal Cert.Pre_loss_finite.S8192x2816 .f32) (x1 : FVec Ideal Cert.Pre_loss_finite.S1x2816x1024 .f32)
    (x2 : FVec Ideal Cert.Pre_loss_finite.S8192x1024 .f32) (x3 x4 x5 x6 : FVec Ideal Cert.Pre_loss_finite.S1x1024 .f32)
    (x7 : FVec Ideal Cert.Pre_loss_finite.S8192x1024 .f32) (h : Cert.Pre_loss_finite.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  obtain ⟨h, h7⟩ := Finite.and_one h
  obtain ⟨h, h6⟩ := Finite.and_one h
  obtain ⟨h, h5⟩ := Finite.and_one h
  obtain ⟨h, h4⟩ := Finite.and_one h
  obtain ⟨h, h3⟩ := Finite.and_one h
  obtain ⟨h, h2⟩ := Finite.and_one h
  obtain ⟨h0, h1⟩ := Finite.and_one h
  exact ⟨Finite.real_of_all (fun _ => Finite.ofBits_inf) h0, Finite.real_of_all (fun _ => Finite.ofBits_inf) h1,
    Finite.real_of_all (fun _ => Finite.ofBits_inf) h2, Finite.real_of_all (fun _ => Finite.ofBits_inf) h3,
    Finite.real_of_all (fun _ => Finite.ofBits_inf) h4, Finite.real_of_all (fun _ => Finite.ofBits_inf) h5,
    Finite.real_of_all (fun _ => Finite.ofBits_inf) h6, Finite.real_of_all (fun _ => Finite.ofBits_inf) h7⟩

section
open Cert.LossKernelIdeal Cert.LossKernelIdeal.Gen
variable (m : (ℓ : Loc nD τ sig) → Buf (Elt Ideal) ℓ) (h : Cert.Pre_LossKernelIdeal_loss_finite m) (c : Dev nD)

include h in
theorem same_dpre : Cert.LossReferenceIdeal.Read.val_main_v111 (F := Ideal) (Aa m c) (Aw m c) (Ap m c) (Ag1 m c) (Ab1 m c) (Ag2 m c) (Ab2 m c) (At m c)
    = dpre (Aa m c) (Aw m c) (Ap m c) (Ag1 m c) (Ab1 m c) (Ag2 m c) (Ab2 m c) (At m c) := by
  obtain ⟨h0, h1, h2, h3, h4, h5, h6, h7⟩ := real _ _ _ _ _ _ _ _ (h c)
  have hx := pre2_real (Aa m c) (Aw m c) (Ap m c) (Ag1 m c) (Ab1 m c) h0 h1 h2 h3 h4
  exact ref_dpre _ _ _ _ _ _ _ _ hx (dxh_real _ _ _ _ _ _ _ _ hx h5 h6 h7)

end

theorem algebraic : Cert.algebraic_LossKernelIdeal_LossReferenceIdeal_pre_loss_finite := by
  pair_intro
  · run_from Cert.LossKernelIdeal.Value.run_blocks m g
  · run_from Cert.LossReferenceIdeal.Value.run m' g'
    all_goals obtain ⟨e0, e1, e2, e3, e4, e5, e6, e7⟩ := hagree c
    · rw [Cert.LossReferenceIdeal.Read.val_main_v111_eq]
      simp only [e0, e1, e2, e3, e4, e5, e6, e7]
      exact (same_dpre m hpre c).trans (final_dpre m c).symm
    · rw [Cert.LossReferenceIdeal.Read.val_main_v114_eq]
      simp only [e0, e1, e2, e3, e4, e5, e6, e7]
      exact (same_dpre m hpre c).trans (final_dpre_cast m c).symm
    · rw [Cert.LossReferenceIdeal.Read.val_main_v113_eq]
      simp only [e0, e1, e2, e3, e4, e5, e6, e7]
      exact (ref_dgam _ _ _ _ _ _ _ _).trans (final_dgam m c).symm
    · rw [Cert.LossReferenceIdeal.Read.val_main_v112_eq]
      simp only [e0, e1, e2, e3, e4, e5, e6, e7]
      exact (ref_dbet _ _ _ _ _ _ _ _).trans (final_dbet m c).symm
    · rw [Cert.LossReferenceIdeal.Read.val_main_v72_eq]
      simp only [e0, e1, e2, e3, e4, e5, e6, e7]
      exact (ref_sq _ _ _ _ _ _ _ _).trans (final_sq m c).symm

end Cert.ClaimLoss

end
-- ==== Proof.ValueProj.lean ====
/- The value of the backward call of the attentions' input: the product with the weights of the five projections, and the input norm's gradient. -/
module

public import proofs.«01_k».proof.Proof.Gen.ProjKernelIdeal.Value
public import proofs.«01_k».proof.Proof.Gen.ProjReferenceIdeal.Read
public import proofs.«01_k».proof.Proof.Norm
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.ProjKernelIdeal.ValueProj

open Cert.ProjKernelIdeal Cert.ProjKernelIdeal.Gen Cert.Norm

/-! ## The gradients, one element at a time, over the arguments -/

section
variable (p : FVec Ideal S8192x1024 .f32) (g : FVec Ideal S1024 .f32) (w : FVec Ideal S1x1024x2304 .f32)
  (ct : FVec Ideal S8192x1024 .f32) (q k v s : FVec Ideal S8192x512 .f32) (kv : FVec Ideal S8192x256 .f32)

/-- The cotangent of the normed row `y`: the residual's part and the five projections' products with their weights. -/
def dh (y : Fin 8192) (d : Fin 1024) : EReal :=
  Ideal.ofBits .f32 0x3F9837F0#32 * ct (ix2 y d)
    + (∑ x : Fin 512, q (ix2 y x) * w (ix3 0 d ⟨x.val, by omega⟩))
    + (∑ x : Fin 512, k (ix2 y x) * w (ix3 0 d ⟨512 + x.val, by omega⟩))
    + (∑ x : Fin 512, v (ix2 y x) * w (ix3 0 d ⟨1024 + x.val, by omega⟩))
    + (∑ x : Fin 512, s (ix2 y x) * w (ix3 0 d ⟨1536 + x.val, by omega⟩))
    + ∑ x : Fin 256, kv (ix2 y x) * w (ix3 0 d ⟨2048 + x.val, by omega⟩)

/-- Row `y` of the norm's input. -/
abbrev row (y : Fin 8192) (d : Fin 1024) : EReal := p (ix2 y d)

/-- The cotangent of the normalised row. -/
def dxh (y : Fin 8192) (d : Fin 1024) : EReal := dh w ct q k v s kv y d * g (ix1 d)

/-- The gradient of the norm's input, in the kernel's form. -/
def dpre (i : S8192x1024.Idx) : EReal := back (row p (i 0)) (dxh g w ct q k v s kv (i 0)) (i 1)

/-- The gradient of the norm's scale. -/
def dgam (i : S1x1024.Idx) : EReal := ∑ y : Fin 8192, dh w ct q k v s kv y (i 1) * hat (row p y) (i 1)

/-- The gradient of the norm's shift. -/
def dbet (i : S1x1024.Idx) : EReal := ∑ y : Fin 8192, dh w ct q k v s kv y (i 1)
end

/-- A sum over the projections' columns is the sum over the five sections. -/
theorem sections (f : Fin 2304 → EReal) : ∑ x, f x = (∑ x : Fin 512, f ⟨x.val, by omega⟩) + (∑ x : Fin 512, f ⟨512 + x.val, by omega⟩)
    + (∑ x : Fin 512, f ⟨1024 + x.val, by omega⟩) + (∑ x : Fin 512, f ⟨1536 + x.val, by omega⟩) + ∑ x : Fin 256, f ⟨2048 + x.val, by omega⟩ := by
  refine (Fin.sum_univ_add (a := 2048) (b := 256) f).trans (congrArg (· + _) ?_)
  refine (Fin.sum_univ_add (a := 1536) (b := 512) fun x => f ⟨x.val, by omega⟩).trans (congrArg (· + _) ?_)
  refine (Fin.sum_univ_add (a := 1024) (b := 512) fun x => f ⟨x.val, by omega⟩).trans (congrArg (· + _) ?_)
  exact Fin.sum_univ_add (a := 512) (b := 512) fun x => f ⟨x.val, by omega⟩

/-! ## The reference -/

section
open Cert.ProjReferenceIdeal.Read

variable (p : FVec Ideal S8192x1024 .f32) (g : FVec Ideal S1024 .f32) (w : FVec Ideal S1x1024x2304 .f32)
  (ct : FVec Ideal S8192x1024 .f32) (q k v s : FVec Ideal S8192x512 .f32) (kv : FVec Ideal S8192x256 .f32)

/-- The joined cotangents of the five projections, section by section. -/
theorem joined (y : Fin 8192) (x : Fin 512) (z : Fin 256) : val_main_v38 (F := Ideal) q k v s kv (ix2 y ⟨x.val, by omega⟩) = q (ix2 y x)
    ∧ val_main_v38 (F := Ideal) q k v s kv (ix2 y ⟨512 + x.val, by omega⟩) = k (ix2 y x)
    ∧ val_main_v38 (F := Ideal) q k v s kv (ix2 y ⟨1024 + x.val, by omega⟩) = v (ix2 y x)
    ∧ val_main_v38 (F := Ideal) q k v s kv (ix2 y ⟨1536 + x.val, by omega⟩) = s (ix2 y x)
    ∧ val_main_v38 (F := Ideal) q k v s kv (ix2 y ⟨2048 + z.val, by omega⟩) = kv (ix2 y z) := by
  refine ⟨by pointwise [val_main_v38], by pointwise [val_main_v38], ?_, ?_, ?_⟩ <;> pointwise [val_main_v38]
  · rw [dif_neg (by omega), dif_neg (by omega), dif_pos (by omega)]
    exact congrArg (fun i => v (ix2 y i)) (Fin.ext (by show 1024 + x.val - 512 - 512 = x.val; omega))
  · rw [dif_neg (by omega), dif_neg (by omega), dif_neg (by omega), dif_pos (by omega)]
    exact congrArg (fun i => s (ix2 y i)) (Fin.ext (by show 1536 + x.val - 512 - 512 - 512 = x.val; omega))
  · rw [dif_neg (by omega), dif_neg (by omega), dif_neg (by omega), dif_neg (by omega)]
    exact congrArg (fun i => kv (ix2 y i)) (Fin.ext (by show 2048 + z.val - 512 - 512 - 512 - 512 = z.val; omega))

theorem ref_prod (y : Fin 8192) (d : Fin 1024) : val_main_v39 (F := Ideal) w q k v s kv (ix2 y d)
    = ∑ x : Fin 2304, val_main_v38 (F := Ideal) q k v s kv (ix2 y x) * w (ix3 0 d x) := by
  pointwise [val_main_v39, val_main_v31]

theorem ref_dh (y : Fin 8192) (d : Fin 1024) : val_main_v42 (F := Ideal) w ct q k v s kv (ix2 y d) = dh w ct q k v s kv y d := by
  pointwise [val_main_v42, val_main_v41, val_main_v40, val_main_cst_7]
  rw [ref_prod, sections, add_comm, dh]
  simp only [joined q k v s kv y, (joined q k v s kv y _ 0).1, (joined q k v s kv y _ 0).2.1, (joined q k v s kv y _ 0).2.2.1,
    (joined q k v s kv y _ 0).2.2.2.1, (joined q k v s kv y 0 _).2.2.2.2, add_assoc]

theorem ref_dev (y : Fin 8192) (d : Fin 1024) : val_main_v14 (F := Ideal) p (ix2 y d) = dev (row p y) d := by
  pointwise [val_main_v14, val_main_v13, val_main_v3, val_main_v2, val_main_cst_0, val_main_v1, val_main_v0, val_main_cst, dev, mean, row]

theorem ref_dev' (y : Fin 8192) (d : Fin 1024) : val_main_v5 (F := Ideal) p (ix2 y d) = dev (row p y) d :=
  ref_dev p y d

theorem ref_vare (y : Fin 8192) : val_main_v16 (F := Ideal) p (ix2 y 0) = vare (row p y) := by
  pointwise [val_main_v16, val_main_v15, val_main_cst_4, val_main_v12, val_main_v11, val_main_cst_3, val_main_v10, val_main_v9,
    val_main_cst_2, val_main_v6, ref_dev', vare, mean, row]

theorem ref_rstd (y : Fin 8192) : val_main_v17 (F := Ideal) p (ix2 y 0) = rstd (row p y) := by
  pointwise [val_main_v17, ref_vare, rstd]

theorem ref_hat (y : Fin 8192) (d : Fin 1024) : val_main_v22 (F := Ideal) p (ix2 y d) = hat (row p y) d := by
  pointwise [val_main_v22, val_main_v21, ref_dev, ref_rstd, hat]

theorem ref_dxh (y : Fin 8192) (d : Fin 1024) : val_main_v50 (F := Ideal) g w ct q k v s kv (ix2 y d) = dxh g w ct q k v s kv y d := by
  pointwise [val_main_v50, val_main_v49, val_main_v23, ref_dh, dxh]

theorem ref_dvar (y : Fin 8192) (d : Fin 1024) :
    val_main_v64 (F := Ideal) p g w ct q k v s kv (ix2 y d) = dvar (row p y) (dxh g w ct q k v s kv y) := by
  pointwise [val_main_v64, val_main_v63, val_main_cst_15, val_main_v62, val_main_v61, val_main_cst_14, val_main_v57, val_main_v54, val_main_v53,
    val_main_cst_12, val_main_v52, val_main_v20, val_main_v19, val_main_cst_5, val_main_v18, ref_dev, ref_dxh, dvar]
  rw [Fin.sum_univ_one, ref_rstd, ref_vare]

theorem ref_dvar_dev (y : Fin 8192) (d : Fin 1024) : val_main_v65 (F := Ideal) p g w ct q k v s kv (ix2 y d)
    = dvar (row p y) (dxh g w ct q k v s kv y) * (Ideal.ofBits .f32 0x40000000#32 * dev (row p y) d) := by
  pointwise [val_main_v65, val_main_v8, val_main_v7, val_main_cst_1, ref_dvar, ref_dev']

theorem ref_adj (y : Fin 8192) (d : Fin 1024) :
    val_main_v75 (F := Ideal) p g w ct q k v s kv (ix2 y d) = adj (row p y) (dxh g w ct q k v s kv y) d := by
  pointwise [val_main_v75, val_main_v74, val_main_v73, val_main_cst_18, val_main_v72, val_main_v71, val_main_cst_17, val_main_v70, val_main_v69,
    val_main_v68, val_main_v67, val_main_cst_16, val_main_v66, val_main_v60, val_main_v59, val_main_cst_13, val_main_v58, val_main_v56,
    val_main_v55, ref_dvar_dev, ref_dxh, ref_rstd, adj]
  rw [Fin.sum_univ_one]

theorem ref_dpre (hp : ∀ i, ∃ r : ℝ, p i = (r : EReal)) (hu : ∀ y d, ∃ r : ℝ, dxh g w ct q k v s kv y d = (r : EReal)) :
    val_main_v75 (F := Ideal) p g w ct q k v s kv = dpre p g w ct q k v s kv := by
  funext i
  rw [ValueIdx.eq_ix2 i]
  exact (ref_adj p g w ct q k v s kv (i 0) (i 1)).trans (adj_eq_back (fun d => hp _) (hu _) _)

/-- On real arguments the gradient of the normalised rows is real. -/
theorem dxh_real (hg : ∀ i, ∃ r : ℝ, g i = (r : EReal)) (hw : ∀ i, ∃ r : ℝ, w i = (r : EReal)) (hct : ∀ i, ∃ r : ℝ, ct i = (r : EReal))
    (hq : ∀ i, ∃ r : ℝ, q i = (r : EReal)) (hk : ∀ i, ∃ r : ℝ, k i = (r : EReal)) (hv : ∀ i, ∃ r : ℝ, v i = (r : EReal))
    (hs : ∀ i, ∃ r : ℝ, s i = (r : EReal)) (hkv : ∀ i, ∃ r : ℝ, kv i = (r : EReal)) (y : Fin 8192) (d : Fin 1024) :
    ∃ r : ℝ, dxh g w ct q k v s kv y d = (r : EReal) :=
  Finite.mul (Finite.add (Finite.add (Finite.add (Finite.add (Finite.add (Finite.mul walpha (hct _)) (Finite.sum fun _ => Finite.mul (hq _) (hw _)))
    (Finite.sum fun _ => Finite.mul (hk _) (hw _))) (Finite.sum fun _ => Finite.mul (hv _) (hw _)))
    (Finite.sum fun _ => Finite.mul (hs _) (hw _))) (Finite.sum fun _ => Finite.mul (hkv _) (hw _))) (hg _)

theorem ref_dgam : val_main_v76 (F := Ideal) p w ct q k v s kv = dgam p w ct q k v s kv := by
  funext i
  pointwise [val_main_v76, val_main_v51, val_main_cst_11, val_main_v48, val_main_v47, val_main_cst_10, val_main_v46, ref_hat, ref_dh, dgam]
  rw [Fin.sum_univ_one]
  exact Finset.sum_congr rfl fun y _ => mul_comm _ _

theorem ref_dbet : val_main_v77 (F := Ideal) w ct q k v s kv = dbet w ct q k v s kv := by
  funext i
  pointwise [val_main_v77, val_main_v45, val_main_cst_9, val_main_v44, val_main_v43, val_main_cst_8, ref_dh, dbet]
  rw [Fin.sum_univ_one]

end

/-! ## The kernel -/

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![t.val, 0]
    ∧ win0_8.index t = ![0, 0]
    ∧ win0_9.index t = ![t.val, 0]
    ∧ win0_10.index t = ![0, 0]
    ∧ win0_11.index t = ![0, 0] :=
  (by decide +kernel : ∀ t : Fin grid0.N, _)

abbrev A (c : Dev nD) := m ((c : Thread nD τ).loc main_arg0)
abbrev G (c : Dev nD) := m ((c : Thread nD τ).loc main_arg1)
abbrev W (c : Dev nD) := m ((c : Thread nD τ).loc main_arg3)
abbrev C (c : Dev nD) := m ((c : Thread nD τ).loc main_arg4)
abbrev Q (c : Dev nD) := m ((c : Thread nD τ).loc main_arg5)
abbrev K (c : Dev nD) := m ((c : Thread nD τ).loc main_arg6)
abbrev Vv (c : Dev nD) := m ((c : Thread nD τ).loc main_arg7)
abbrev Sw (c : Dev nD) := m ((c : Thread nD τ).loc main_arg8)
abbrev Kv (c : Dev nD) := m ((c : Thread nD τ).loc main_arg9)

/-- The five projections' cotangents reach the kernel as they are, and so do the weights and the norm's scale. -/
theorem host_sec (c : Dev nD) (y : Fin 8192) (x : Fin 512) : V m c main_v0 (ix2 y x) = Q m c (ix2 y x)
    ∧ V m c main_v1 (ix2 y x) = K m c (ix2 y x) ∧ V m c main_v2 (ix2 y x) = Vv m c (ix2 y x) ∧ V m c main_v3 (ix2 y x) = Sw m c (ix2 y x) := by
  refine ⟨?_, ?_, ?_, ?_⟩ <;>
  · unfold_abbrev_sides
    simp only [List.flatten_cons, List.flatten_nil, List.append_nil, List.cons_append, List.nil_append, StableHlo.after_cons,
      StableHlo.after_nil]
    after_results_simp
    pointwise

theorem host_kv (c : Dev nD) (y : Fin 8192) (x : Fin 256) : V m c main_v4 (ix2 y x) = Kv m c (ix2 y x) := by
  unfold_abbrev_sides
  simp only [List.flatten_cons, List.flatten_nil, List.append_nil, List.cons_append, List.nil_append, StableHlo.after_cons,
    StableHlo.after_nil]
  after_results_simp
  pointwise

theorem host_w (c : Dev nD) (d : Fin 1024) (x : Fin 2304) : V m c main_v6 (ix2 d x) = W m c (ix3 0 d x) := by
  unfold_abbrev_sides
  simp only [List.flatten_cons, List.flatten_nil, List.append_nil, List.cons_append, List.nil_append, StableHlo.after_cons,
    StableHlo.after_nil]
  after_results_simp
  pointwise

theorem host_g (c : Dev nD) (d : Fin 1024) : V m c main_v7 (ix2 0 d) = G m c (ix1 d) := by
  unfold_abbrev_sides
  simp only [List.flatten_cons, List.flatten_nil, List.append_nil, List.cons_append, List.nil_append, StableHlo.after_cons,
    StableHlo.after_nil]
  after_results_simp
  pointwise

theorem row_lt (t : Fin cfg0.N) (r : Fin 512) : t.val * 512 + r.val < 8192 := by
  have : t.val < 16 := t.isLt
  omega

/-- Row `r` of point `t`. -/
abbrev at_ (t : Fin cfg0.N) (r : Fin 512) : Fin 8192 := ⟨t.val * 512 + r.val, row_lt t r⟩

theorem blk03 (c : Dev nD) (t : Fin cfg0.N) (r : Fin 512) (x : Fin 512) : iblk m c 0 t (ix2 r x) = Q m c (ix2 (at_ t r) x)
    ∧ iblk m c 1 t (ix2 r x) = K m c (ix2 (at_ t r) x) ∧ iblk m c 2 t (ix2 r x) = Vv m c (ix2 (at_ t r) x)
    ∧ iblk m c 3 t (ix2 r x) = Sw m c (ix2 (at_ t r) x) := by
  refine ⟨Eq.trans ?_ (host_sec m c _ _).1, Eq.trans ?_ (host_sec m c _ _).2.1, Eq.trans ?_ (host_sec m c _ _).2.2.1,
    Eq.trans ?_ (host_sec m c _ _).2.2.2⟩
  · pointwise [iblk]
    generalize V m c main_v0 = x
    blk_point [idx_val t]
  · pointwise [iblk]
    generalize V m c main_v1 = x
    blk_point [idx_val t]
  · pointwise [iblk]
    generalize V m c main_v2 = x
    blk_point [idx_val t]
  · pointwise [iblk]
    generalize V m c main_v3 = x
    blk_point [idx_val t]

theorem blk4 (c : Dev nD) (t : Fin cfg0.N) (r : Fin 512) (x : Fin 256) : iblk m c 4 t (ix2 r x) = Kv m c (ix2 (at_ t r) x) := by
  refine Eq.trans ?_ (host_kv m c _ _)
  pointwise [iblk]
  generalize V m c main_v4 = x
  blk_point [idx_val t]

theorem blk5 (c : Dev nD) (t : Fin cfg0.N) (d : Fin 1024) (x : Fin 2304) : iblk m c 5 t (ix2 d x) = W m c (ix3 0 d x) := by
  refine Eq.trans ?_ (host_w m c _ _)
  pointwise [iblk]
  generalize V m c main_v6 = x
  blk_point [idx_val t]

theorem blk6 (c : Dev nD) (t : Fin cfg0.N) (r : Fin 512) (d : Fin 1024) : iblk m c 6 t (ix2 r d) = C m c (ix2 (at_ t r) d) := by
  pointwise [iblk, V, C]
  blk_point [idx_val t]

theorem blk7 (c : Dev nD) (t : Fin cfg0.N) (r : Fin 512) (d : Fin 1024) : iblk m c 7 t (ix2 r d) = A m c (ix2 (at_ t r) d) := by
  pointwise [iblk, V, A]
  blk_point [idx_val t]

theorem blk8 (c : Dev nD) (t : Fin cfg0.N) (d : Fin 1024) : iblk m c 8 t (ix2 0 d) = G m c (ix1 d) := by
  refine Eq.trans ?_ (host_g m c _)
  pointwise [iblk]
  generalize V m c main_v7 = x
  blk_point [idx_val t]

/-! ### One point's arithmetic over its blocks -/

/-- The columns of the weights from `o` on. -/
abbrev cols (b : Vec Ideal S1024x2304 .bf16) (o : Nat) (h : ∀ a, (![0, o] : Fin 2 → Nat) a + S1024x512.size a ≤ S1024x2304.size a) :
    Vec Ideal S1024x512 .bf16 := View.ld b (Rect.unit ![0, o] S1024x512.size h)

/-- The last columns of the weights. -/
abbrev last (b : Vec Ideal S1024x2304 .bf16) : Vec Ideal S1024x256 .bf16 :=
  View.ld b (Rect.unit ![0, 2048] S1024x256.size inb_S1024x2304_S1024x256_0_2048)

/-- A block of `dh` but for its last product. -/
abbrev part4 (b0 b1 b2 b3 : Vec Ideal S512x512 .bf16) (b5 : Vec Ideal S1024x2304 .bf16) (b6 : Vec Ideal S512x1024 .f32) : FVec Ideal S512x1024 .f32 :=
  k0_pay5 b6 b0 (cols b5 0 inb_S1024x2304_S1024x512_0_0) b1 (cols b5 512 inb_S1024x2304_S1024x512_0_512)
    b2 (cols b5 1024 inb_S1024x2304_S1024x512_0_1024) b3 (cols b5 1536 inb_S1024x2304_S1024x512_0_1536)

/-- A block of `dh` over the blocks it reads. -/
theorem pay_dh (b0 b1 b2 b3 : Vec Ideal S512x512 .bf16) (b4 : Vec Ideal S512x256 .bf16) (b5 : Vec Ideal S1024x2304 .bf16)
    (b6 : Vec Ideal S512x1024 .f32) (r : Fin 512) (d : Fin 1024) :
    k0_pay6 (part4 b0 b1 b2 b3 b5 b6) b4 (last b5) (ix2 r d) = Ideal.ofBits .f32 0x3F9837F0#32 * b6 (ix2 r d)
      + (∑ x : Fin 512, b0 (ix2 r x) * b5 (ix2 d ⟨x.val, by omega⟩))
      + (∑ x : Fin 512, b1 (ix2 r x) * b5 (ix2 d ⟨512 + x.val, by omega⟩))
      + (∑ x : Fin 512, b2 (ix2 r x) * b5 (ix2 d ⟨1024 + x.val, by omega⟩))
      + (∑ x : Fin 512, b3 (ix2 r x) * b5 (ix2 d ⟨1536 + x.val, by omega⟩))
      + ∑ x : Fin 256, b4 (ix2 r x) * b5 (ix2 d ⟨2048 + x.val, by omega⟩) := by
  pointwise [part4, cols, last, k0_pay5, k0_pay6]

/-- The normalised rows of a block. -/
theorem pay_hat (x : FVec Ideal S512x1024 .f32) (r : Fin 512) (d : Fin 1024) :
    k0_pay9 (F := Ideal) x (ix2 r d) = hat (fun d => x (ix2 r d)) d := by
  pointwise [k0_pay7, k0_pay8, k0_pay9, hat, rstd, vare, dev, mean]

/-- The norm's gradient in a block, over the block of `dh`. -/
theorem pay_dpre (a : FVec Ideal S512x1024 .f32) (b : Vec Ideal S512x256 .bf16) (w : Vec Ideal S1024x256 .bf16) (x : Vec Ideal S512x1024 .f32)
    (g : Vec Ideal S1x1024 .f32) (r : Fin 512) (d : Fin 1024) :
    k0_pay10 a b w x g (ix2 r d) = back (fun d => x (ix2 r d)) (fun d => k0_pay6 a b w (ix2 r d) * g (ix2 0 d)) d := by
  unfold k0_pay10
  generalize k0_pay6 a b w = u
  pointwise [k0_pay7, k0_pay8, k0_pay9, back, hat, rstd, vare, dev, mean]

section
variable (c : Dev nD) (t : Fin cfg0.N) (r : Fin 512) (d : Fin 1024)

/-- A block of `dh` but for its last product, at point `t`. -/
abbrev P4 : FVec Ideal S512x1024 .f32 := part4 (iblk m c 0 t) (iblk m c 1 t) (iblk m c 2 t) (iblk m c 3 t) (iblk m c 5 t) (iblk m c 6 t)

theorem point_dh : k0_pay6 (P4 m c t) (iblk m c 4 t) (last (iblk m c 5 t)) (ix2 r d)
    = dh (W m c) (C m c) (Q m c) (K m c) (Vv m c) (Sw m c) (Kv m c) (at_ t r) d := by
  refine (pay_dh _ _ _ _ _ _ _ r d).trans ?_
  simp only [blk03, blk4, blk5, blk6, dh]

theorem point_hat : k0_pay9 (F := Ideal) (iblk m c 7 t) (ix2 r d) = hat (row (A m c) (at_ t r)) d := by
  refine (pay_hat _ r d).trans ?_
  simp only [blk7]

theorem point_dpre : k0_pay10 (P4 m c t) (iblk m c 4 t) (last (iblk m c 5 t)) (iblk m c 7 t) (iblk m c 8 t) (ix2 r d)
    = dpre (A m c) (G m c) (W m c) (C m c) (Q m c) (K m c) (Vv m c) (Sw m c) (Kv m c) (ix2 (at_ t r) d) := by
  refine (pay_dpre _ _ _ _ _ r d).trans ?_
  simp only [point_dh, blk7, blk8]
  rfl

theorem part_gam : ∑ r : Fin 512, k0_pay6 (P4 m c t) (iblk m c 4 t) (last (iblk m c 5 t)) (ix2 r d) * k0_pay9 (F := Ideal) (iblk m c 7 t) (ix2 r d)
    = ∑ r : Fin 512, dh (W m c) (C m c) (Q m c) (K m c) (Vv m c) (Sw m c) (Kv m c) (at_ t r) d * hat (row (A m c) (at_ t r)) d :=
  Finset.sum_congr rfl fun r _ => congrArg₂ (· * ·) (point_dh m c t r d) (point_hat m c t r d)

theorem part_bet : ∑ r : Fin 512, k0_pay6 (P4 m c t) (iblk m c 4 t) (last (iblk m c 5 t)) (ix2 r d)
    = ∑ r : Fin 512, dh (W m c) (C m c) (Q m c) (K m c) (Vv m c) (Sw m c) (Kv m c) (at_ t r) d :=
  Finset.sum_congr rfl fun r _ => point_dh m c t r d
end

/-! ### The arrays -/

/-- An index is made of its coordinates. -/
theorem ix_eta (y : S512x1024.Idx) : y = ix2 (y 0) (y 1) :=
  (ValueIdx.eq_ix2 y).trans (ix2_eq_valueIdx (n0 := 512) (n1 := 1024) _ _).symm

/-- Where a block's element lies in its array. -/
theorem emb9 (t : Fin cfg0.N) (y : S512x1024.Idx) (X : S8192x1024.Idx → EReal) :
    X (((cfg0.win 9).blk t).view.emb y) = X (ix2 (at_ t (y 0)) (y 1)) := by
  blk_point [idx_val t]

theorem emb10 (t : Fin cfg0.N) (y : S1x1024.Idx) (X : S1x1024.Idx → EReal) : X (((cfg0.win 10).blk t).view.emb y) = X y := by
  blk_point [idx_val t]

theorem emb11 (t : Fin cfg0.N) (y : S1x1024.Idx) (X : S1x1024.Idx → EReal) : X (((cfg0.win 11).blk t).view.emb y) = X y := by
  blk_point [idx_val t]

theorem final_dpre (c : Dev nD) : (dats m 0 c).arrAt 9 (cfgs 0).N
    = dpre (A m c) (G m c) (W m c) (C m c) (Q m c) (K m c) (Vv m c) (Sw m c) (Kv m c) := by
  refine (dats m 0 c).arrAt_eq_of_covers 9 _ (by decide +kernel) fun t hf y => ?_
  refine Eq.trans ?_ (emb9 t y (dpre (A m c) (G m c) (W m c) (C m c) (Q m c) (K m c) (Vv m c) (Sw m c) (Kv m c))).symm
  have e := (congrArg _ (ix_eta y)).trans (point_dpre m c t (y 0) (y 1))
  blk_simp
  rw [after0_9]
  by_cases h : t.val % 16 = 0
  · rw [outsAt0_A m c t h]; frame_out; exact e
  · rw [outsAt0_B m c t h]; frame_out; exact e

/-- The fills at the first point. -/
theorem fill (j : S1x1024.Idx) : k0_pay3 (F := Ideal) j = 0 ∧ k0_pay4 (F := Ideal) j = 0 := by
  refine ⟨?_, ?_⟩ <;> pointwise! [k0_pay3, k0_pay4]

/-- What a point adds to each of the two sums. -/
theorem step_gam (a h : FVec Ideal S512x1024 .f32) (v : Vec Ideal S1x1024 .f32) (j : S1x1024.Idx) :
    k0_pay1 a h v j = v j + ∑ r : Fin 512, a (ix2 r (j 1)) * h (ix2 r (j 1)) := by
  pointwise [k0_pay1]

theorem step_bet (a : FVec Ideal S512x1024 .f32) (v : Vec Ideal S1x1024 .f32) (j : S1x1024.Idx) :
    k0_pay2 a v j = v j + ∑ r : Fin 512, a (ix2 r (j 1)) := by
  pointwise [k0_pay2]

theorem at_run (t : Fin cfg0.N) (s : Fin 16) (k : Fin 512) (h : 16 * (t.val / 16) + s.val < cfg0.N) (hl : s.val * 512 + k.val < 8192) :
    at_ ⟨16 * (t.val / 16) + s.val, h⟩ k = ⟨s.val * 512 + k.val, hl⟩ := by
  have : t.val < 16 := t.isLt
  refine Fin.ext ?_
  show (16 * (t.val / 16) + s.val) * 512 + k.val = s.val * 512 + k.val
  omega

theorem final_dgam (c : Dev nD) : (dats m 0 c).arrAt 10 (cfgs 0).N = dgam (A m c) (W m c) (C m c) (Q m c) (K m c) (Vv m c) (Sw m c) (Kv m c) := by
  refine (dats m 0 c).arrAt_eq_of_covers 10 _ (by decide +kernel) fun t hf y => ?_
  refine Eq.trans ?_ (emb10 t y (dgam (A m c) (W m c) (C m c) (Q m c) (K m c) (Vv m c) (Sw m c) (Kv m c))).symm
  blk_simp
  rw [after0_10, Pipeline.eq_sum_fin_of_reset_step_apply_of_flush (fun n h => (outsAt0 m c n h).2.1) 16 (fun _ => 0)
    (fun t j => ∑ r : Fin 512, dh (W m c) (C m c) (Q m c) (K m c) (Vv m c) (Sw m c) (Kv m c) (at_ t r) (j 1) * hat (row (A m c) (at_ t r)) (j 1))
    (fun t h j => by rw [outsAt0_A m c t h]; frame_out; rw [step_gam]; exact congrArg₂ (· + ·) (fill j).1 (part_gam m c t (j 1)))
    (fun t h j => by rw [outsAt0_B m c t h]; frame_out; rw [step_gam]; exact congrArg _ (part_gam m c t (j 1)))
    t ((flush0_10 t).mp hf) _, zero_add]
  pointwise [dgam]
  refine Fin.sum_mul_add_congr fun s k hl => ?_
  rw [at_run t s k _ hl]

theorem final_dbet (c : Dev nD) : (dats m 0 c).arrAt 11 (cfgs 0).N = dbet (W m c) (C m c) (Q m c) (K m c) (Vv m c) (Sw m c) (Kv m c) := by
  refine (dats m 0 c).arrAt_eq_of_covers 11 _ (by decide +kernel) fun t hf y => ?_
  refine Eq.trans ?_ (emb11 t y (dbet (W m c) (C m c) (Q m c) (K m c) (Vv m c) (Sw m c) (Kv m c))).symm
  blk_simp
  rw [after0_11, Pipeline.eq_sum_fin_of_reset_step_apply_of_flush (fun n h => (outsAt0 m c n h).2.2) 16 (fun _ => 0)
    (fun t j => ∑ r : Fin 512, dh (W m c) (C m c) (Q m c) (K m c) (Vv m c) (Sw m c) (Kv m c) (at_ t r) (j 1))
    (fun t h j => by rw [outsAt0_A m c t h]; frame_out; rw [step_bet]; exact congrArg₂ (· + ·) (fill j).2 (part_bet m c t (j 1)))
    (fun t h j => by rw [outsAt0_B m c t h]; frame_out; rw [step_bet]; exact congrArg _ (part_bet m c t (j 1)))
    t ((flush0_11 t).mp hf) _, zero_add]
  pointwise [dbet]
  refine Fin.sum_mul_add_congr fun s k hl => ?_
  rw [at_run t s k _ hl]

end Cert.ProjKernelIdeal.ValueProj

end
-- ==== Proof.ClaimProj.lean ====
/- The claims about the backward call of the attentions' input: its frames and its value. -/
module

public import proofs.«01_k».proof.Defs
public import proofs.«01_k».proof.Proof.ValueProj
public import proofs.«01_k».proof.Proof.Gen.ProjKernel.Frame
public import proofs.«01_k».proof.Proof.Gen.ProjReferenceIdeal.Run
public import proofs.«01_k».proof.Proof.Gen.Pre_proj_finite
public import Idealize.ShloMosaic.Lib.Claim

@[expose] public section

set_option maxRecDepth 16384

noncomputable section

namespace Cert.ClaimProj

open Idealize.ShloMosaic Idealize.SL.Sem Cert.ProjKernelIdeal.ValueProj

theorem frame_kernel : Cert.quiescent_ProjKernel := fun m ρ _ => Cert.ProjKernel.Gen.frame m ρ

theorem frame_ideal : Cert.quiescent_ProjKernelIdeal := fun m ρ _ => Cert.ProjKernelIdeal.Gen.frame m ρ

theorem frame_ideal_pre : Cert.quiescent_ProjKernelIdeal_pre_proj_finite := fun m ρ _ => Cert.ProjKernelIdeal.Gen.frame m ρ

theorem frame_reference : Cert.quiescent_ProjReferenceIdeal := fun m ρ _ =>
  (θ_run Cert.ProjReferenceIdeal.defs _ _).mono (fun r h => ⟨fun c => (h c).2.2.2, sem_eq_zero_of_no_sems (by decide) r.2⟩)
    (Cert.ProjReferenceIdeal.Value.run m ρ)

theorem frame_reference_pre : Cert.quiescent_ProjReferenceIdeal_pre_proj_finite := fun m ρ _ => frame_reference m ρ trivial

/-- The precondition makes every element of the arguments but the norm's shift a real. -/
theorem real (x0 : FVec Ideal Cert.Pre_proj_finite.S8192x1024 .f32) (x1 x2 : FVec Ideal Cert.Pre_proj_finite.S1024 .f32)
    (x3 : FVec Ideal Cert.Pre_proj_finite.S1x1024x2304 .f32) (x4 : FVec Ideal Cert.Pre_proj_finite.S8192x1024 .f32)
    (x5 x6 x7 x8 : FVec Ideal Cert.Pre_proj_finite.S8192x512 .f32) (x9 : FVec Ideal Cert.Pre_proj_finite.S8192x256 .f32)
    (h : Cert.Pre_proj_finite.fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) ∧ (∀ i, ∃ r : ℝ, x8 i = (r : EReal)) ∧ (∀ i, ∃ r : ℝ, x9 i = (r : EReal)) := by
  obtain ⟨h, h9⟩ := Finite.and_one h
  obtain ⟨h, h8⟩ := Finite.and_one h
  obtain ⟨h, h7⟩ := Finite.and_one h
  obtain ⟨h, h6⟩ := Finite.and_one h
  obtain ⟨h, h5⟩ := Finite.and_one h
  obtain ⟨h, h4⟩ := Finite.and_one h
  obtain ⟨h, h3⟩ := Finite.and_one h
  obtain ⟨h0, h1⟩ := Finite.and_one h
  exact ⟨Finite.real_of_all (fun _ => Finite.ofBits_inf) h0, Finite.real_of_all (fun _ => Finite.ofBits_inf) h1,
    Finite.real_of_all (fun _ => Finite.ofBits_inf) h3, Finite.real_of_all (fun _ => Finite.ofBits_inf) h4,
    Finite.real_of_all (fun _ => Finite.ofBits_inf) h5, Finite.real_of_all (fun _ => Finite.ofBits_inf) h6,
    Finite.real_of_all (fun _ => Finite.ofBits_inf) h7, Finite.real_of_all (fun _ => Finite.ofBits_inf) h8,
    Finite.real_of_all (fun _ => Finite.ofBits_inf) h9⟩

section
open Cert.ProjKernelIdeal Cert.ProjKernelIdeal.Gen
variable (m : (ℓ : Loc nD τ sig) → Buf (Elt Ideal) ℓ) (h : Cert.Pre_ProjKernelIdeal_proj_finite m) (c : Dev nD)

include h in
theorem same_dpre : Cert.ProjReferenceIdeal.Read.val_main_v75 (F := Ideal) (A m c) (G m c) (W m c) (C m c) (Q m c) (K m c) (Vv m c) (Sw m c) (Kv m c)
    = dpre (A m c) (G m c) (W m c) (C m c) (Q m c) (K m c) (Vv m c) (Sw m c) (Kv m c) := by
  obtain ⟨h0, h1, h3, h4, h5, h6, h7, h8, h9⟩ := real _ _ _ _ _ _ _ _ _ _ (h c)
  exact ref_dpre _ _ _ _ _ _ _ _ _ h0 (dxh_real _ _ _ _ _ _ _ _ h1 h3 h4 h5 h6 h7 h8 h9)

end

set_option maxHeartbeats 2000000 in
theorem algebraic : Cert.algebraic_ProjKernelIdeal_ProjReferenceIdeal_pre_proj_finite := by
  pair_intro
  · run_from Cert.ProjKernelIdeal.Value.run_blocks m g
  · run_from Cert.ProjReferenceIdeal.Value.run m' g'
    all_goals obtain ⟨e0, e1, e2, e3, e4, e5, e6, e7, e8, e9⟩ := hagree c
    · rw [Cert.ProjReferenceIdeal.Read.val_main_v75_eq]
      simp only [e0, e1, e3, e4, e5, e6, e7, e8, e9]
      exact (same_dpre m hpre c).trans (final_dpre m c).symm
    · rw [Cert.ProjReferenceIdeal.Read.val_main_v76_eq]
      simp only [e0, e1, e3, e4, e5, e6, e7, e8, e9]
      exact (ref_dgam _ _ _ _ _ _ _ _).trans (final_dgam m c).symm
    · rw [Cert.ProjReferenceIdeal.Read.val_main_v77_eq]
      simp only [e0, e1, e3, e4, e5, e6, e7, e8, e9]
      exact (ref_dbet _ _ _ _ _ _ _).trans (final_dbet m c).symm

end Cert.ClaimProj

end
-- ==== Proof.Rms.lean ====
/- The gradient of an RMS norm's row of 512 numbers: the form the kernel computes, the form `jax.vjp` of the forward lines computes, and that
   they agree on rows of reals. -/
module

public import proofs.«01_k».proof.Proof.Norm

@[expose] public section

noncomputable section

namespace Cert.Rms

open Idealize.ShloMosaic Cert.Norm
open scoped BigOperators

/-- The mean square of a row plus the norm's small constant. -/
abbrev ms (x : Fin 512 → EReal) : EReal :=
  Ideal.div (∑ k, x k * x k) (Ideal.ofBits .f32 0x44000000#32) + Ideal.ofBits .f32 0x358637BD#32
/-- One over the root of it. -/
abbrev rr (x : Fin 512 → EReal) : EReal := Ideal.rsqrt (ms x)

/-- The gradient of a row `x`, from the gradient `u` of the row normalised: the kernel's form. -/
abbrev rback (x u : Fin 512 → EReal) (j : Fin 512) : EReal :=
  rr x * u j - x j * (rr x * rr x * rr x) * ((∑ k, u k * x k) * Ideal.ofBits .f32 0x3B000000#32)

/-- The same gradient as the adjoint of the forward lines. -/
abbrev radj (x u : Fin 512 → EReal) (j : Fin 512) : EReal :=
  u j * rr x + Ideal.div ((∑ k, x k * u k) * (Ideal.ofBits .f32 0xBF000000#32 * Ideal.div (rr x) (ms x))) (Ideal.ofBits .f32 0x44000000#32)
    * (Ideal.ofBits .f32 0x40000000#32 * x j)

theorem w512 : Ideal.ofBits .f32 0x44000000#32 = ((512 : ℝ) : EReal) := by
  simp [Ideal.ofBits, Ideal.ieee, -EReal.coe_mul]; norm_num

theorem winv512 : Ideal.ofBits .f32 0x3B000000#32 = ((1 / 512 : ℝ) : EReal) := by
  simp [Ideal.ofBits, Ideal.ieee, -EReal.coe_mul]; norm_num

/-- The norm's small constant is a positive real. -/
theorem wtiny : ∃ e : ℝ, 0 < e ∧ Ideal.ofBits .f32 0x358637BD#32 = (e : EReal) := by
  refine ⟨_, ?_, by simp [Ideal.ofBits, Ideal.ieee, -EReal.coe_mul]; rfl⟩
  positivity

/-- On a row of reals the square of one over the root is one over the mean square. -/
theorem root (X : Fin 512 → ℝ) : ∃ V r : ℝ, 0 < V ∧ r * r * V = 1 ∧ ms (fun k => (X k : EReal)) = (V : EReal)
    ∧ rr (fun k => (X k : EReal)) = (r : EReal) := by
  obtain ⟨e, he, hE⟩ := wtiny
  have hV : ms (fun k => (X k : EReal)) = (((∑ k, X k * X k) / 512 + e : ℝ) : EReal) := by
    simp only [ms, hE, w512, ← EReal.coe_mul, ← Finite.coe_sum]
    rw [div_coe _ (by norm_num), EReal.coe_add]
  have hpos : 0 < (∑ k, X k * X k) / 512 + e :=
    add_pos_of_nonneg_of_pos (div_nonneg (Finset.sum_nonneg fun k _ => mul_self_nonneg _) (by norm_num)) he
  refine ⟨_, _, hpos, ?_, hV, by rw [rr, hV, rsqrt_coe hpos]⟩
  rw [← mul_inv, Real.mul_self_sqrt hpos.le, inv_mul_cancel₀ hpos.ne']

/-- The two forms agree on rows of reals. -/
theorem radj_eq_rback {x u : Fin 512 → EReal} (hx : ∀ k, ∃ r : ℝ, x k = (r : EReal)) (hu : ∀ k, ∃ r : ℝ, u k = (r : EReal))
    (j : Fin 512) : radj x u j = rback x u j := by
  choose X hX using hx
  choose U hU using hu
  obtain rfl : x = fun k => (X k : EReal) := funext hX
  obtain rfl : u = fun k => (U k : EReal) := funext hU
  obtain ⟨V, r, hV0, hr, hV, hR⟩ := root X
  have hrV : r / V = r * r * r := by
    field_simp
    linear_combination (-r) * hr
  rw [radj, rback, hV, hR, w512, winv512, wnhalf, w2, div_coe _ hV0.ne']
  simp only [← EReal.coe_mul, ← Finite.coe_sum]
  rw [div_coe _ (by norm_num)]
  simp only [← EReal.coe_mul, ← EReal.coe_add, ← EReal.coe_sub]
  congr 1
  have h : ∑ k, U k * X k = ∑ k, X k * U k := Finset.sum_congr rfl fun k _ => mul_comm _ _
  rw [hrV, h]
  ring

end Cert.Rms

end
-- ==== Proof.ValueMix.lean ====
/- The value of the backward call of the attentions' outputs: the products with the output weights, and the two RMS norms' gradients. -/
module

public import proofs.«01_k».proof.Proof.Gen.MixKernelIdeal.Value
public import proofs.«01_k».proof.Proof.Gen.MixReferenceIdeal.Read
public import proofs.«01_k».proof.Proof.Rms
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MixKernelIdeal.ValueMix

open Cert.MixKernelIdeal Cert.MixKernelIdeal.Gen Cert.Rms

/-! ## The gradients, one element at a time, over the arguments -/

/-- Row `y` of an attention's output. -/
abbrev row (x : FVec Ideal S8192x512 .f32) (y : Fin 8192) (k : Fin 512) : EReal := x (ix2 y k)

/-- A column of the left and of the right half. -/
abbrev lo (k : Fin 512) : Fin 1024 := ⟨k.val, by omega⟩
abbrev hi (k : Fin 512) : Fin 1024 := ⟨512 + k.val, by omega⟩

section
variable (a b : FVec Ideal S8192x512 .f32) (ga gb : FVec Ideal S1x512 .f32) (w : FVec Ideal S1x1024x1024 .f32)
  (ct : FVec Ideal S8192x1024 .f32)

/-- The cotangent of the joined norms: the product with the output weights. -/
def dm (y : Fin 8192) (k : Fin 1024) : EReal := ∑ x : Fin 1024, ct (ix2 y x) * w (ix3 0 k x)

/-- The cotangents of the two normalised rows. -/
def ua (y : Fin 8192) (k : Fin 512) : EReal := dm w ct y (lo k) * ga (ix2 0 k)
def ub (y : Fin 8192) (k : Fin 512) : EReal := dm w ct y (hi k) * gb (ix2 0 k)

/-- The joined norms. -/
def mrg (y : Fin 8192) (k : Fin 1024) : EReal :=
  if h : k.val < 512 then row a y ⟨k.val, h⟩ * rr (row a y) * ga (ix2 0 ⟨k.val, h⟩)
  else row b y ⟨k.val - 512, by omega⟩ * rr (row b y) * gb (ix2 0 ⟨k.val - 512, by omega⟩)

theorem head_lt (h : Fin 8) (e : Fin 64) : h.val * 64 + e.val < 512 := by omega

/-- Column `e` of head `h`. -/
abbrev col (h : Fin 8) (e : Fin 64) : Fin 512 := ⟨h.val * 64 + e.val, head_lt h e⟩

/-- The gradients of the attentions' outputs, head by head as the attentions' backward calls read them. -/
def da (i : S8x64x8192.Idx) : EReal := rback (row a (i 2)) (ua ga w ct (i 2)) (col (i 0) (i 1))
def db (i : S8x8192x64.Idx) : EReal := rback (row b (i 1)) (ub gb w ct (i 1)) (col (i 0) (i 2))

/-- The gradients of the norms' scales. -/
def dga (i : S1x512.Idx) : EReal := ∑ y : Fin 8192, dm w ct y (lo (i 1)) * row a y (i 1) * rr (row a y)
def dgb (i : S1x512.Idx) : EReal := ∑ y : Fin 8192, dm w ct y (hi (i 1)) * row b y (i 1) * rr (row b y)

/-- The gradient of the output weights. -/
def dw (i : S1024x1024.Idx) : EReal := ∑ y : Fin 8192, mrg a b ga gb y (i 0) * ct (ix2 y (i 1))
end

/-! ## The reference -/

section
open Cert.MixReferenceIdeal.Read

variable (a b : FVec Ideal S8192x512 .f32) (ga gb : FVec Ideal S1x512 .f32) (w : FVec Ideal S1x1024x1024 .f32)
  (ct : FVec Ideal S8192x1024 .f32)

theorem ref_ra (y : Fin 8192) : val_main_v10 (F := Ideal) a (ix2 y 0) = rr (row a y) := by
  pointwise [val_main_v10, val_main_v9, val_main_v8, val_main_cst_2, val_main_v7, val_main_v6, val_main_cst_1, val_main_v5, val_main_v4,
    val_main_cst_0, val_main_v1, rr, ms, row]

theorem ref_rb (y : Fin 8192) : val_main_v29 (F := Ideal) b (ix2 y 0) = rr (row b y) := ref_ra b y

theorem ref_msa (y : Fin 8192) : val_main_v9 (F := Ideal) a (ix2 y 0) = ms (row a y) := by
  pointwise [val_main_v9, val_main_v8, val_main_cst_2, val_main_v7, val_main_v6, val_main_cst_1, val_main_v5, val_main_v4,
    val_main_cst_0, val_main_v1, ms, row]

theorem ref_msb (y : Fin 8192) : val_main_v28 (F := Ideal) b (ix2 y 0) = ms (row b y) := ref_msa b y

theorem ref_mrg (y : Fin 8192) (k : Fin 1024) : val_main_v38 (F := Ideal) a b ga gb (ix2 y k) = mrg a b ga gb y k := by
  pointwise [val_main_v38, val_main_v37, val_main_v36, val_main_v35, val_main_v34, val_main_v33, val_main_v19, val_main_v18, val_main_v17,
    val_main_v16, val_main_v15, val_main_v14, val_main_v0, ref_ra, ref_rb, mrg, row]

theorem ref_dw : val_main_v91 (F := Ideal) a b ga gb ct = dw a b ga gb ct := by
  funext i
  pointwise [val_main_v91, val_main_v44, val_main_v42, val_main_v41, ref_mrg, dw]
  exact Finset.sum_congr rfl fun y _ => mul_comm _ _

theorem ref_dm (y : Fin 8192) (k : Fin 1024) : val_main_v43 (F := Ideal) w ct (ix2 y k) = dm w ct y k := by
  pointwise [val_main_v43, val_main_v39, dm]

theorem ref_ua (y : Fin 8192) (k : Fin 512) : val_main_v70 (F := Ideal) ga w ct (ix2 y k) = ua ga w ct y k := by
  pointwise [val_main_v70, val_main_v69, val_main_v45, val_main_v16, val_main_v0, ref_dm, ua, lo]

theorem ref_ub (y : Fin 8192) (k : Fin 512) : val_main_v51 (F := Ideal) gb w ct (ix2 y k) = ub gb w ct y k := by
  pointwise [val_main_v51, val_main_v50, val_main_v46, val_main_v35, val_main_v19, ref_dm, ub, hi]

theorem ref_adja (y : Fin 8192) (k : Fin 512) :
    val_main_v83 (F := Ideal) a ga w ct (ix2 y k) = radj (row a y) (ua ga w ct y) k := by
  pointwise [val_main_v83, val_main_v82, val_main_v81, val_main_v80, val_main_cst_18, val_main_v79, val_main_v78, val_main_cst_17, val_main_v77,
    val_main_v76, val_main_v75, val_main_v74, val_main_v73, val_main_cst_16, val_main_v72, val_main_v13, val_main_v12, val_main_cst_3,
    val_main_v11, val_main_v3, val_main_v2, val_main_cst, ref_ua, radj, row]
  rw [Fin.sum_univ_one, ref_ra, ref_msa]

theorem ref_adjb (y : Fin 8192) (k : Fin 512) :
    val_main_v64 (F := Ideal) b gb w ct (ix2 y k) = radj (row b y) (ub gb w ct y) k := by
  pointwise [val_main_v64, val_main_v63, val_main_v62, val_main_v61, val_main_cst_13, val_main_v60, val_main_v59, val_main_cst_12, val_main_v58,
    val_main_v57, val_main_v56, val_main_v55, val_main_v54, val_main_cst_11, val_main_v53, val_main_v32, val_main_v31, val_main_cst_8,
    val_main_v30, val_main_v22, val_main_v21, val_main_cst_4, ref_ub, radj, row]
  rw [Fin.sum_univ_one, ref_rb, ref_msb]

theorem ref_da (ha : ∀ i, ∃ r : ℝ, a i = (r : EReal)) (hu : ∀ y k, ∃ r : ℝ, ua ga w ct y k = (r : EReal)) :
    val_main_v87 (F := Ideal) a ga w ct = da a ga w ct := by
  funext i
  pointwise [val_main_v87, val_main_v86, val_main_v85]
  exact (ref_adja a ga w ct (i 2) _).trans (radj_eq_rback (fun _ => ha _) (hu _) _)

theorem ref_db (hb : ∀ i, ∃ r : ℝ, b i = (r : EReal)) (hu : ∀ y k, ∃ r : ℝ, ub gb w ct y k = (r : EReal)) :
    val_main_v90 (F := Ideal) b gb w ct = db b gb w ct := by
  funext i
  pointwise [val_main_v90, val_main_v89, val_main_v88]
  exact (ref_adjb b gb w ct (i 1) _).trans (radj_eq_rback (fun _ => hb _) (hu _) _)

/-- On real arguments the cotangents of the normalised rows are real. -/
theorem ua_real (hg : ∀ i, ∃ r : ℝ, ga i = (r : EReal)) (hw : ∀ i, ∃ r : ℝ, w i = (r : EReal)) (hct : ∀ i, ∃ r : ℝ, ct i = (r : EReal))
    (y : Fin 8192) (k : Fin 512) : ∃ r : ℝ, ua ga w ct y k = (r : EReal) :=
  Finite.mul (Finite.sum fun _ => Finite.mul (hct _) (hw _)) (hg _)

theorem ub_real (hg : ∀ i, ∃ r : ℝ, gb i = (r : EReal)) (hw : ∀ i, ∃ r : ℝ, w i = (r : EReal)) (hct : ∀ i, ∃ r : ℝ, ct i = (r : EReal))
    (y : Fin 8192) (k : Fin 512) : ∃ r : ℝ, ub gb w ct y k = (r : EReal) :=
  Finite.mul (Finite.sum fun _ => Finite.mul (hct _) (hw _)) (hg _)

theorem ref_dga : val_main_v84 (F := Ideal) a w ct = dga a w ct := by
  funext i
  pointwise [val_main_v84, val_main_v71, val_main_cst_15, val_main_v68, val_main_v67, val_main_cst_14, val_main_v66, val_main_v45, val_main_v15,
    val_main_v14, ref_dm, ref_ra, dga, row, lo]
  rw [Fin.sum_univ_one]
  exact Finset.sum_congr rfl fun y _ => by rw [mul_comm, mul_assoc]

theorem ref_dgb : val_main_v65 (F := Ideal) b w ct = dgb b w ct := by
  funext i
  pointwise [val_main_v65, val_main_v52, val_main_cst_10, val_main_v49, val_main_v48, val_main_cst_9, val_main_v47, val_main_v46, val_main_v34,
    val_main_v33, ref_dm, ref_rb, dgb, row, hi]
  rw [Fin.sum_univ_one]
  exact Finset.sum_congr rfl fun y _ => by rw [mul_comm, mul_assoc]

end

/-! ## The kernel -/

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![0, 0]
    ∧ win0_6.index t = ![t.val, 0]
    ∧ win0_7.index t = ![0, 0, t.val]
    ∧ win0_8.index t = ![0, t.val, 0]
    ∧ win0_9.index t = ![0, 0]
    ∧ win0_10.index t = ![0, 0]
    ∧ win0_11.index t = ![0, 0] :=
  (by decide +kernel : ∀ t : Fin grid0.N, _)

abbrev A (c : Dev nD) := m ((c : Thread nD τ).loc main_arg0)
abbrev B (c : Dev nD) := m ((c : Thread nD τ).loc main_arg1)
abbrev Ga (c : Dev nD) := m ((c : Thread nD τ).loc main_arg2)
abbrev Gb (c : Dev nD) := m ((c : Thread nD τ).loc main_arg3)
abbrev W (c : Dev nD) := m ((c : Thread nD τ).loc main_arg4)
abbrev C (c : Dev nD) := m ((c : Thread nD τ).loc main_arg5)

/-- The cotangent and the output weights reach the kernel as they are; the joined norms are computed before it. -/
theorem host_ct (c : Dev nD) (y : Fin 8192) (x : Fin 1024) : V m c main_v27 (ix2 y x) = C m c (ix2 y x) := by
  unfold_abbrev_sides
  simp only [List.flatten_cons, List.flatten_nil, List.append_nil, List.cons_append, List.nil_append, StableHlo.after_cons,
    StableHlo.after_nil]
  after_results_simp
  pointwise

theorem host_w (c : Dev nD) (d : Fin 1024) (x : Fin 1024) : V m c main_v29 (ix2 d x) = W m c (ix3 0 d x) := by
  unfold_abbrev_sides
  simp only [List.flatten_cons, List.flatten_nil, List.append_nil, List.cons_append, List.nil_append, StableHlo.after_cons,
    StableHlo.after_nil]
  after_results_simp
  pointwise

theorem host_mrg (c : Dev nD) (y : Fin 8192) (k : Fin 1024) : V m c main_v26 (ix2 y k) = mrg (A m c) (B m c) (Ga m c) (Gb m c) y k := by
  unfold_abbrev_sides
  simp only [List.flatten_cons, List.flatten_nil, List.append_nil, List.cons_append, List.nil_append, StableHlo.after_cons,
    StableHlo.after_nil]
  after_results_simp
  pointwise [mrg, rr, ms, row]

theorem row_lt (t : Fin cfg0.N) (r : Fin 512) : t.val * 512 + r.val < 8192 := by
  have : t.val < 16 := t.isLt
  omega

/-- Row `r` of point `t`. -/
abbrev at_ (t : Fin cfg0.N) (r : Fin 512) : Fin 8192 := ⟨t.val * 512 + r.val, row_lt t r⟩

theorem blk0 (c : Dev nD) (t : Fin cfg0.N) (r : Fin 512) (x : Fin 1024) : iblk m c 0 t (ix2 r x) = C m c (ix2 (at_ t r) x) := by
  refine Eq.trans ?_ (host_ct m c _ _)
  pointwise [iblk]
  generalize V m c main_v27 = x
  blk_point [idx_val t]

theorem blk1 (c : Dev nD) (t : Fin cfg0.N) (d : Fin 1024) (x : Fin 1024) : iblk m c 1 t (ix2 d x) = W m c (ix3 0 d x) := by
  refine Eq.trans ?_ (host_w m c _ _)
  pointwise [iblk]
  generalize V m c main_v29 = x
  blk_point [idx_val t]

theorem blk2 (c : Dev nD) (t : Fin cfg0.N) (r : Fin 512) (k : Fin 512) : iblk m c 2 t (ix2 r k) = A m c (ix2 (at_ t r) k) := by
  pointwise [iblk, V, A]
  blk_point [idx_val t]

theorem blk3 (c : Dev nD) (t : Fin cfg0.N) (r : Fin 512) (k : Fin 512) : iblk m c 3 t (ix2 r k) = B m c (ix2 (at_ t r) k) := by
  pointwise [iblk, V, B]
  blk_point [idx_val t]

theorem blk4 (c : Dev nD) (t : Fin cfg0.N) (k : Fin 512) : iblk m c 4 t (ix2 0 k) = Ga m c (ix2 0 k) := by
  pointwise [iblk, V, Ga]
  blk_point [idx_val t]

theorem blk5 (c : Dev nD) (t : Fin cfg0.N) (k : Fin 512) : iblk m c 5 t (ix2 0 k) = Gb m c (ix2 0 k) := by
  pointwise [iblk, V, Gb]
  blk_point [idx_val t]

theorem blk6 (c : Dev nD) (t : Fin cfg0.N) (r : Fin 512) (k : Fin 1024) :
    iblk m c 6 t (ix2 r k) = mrg (A m c) (B m c) (Ga m c) (Gb m c) (at_ t r) k := by
  refine Eq.trans ?_ (host_mrg m c _ _)
  pointwise [iblk]
  generalize V m c main_v26 = x
  blk_point [idx_val t]

/-! ### One point's arithmetic over its blocks -/

section
variable (d : Vec Ideal S512x1024 .bf16) (w : Vec Ideal S1024x1024 .bf16) (x : Vec Ideal S512x512 .f32) (g : Vec Ideal S1x512 .f32)

theorem pay_dm (r : Fin 512) (k : Fin 1024) : k0_pay10 d w (ix2 r k) = ∑ x : Fin 1024, d (ix2 r x) * w (ix2 k x) := by
  pointwise [k0_pay10, k0_pay8]

/-- The first norm's gradient, its columns split into heads and turned. -/
theorem pay_da (h : Fin 8) (e : Fin 64) (r : Fin 512) :
    k0_pay22 (k0_pay14 d w x g) (k0_pay15 x) (k0_pay16 d w x g) (ix3 h e r)
      = rback (fun k => x (ix2 r k)) (fun k => k0_pay10 d w (ix2 r (lo k)) * g (ix2 0 k)) (col h e) := by
  unfold k0_pay14 k0_pay16 k0_pay13 k0_pay11
  generalize k0_pay10 d w = D
  pointwise [k0_pay22, k0_pay15, k0_pay12, rback, rr, ms, lo]

theorem pay_db (D : FVec Ideal S512x1024 .f32) (r k : Fin 512) :
    k0_pay20 D x g (ix2 r k) = rback (fun k => x (ix2 r k)) (fun k => D (ix2 r (hi k)) * g (ix2 0 k)) k := by
  pointwise [k0_pay20, k0_pay18, k0_pay19, rback, rr, ms, hi]

/-- What a point adds to the sums. -/
theorem step_ga (v : Vec Ideal S1x512 .f32) (j : S1x512.Idx) : k0_pay3 (k0_pay17 x (k0_pay11 d w) (k0_pay12 x)) v j
    = v j + ∑ r : Fin 512, k0_pay10 d w (ix2 r (lo (j 1))) * x (ix2 r (j 1)) * rr (fun k => x (ix2 r k)) := by
  unfold k0_pay11
  generalize k0_pay10 d w = D
  pointwise [k0_pay3, k0_pay17, k0_pay12, rr, ms, lo]

theorem step_gb (D : FVec Ideal S512x1024 .f32) (v : Vec Ideal S1x512 .f32) (j : S1x512.Idx) : k0_pay4 (k0_pay21 D x) v j
    = v j + ∑ r : Fin 512, D (ix2 r (hi (j 1))) * x (ix2 r (j 1)) * rr (fun k => x (ix2 r k)) := by
  pointwise [k0_pay4, k0_pay21, k0_pay18, k0_pay19, rr, ms, hi]

theorem step_w (u : Vec Ideal S512x1024 .bf16) (v : Vec Ideal S1024x1024 .f32) (j : S1024x1024.Idx) :
    k0_pay9 d v u j = v j + ∑ r : Fin 512, u (ix2 r (j 0)) * d (ix2 r (j 1)) := by
  pointwise [k0_pay9, k0_pay8]
end

section
variable (c : Dev nD) (t : Fin cfg0.N) (r : Fin 512)

theorem point_dm (k : Fin 1024) : k0_pay10 (iblk m c 0 t) (iblk m c 1 t) (ix2 r k) = dm (W m c) (C m c) (at_ t r) k := by
  refine (pay_dm _ _ r k).trans ?_
  simp only [blk0, blk1, dm]

theorem point_da (h : Fin 8) (e : Fin 64) :
    k0_pay22 (k0_pay14 (iblk m c 0 t) (iblk m c 1 t) (iblk m c 2 t) (iblk m c 4 t)) (k0_pay15 (iblk m c 2 t))
        (k0_pay16 (iblk m c 0 t) (iblk m c 1 t) (iblk m c 2 t) (iblk m c 4 t)) (ix3 h e r)
      = da (A m c) (Ga m c) (W m c) (C m c) (ix3 h e (at_ t r)) := by
  refine (pay_da _ _ _ _ h e r).trans ?_
  simp only [point_dm, blk2, blk4]
  rfl

theorem point_db (k : Fin 512) : k0_pay20 (k0_pay10 (iblk m c 0 t) (iblk m c 1 t)) (iblk m c 3 t) (iblk m c 5 t) (ix2 r k)
    = rback (row (B m c) (at_ t r)) (ub (Gb m c) (W m c) (C m c) (at_ t r)) k := by
  refine (pay_db _ _ _ r k).trans ?_
  simp only [point_dm, blk3, blk5]
  rfl
end

/-- An index is made of its coordinates. -/
theorem eta7 (y : S8x64x512.Idx) : y = ix3 (y 0) (y 1) (y 2) := by
  funext a
  fin_cases a <;> rfl

/-- Where a block's element lies in its array. -/
theorem emb7 (t : Fin cfg0.N) (y : S8x64x512.Idx) (X : S8x64x8192.Idx → EReal) :
    X (((cfg0.win 7).blk t).view.emb y) = X (ix3 (y 0) (y 1) (at_ t (y 2))) := by
  blk_point [idx_val t]

theorem emb8 (t : Fin cfg0.N) (y : S8x512x64.Idx) (X : S8x8192x64.Idx → EReal) :
    X (((cfg0.win 8).blk t).view.emb y) = X (ix3 (y 0) (at_ t (y 1)) (y 2)) := by
  blk_point [idx_val t]

theorem emb9 (t : Fin cfg0.N) (y : S1x512.Idx) (X : S1x512.Idx → EReal) : X (((cfg0.win 9).blk t).view.emb y) = X y := by
  blk_point [idx_val t]

theorem emb10 (t : Fin cfg0.N) (y : S1x512.Idx) (X : S1x512.Idx → EReal) : X (((cfg0.win 10).blk t).view.emb y) = X y := by
  blk_point [idx_val t]

theorem emb11 (t : Fin cfg0.N) (y : S1024x1024.Idx) (X : S1024x1024.Idx → EReal) : X (((cfg0.win 11).blk t).view.emb y) = X y := by
  blk_point [idx_val t]

theorem final_da (c : Dev nD) : (dats m 0 c).arrAt 7 (cfgs 0).N = da (A m c) (Ga m c) (W m c) (C m c) := by
  refine (dats m 0 c).arrAt_eq_of_covers 7 _ (by decide +kernel) fun t hf y => ?_
  refine Eq.trans ?_ (emb7 t y (da (A m c) (Ga m c) (W m c) (C m c))).symm
  have e := (congrArg _ (eta7 y)).trans (point_da m c t (y 2) (y 0) (y 1))
  blk_simp
  rw [after0_7]
  by_cases h : t.val % 16 = 0
  · rw [outsAt0_A m c t h]; frame_out; exact e
  · rw [outsAt0_B m c t h]; frame_out; exact e

/-- A head's element in the row of all heads. -/
theorem head_ix (h : Fin 8) (y : Fin 512) (e : Fin 64) (r k : Fin 512) (hr : y.val = r.val) (hk : k.val = h.val * 64 + e.val) :
    (ix2 r k : S512x512.Idx) = ix2 y (col h e) := by
  obtain rfl : y = r := Fin.ext hr
  exact congrArg _ (Fin.ext hk)

/-- The second norm's gradient, stored head by head. -/
theorem final_db (c : Dev nD) : (dats m 0 c).arrAt 8 (cfgs 0).N = db (B m c) (Gb m c) (W m c) (C m c) := by
  refine (dats m 0 c).arrAt_eq_of_covers 8 _ (by decide +kernel) fun t hf y => ?_
  refine Eq.trans ?_ (emb8 t y (db (B m c) (Gb m c) (W m c) (C m c))).symm
  refine Eq.trans ?_ (point_db m c t (y 1) (col (y 0) (y 2)))
  blk_simp
  rw [after0_8]
  by_cases h : t.val % 16 = 0
  · rw [outsAt0_A m c t h]; frame_out
    generalize k0_pay20 (k0_pay10 (iblk m c 0 t) (iblk m c 1 t)) (iblk m c 3 t) (iblk m c 5 t) = Y
    canon_tiles x h
    all_goals
      pointwise [k0_pay1, k0_pay2, k0_pay23, k0_pay24, k0_pay25, k0_pay26, k0_pay27, k0_pay28, k0_pay29]
      exact congrArg Y (head_ix (y 0) (y 1) (y 2) _ _ h1 (by dsimp only; omega))
  · rw [outsAt0_B m c t h]; frame_out
    generalize k0_pay20 (k0_pay10 (iblk m c 0 t) (iblk m c 1 t)) (iblk m c 3 t) (iblk m c 5 t) = Y
    canon_tiles x h
    all_goals
      pointwise [k0_pay1, k0_pay2, k0_pay23, k0_pay24, k0_pay25, k0_pay26, k0_pay27, k0_pay28, k0_pay29]
      exact congrArg Y (head_ix (y 0) (y 1) (y 2) _ _ h1 (by dsimp only; omega))

/-- The fills at the first point. -/
theorem fill5 (j : S1x512.Idx) : k0_pay5 (F := Ideal) j = 0 := by
  pointwise! [k0_pay5]
theorem fill6 (j : S1x512.Idx) : k0_pay6 (F := Ideal) j = 0 := by
  pointwise! [k0_pay6]
theorem fill7 (j : S1024x1024.Idx) : k0_pay7 (F := Ideal) j = 0 := by
  pointwise! [k0_pay7]

theorem at_run (t : Fin cfg0.N) (s : Fin 16) (k : Fin 512) (h : 16 * (t.val / 16) + s.val < cfg0.N) (hl : s.val * 512 + k.val < 8192) :
    at_ ⟨16 * (t.val / 16) + s.val, h⟩ k = ⟨s.val * 512 + k.val, hl⟩ := by
  have : t.val < 16 := t.isLt
  refine Fin.ext ?_
  show (16 * (t.val / 16) + s.val) * 512 + k.val = s.val * 512 + k.val
  omega

/-- A point's part of the first scale's gradient. -/
theorem part_ga (c : Dev nD) (t : Fin cfg0.N) (j : S1x512.Idx) :
    ∑ r : Fin 512, k0_pay10 (iblk m c 0 t) (iblk m c 1 t) (ix2 r (lo (j 1))) * iblk m c 2 t (ix2 r (j 1))
        * rr (fun k => iblk m c 2 t (ix2 r k))
      = ∑ r : Fin 512, dm (W m c) (C m c) (at_ t r) (lo (j 1)) * row (A m c) (at_ t r) (j 1)
          * rr (row (A m c) (at_ t r)) := by
  exact Finset.sum_congr rfl fun r _ => congrArg₂ (· * ·) (congrArg₂ (· * ·) (point_dm m c t r _) (blk2 m c t r (j 1)))
    (congrArg rr (funext fun k => blk2 m c t r k))

/-- A point's part of the second scale's gradient. -/
theorem part_gb (c : Dev nD) (t : Fin cfg0.N) (j : S1x512.Idx) :
    ∑ r : Fin 512, k0_pay10 (iblk m c 0 t) (iblk m c 1 t) (ix2 r (hi (j 1))) * iblk m c 3 t (ix2 r (j 1))
        * rr (fun k => iblk m c 3 t (ix2 r k))
      = ∑ r : Fin 512, dm (W m c) (C m c) (at_ t r) (hi (j 1)) * row (B m c) (at_ t r) (j 1)
          * rr (row (B m c) (at_ t r)) := by
  exact Finset.sum_congr rfl fun r _ => congrArg₂ (· * ·) (congrArg₂ (· * ·) (point_dm m c t r _) (blk3 m c t r (j 1)))
    (congrArg rr (funext fun k => blk3 m c t r k))

/-- A point adds its rows' part to the weights' gradient. -/
theorem point_w (c : Dev nD) (t : Fin cfg0.N) (v : Vec Ideal S1024x1024 .f32) (j : S1024x1024.Idx) :
    k0_pay9 (iblk m c 0 t) v (iblk m c 6 t) j
      = v j + ∑ r : Fin 512, mrg (A m c) (B m c) (Ga m c) (Gb m c) (at_ t r) (j 0) * C m c (ix2 (at_ t r) (j 1)) :=
  (step_w (iblk m c 0 t) (iblk m c 6 t) v j).trans (congrArg (fun s : EReal => v j + s) (Finset.sum_congr rfl fun r _ =>
    congrArg₂ (fun a b : EReal => a * b) (blk6 m c t r (j 0)) (blk0 m c t r (j 1))))

theorem final_dga (c : Dev nD) : (dats m 0 c).arrAt 9 (cfgs 0).N = dga (A m c) (W m c) (C m c) := by
  refine (dats m 0 c).arrAt_eq_of_covers 9 _ (by decide +kernel) fun t hf y => ?_
  refine Eq.trans ?_ (emb9 t y (dga (A m c) (W m c) (C m c))).symm
  blk_simp
  rw [after0_9, Pipeline.eq_sum_fin_of_reset_step_apply_of_flush (fun n h => (outsAt0 m c n h).2.2.1) 16 (fun _ => 0)
    (fun t j => ∑ r : Fin 512, dm (W m c) (C m c) (at_ t r) (lo (j 1)) * row (A m c) (at_ t r) (j 1)
          * rr (row (A m c) (at_ t r)))
    (fun t h j => by rw [outsAt0_A m c t h]; frame_out; exact (step_ga _ _ _ _ _).trans (congrArg₂ (· + ·) (fill5 j) (part_ga m c t j)))
    (fun t h j => by rw [outsAt0_B m c t h]; frame_out; exact (step_ga _ _ _ _ _).trans (congrArg _ (part_ga m c t j)))
    t ((flush0_9 t).mp hf) _, zero_add]
  pointwise [dga]
  refine Fin.sum_mul_add_congr fun s k hl => ?_
  rw [at_run t s k _ hl]

theorem final_dgb (c : Dev nD) : (dats m 0 c).arrAt 10 (cfgs 0).N = dgb (B m c) (W m c) (C m c) := by
  refine (dats m 0 c).arrAt_eq_of_covers 10 _ (by decide +kernel) fun t hf y => ?_
  refine Eq.trans ?_ (emb10 t y (dgb (B m c) (W m c) (C m c))).symm
  blk_simp
  rw [after0_10, Pipeline.eq_sum_fin_of_reset_step_apply_of_flush (fun n h => (outsAt0 m c n h).2.2.2.1) 16 (fun _ => 0)
    (fun t j => ∑ r : Fin 512, dm (W m c) (C m c) (at_ t r) (hi (j 1)) * row (B m c) (at_ t r) (j 1)
          * rr (row (B m c) (at_ t r)))
    (fun t h j => by rw [outsAt0_A m c t h]; frame_out; exact (step_gb _ _ _ _).trans (congrArg₂ (· + ·) (fill6 j) (part_gb m c t j)))
    (fun t h j => by rw [outsAt0_B m c t h]; frame_out; exact (step_gb _ _ _ _).trans (congrArg _ (part_gb m c t j)))
    t ((flush0_10 t).mp hf) _, zero_add]
  pointwise [dgb]
  refine Fin.sum_mul_add_congr fun s k hl => ?_
  rw [at_run t s k _ hl]

theorem final_dw (c : Dev nD) : (dats m 0 c).arrAt 11 (cfgs 0).N = dw (A m c) (B m c) (Ga m c) (Gb m c) (C m c) := by
  refine (dats m 0 c).arrAt_eq_of_covers 11 _ (by decide +kernel) fun t hf y => ?_
  refine Eq.trans ?_ (emb11 t y (dw (A m c) (B m c) (Ga m c) (Gb m c) (C m c))).symm
  blk_simp
  rw [after0_11, Pipeline.eq_sum_fin_of_reset_step_apply_of_flush (fun n h => (outsAt0 m c n h).2.2.2.2) 16 (fun _ => 0)
    (fun t j => ∑ r : Fin 512, mrg (A m c) (B m c) (Ga m c) (Gb m c) (at_ t r) (j 0) * C m c (ix2 (at_ t r) (j 1)))
    (fun t h j => by rw [outsAt0_A m c t h]; frame_out; rw [point_w, fill7])
    (fun t h j => by rw [outsAt0_B m c t h]; frame_out; rw [point_w])
    t ((flush0_11 t).mp hf) _, zero_add]
  pointwise [dw]
  refine Fin.sum_mul_add_congr fun s k hl => ?_
  rw [at_run t s k _ hl]

end Cert.MixKernelIdeal.ValueMix

end
-- ==== Proof.ClaimMix.lean ====
/- The claims about the backward call of the attentions' outputs: its frames and its value. -/
module

public import proofs.«01_k».proof.Defs
public import proofs.«01_k».proof.Proof.ValueMix
public import proofs.«01_k».proof.Proof.Gen.MixKernel.Frame
public import proofs.«01_k».proof.Proof.Gen.MixReferenceIdeal.Run
public import proofs.«01_k».proof.Proof.Gen.Pre_mix_finite
public import Idealize.ShloMosaic.Lib.Claim

@[expose] public section

set_option maxRecDepth 16384

noncomputable section

namespace Cert.ClaimMix

open Idealize.ShloMosaic Idealize.SL.Sem Cert.MixKernelIdeal.ValueMix

theorem frame_kernel : Cert.quiescent_MixKernel := fun m ρ _ => Cert.MixKernel.Gen.frame m ρ

theorem frame_ideal : Cert.quiescent_MixKernelIdeal := fun m ρ _ => Cert.MixKernelIdeal.Gen.frame m ρ

theorem frame_ideal_pre : Cert.quiescent_MixKernelIdeal_pre_mix_finite := fun m ρ _ => Cert.MixKernelIdeal.Gen.frame m ρ

theorem frame_reference : Cert.quiescent_MixReferenceIdeal := fun m ρ _ =>
  (θ_run Cert.MixReferenceIdeal.defs _ _).mono (fun r h => ⟨fun c => (h c).2.2.2.2.2, sem_eq_zero_of_no_sems (by decide) r.2⟩)
    (Cert.MixReferenceIdeal.Value.run m ρ)

theorem frame_reference_pre : Cert.quiescent_MixReferenceIdeal_pre_mix_finite := fun m ρ _ => frame_reference m ρ trivial

/-- The precondition makes every element of the arguments a real. -/
theorem real (x0 x1 : FVec Ideal Cert.Pre_mix_finite.S8192x512 .f32) (x2 x3 : FVec Ideal Cert.Pre_mix_finite.S1x512 .f32)
    (x4 : FVec Ideal Cert.Pre_mix_finite.S1x1024x1024 .f32) (x5 : FVec Ideal Cert.Pre_mix_finite.S8192x1024 .f32)
    (h : Cert.Pre_mix_finite.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  obtain ⟨h, h5⟩ := Finite.and_one h
  obtain ⟨h, h4⟩ := Finite.and_one h
  obtain ⟨h, h3⟩ := Finite.and_one h
  obtain ⟨h, h2⟩ := Finite.and_one h
  obtain ⟨h0, h1⟩ := Finite.and_one h
  exact ⟨Finite.real_of_all (fun _ => Finite.ofBits_inf) h0, Finite.real_of_all (fun _ => Finite.ofBits_inf) h1,
    Finite.real_of_all (fun _ => Finite.ofBits_inf) h2, Finite.real_of_all (fun _ => Finite.ofBits_inf) h3,
    Finite.real_of_all (fun _ => Finite.ofBits_inf) h4, Finite.real_of_all (fun _ => Finite.ofBits_inf) h5⟩

section
open Cert.MixKernelIdeal Cert.MixKernelIdeal.Gen
variable (m : (ℓ : Loc nD τ sig) → Buf (Elt Ideal) ℓ) (h : Cert.Pre_MixKernelIdeal_mix_finite m) (c : Dev nD)

include h in
theorem same_da : Cert.MixReferenceIdeal.Read.val_main_v87 (F := Ideal) (A m c) (Ga m c) (W m c) (C m c)
    = da (A m c) (Ga m c) (W m c) (C m c) := by
  obtain ⟨h0, h1, h2, h3, h4, h5⟩ := real _ _ _ _ _ _ (h c)
  exact ref_da _ _ _ _ h0 (ua_real _ _ _ h2 h4 h5)

include h in
theorem same_db : Cert.MixReferenceIdeal.Read.val_main_v90 (F := Ideal) (B m c) (Gb m c) (W m c) (C m c)
    = db (B m c) (Gb m c) (W m c) (C m c) := by
  obtain ⟨h0, h1, h2, h3, h4, h5⟩ := real _ _ _ _ _ _ (h c)
  exact ref_db _ _ _ _ h1 (ub_real _ _ _ h3 h4 h5)

end

theorem algebraic : Cert.algebraic_MixKernelIdeal_MixReferenceIdeal_pre_mix_finite := by
  pair_intro
  · run_from Cert.MixKernelIdeal.Value.run_blocks m g
  · run_from Cert.MixReferenceIdeal.Value.run m' g'
    all_goals obtain ⟨e0, e1, e2, e3, e4, e5⟩ := hagree c
    · rw [Cert.MixReferenceIdeal.Read.val_main_v87_eq]
      exact (same_da m hpre c).trans (final_da m c).symm
    · rw [Cert.MixReferenceIdeal.Read.val_main_v90_eq]
      exact (same_db m hpre c).trans (final_db m c).symm
    · rw [Cert.MixReferenceIdeal.Read.val_main_v84_eq]
      exact (ref_dga _ _ _).trans (final_dga m c).symm
    · rw [Cert.MixReferenceIdeal.Read.val_main_v65_eq]
      exact (ref_dgb _ _ _).trans (final_dgb m c).symm
    · rw [Cert.MixReferenceIdeal.Read.val_main_v91_eq]
      exact (ref_dw _ _ _ _ _).trans (final_dw m c).symm

end Cert.ClaimMix

end
-- ==== Proof.SmallSteps.lean ====
/- The packing call's body as 8 × 33 steps over one array: 32 buckets and one sink for each head. -/
module

public import proofs.«01_k».proof.Proof.Gen.SmallKernelIdeal.Frame
public import Idealize.ShloMosaic.Lib.Pipeline.ValueKit

@[expose] public section

set_option maxRecDepth 65536

noncomputable section

open Idealize.ShloMosaic
open scoped BigOperators

namespace Cert.SmallKernelIdeal.SmallSteps

open Cert.SmallKernelIdeal Cert.SmallKernelIdeal.Gen

section
variable {F : FTy → Type} [FloatOps F]

/-- The row and the column of each element. -/
abbrev rowOf : IVec S40x128 32 := iota .tc S40x128 32 [0] iota_S40x128_d0_w32
abbrev colOf : IVec S40x128 32 := iota .tc S40x128 32 [1] iota_S40x128_d1_w32

/-- The elements of row `b` and column `h` set to `s`. -/
def put (b h : BitVec 32) (s : FVec F S1x1 .f32) (out : FVec F S40x128 .f32) : FVec F S40x128 .f32 :=
  select (andi (cmpi .eq rowOf (broadcast S40x128 b)) (cmpi .eq colOf (broadcast S40x128 h)))
    (broadcastTo S40x128 (shapeCast S1x1 s shapeCasts_S1x1_S1x1) broadcasts_S1x1_S40x128) out

/-- The sum of the elements of bucket `b`. -/
def bucketSum (v0 : Vec F S256x128 .i32) (x : FVec F S256x128 .f32) (b : BitVec 32) : FVec F S1x1 .f32 :=
  shapeCast S1x1 (multiReduction .add [0] S1 (shapeCast S256x1 (multiReduction .add [1] S256
    (select (cmpi .eq v0 (broadcast S256x128 b)) x (broadcast S256x128 (Scalar.ofBits .f32 0x00000000#32)))
    0x00000000#32 reduces_S256x128_S256 (.inl rfl) rfl) shapeCasts_S256_S256x1) 0x00000000#32 reduces_S256x1_S1 (.inl rfl) rfl)
    shapeCasts_S1_S1x1

/-- The sum of a sink's first row. -/
def sinkSum (y : Vec F S1x8x128 .f32) : FVec F S1x1 .f32 :=
  shapeCast S1x1 (multiReduction .add [1] S1 (extractStridedSlice S1x128 ![0, 0] (shapeCast S8x128 y shapeCasts_S1x8x128_S8x128)
    slices_S8x128_o0_0_S1x128) 0x00000000#32 reduces_S1x128_S1 (.inl rfl) rfl) shapeCasts_S1_S1x1

/-- The first `n` buckets of head `h`. -/
def buckets (v0 : Vec F S256x128 .i32) (h : BitVec 32) (x : FVec F S256x128 .f32) (out : FVec F S40x128 .f32) : ℕ → FVec F S40x128 .f32
  | 0 => out
  | n + 1 => put (BitVec.ofNat 32 n) h (bucketSum v0 x (BitVec.ofNat 32 n)) (buckets v0 h x out n)

/-- Head `h`: its 32 buckets, then its sink. -/
def head (v0 : Vec F S256x128 .i32) (h : BitVec 32) (x : Vec F S1x256x128 .f32) (y : Vec F S1x8x128 .f32) (out : FVec F S40x128 .f32) :
    FVec F S40x128 .f32 :=
  put 32#32 h (sinkSum y) (buckets v0 h (shapeCast S256x128 x shapeCasts_S1x256x128_S256x128) out 32)

/-- What the body stores. -/
def pack (x0 : Vec F S8x256x128 .f32) (x1 : Vec F S8x8x128 .f32) (v0 : Vec F S256x128 .i32) : FVec F S40x128 .f32 :=
  head v0 7#32 (View.ld x0 r0_15) (View.ld x1 r0_16) <| head v0 6#32 (View.ld x0 r0_13) (View.ld x1 r0_14) <|
  head v0 5#32 (View.ld x0 r0_11) (View.ld x1 r0_12) <| head v0 4#32 (View.ld x0 r0_9) (View.ld x1 r0_10) <|
  head v0 3#32 (View.ld x0 r0_7) (View.ld x1 r0_8) <| head v0 2#32 (View.ld x0 r0_5) (View.ld x1 r0_6) <|
  head v0 1#32 (View.ld x0 r0_3) (View.ld x1 r0_4) <| head v0 0#32 (View.ld x0 r0_1) (View.ld x1 r0_2) <|
  broadcast S40x128 (Scalar.ofBits .f32 0x00000000#32)

theorem out_eq (x0 : Vec F S8x256x128 .f32) (x1 : Vec F S8x8x128 .f32) (x2 : Vec F S256x128 .i32) :
    out0_3 x0 x1 x2 = View.canon [⟨r0_17, pack x0 x1 (View.ld x2 r0_0)⟩] := by
  sl_kernel_rfl
end

end Cert.SmallKernelIdeal.SmallSteps

end
-- ==== Proof.SmallBucket.lean ====
/- The bucket of a distance as the logarithm gives it: the thresholds, from two rational bounds of `log 2`. -/
module

public import Idealize.ShloMosaic.Lib.Pipeline.ValueKit
public import Mathlib.Analysis.SpecialFunctions.Log.Basic
public import Mathlib.Analysis.Complex.Exponential

@[expose] public section

set_option maxRecDepth 16384
set_option exponentiation.threshold 100000

noncomputable section

open Idealize.ShloMosaic
open scoped BigOperators

namespace Cert.SmallBucket

/-- The constant that divides the logarithm, a little above `log 8`. -/
abbrev kc : ℝ := 4360905 / 2097152

theorem kc_eq : Ideal.ofBits .f32 0x40051592#32 = ((kc : ℝ) : EReal) := by
  simp [Ideal.ofBits, Ideal.ieee, -EReal.coe_mul]
  norm_num

theorem kc_pos : 0 < kc := by norm_num

theorem log8 : Real.log 8 = 3 * Real.log 2 := by
  rw [show (8 : ℝ) = 2 ^ 3 by norm_num, Real.log_pow]; norm_num

theorem log8_lt : Real.log 8 < kc := by
  have h : Real.log 2 < (4360905 / 2097152 : ℝ) / 3 := by
    rw [Real.log_lt_iff_lt_exp (by norm_num)]
    refine lt_of_lt_of_le ?_ (Real.sum_le_exp_of_nonneg (by norm_num) 14)
    norm_num [Finset.sum_range_succ, Nat.factorial]
  rw [log8]; show 3 * Real.log 2 < (4360905 / 2097152 : ℝ); linarith

theorem kc_lt : 1000 * kc < 1001 * Real.log 8 := by
  have h : 1000 * (4360905 / 2097152 : ℝ) / 3003 < Real.log 2 := by
    rw [Real.lt_log_iff_exp_lt (by norm_num)]
    refine lt_of_le_of_lt (Real.exp_bound' (by norm_num) (by norm_num) (n := 8) (by norm_num)) ?_
    norm_num [Finset.sum_range_succ, Nat.factorial]
  rw [log8]; show 1000 * (4360905 / 2097152 : ℝ) < 1001 * (3 * Real.log 2); linarith

/-- The distance at which each bucket after the sixteenth begins. -/
def steps : List ℕ := [19, 21, 24, 27, 31, 35, 40, 46, 52, 59, 67, 77, 87, 99, 113]

/-- The bucket of a distance. -/
def bucketOf (d : ℕ) : ℕ := if d < 16 then d else 16 + steps.countP (· ≤ d)

theorem log_div (d : ℕ) (hd : 0 < d) : Real.log ((d : ℝ) / 16) = Real.log d - Real.log 16 :=
  Real.log_div (by positivity) (by norm_num)

theorem lower (d k : ℕ) (hd : 0 < d) (h : 8 ^ (1001 * k) * 16 ^ 16000 ≤ d ^ 16000) : (k : ℝ) ≤ Real.log ((d : ℝ) / 16) / kc * 16 := by
  have hR : (8 : ℝ) ^ (1001 * k) * 16 ^ 16000 ≤ (d : ℝ) ^ 16000 := by exact_mod_cast h
  have hl := Real.log_le_log (by positivity) hR
  rw [Real.log_mul (by positivity) (by positivity), Real.log_pow, Real.log_pow, Real.log_pow] at hl
  push_cast at hl
  have hk := mul_le_mul_of_nonneg_left kc_lt.le (Nat.cast_nonneg (α := ℝ) k)
  rw [log_div d hd, div_mul_eq_mul_div, le_div_iff₀ kc_pos]
  nlinarith [hl, hk]

theorem upper (d k : ℕ) (hd : 0 < d) (h : d ^ 16 ≤ 8 ^ (k + 1) * 16 ^ 16) : Real.log ((d : ℝ) / 16) / kc * 16 < (k : ℝ) + 1 := by
  have hR : (d : ℝ) ^ 16 ≤ (8 : ℝ) ^ (k + 1) * 16 ^ 16 := by exact_mod_cast h
  have hl := Real.log_le_log (by positivity) hR
  rw [Real.log_mul (by positivity) (by positivity), Real.log_pow, Real.log_pow, Real.log_pow] at hl
  push_cast at hl
  have hk := mul_lt_mul_of_pos_left log8_lt (by positivity : (0 : ℝ) < (k : ℝ) + 1)
  rw [log_div d hd, div_mul_eq_mul_div, div_lt_iff₀ kc_pos]
  nlinarith [hl, hk]

/-- The logarithm's word at a distance from 16 on. -/
def logWord (r : ℝ) : BitVec 32 := Ideal.fptosi 32 ((r : ℝ) : EReal)

theorem logWord_eq (r : ℝ) (a b : ℕ) (h0 : (a : ℝ) ≤ r) (h1 : r < b) (hb : b < 100) : ∃ z : ℕ, a ≤ z ∧ z < b ∧ logWord r = BitVec.ofNat 32 z := by
  have hr : 0 ≤ r := le_trans (Nat.cast_nonneg a) h0
  have hf : 0 ≤ ⌊r⌋ := Int.floor_nonneg.2 hr
  refine ⟨⌊r⌋.toNat, ?_, ?_, ?_⟩
  · have : (a : ℤ) ≤ ⌊r⌋ := Int.le_floor.2 (by exact_mod_cast h0)
    omega
  · have : ⌊r⌋ < (b : ℤ) := Int.floor_lt.2 (by exact_mod_cast h1)
    omega
  · have : ⌊r⌋ < (b : ℤ) := Int.floor_lt.2 (by exact_mod_cast h1)
    show BitVec.ofInt 32 (max _ (min _ (if 0 ≤ r then ⌊r⌋ else ⌈r⌉))) = _
    rw [if_pos hr, min_eq_right (by norm_num; omega), max_eq_right (by norm_num; omega)]
    conv_lhs => rw [← Int.toNat_of_nonneg hf]
    exact BitVec.ofInt_natCast ..

theorem lower_powers : ∀ d : Fin 256, 16 ≤ d.val → 8 ^ (1001 * steps.countP (· ≤ d.val)) * 16 ^ 16000 ≤ d.val ^ 16000 := by
  decide +kernel

theorem upper_powers : ∀ d : Fin 256, 16 ≤ d.val → d.val ^ 16 ≤ 8 ^ ((if d.val ≤ 128 then steps.countP (· ≤ d.val) else 30) + 1) * 16 ^ 16 := by
  decide +kernel

theorem near_word : ∀ d : Fin 256, 16 ≤ d.val → d.val ≤ 128 →
    IntOp.minsi (IntOp.addi 16#32 (BitVec.ofNat 32 (steps.countP (· ≤ d.val)))) 31#32 = BitVec.ofNat 32 (bucketOf d.val) := by
  decide +kernel

theorem far_word : ∀ (d : Fin 256) (z : Fin 31), 128 < d.val → 15 ≤ z.val →
    IntOp.minsi (IntOp.addi 16#32 (BitVec.ofNat 32 z.val)) 31#32 = BitVec.ofNat 32 (bucketOf d.val) := by
  decide +kernel

/-- From distance 16 on the clamped logarithm gives the bucket. -/
theorem log_bucket (d : Fin 256) (hd : 16 ≤ d.val) :
    IntOp.minsi (IntOp.addi 16#32 (logWord (Real.log ((d.val : ℝ) / 16) / kc * 16))) 31#32 = BitVec.ofNat 32 (bucketOf d.val) := by
  have h0 := lower d.val _ (by omega) (lower_powers d hd)
  have h1 := upper d.val _ (by omega) (upper_powers d hd)
  by_cases h : d.val ≤ 128
  · rw [if_pos h] at h1
    obtain ⟨z, hz0, hz1, hz⟩ := logWord_eq _ _ (steps.countP (· ≤ d.val) + 1) h0 (by exact_mod_cast h1)
      (by have := List.countP_le_length (p := fun x => decide (x ≤ d.val)) (l := steps); simp [steps] at this ⊢; omega)
    rw [hz, show z = steps.countP (· ≤ d.val) by omega]
    exact near_word d hd h
  · rw [if_neg h] at h1
    have hc : steps.countP (· ≤ d.val) = 15 := (by decide +kernel : ∀ d : Fin 256, 128 < d.val → steps.countP (· ≤ d.val) = 15) d (by omega)
    obtain ⟨z, hz0, hz1, hz⟩ := logWord_eq _ _ 31 h0 (by norm_num at h1 ⊢; exact h1) (by norm_num)
    rw [hz]
    exact far_word d ⟨z, hz1⟩ (by omega) (by dsimp only; omega)

/-- The clamped distance's word. -/
theorem dist_word : ∀ (q : Fin 128) (j : Fin 256),
    IntOp.maxsi (IntOp.subi (IntOp.addi (BitVec.ofNat 32 q.val) 128#32) (BitVec.ofNat 32 j.val)) 0#32 = BitVec.ofNat 32 (q.val + 128 - j.val) := by
  decide +kernel

theorem select_one {α : Type} (x y : α) : Scalar.select 1#1 x y = x := rfl
theorem select_zero {α : Type} (x y : α) : Scalar.select 0#1 x y = y := rfl

theorem not_neg : ∀ d : Fin 256, IntOp.cmpi .slt (BitVec.ofNat 32 (bucketOf d.val)) 0#32 = 0#1 := by decide +kernel
theorem is_near : ∀ d : Fin 256, d.val < 16 → IntOp.cmpi .slt (BitVec.ofNat 32 d.val) 16#32 = 1#1 := by decide +kernel
theorem is_far : ∀ d : Fin 256, 16 ≤ d.val → IntOp.cmpi .slt (BitVec.ofNat 32 d.val) 16#32 = 0#1 := by decide +kernel
theorem max_one : ∀ d : Fin 256, 16 ≤ d.val → (IntOp.maxsi (BitVec.ofNat 32 d.val) 1#32).toInt = (d.val : ℤ) := by decide +kernel

theorem sixteen : Ideal.ofBits .f32 1098907648#32 = ((16 : ℝ) : EReal) := by
  simp [Ideal.ofBits, Ideal.ieee, -EReal.coe_mul]
  norm_num

/-- The logarithm as the program writes it. -/
theorem log_word (d : Fin 256) (hd : 16 ≤ d.val) :
    FloatOps.fptosi (F := Ideal) (φ := .f32) 32 (Ideal.div (Ideal.log (Ideal.div (FloatOps.sitofp (F := Ideal) FTy.f32 (IntOp.maxsi (BitVec.ofNat 32 d.val) 1#32))
      (Ideal.ofBits FTy.f32 1098907648#32))) (Ideal.ofBits FTy.f32 1074075026#32) * Ideal.ofBits FTy.f32 1098907648#32)
      = logWord (Real.log ((d.val : ℝ) / 16) / kc * 16) := by
  have h1 : FloatOps.sitofp (F := Ideal) FTy.f32 (IntOp.maxsi (BitVec.ofNat 32 d.val) 1#32) = ((d.val : ℝ) : EReal) := by
    show (((IntOp.maxsi (BitVec.ofNat 32 d.val) 1#32).toInt : ℝ) : EReal) = _
    rw [max_one d hd]; norm_cast
  have hp : (0 : ℝ) < (d.val : ℝ) * (1 / 16) := by
    have : (16 : ℝ) ≤ d.val := by exact_mod_cast hd
    positivity
  rw [h1, sixteen, kc_eq, Ideal.div_coe (y := 16) (by norm_num), ← EReal.coe_mul, Ideal.log_coe, if_neg (not_le.2 hp), Ideal.div_coe kc_pos.ne',
    ← EReal.coe_mul, ← EReal.coe_mul, mul_one_div, mul_one_div]
  rfl

/-- The bucket as the program writes it, wrapped as an index. -/
theorem bucket_word (d : Fin 256) (w : BitVec 32) (hw : 16 ≤ d.val → w = logWord (Real.log ((d.val : ℝ) / 16) / kc * 16)) (v : BitVec 32)
    (hv : v = Scalar.select (IntOp.cmpi .slt (BitVec.ofNat 32 d.val) 16#32) (BitVec.ofNat 32 d.val) (IntOp.minsi (IntOp.addi 16#32 w) 31#32)) :
    Scalar.select (IntOp.cmpi .slt v 0#32) (IntOp.addi v 32#32) v = BitVec.ofNat 32 (bucketOf d.val) := by
  have e : v = BitVec.ofNat 32 (bucketOf d.val) := by
    rw [hv]
    by_cases h : d.val < 16
    · rw [is_near d h, select_one, bucketOf, if_pos h]
    · rw [is_far d (by omega), select_zero, hw (by omega), log_bucket d (by omega)]
  rw [e, not_neg d, select_zero]

end Cert.SmallBucket

end
-- ==== Proof.SmallRows.lean ====
/- The kernel's table of buckets checked against the thresholds, sixteen rows at a time. -/
module

public import proofs.«01_k».proof.SmallKernelIdeal
public import proofs.«01_k».proof.Proof.SmallBucket

@[expose] public section

set_option maxRecDepth 16384

noncomputable section

namespace Cert.SmallTable

open Cert.SmallKernelIdeal SmallBucket

/-- The table's rows from `a` to `a + 16` are the buckets of the distances. -/
def rows (a : ℕ) : Prop :=
  ∀ (j : Fin 16) (q : Fin 128), lit0t (128 * (a + j.val) + q.val) = BitVec.ofNat 32 (bucketOf (q.val + 128 - (a + j.val)))

instance (a : ℕ) : Decidable (rows a) := inferInstanceAs (Decidable (∀ (j : Fin 16) (q : Fin 128), _ = _))

theorem rows_0 : rows 0 := by decide +kernel
theorem rows_16 : rows 16 := by decide +kernel
theorem rows_32 : rows 32 := by decide +kernel
theorem rows_48 : rows 48 := by decide +kernel
theorem rows_64 : rows 64 := by decide +kernel
theorem rows_80 : rows 80 := by decide +kernel
theorem rows_96 : rows 96 := by decide +kernel
theorem rows_112 : rows 112 := by decide +kernel
theorem rows_128 : rows 128 := by decide +kernel
theorem rows_144 : rows 144 := by decide +kernel
theorem rows_160 : rows 160 := by decide +kernel
theorem rows_176 : rows 176 := by decide +kernel
theorem rows_192 : rows 192 := by decide +kernel
theorem rows_208 : rows 208 := by decide +kernel
theorem rows_224 : rows 224 := by decide +kernel
theorem rows_240 : rows 240 := by decide +kernel

end Cert.SmallTable

end
-- ==== Proof.SmallTable.lean ====
/- The kernel's table of buckets, at any index. -/
module

public import proofs.«01_k».proof.SmallKernelIdeal
public import proofs.«01_k».proof.Proof.SmallRows

@[expose] public section

set_option maxRecDepth 16384

noncomputable section

namespace Cert.SmallTable

open Cert.SmallKernelIdeal SmallBucket

theorem all_rows (a : Fin 16) : rows (16 * a.val) := by
  obtain ⟨a, ha⟩ := a
  interval_cases a
  exacts [rows_0, rows_16, rows_32, rows_48, rows_64, rows_80, rows_96, rows_112, rows_128, rows_144, rows_160, rows_176, rows_192, rows_208, rows_224, rows_240]

/-- The table at `(j, q)` holds the bucket of the distance from key `j` to query `q` of the next block. -/
theorem table (j : Fin 256) (q : Fin 128) : lit0t (128 * j.val + q.val) = BitVec.ofNat 32 (bucketOf (q.val + 128 - j.val)) := by
  have hj := j.isLt
  have h := all_rows ⟨j.val / 16, by omega⟩ ⟨j.val % 16, by omega⟩ q
  have e : 16 * (j.val / 16) + j.val % 16 = j.val := by omega
  dsimp only at h
  rwa [e] at h

end Cert.SmallTable

end
-- ==== Proof.ValueSmall.lean ====
/- The call that packs the small gradients: what it stores is the reference's array. The kernel sums each bucket under the mask of its
   table; the reference scatters each element to the bucket that the logarithm gives. -/
module

public import proofs.«01_k».proof.Proof.SmallSteps
public import proofs.«01_k».proof.Proof.Gen.SmallKernelIdeal.Value
public import proofs.«01_k».proof.Proof.Gen.SmallReferenceIdeal.Read
public import proofs.«01_k».proof.Proof.Gen.SmallReferenceIdeal.Run
public import proofs.«01_k».proof.Proof.SmallTable
public import Idealize.ShloMosaic.Lib.Routing.OpsPair
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open scoped BigOperators

namespace Cert.SmallKernelIdeal.ValueSmall

open Cert.SmallKernelIdeal Cert.SmallKernelIdeal.Gen SmallSteps

theorem ofNat_inj {a b : ℕ} (ha : a < 2 ^ 32) (hb : b < 2 ^ 32) : BitVec.ofNat 32 a = BitVec.ofNat 32 b ↔ a = b := by
  constructor
  · intro h
    have h := congrArg BitVec.toNat h
    simp only [BitVec.toNat_ofNat] at h
    omega
  · intro h; rw [h]

theorem select_cmpi {α : Type} (a b : BitVec 32) (x y : α) : Scalar.select (IntOp.cmpi .eq a b) x y = if a = b then x else y := by
  by_cases h : a = b
  · simp [Scalar.select, IntOp.cmpi, h]
  · have h0 : (a == b) = false := by simpa using h
    simp [Scalar.select, IntOp.cmpi, h, h0]

theorem select_andi {α : Type} (a b a' b' : BitVec 32) (x y : α) :
    Scalar.select (IntOp.andi (IntOp.cmpi .eq a b) (IntOp.cmpi .eq a' b')) x y = if a = b ∧ a' = b' then x else y := by
  have e : IntOp.andi (IntOp.cmpi .eq a b) (IntOp.cmpi .eq a' b') = BitVec.ofBool (a == b && a' == b') := by
    simp only [IntOp.andi, IntOp.cmpi]
    cases (a == b) <;> cases (a' == b') <;> rfl
  rw [e]
  by_cases h : a = b ∧ a' = b'
  · simp [Scalar.select, h]
  · have h0 : (a == b && a' == b') = false := by simpa [Bool.and_eq_false_iff, not_and_or] using h
    rw [h0, if_neg h]; rfl

theorem put_at (n k : ℕ) (hn : n < 2 ^ 32) (hk : k < 2 ^ 32) (s : FVec Ideal S1x1 .f32) (out : FVec Ideal S40x128 .f32) (r : Fin 40) (c : Fin 128) :
    put (BitVec.ofNat 32 n) (BitVec.ofNat 32 k) s out (ix2 r c) = if r.val = n ∧ c.val = k then s (ix2 0 0) else out (ix2 r c) := by
  pointwise [put]
  rw [select_andi]
  simp only [ofNat_inj (show r.val < 2 ^ 32 by have := r.isLt; omega) hn, ofNat_inj (show c.val < 2 ^ 32 by have := c.isLt; omega) hk]

theorem bucketSum_at (v0 : Vec Ideal S256x128 .i32) (x : FVec Ideal S256x128 .f32) (b : BitVec 32) :
    bucketSum v0 x b (ix2 0 0) = ∑ j : Fin 256, ∑ q : Fin 128, if v0 (ix2 j q) = b then x (ix2 j q) else 0 := by
  pointwise [bucketSum]
  simp only [select_cmpi]

theorem sinkSum_at (y : Vec Ideal S1x8x128 .f32) : sinkSum y (ix2 0 0) = ∑ q : Fin 128, y (ix3 0 0 q) := by
  pointwise [sinkSum]

theorem buckets_at (v0 : Vec Ideal S256x128 .i32) (k : ℕ) (hk : k < 2 ^ 32) (x : FVec Ideal S256x128 .f32) (out : FVec Ideal S40x128 .f32)
    (r : Fin 40) (c : Fin 128) (n : ℕ) (hn : n < 2 ^ 32) :
    buckets v0 (BitVec.ofNat 32 k) x out n (ix2 r c)
      = if r.val < n ∧ c.val = k then ∑ j : Fin 256, ∑ q : Fin 128, if v0 (ix2 j q) = BitVec.ofNat 32 r.val then x (ix2 j q) else 0 else out (ix2 r c) := by
  induction n with
  | zero => simp [buckets]
  | succ n ih =>
    rw [buckets, put_at _ _ (by omega) hk, ih (by omega), bucketSum_at]
    by_cases hc : c.val = k
    · by_cases h : r.val = n
      · rw [if_pos ⟨h, hc⟩, if_pos ⟨by omega, hc⟩, h]
      · rw [if_neg (fun e => h e.1)]
        by_cases h' : r.val < n
        · rw [if_pos ⟨h', hc⟩, if_pos ⟨by omega, hc⟩]
        · rw [if_neg (fun e => h' e.1), if_neg (fun e => by omega)]
    · rw [if_neg (fun e => hc e.2), if_neg (fun e => hc e.2), if_neg (fun e => hc e.2)]

/-- What head `k` stores: its bucket sums in rows 0 to 31, its sink in row 32. -/
theorem head_at (v0 : Vec Ideal S256x128 .i32) (k : ℕ) (hk : k < 2 ^ 32) (x : Vec Ideal S1x256x128 .f32) (y : Vec Ideal S1x8x128 .f32)
    (out : FVec Ideal S40x128 .f32) (r : Fin 40) (c : Fin 128) :
    head v0 (BitVec.ofNat 32 k) x y out (ix2 r c)
      = if c.val = k then
          if r.val < 32 then ∑ j : Fin 256, ∑ q : Fin 128, if v0 (ix2 j q) = BitVec.ofNat 32 r.val then x (ix3 0 j q) else 0
          else if r.val = 32 then ∑ q : Fin 128, y (ix3 0 0 q) else out (ix2 r c)
        else out (ix2 r c) := by
  have hx : ∀ (j : Fin 256) (q : Fin 128), shapeCast S256x128 x shapeCasts_S1x256x128_S256x128 (ix2 j q) = x (ix3 0 j q) := by
    intro j q; pointwise []
  rw [head, put_at 32 k (by norm_num) hk, buckets_at _ _ hk _ _ _ _ _ (by norm_num), sinkSum_at]
  simp only [hx]
  by_cases hc : c.val = k
  · by_cases h : r.val < 32
    · rw [if_neg (fun e => by omega), if_pos ⟨h, hc⟩, if_pos hc, if_pos h]
    · by_cases h' : r.val = 32
      · rw [if_pos ⟨h', hc⟩, if_pos hc, if_neg h, if_pos h']
      · rw [if_neg (fun e => h' e.1), if_neg (fun e => h e.1), if_pos hc, if_neg h, if_neg h']
  · rw [if_neg (fun e => hc e.2), if_neg (fun e => hc e.2), if_neg hc]

open SmallReferenceIdeal.Read in
theorem v33_at (q : Fin 128) (j : Fin 256) : val_main_v33 (F := Ideal) (ix2 q j) = BitVec.ofNat 32 (SmallBucket.bucketOf (q.val + 128 - j.val)) := by
  pointwise [val_main_v33, val_main_v32, val_main_v31, val_main_v30, val_main_v29, val_main_v28, val_main_v27, val_main_v25, val_main_v23, val_main_v21, val_main_v20, val_main_v18, val_main_v16, val_main_v15, val_main_v13, val_main_v12, val_main_v10, val_main_v8, val_main_v6, val_main_v5, val_main_v4, val_main_v3, val_main_v2, val_main_v1, val_main_v0, val_main_v7, val_main_v9, val_main_v11, val_main_v14, val_main_v17, val_main_v19, val_main_v22, val_main_v24, val_main_v26, val_main_c, val_main_c_0, val_main_c_1, val_main_c_4, val_main_c_5, val_main_c_6, val_main_c_7, val_main_c_8, val_main_cst, val_main_cst_2, val_main_cst_3]
  rw [SmallBucket.dist_word]
  exact SmallBucket.bucket_word ⟨q.val + 128 - j.val, by have := q.isLt; omega⟩ _ (fun h => SmallBucket.log_word ⟨_, _⟩ h) _ rfl

open SmallReferenceIdeal.Read in
theorem v34_at (q : Fin 128) (j : Fin 256) (z : Fin 1) : val_main_v34 (F := Ideal) (ix3 q j z) = BitVec.ofNat 32 (SmallBucket.bucketOf (q.val + 128 - j.val)) := by
  rw [← v33_at]
  pointwise [val_main_v34]

/-- Where an update of the scatter lands: in its bucket's row and its head's column. -/
theorem lands_iff (q : Fin 128) (j : Fin 256) (c' : Fin 8) (r : Fin 32) (c : Fin 8) :
    SmallReferenceIdeal.scatter_S32x8_S128x256x1_S128x256x8_2_0_0_2.resultIdx? (ix3 q j c') (SmallReferenceIdeal.Read.val_main_v34 (F := Ideal)) = some (ix2 r c)
      ↔ SmallBucket.bucketOf (q.val + 128 - j.val) = r.val ∧ c' = c := by
  have hs : SmallReferenceIdeal.scatter_S32x8_S128x256x1_S128x256x8_2_0_0_2.start (ix3 q j c') (SmallReferenceIdeal.Read.val_main_v34 (F := Ideal)) 0
      = (SmallReferenceIdeal.Read.val_main_v34 (F := Ideal) (ix3 q j 0)).toInt := by
    unfold ScatterDims.start
    rw [dif_pos (by exact List.mem_singleton.2 rfl)]
    exact congrArg (fun t => (SmallReferenceIdeal.Read.val_main_v34 (F := Ideal) t).toInt) (by funext b; fin_cases b <;> rfl)
  have hs1 : SmallReferenceIdeal.scatter_S32x8_S128x256x1_S128x256x8_2_0_0_2.start (ix3 q j c') (SmallReferenceIdeal.Read.val_main_v34 (F := Ideal)) 1 = 0 := rfl
  have hw : SmallReferenceIdeal.scatter_S32x8_S128x256x1_S128x256x8_2_0_0_2.window (ix3 q j c') 0 = 0 := rfl
  have hw1 : SmallReferenceIdeal.scatter_S32x8_S128x256x1_S128x256x8_2_0_0_2.window (ix3 q j c') 1 = c'.val := rfl
  have hb : SmallBucket.bucketOf (q.val + 128 - j.val) < 2 ^ 31 := by
    have := List.countP_le_length (p := fun x => decide (x ≤ q.val + 128 - j.val)) (l := SmallBucket.steps)
    simp only [SmallBucket.bucketOf]
    simp [SmallBucket.steps] at this ⊢
    split <;> omega
  rw [v34_at, StableHlo.Predicate.toInt_ofNat_small _ hb] at hs
  refine (Routing.resultIdx?_eq_some _ _ _ _).trans (Fin.forall_fin_two.trans ?_)
  rw [hs, hs1, hw, hw1, Fin.ext_iff]
  show ((SmallBucket.bucketOf (q.val + 128 - j.val) : ℤ) + ((0 : ℕ) : ℤ) = (r.val : ℤ) ∧ (0 : ℤ) + (c'.val : ℤ) = (c.val : ℤ)) ↔ _
  omega

open SmallReferenceIdeal.Read in
theorem v44_at (x2 : FVec Ideal S8x256x128 .f32) (r : Fin 32) (c : Fin 8) : val_main_v44 (F := Ideal) x2 (ix2 r c)
    = ∑ j : Fin 256, ∑ q : Fin 128, if SmallBucket.bucketOf (q.val + 128 - j.val) = r.val then x2 (ix3 c j q) else 0 := by
  have hz : val_main_v43 (F := Ideal) (ix2 r c) = 0 := by pointwise [val_main_v43, val_main_cst_10]
  have hu : ∀ (q : Fin 128) (j : Fin 256) (c : Fin 8), val_main_v42 (F := Ideal) x2 (ix3 q j c) = x2 (ix3 c j q) := by
    intro q j c; pointwise [val_main_v42]
  show Ideal.hostScatterAdd _ _ _ _ _ = _
  rw [Ideal.hostScatterAdd, hz, zero_add, Finset.sum_filter, sum_idx3]
  rw [Finset.sum_comm]
  refine Finset.sum_congr rfl fun j _ => Finset.sum_congr rfl fun q _ => ?_
  simp only [lands_iff, hu]
  by_cases h : SmallBucket.bucketOf (q.val + 128 - j.val) = r.val
  · simp only [h, true_and, if_true, Finset.sum_ite_eq', Finset.mem_univ]
  · simp only [h, false_and, if_false, Finset.sum_const_zero]

open SmallReferenceIdeal.Read in
theorem v41_at (x3 : FVec Ideal S8x8x128 .f32) (a : Fin 1) (c : Fin 8) : val_main_v41 (F := Ideal) x3 (ix2 a c) = ∑ q : Fin 128, x3 (ix3 c 0 q) := by
  pointwise [val_main_v41, val_main_v40, val_main_v39, val_main_v38, val_main_cst_9]

/-- The table's word at `(j, q)`. -/
theorem table_at (j : Fin 256) (q : Fin 128) : lit0 (S256x128.rowMajor (ix2 j q)) = BitVec.ofNat 32 (SmallBucket.bucketOf (q.val + 128 - j.val)) := by
  rw [← SmallTable.table]
  show lit0t (S256x128.rowMajor (ix2 j q)).val = _
  rw [Shape.rowMajor_val_two]
  congr 1
  exact (add_left_inj _).2 (Nat.mul_comm _ _)

/-- Column `h` of the packed array: the bucket sums in rows 0 to 31, the sink's sum in row 32, zeros below. -/
def column (x0 : Vec Ideal S8x256x128 .f32) (x1 : Vec Ideal S8x8x128 .f32) (h : Fin 8) (r : Fin 40) : EReal :=
  if r.val < 32 then ∑ j : Fin 256, ∑ q : Fin 128, if SmallBucket.bucketOf (q.val + 128 - j.val) = r.val then x0 (ix3 h j q) else 0
  else if r.val = 32 then ∑ q : Fin 128, x1 (ix3 h 0 q) else 0

/-- The packed array when the columns before `k` are written. -/
def upTo (x0 : Vec Ideal S8x256x128 .f32) (x1 : Vec Ideal S8x8x128 .f32) (k : ℕ) (r : Fin 40) (c : Fin 128) : EReal :=
  if hc : c.val < 8 then if c.val < k then column x0 x1 ⟨c.val, hc⟩ r else 0 else 0

theorem bucket_lt (d : ℕ) : SmallBucket.bucketOf d < 2 ^ 31 := by
  have := List.countP_le_length (p := fun x => decide (x ≤ d)) (l := SmallBucket.steps)
  simp only [SmallBucket.bucketOf]
  simp [SmallBucket.steps] at this ⊢
  split <;> omega

/-- Writing column `k`. -/
theorem head_upTo (x0 : Vec Ideal S8x256x128 .f32) (x1 : Vec Ideal S8x8x128 .f32) (v0 : Vec Ideal S256x128 .i32)
    (hv : ∀ (j : Fin 256) (q : Fin 128), v0 (ix2 j q) = BitVec.ofNat 32 (SmallBucket.bucketOf (q.val + 128 - j.val))) (k : Fin 8)
    (x : Vec Ideal S1x256x128 .f32) (hx : ∀ (j : Fin 256) (q : Fin 128), x (ix3 0 j q) = x0 (ix3 k j q))
    (y : Vec Ideal S1x8x128 .f32) (hy : ∀ q : Fin 128, y (ix3 0 0 q) = x1 (ix3 k 0 q)) (out : FVec Ideal S40x128 .f32)
    (ho : ∀ (r : Fin 40) (c : Fin 128), out (ix2 r c) = upTo x0 x1 k.val r c) (r : Fin 40) (c : Fin 128) :
    head v0 (BitVec.ofNat 32 k.val) x y out (ix2 r c) = upTo x0 x1 (k.val + 1) r c := by
  have hk := k.isLt
  have hr : r.val < 2 ^ 32 := by have := r.isLt; omega
  have hb : ∀ d, BitVec.ofNat 32 (SmallBucket.bucketOf d) = BitVec.ofNat 32 r.val ↔ SmallBucket.bucketOf d = r.val :=
    fun d => ofNat_inj (by have := bucket_lt d; omega) hr
  rw [head_at v0 k.val (by omega), ho]
  simp only [hv, hx, hy, hb, upTo]
  by_cases hc : c.val = k.val
  · have h8 : c.val < 8 := by omega
    have hk' : (⟨c.val, h8⟩ : Fin 8) = k := Fin.ext hc
    simp only [dif_pos h8, if_pos hc, hk', if_pos (show c.val < k.val + 1 by omega), if_neg (show ¬ c.val < k.val by omega), column]
  · by_cases h8 : c.val < 8
    · rw [if_neg hc, dif_pos h8, dif_pos h8]
      by_cases h : c.val < k.val
      · rw [if_pos h, if_pos (by omega)]
      · rw [if_neg h, if_neg (by omega)]
    · rw [if_neg hc, dif_neg h8, dif_neg h8]

theorem pack_at (x0 : Vec Ideal S8x256x128 .f32) (x1 : Vec Ideal S8x8x128 .f32) (v0 : Vec Ideal S256x128 .i32)
    (hv : ∀ (j : Fin 256) (q : Fin 128), v0 (ix2 j q) = BitVec.ofNat 32 (SmallBucket.bucketOf (q.val + 128 - j.val))) (r : Fin 40) (c : Fin 128) :
    pack x0 x1 v0 (ix2 r c) = upTo x0 x1 8 r c := by
  rw [pack]
  refine head_upTo x0 x1 v0 hv 7 _ (fun j q => ?_) _ (fun q => ?_) _ (head_upTo x0 x1 v0 hv 6 _ (fun j q => ?_) _ (fun q => ?_) _
    (head_upTo x0 x1 v0 hv 5 _ (fun j q => ?_) _ (fun q => ?_) _ (head_upTo x0 x1 v0 hv 4 _ (fun j q => ?_) _ (fun q => ?_) _
    (head_upTo x0 x1 v0 hv 3 _ (fun j q => ?_) _ (fun q => ?_) _ (head_upTo x0 x1 v0 hv 2 _ (fun j q => ?_) _ (fun q => ?_) _
    (head_upTo x0 x1 v0 hv 1 _ (fun j q => ?_) _ (fun q => ?_) _ (head_upTo x0 x1 v0 hv 0 _ (fun j q => ?_) _ (fun q => ?_) _
    (fun r c => ?_)))))))) r c
  all_goals first
    | (pointwise []; done)
    | (simp [upTo]; pointwise []; done)
    | skip

open SmallReferenceIdeal.Read in
/-- The reference's packed array. -/
theorem ref_at (x2 : FVec Ideal S8x256x128 .f32) (x3 : FVec Ideal S8x8x128 .f32) (r : Fin 40) (c : Fin 128) :
    val_main_v47 (F := Ideal) x2 x3 (ix2 r c)
      = upTo x2 x3 8 r c := by
  pointwise [val_main_v47, val_main_v46, v44_at, v41_at, val_main_v45, val_main_cst_11, val_main_call1_v0, val_main_c_12]
  have hz : FloatOps.sitofp (F := Ideal) FTy.f32 0#32 = (0 : EReal) := by
    show (((0#32 : BitVec 32).toInt : ℝ) : EReal) = 0
    simp
  by_cases hc : c.val < 8
  · rw [upTo, dif_pos hc, dif_pos hc, if_pos hc, column]
    by_cases h : r.val < 32
    · rw [dif_pos h, if_pos h]
    · rw [dif_neg h, if_neg h]
      by_cases h' : r.val = 32
      · rw [dif_pos (by omega), if_pos h']
      · rw [dif_neg (by omega), if_neg h']
  · rw [upTo, dif_neg hc, dif_neg hc, hz]

/-! ### The kernel's array -/

section
variable (m : (ℓ : Loc nD τ sig) → Buf (Elt Ideal) ℓ)

abbrev Ab (c : Dev nD) : FVec Ideal S8x256x128 .f32 := m ((c : Thread nD τ).loc main_arg2)
abbrev As (c : Dev nD) : FVec Ideal S8x8x128 .f32 := m ((c : Thread nD τ).loc main_arg3)

theorem idx_val : ∀ t : Fin cfg0.N, win0_0.index t = ![0, 0, 0] ∧ win0_1.index t = ![0, 0, 0] ∧ win0_2.index t = ![0, 0] ∧ win0_3.index t = ![0, 0] := by
  decide +kernel

theorem host_c (c : Dev nD) (j : Fin 256) (q : Fin 128) : (V m c main_c : IVec S256x128 32) (ix2 j q) = BitVec.ofNat 32 (SmallBucket.bucketOf (q.val + 128 - j.val)) := by
  rw [← table_at]
  unfold_abbrev_sides
  simp only [List.flatten_cons, List.flatten_nil, List.append_nil, List.cons_append, List.nil_append, StableHlo.after_cons, StableHlo.after_nil]
  after_results_simp

theorem blk0 (c : Dev nD) (t : Fin cfg0.N) (h : Fin 8) (j : Fin 256) (q : Fin 128) : iblk m c 0 t (ix3 h j q) = Ab m c (ix3 h j q) := by
  pointwise [iblk, V, Ab]
  blk_point [idx_val t]

theorem blk1 (c : Dev nD) (t : Fin cfg0.N) (h : Fin 8) (z : Fin 8) (q : Fin 128) : iblk m c 1 t (ix3 h z q) = As m c (ix3 h z q) := by
  pointwise [iblk, V, As]
  blk_point [idx_val t]

theorem blk2 (c : Dev nD) (t : Fin cfg0.N) (j : Fin 256) (q : Fin 128) :
    (iblk m c 2 t : IVec S256x128 32) (ix2 j q) = BitVec.ofNat 32 (SmallBucket.bucketOf (q.val + 128 - j.val)) := by
  refine Eq.trans ?_ (host_c m c j q)
  pointwise [iblk]
  generalize V m c main_c = x
  blk_point [idx_val t]

theorem ix_eta (y : S40x128.Idx) : y = ix2 (y 0) (y 1) :=
  (ValueIdx.eq_ix2 y).trans (ix2_eq_valueIdx (n0 := 40) (n1 := 128) _ _).symm

/-- One piece that covers the array. -/
theorem canon_whole (p : Vec Ideal S40x128 .f32) : (View.canon [⟨r0_17, p⟩] : Vec Ideal S40x128 .f32) = p := by
  funext y
  frame_out

theorem emb3 (t : Fin cfg0.N) (y : S40x128.Idx) (X : S40x128.Idx → EReal) : X (((cfg0.win 3).blk t).view.emb y) = X y := by
  blk_point [idx_val t]

theorem column_congr (x0 x0' : Vec Ideal S8x256x128 .f32) (x1 x1' : Vec Ideal S8x8x128 .f32) (h0 : ∀ h j q, x0 (ix3 h j q) = x0' (ix3 h j q))
    (h1 : ∀ h z q, x1 (ix3 h z q) = x1' (ix3 h z q)) (k : ℕ) (r : Fin 40) (c : Fin 128) : upTo x0 x1 k r c = upTo x0' x1' k r c := by
  simp only [upTo, column, h0, h1]

theorem final (c : Dev nD) : (dats m 0 c).arrAt 3 (cfgs 0).N = fun i => upTo (Ab m c) (As m c) 8 (i 0) (i 1) := by
  refine (dats m 0 c).arrAt_eq_of_covers 3 _ (by decide +kernel) fun t hf y => ?_
  refine Eq.trans ?_ (emb3 t y (fun i => upTo (Ab m c) (As m c) 8 (i 0) (i 1))).symm
  have e := (pack_at (iblk m c 0 t) (iblk m c 1 t) (View.ld (iblk m c 2 t) r0_0) (fun j q => (by pointwise []; exact blk2 m c t j q)) (y 0) (y 1)).trans
    (column_congr _ _ _ _ (blk0 m c t) (blk1 m c t) 8 (y 0) (y 1))
  have e := (congrArg _ (ix_eta y)).trans e
  blk_simp
  rw [after0_3, out_eq, canon_whole]
  generalize pack (iblk m c 0 t) (iblk m c 1 t) (View.ld (iblk m c 2 t) r0_0) = p at e ⊢
  exact e

/-- The reference computes the same array. -/
theorem ref_packed (x2 : FVec Ideal S8x256x128 .f32) (x3 : FVec Ideal S8x8x128 .f32) :
    SmallReferenceIdeal.Read.val_main_v47 (F := Ideal) x2 x3 = fun i => upTo x2 x3 8 (i 0) (i 1) := by
  funext i
  exact (congrArg _ (ix_eta i)).trans (ref_at x2 x3 (i 0) (i 1))
end

end Cert.SmallKernelIdeal.ValueSmall

end
-- ==== Proof.ClaimSmall.lean ====
/- The claims about the call that packs the small gradients: its frames and its value. -/
module

public import proofs.«01_k».proof.Defs
public import proofs.«01_k».proof.Proof.ValueSmall
public import proofs.«01_k».proof.Proof.Gen.SmallKernel.Frame
public import proofs.«01_k».proof.Proof.Gen.SmallReferenceIdeal.Run
public import Idealize.ShloMosaic.Lib.Claim

@[expose] public section

set_option maxRecDepth 16384

noncomputable section

namespace Cert.ClaimSmall

open Idealize.ShloMosaic Idealize.SL.Sem Cert.SmallKernelIdeal.ValueSmall

theorem frame_kernel : Cert.quiescent_SmallKernel := fun m ρ _ => Cert.SmallKernel.Gen.frame m ρ

theorem frame_ideal : Cert.quiescent_SmallKernelIdeal := fun m ρ _ => Cert.SmallKernelIdeal.Gen.frame m ρ

theorem frame_reference : Cert.quiescent_SmallReferenceIdeal := fun m ρ _ =>
  (θ_run Cert.SmallReferenceIdeal.defs _ _).mono (fun r h => ⟨fun c => (h c).2, sem_eq_zero_of_no_sems (by decide) r.2⟩)
    (Cert.SmallReferenceIdeal.Value.run m ρ)

theorem algebraic : Cert.algebraic_SmallKernelIdeal_SmallReferenceIdeal := by
  pair_intro
  · run_from Cert.SmallKernelIdeal.Value.run_blocks m g
  · run_from Cert.SmallReferenceIdeal.Value.run m' g'
    obtain ⟨e0, e1, e2, e3⟩ := hagree c
    rw [Cert.SmallReferenceIdeal.Read.val_main_v47_eq]
    simp only [e2, e3]
    exact (ref_packed _ _).trans (final m c).symm

end Cert.ClaimSmall

end
-- ==== Proof.ValueJoin.lean ====
/- The value of the forward call of the attentions' outputs: the two RMS norms joined, their product with the output weights added to the
   residual, and the layer norm of the sum. -/
module

public import proofs.«01_k».proof.Proof.Gen.JoinKernelIdeal.Value
public import proofs.«01_k».proof.Proof.Gen.JoinReferenceIdeal.Read
public import proofs.«01_k».proof.Proof.Rms
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.JoinKernelIdeal.ValueJoin

open Cert.JoinKernelIdeal Cert.JoinKernelIdeal.Gen Cert.Rms Cert.Norm

/-! ## The results, one element at a time, over the arguments -/

/-- Row `y` of an attention's output. -/
abbrev row (x : FVec Ideal S8192x512 .f32) (y : Fin 8192) (k : Fin 512) : EReal := x (ix2 y k)

/-- A row of the left and of the right half of the output weights. -/
abbrev lo (k : Fin 512) : Fin 1024 := ⟨k.val, by omega⟩
abbrev hi (k : Fin 512) : Fin 1024 := ⟨512 + k.val, by omega⟩

section
variable (a b : FVec Ideal S8192x512 .f32) (ga gb : FVec Ideal S1x512 .f32) (w : FVec Ideal S1x1024x1024 .f32)
  (h : FVec Ideal S8192x1024 .f32) (g1 b1 : FVec Ideal S1x1024 .f32)

/-- An element of an RMS norm. -/
abbrev nrm (x : FVec Ideal S8192x512 .f32) (g : FVec Ideal S1x512 .f32) (y : Fin 8192) (k : Fin 512) : EReal :=
  row x y k * rr (row x y) * g (ix2 0 k)

/-- The joined norms. -/
def mrg (y : Fin 8192) (k : Fin 1024) : EReal :=
  if h : k.val < 512 then nrm a ga y ⟨k.val, h⟩ else nrm b gb y ⟨k.val - 512, by omega⟩

/-- The residual plus the product with the output weights: the product as one sum, and as the kernel's two. -/
def pre (y : Fin 8192) (x : Fin 1024) : EReal :=
  Ideal.ofBits .f32 0x3F9837F0#32 * h (ix2 y x) + ∑ k : Fin 1024, mrg a b ga gb y k * w (ix3 0 k x)
def pre2 (y : Fin 8192) (x : Fin 1024) : EReal :=
  Ideal.ofBits .f32 0x3F9837F0#32 * h (ix2 y x)
    + (∑ k : Fin 512, nrm a ga y k * w (ix3 0 (lo k) x) + ∑ k : Fin 512, nrm b gb y k * w (ix3 0 (hi k) x))

theorem mrg_lo (y : Fin 8192) (k : Fin 512) : mrg a b ga gb y (lo k) = nrm a ga y k := dif_pos k.isLt

theorem mrg_hi (y : Fin 8192) (k : Fin 512) : mrg a b ga gb y (hi k) = nrm b gb y k := by
  have h : (hi k).val - 512 = k.val := Nat.add_sub_cancel_left ..
  refine (dif_neg (by simp)).trans ?_
  exact congrArg (nrm b gb y) (Fin.ext h)

theorem pre_eq (y : Fin 8192) (x : Fin 1024) : pre a b ga gb w h y x = pre2 a b ga gb w h y x := by
  refine congrArg (_ + ·) ((Fin.sum_univ_add (a := 512) (b := 512) fun k : Fin 1024 => mrg a b ga gb y k * w (ix3 0 k x)).trans ?_)
  exact congrArg₂ (· + ·) (Finset.sum_congr rfl fun k _ => congrArg (· * _) (mrg_lo a b ga gb y k))
    (Finset.sum_congr rfl fun k _ => congrArg (· * _) (mrg_hi a b ga gb y k))

/-- The three results. -/
def outPre (i : S8192x1024.Idx) : EReal := pre2 a b ga gb w h (i 0) (i 1)
def outMrg (i : S8192x1024.Idx) : EReal := mrg a b ga gb (i 0) (i 1)
def outNorm (i : S8192x1024.Idx) : EReal := hat (pre2 a b ga gb w h (i 0)) (i 1) * g1 (ix2 0 (i 1)) + b1 (ix2 0 (i 1))
end

/-! ## The reference -/

section
open Cert.JoinReferenceIdeal.Read

variable (a b : FVec Ideal S8192x512 .f32) (ga gb : FVec Ideal S1x512 .f32) (w : FVec Ideal S1x1024x1024 .f32)
  (h : FVec Ideal S8192x1024 .f32) (g1 b1 : FVec Ideal S1x1024 .f32)

theorem ref_ra (y : Fin 8192) : val_main_v8 (F := Ideal) a (ix2 y 0) = rr (row a y) := by
  pointwise [val_main_v8, val_main_v7, val_main_v6, val_main_v5, val_main_v4, val_main_v3, val_main_v2, val_main_v1, val_main_cst,
    val_main_cst_0, val_main_cst_1, rr, ms, row]

theorem ref_rb (y : Fin 8192) : val_main_v22 (F := Ideal) b (ix2 y 0) = rr (row b y) := ref_ra b y

theorem ref_mrg (y : Fin 8192) (k : Fin 1024) : val_main_v28 (F := Ideal) a b ga gb (ix2 y k) = mrg a b ga gb y k := by
  pointwise [val_main_v28, val_main_v27, val_main_v26, val_main_v25, val_main_v24, val_main_v23, val_main_v14, val_main_v13, val_main_v12,
    val_main_v11, val_main_v10, val_main_v9, val_main_v0, ref_ra, ref_rb, mrg, nrm, row]

theorem ref_pre (y : Fin 8192) (x : Fin 1024) : val_main_v33 (F := Ideal) a b ga gb w h (ix2 y x) = pre2 a b ga gb w h y x := by
  refine Eq.trans ?_ (pre_eq a b ga gb w h y x)
  pointwise [val_main_v33, val_main_v32, val_main_v31, val_main_v30, val_main_v29, val_main_cst_5, ref_mrg, pre]

theorem ref_out_pre : val_main_v33 (F := Ideal) a b ga gb w h = outPre a b ga gb w h := by
  funext i
  refine Eq.trans (congrArg _ ?_) (ref_pre a b ga gb w h (i 0) (i 1))
  funext k
  fin_cases k <;> rfl

theorem ref_out_mrg : val_main_v34 (F := Ideal) a b ga gb = outMrg a b ga gb := by
  funext i
  refine Eq.trans (congrArg _ ?_) (ref_mrg a b ga gb (i 0) (i 1))
  funext k
  fin_cases k <;> rfl

theorem ref_mean (y : Fin 8192) : val_main_v40 (F := Ideal) a b ga gb w h (ix2 y 0) = mean (pre2 a b ga gb w h y) := by
  pointwise [val_main_v40, val_main_v39, val_main_v38, val_main_v37, val_main_cst_6, val_main_cst_7, ref_pre, mean]

theorem ref_var (y : Fin 8192) : val_main_v51 (F := Ideal) a b ga gb w h (ix2 y 0) = vare (pre2 a b ga gb w h y) := by
  pointwise [val_main_v51, val_main_v50, val_main_v47, val_main_v46, val_main_v45, val_main_v44, val_main_v43, val_main_v42, val_main_v41,
    val_main_cst_8, val_main_cst_9, val_main_cst_10, ref_pre, ref_mean, vare, dev]

theorem ref_norm (y : Fin 8192) (x : Fin 1024) :
    val_main_v61 (F := Ideal) a b ga gb w h g1 b1 (ix2 y x) = outNorm a b ga gb w h g1 b1 (ix2 y x) := by
  pointwise [val_main_v61, val_main_v60, val_main_v59, val_main_v58, val_main_v57, val_main_v56, val_main_v55, val_main_v54, val_main_v53,
    val_main_v52, val_main_v49, val_main_v48, val_main_v36, val_main_v35, ref_pre, ref_mean, ref_var, outNorm, hat, dev, rstd]

theorem ref_out_norm : val_main_v61 (F := Ideal) a b ga gb w h g1 b1 = outNorm a b ga gb w h g1 b1 := by
  funext i
  refine Eq.trans (congrArg _ ?_) (ref_norm a b ga gb w h g1 b1 (i 0) (i 1))
  funext k
  fin_cases k <;> rfl
end

/-! ## The kernel -/

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![0, 0]
    ∧ win0_7.index t = ![0, 0]
    ∧ win0_8.index t = ![t.val, 0]
    ∧ win0_9.index t = ![t.val, 0]
    ∧ win0_10.index t = ![t.val, 0] :=
  (by decide +kernel : ∀ t : Fin grid0.N, _)

abbrev A (c : Dev nD) := m ((c : Thread nD τ).loc main_arg0)
abbrev B (c : Dev nD) := m ((c : Thread nD τ).loc main_arg1)
abbrev Ga (c : Dev nD) := m ((c : Thread nD τ).loc main_arg2)
abbrev Gb (c : Dev nD) := m ((c : Thread nD τ).loc main_arg3)
abbrev W (c : Dev nD) := m ((c : Thread nD τ).loc main_arg4)
abbrev H (c : Dev nD) := m ((c : Thread nD τ).loc main_arg5)
abbrev G1 (c : Dev nD) := m ((c : Thread nD τ).loc main_arg6)
abbrev B1 (c : Dev nD) := m ((c : Thread nD τ).loc main_arg7)

/-- The output weights reach the kernel as they are. -/
theorem host_w (c : Dev nD) (d : Fin 1024) (x : Fin 1024) : V m c main_v1 (ix2 d x) = W m c (ix3 0 d x) := by
  unfold_abbrev_sides
  simp only [List.flatten_cons, List.flatten_nil, List.append_nil, List.cons_append, List.nil_append, StableHlo.after_cons,
    StableHlo.after_nil]
  after_results_simp
  pointwise

theorem row_lt (t : Fin cfg0.N) (r : Fin 512) : t.val * 512 + r.val < 8192 := by
  have : t.val < 16 := t.isLt
  omega

/-- Row `r` of point `t`. -/
abbrev at_ (t : Fin cfg0.N) (r : Fin 512) : Fin 8192 := ⟨t.val * 512 + r.val, row_lt t r⟩

theorem blk0 (c : Dev nD) (t : Fin cfg0.N) (r : Fin 512) (k : Fin 512) : iblk m c 0 t (ix2 r k) = A m c (ix2 (at_ t r) k) := by
  pointwise [iblk, V, A]
  blk_point [idx_val t]

theorem blk1 (c : Dev nD) (t : Fin cfg0.N) (r : Fin 512) (k : Fin 512) : iblk m c 1 t (ix2 r k) = B m c (ix2 (at_ t r) k) := by
  pointwise [iblk, V, B]
  blk_point [idx_val t]

theorem blk2 (c : Dev nD) (t : Fin cfg0.N) (k : Fin 512) : iblk m c 2 t (ix2 0 k) = Ga m c (ix2 0 k) := by
  pointwise [iblk, V, Ga]
  blk_point [idx_val t]

theorem blk3 (c : Dev nD) (t : Fin cfg0.N) (k : Fin 512) : iblk m c 3 t (ix2 0 k) = Gb m c (ix2 0 k) := by
  pointwise [iblk, V, Gb]
  blk_point [idx_val t]

theorem blk4 (c : Dev nD) (t : Fin cfg0.N) (d : Fin 1024) (x : Fin 1024) : iblk m c 4 t (ix2 d x) = W m c (ix3 0 d x) := by
  refine Eq.trans ?_ (host_w m c _ _)
  pointwise [iblk]
  generalize V m c main_v1 = x
  blk_point [idx_val t]

theorem blk5 (c : Dev nD) (t : Fin cfg0.N) (r : Fin 512) (x : Fin 1024) : iblk m c 5 t (ix2 r x) = H m c (ix2 (at_ t r) x) := by
  pointwise [iblk, V, H]
  blk_point [idx_val t]

theorem blk6 (c : Dev nD) (t : Fin cfg0.N) (x : Fin 1024) : iblk m c 6 t (ix2 0 x) = G1 m c (ix2 0 x) := by
  pointwise [iblk, V, G1]
  blk_point [idx_val t]

theorem blk7 (c : Dev nD) (t : Fin cfg0.N) (x : Fin 1024) : iblk m c 7 t (ix2 0 x) = B1 m c (ix2 0 x) := by
  pointwise [iblk, V, B1]
  blk_point [idx_val t]

/-! ### One point's arithmetic over its blocks -/

section
variable (x : Vec Ideal S512x512 .f32) (g : Vec Ideal S1x512 .f32) (w : Vec Ideal S512x1024 .bf16) (r : Fin 512)

theorem pay_na (k : Fin 512) : k0_pay3 x g (ix2 r k) = x (ix2 r k) * rr (fun k => x (ix2 r k)) * g (ix2 0 k) := by
  pointwise [k0_pay3, rr, ms]

theorem pay_nb (k : Fin 512) : k0_pay4 x g (ix2 r k) = x (ix2 r k) * rr (fun k => x (ix2 r k)) * g (ix2 0 k) := by
  pointwise [k0_pay4, rr, ms]

theorem pay_dot (j : Fin 1024) : k0_pay5 x g w (ix2 r j) = ∑ k : Fin 512, k0_pay3 x g (ix2 r k) * w (ix2 k j) := by
  unfold k0_pay5
  generalize k0_pay3 x g = N
  pointwise

theorem pay_pre (N : FVec Ideal S512x512 .bf16) (p h : FVec Ideal S512x1024 .f32) (j : Fin 1024) :
    k0_pay1 N p w h (ix2 r j)
      = Ideal.ofBits .f32 0x3F9837F0#32 * h (ix2 r j) + (p (ix2 r j) + ∑ k : Fin 512, N (ix2 r k) * w (ix2 k j)) := by
  pointwise [k0_pay1]

theorem pay_norm (N : FVec Ideal S512x512 .bf16) (p h : FVec Ideal S512x1024 .f32) (u v : Vec Ideal S1x1024 .f32) (j : Fin 1024) :
    k0_pay2 N p w h u v (ix2 r j) = hat (fun k => k0_pay1 N p w h (ix2 r k)) j * u (ix2 0 j) + v (ix2 0 j) := by
  unfold k0_pay2
  generalize k0_pay1 N p w h = P
  pointwise [hat, dev, rstd, vare, mean]

/-- The halves of the output weights a point loads. -/
theorem ld_lo (w : Vec Ideal S1024x1024 .bf16) (k : Fin 512) (j : Fin 1024) : View.ld w r0_4 (ix2 k j) = w (ix2 (lo k) j) := by
  pointwise [r0_4, lo]
theorem ld_hi (w : Vec Ideal S1024x1024 .bf16) (k : Fin 512) (j : Fin 1024) : View.ld w r0_5 (ix2 k j) = w (ix2 (hi k) j) := by
  pointwise [r0_5, hi]
end

section
variable (c : Dev nD) (t : Fin cfg0.N) (r : Fin 512)

theorem point_na (k : Fin 512) : k0_pay3 (iblk m c 0 t) (iblk m c 2 t) (ix2 r k) = nrm (A m c) (Ga m c) (at_ t r) k := by
  refine (pay_na _ _ r k).trans ?_
  simp only [blk0, blk2]

theorem point_nb (k : Fin 512) : k0_pay4 (iblk m c 1 t) (iblk m c 3 t) (ix2 r k) = nrm (B m c) (Gb m c) (at_ t r) k := by
  refine (pay_nb _ _ r k).trans ?_
  simp only [blk1, blk3]

theorem point_pre (j : Fin 1024) :
    k0_pay1 (k0_pay4 (iblk m c 1 t) (iblk m c 3 t)) (k0_pay5 (iblk m c 0 t) (iblk m c 2 t) (View.ld (iblk m c 4 t) r0_4))
        (View.ld (iblk m c 4 t) r0_5) (iblk m c 5 t) (ix2 r j)
      = pre2 (A m c) (B m c) (Ga m c) (Gb m c) (W m c) (H m c) (at_ t r) j := by
  refine (pay_pre _ r _ _ _ j).trans ?_
  refine congrArg₂ (· + ·) (congrArg (_ * ·) (blk5 m c t r j)) (congrArg₂ (· + ·) ((pay_dot _ _ _ r j).trans ?_) ?_)
  · exact Finset.sum_congr rfl fun k _ => congrArg₂ (· * ·) (point_na m c t r k) ((ld_lo _ k j).trans (blk4 m c t _ j))
  · exact Finset.sum_congr rfl fun k _ => congrArg₂ (· * ·) (point_nb m c t r k) ((ld_hi _ k j).trans (blk4 m c t _ j))

theorem point_norm (j : Fin 1024) :
    k0_pay2 (k0_pay4 (iblk m c 1 t) (iblk m c 3 t)) (k0_pay5 (iblk m c 0 t) (iblk m c 2 t) (View.ld (iblk m c 4 t) r0_4))
        (View.ld (iblk m c 4 t) r0_5) (iblk m c 5 t) (iblk m c 6 t) (iblk m c 7 t) (ix2 r j)
      = outNorm (A m c) (B m c) (Ga m c) (Gb m c) (W m c) (H m c) (G1 m c) (B1 m c) (ix2 (at_ t r) j) := by
  refine (pay_norm _ r _ _ _ _ _ j).trans ?_
  simp only [point_pre, blk6, blk7]
  rfl
end

theorem eta (y : S512x1024.Idx) : y = ix2 (y 0) (y 1) := by
  funext a
  fin_cases a <;> rfl

/-- Where a block's element lies in its array. -/
theorem emb8 (t : Fin cfg0.N) (y : S512x1024.Idx) (X : S8192x1024.Idx → EReal) :
    X (((cfg0.win 8).blk t).view.emb y) = X (ix2 (at_ t (y 0)) (y 1)) := by
  blk_point [idx_val t]

theorem emb9 (t : Fin cfg0.N) (y : S512x1024.Idx) (X : S8192x1024.Idx → EReal) :
    X (((cfg0.win 9).blk t).view.emb y) = X (ix2 (at_ t (y 0)) (y 1)) := by
  blk_point [idx_val t]

theorem emb10 (t : Fin cfg0.N) (y : S512x1024.Idx) (X : S8192x1024.Idx → EReal) :
    X (((cfg0.win 10).blk t).view.emb y) = X (ix2 (at_ t (y 0)) (y 1)) := by
  blk_point [idx_val t]

theorem hz : (![0, 0] : Fin 2 → ℕ) = fun _ => 0 := by
  funext a
  fin_cases a <;> rfl

theorem ld0 (x : Vec Ideal S512x512 .f32) : View.ld x r0_0 = x := View.ld_unit_zero hz _ _
theorem ld1 (x : Vec Ideal S1x512 .f32) : View.ld x r0_1 = x := View.ld_unit_zero hz _ _
theorem ld6 (x : Vec Ideal S512x1024 .f32) : View.ld x r0_6 = x := View.ld_unit_zero hz _ _
theorem ld7 (x : Vec Ideal S1x1024 .f32) : View.ld x r0_7 = x := View.ld_unit_zero hz _ _

theorem ix_of (x : S512x512.Idx) (r k : Fin 512) (hr : r.val = (x 0).val) (hk : k.val = (x 1).val) : x = ix2 r k := by
  funext a
  fin_cases a
  · exact Fin.ext hr.symm
  · exact Fin.ext hk.symm

/-! ### What a point leaves in its three output blocks -/

section
variable (x0 x1 : Vec Ideal S512x512 .f32) (x2 x3 : Vec Ideal S1x512 .f32) (x4 : Vec Ideal S1024x1024 .bf16)
  (x5 : Vec Ideal S512x1024 .f32) (x6 x7 : Vec Ideal S1x1024 .f32)

theorem out8_eq : out0_8 x0 x1 x2 x3 x4 x5 x6 x7
    = k0_pay1 (k0_pay4 x1 x3) (k0_pay5 x0 x2 (View.ld x4 r0_4)) (View.ld x4 r0_5) x5 := by
  unfold out0_8 k0_pay6 k0_pay7
  rw [View.canon_unit_zero hz]
  simp only [ld0, ld1, ld6, ld7]

theorem out10_eq : out0_10 x0 x1 x2 x3 x4 x5 x6 x7
    = k0_pay2 (k0_pay4 x1 x3) (k0_pay5 x0 x2 (View.ld x4 r0_4)) (View.ld x4 r0_5) x5 x6 x7 := by
  unfold out0_10 k0_pay6 k0_pay7
  rw [View.canon_unit_zero hz]
  simp only [ld0, ld1, ld6, ld7]

theorem out9_at (y : S512x1024.Idx) : out0_9 x0 x1 x2 x3 x4 x5 x6 x7 y
    = if h : (y 1).val < 512 then k0_pay3 x0 x2 (ix2 (y 0) ⟨(y 1).val, h⟩)
      else k0_pay4 x1 x3 (ix2 (y 0) ⟨(y 1).val - 512, by have := (y 1).isLt; change (y 1).val < 1024 at this; omega⟩) := by
  unfold out0_9
  simp only [ld0, ld1, ld6, ld7]
  generalize k0_pay4 x1 x3 = P
  generalize k0_pay3 x0 x2 = Q
  canon_tiles x h
  · rw [dif_neg (by omega)]
    exact congrArg P (ix_of x _ _ h0 (by show (y 1).val - 512 = (x 1).val; omega))
  · rw [dif_pos (by omega)]
    exact congrArg Q (ix_of x _ _ h0 h1)
end

theorem final_pre (c : Dev nD) : (dats m 0 c).arrAt 8 (cfgs 0).N = outPre (A m c) (B m c) (Ga m c) (Gb m c) (W m c) (H m c) := by
  refine (dats m 0 c).arrAt_eq_of_covers 8 _ (by decide +kernel) fun t hf y => ?_
  refine Eq.trans ?_ (emb8 t y (outPre (A m c) (B m c) (Ga m c) (Gb m c) (W m c) (H m c))).symm
  have e := (congrArg _ (eta y)).trans (point_pre m c t (y 0) (y 1))
  blk_simp
  rw [after0_8, out8_eq]
  generalize k0_pay1 (F := Ideal) _ _ _ _ = p at e ⊢
  exact e

theorem final_norm (c : Dev nD) : (dats m 0 c).arrAt 10 (cfgs 0).N
    = outNorm (A m c) (B m c) (Ga m c) (Gb m c) (W m c) (H m c) (G1 m c) (B1 m c) := by
  refine (dats m 0 c).arrAt_eq_of_covers 10 _ (by decide +kernel) fun t hf y => ?_
  refine Eq.trans ?_ (emb10 t y (outNorm (A m c) (B m c) (Ga m c) (Gb m c) (W m c) (H m c) (G1 m c) (B1 m c))).symm
  have e := (congrArg _ (eta y)).trans (point_norm m c t (y 0) (y 1))
  blk_simp
  rw [after0_10, out10_eq]
  generalize k0_pay2 (F := Ideal) _ _ _ _ _ _ = p at e ⊢
  exact e

/-- The joined norms, stored half by half. -/
theorem final_mrg (c : Dev nD) : (dats m 0 c).arrAt 9 (cfgs 0).N = outMrg (A m c) (B m c) (Ga m c) (Gb m c) := by
  refine (dats m 0 c).arrAt_eq_of_covers 9 _ (by decide +kernel) fun t hf y => ?_
  refine Eq.trans ?_ (emb9 t y (outMrg (A m c) (B m c) (Ga m c) (Gb m c))).symm
  have e := out9_at (iblk m c 0 t) (iblk m c 1 t) (iblk m c 2 t) (iblk m c 3 t) (iblk m c 4 t) (iblk m c 5 t) (iblk m c 6 t) (iblk m c 7 t) y
  blk_simp
  rw [after0_9]
  generalize out0_9 (F := Ideal) _ _ _ _ _ _ _ _ = p at e ⊢
  refine e.trans (dite_congr rfl (fun _ => ?_) fun _ => ?_)
  · exact point_na m c t (y 0) _
  · exact point_nb m c t (y 0) _

end Cert.JoinKernelIdeal.ValueJoin

end
-- ==== Proof.ClaimJoin.lean ====
/- The claims about the forward call of the attentions' outputs: its frames and its value. -/
module

public import proofs.«01_k».proof.Defs
public import proofs.«01_k».proof.Proof.ValueJoin
public import proofs.«01_k».proof.Proof.Gen.JoinKernel.Frame
public import proofs.«01_k».proof.Proof.Gen.JoinReferenceIdeal.Run
public import Idealize.ShloMosaic.Lib.Claim

@[expose] public section

set_option maxRecDepth 16384

noncomputable section

namespace Cert.ClaimJoin

open Idealize.ShloMosaic Idealize.SL.Sem Cert.JoinKernelIdeal.ValueJoin

theorem frame_kernel : Cert.quiescent_JoinKernel := fun m ρ _ => Cert.JoinKernel.Gen.frame m ρ

theorem frame_ideal : Cert.quiescent_JoinKernelIdeal := fun m ρ _ => Cert.JoinKernelIdeal.Gen.frame m ρ

theorem frame_reference : Cert.quiescent_JoinReferenceIdeal := fun m ρ _ =>
  (θ_run Cert.JoinReferenceIdeal.defs _ _).mono (fun r h => ⟨fun c => (h c).2.2.2, sem_eq_zero_of_no_sems (by decide) r.2⟩)
    (Cert.JoinReferenceIdeal.Value.run m ρ)

theorem algebraic : Cert.algebraic_JoinKernelIdeal_JoinReferenceIdeal := by
  pair_intro
  · run_from Cert.JoinKernelIdeal.Value.run_blocks m g
  · run_from Cert.JoinReferenceIdeal.Value.run m' g'
    all_goals obtain ⟨e0, e1, e2, e3, e4, e5, e6, e7⟩ := hagree c
    · rw [Cert.JoinReferenceIdeal.Read.val_main_v33_eq]
      exact (ref_out_pre _ _ _ _ _ _).trans (final_pre m c).symm
    · rw [Cert.JoinReferenceIdeal.Read.val_main_v34_eq]
      exact (ref_out_mrg _ _ _ _).trans (final_mrg m c).symm
    · rw [Cert.JoinReferenceIdeal.Read.val_main_v61_eq]
      simp only [e0, e1, e2, e3, e4, e5, e6, e7]
      exact (ref_out_norm _ _ _ _ _ _ _ _).trans (final_norm m c).symm

end Cert.ClaimJoin

end
-- ==== Proof.ValueAct.lean ====
/- The value of the forward call of the hidden layer: the two products, the gated activation, and the two factors saved for the backward pass. -/
module

public import proofs.«01_k».proof.Proof.Gen.ActKernelIdeal.Value
public import proofs.«01_k».proof.Proof.Gen.ActReferenceIdeal.Read
public import proofs.«01_k».proof.Proof.Gate
public import proofs.«01_k».proof.Proof.Finite
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.ActKernelIdeal.ValueAct

open Cert.ActKernelIdeal Cert.ActKernelIdeal.Gen Cert.Gate

/-! ## The results, one element at a time, over the arguments -/

/-- A column of the left and of the right half of the weights. -/
abbrev lo (k : Fin 2816) : Fin 5632 := ⟨k.val, by omega⟩
abbrev hi (k : Fin 2816) : Fin 5632 := ⟨2816 + k.val, by omega⟩

section
variable (h : FVec Ideal S8192x1024 .f32) (w : FVec Ideal S1x1024x5632 .f32)

/-- The two products. -/
def gate (y : Fin 8192) (k : Fin 2816) : EReal := ∑ x : Fin 1024, h (ix2 y x) * w (ix3 0 x (lo k))
def up (y : Fin 8192) (k : Fin 2816) : EReal := ∑ x : Fin 1024, h (ix2 y x) * w (ix3 0 x (hi k))

/-- The activation, and the two factors saved. -/
def outAct (i : S8192x2816.Idx) : EReal := gate h w (i 0) (i 1) * sg (gate h w (i 0) (i 1)) * up h w (i 0) (i 1)
def outSilu (i : S8192x2816.Idx) : EReal := gate h w (i 0) (i 1) * sg (gate h w (i 0) (i 1))
def outSlope (i : S8192x2816.Idx) : EReal :=
  up h w (i 0) (i 1) * (sg (gate h w (i 0) (i 1)) * (1 + gate h w (i 0) (i 1) * (1 - sg (gate h w (i 0) (i 1)))))
end

/-! ## The reference -/

section
open Cert.ActReferenceIdeal.Read

variable (h : FVec Ideal S8192x1024 .f32) (w : FVec Ideal S1x1024x5632 .f32)

theorem ref_gate (y : Fin 8192) (k : Fin 2816) : val_main_v2 (F := Ideal) h w (ix2 y k) = gate h w y k := by
  pointwise [val_main_v2, val_main_v1, val_main_v0, gate, lo]

theorem ref_up (y : Fin 8192) (k : Fin 2816) : val_main_v3 (F := Ideal) h w (ix2 y k) = up h w y k := by
  pointwise [val_main_v3, val_main_v1, val_main_v0, up, hi]

theorem ref_sg (y : Fin 8192) (k : Fin 2816) : val_main_v4_2 (F := Ideal) h w (ix2 y k) = sg (gate h w y k) := by
  pointwise [val_main_v4_2, val_main_call0_v4, val_main_call0_v3, val_main_call0_v2, val_main_call0_v1, val_main_call0_v0, val_main_call0_cst,
    val_main_call0_cst_0, ref_gate, sg]

theorem ref_sg' (y : Fin 8192) (k : Fin 2816) : val_main_call1_v5 (F := Ideal) h w (ix2 y k) = sg (gate h w y k) := ref_sg h w y k

theorem ref_act (y : Fin 8192) (k : Fin 2816) : val_main_v6 (F := Ideal) h w (ix2 y k) = outAct h w (ix2 y k) := by
  pointwise [val_main_v6, val_main_v5, val_main_v4_0, ref_gate, ref_up, ref_sg, outAct]

theorem ref_silu (y : Fin 8192) (k : Fin 2816) : val_main_v8 (F := Ideal) h w (ix2 y k) = outSilu h w (ix2 y k) := by
  pointwise [val_main_v8, val_main_v7, ref_gate, ref_sg', outSilu]

/-- The saved slope is the derivative of the activation where `up` is a real. -/
theorem ref_slope (hu : ∀ y k, ∃ r : ℝ, up h w y k = (r : EReal)) (y : Fin 8192) (k : Fin 2816) :
    val_main_v12 (F := Ideal) h w (ix2 y k) = outSlope h w (ix2 y k) := by
  pointwise [val_main_v12, val_main_v11, val_main_call2_v0, val_main_call2_v1, val_main_call2_v2, val_main_v10, val_main_v9, val_main_cst,
    val_main_v4_1, val_main_call0_v7, val_main_call0_v6, val_main_call0_cst_1, ref_gate, ref_up, ref_sg, outSlope]
  obtain ⟨r, hr⟩ := hu y k
  have e := dsilu (gate h w y k) 1 r
  rw [← hr] at e
  simpa only [EReal.coe_one, one_mul] using e

theorem up_real (hh : ∀ i, ∃ r : ℝ, h i = (r : EReal)) (hw : ∀ i, ∃ r : ℝ, w i = (r : EReal)) (y : Fin 8192) (k : Fin 2816) :
    ∃ r : ℝ, up h w y k = (r : EReal) :=
  Finite.sum fun _ => Finite.mul (hh _) (hw _)

theorem eta_out (i : S8192x2816.Idx) : i = ix2 (i 0) (i 1) := by
  funext k
  fin_cases k <;> rfl

theorem ref_out_act : val_main_v6 (F := Ideal) h w = outAct h w :=
  funext fun i => (congrArg _ (eta_out i)).trans ((ref_act h w (i 0) (i 1)).trans (congrArg _ (eta_out i)).symm)

theorem ref_out_silu : val_main_v8 (F := Ideal) h w = outSilu h w :=
  funext fun i => (congrArg _ (eta_out i)).trans ((ref_silu h w (i 0) (i 1)).trans (congrArg _ (eta_out i)).symm)

theorem ref_out_slope (hu : ∀ y k, ∃ r : ℝ, up h w y k = (r : EReal)) : val_main_v12 (F := Ideal) h w = outSlope h w :=
  funext fun i => (congrArg _ (eta_out i)).trans ((ref_slope h w hu (i 0) (i 1)).trans (congrArg _ (eta_out i)).symm)
end

/-! ## The kernel -/

variable (m : (ℓ : Loc nD τ sig) → Buf (Elt Ideal) ℓ)

/-- Every window's block index at every grid point. -/
theorem idx_val : ∀ t : Fin cfg0.N, win0_0.index t = ![t.val % 8, 0]
    ∧ win0_1.index t = ![t.val / 8, 0, 0]
    ∧ win0_2.index t = ![t.val / 8 + 2, 0, 0]
    ∧ win0_3.index t = ![t.val % 8, t.val / 8]
    ∧ win0_4.index t = ![t.val % 8, t.val / 8]
    ∧ win0_5.index t = ![t.val % 8, t.val / 8] :=
  (by decide +kernel : ∀ t : Fin grid0.N, _)

abbrev H (c : Dev nD) := m ((c : Thread nD τ).loc main_arg0)
abbrev W (c : Dev nD) := m ((c : Thread nD τ).loc main_arg1)

/-- The rows reach the kernel as they are. -/
theorem host_h (c : Dev nD) (y : Fin 8192) (x : Fin 1024) : V m c main_v14 (ix2 y x) = H m c (ix2 y x) := by
  unfold_abbrev_sides
  simp only [List.flatten_cons, List.flatten_nil, List.append_nil, List.cons_append, List.nil_append, StableHlo.after_cons,
    StableHlo.after_nil]
  after_results_simp
  pointwise

/-- The stacked weights hold the columns of `w_gate_up`, a quarter in each layer. -/
theorem stacked (c : Dev nD) (d : Fin 1024) (k : Fin 1408) :
    V m c main_v13 (ix3 0 d k) = W m c (ix3 0 d ⟨k.val, by omega⟩)
    ∧ V m c main_v13 (ix3 1 d k) = W m c (ix3 0 d ⟨1408 + k.val, by omega⟩)
    ∧ V m c main_v13 (ix3 2 d k) = W m c (ix3 0 d ⟨2816 + k.val, by omega⟩)
    ∧ V m c main_v13 (ix3 3 d k) = W m c (ix3 0 d ⟨4224 + k.val, by omega⟩) := by
  refine ⟨?_, ?_, ?_, ?_⟩ <;>
  · unfold_abbrev_sides
    simp only [List.flatten_cons, List.flatten_nil, List.append_nil, List.cons_append, List.nil_append, StableHlo.after_cons,
      StableHlo.after_nil]
    after_results_simp
    pointwise
    after_results_simp
    pointwise

theorem layer_lt (q : Fin 4) (k : Fin 1408) : q.val * 1408 + k.val < 5632 := by omega

theorem stacked_at (c : Dev nD) (q : Fin 4) (d : Fin 1024) (k : Fin 1408) :
    V m c main_v13 (ix3 q d k) = W m c (ix3 0 d ⟨q.val * 1408 + k.val, layer_lt q k⟩) := by
  obtain ⟨h0, h1, h2, h3⟩ := stacked m c d k
  match q with
  | 0 => exact h0.trans (congrArg (fun z => W m c (ix3 0 d z)) (Fin.ext (by show k.val = 0 * 1408 + k.val; omega)))
  | 1 => exact h1.trans (congrArg (fun z => W m c (ix3 0 d z)) (Fin.ext (by show 1408 + k.val = 1 * 1408 + k.val; omega)))
  | 2 => exact h2.trans (congrArg (fun z => W m c (ix3 0 d z)) (Fin.ext (by show 2816 + k.val = 2 * 1408 + k.val; omega)))
  | 3 => exact h3.trans (congrArg (fun z => W m c (ix3 0 d z)) (Fin.ext (by show 4224 + k.val = 3 * 1408 + k.val; omega)))

theorem row_lt (t : Fin cfg0.N) (r : Fin 1024) : t.val % 8 * 1024 + r.val < 8192 := by omega

theorem half_lt (t : Fin cfg0.N) : t.val / 8 < 2 := by
  have : t.val < 16 := t.isLt
  omega

theorem col_lt (t : Fin cfg0.N) (k : Fin 1408) : t.val / 8 * 1408 + k.val < 2816 := by
  have := half_lt t
  omega

/-- Row `r` and column `k` of point `t`. -/
abbrev at_ (t : Fin cfg0.N) (r : Fin 1024) : Fin 8192 := ⟨t.val % 8 * 1024 + r.val, row_lt t r⟩
abbrev col (t : Fin cfg0.N) (k : Fin 1408) : Fin 2816 := ⟨t.val / 8 * 1408 + k.val, col_lt t k⟩

theorem blk0 (c : Dev nD) (t : Fin cfg0.N) (r : Fin 1024) (x : Fin 1024) : iblk m c 0 t (ix2 r x) = H m c (ix2 (at_ t r) x) := by
  refine Eq.trans ?_ (host_h m c _ _)
  pointwise [iblk]
  generalize V m c main_v14 = x
  blk_point [idx_val t]

theorem blk1 (c : Dev nD) (t : Fin cfg0.N) (x : Fin 1024) (k : Fin 1408) :
    iblk m c 1 t (ix3 0 x k) = W m c (ix3 0 x (lo (col t k))) := by
  have := half_lt t
  refine Eq.trans ?_ (stacked_at m c ⟨t.val / 8, by omega⟩ x k)
  pointwise [iblk]
  generalize V m c main_v13 = x
  blk_point [idx_val t]

theorem blk2 (c : Dev nD) (t : Fin cfg0.N) (x : Fin 1024) (k : Fin 1408) :
    iblk m c 2 t (ix3 0 x k) = W m c (ix3 0 x (hi (col t k))) := by
  have := half_lt t
  refine Eq.trans (Eq.trans ?_ (stacked_at m c ⟨t.val / 8 + 2, by omega⟩ x k))
    (congrArg (fun z => W m c (ix3 0 x z)) (Fin.ext (by show (t.val / 8 + 2) * 1408 + k.val = 2816 + (t.val / 8 * 1408 + k.val); omega)))
  pointwise [iblk]
  generalize V m c main_v13 = x
  blk_point [idx_val t]

/-! ### One point's arithmetic over its blocks -/

section
variable (x : Vec Ideal S1024x1024 .bf16) (w u : Vec Ideal S1x1024x1408 .bf16) (r : Fin 1024) (k : Fin 1408)

theorem pay_gate : k0_pay2 x w (ix2 r k) = ∑ j : Fin 1024, x (ix2 r j) * w (ix3 0 j k) := by
  pointwise [k0_pay2, k0_pay1]

theorem pay_up : k0_pay3 x w (ix2 r k) = ∑ j : Fin 1024, x (ix2 r j) * w (ix3 0 j k) := by
  pointwise [k0_pay3, k0_pay1]

theorem pay_act : k0_pay6 x w u (ix2 r k) = k0_pay2 x w (ix2 r k) * sg (k0_pay2 x w (ix2 r k)) * k0_pay3 x u (ix2 r k) := by
  unfold k0_pay6 k0_pay5 k0_pay4
  generalize k0_pay2 x w = G
  generalize k0_pay3 x u = U
  pointwise [sg]
  rw [zero_sub]

theorem pay_silu : k0_pay7 x w (ix2 r k) = k0_pay2 x w (ix2 r k) * sg (k0_pay2 x w (ix2 r k)) := by
  unfold k0_pay7 k0_pay5 k0_pay4
  generalize k0_pay2 x w = G
  pointwise [sg]
  rw [zero_sub]

theorem pay_slope : k0_pay8 x w u (ix2 r k) = k0_pay3 x u (ix2 r k) * (sg (k0_pay2 x w (ix2 r k))
    * (1 + k0_pay2 x w (ix2 r k) * (1 - sg (k0_pay2 x w (ix2 r k))))) := by
  unfold k0_pay8 k0_pay4
  generalize k0_pay2 x w = G
  generalize k0_pay3 x u = U
  pointwise [sg]
  rw [zero_sub]
end

section
variable (c : Dev nD) (t : Fin cfg0.N) (r : Fin 1024) (k : Fin 1408)

theorem point_gate : k0_pay2 (iblk m c 0 t) (iblk m c 1 t) (ix2 r k) = gate (H m c) (W m c) (at_ t r) (col t k) :=
  (pay_gate _ _ r k).trans (Finset.sum_congr rfl fun x _ => congrArg₂ (· * ·) (blk0 m c t r x) (blk1 m c t x k))

theorem point_up : k0_pay3 (iblk m c 0 t) (iblk m c 2 t) (ix2 r k) = up (H m c) (W m c) (at_ t r) (col t k) :=
  (pay_up _ _ r k).trans (Finset.sum_congr rfl fun x _ => congrArg₂ (· * ·) (blk0 m c t r x) (blk2 m c t x k))

theorem point_act : k0_pay6 (iblk m c 0 t) (iblk m c 1 t) (iblk m c 2 t) (ix2 r k)
    = outAct (H m c) (W m c) (ix2 (at_ t r) (col t k)) := by
  refine (pay_act _ _ _ r k).trans ?_
  rw [point_gate, point_up]
  rfl

theorem point_silu : k0_pay7 (iblk m c 0 t) (iblk m c 1 t) (ix2 r k) = outSilu (H m c) (W m c) (ix2 (at_ t r) (col t k)) := by
  refine (pay_silu _ _ r k).trans ?_
  rw [point_gate]
  rfl

theorem point_slope : k0_pay8 (iblk m c 0 t) (iblk m c 1 t) (iblk m c 2 t) (ix2 r k)
    = outSlope (H m c) (W m c) (ix2 (at_ t r) (col t k)) := by
  refine (pay_slope _ _ _ r k).trans ?_
  rw [point_gate, point_up]
  rfl
end

theorem eta (y : S1024x1408.Idx) : y = ix2 (y 0) (y 1) := by
  funext a
  fin_cases a <;> rfl

/-- Where a block's element lies in its array. -/
theorem emb3 (t : Fin cfg0.N) (y : S1024x1408.Idx) (X : S8192x2816.Idx → EReal) :
    X (((cfg0.win 3).blk t).view.emb y) = X (ix2 (at_ t (y 0)) (col t (y 1))) := by
  blk_point [idx_val t]

theorem emb4 (t : Fin cfg0.N) (y : S1024x1408.Idx) (X : S8192x2816.Idx → EReal) :
    X (((cfg0.win 4).blk t).view.emb y) = X (ix2 (at_ t (y 0)) (col t (y 1))) := by
  blk_point [idx_val t]

theorem emb5 (t : Fin cfg0.N) (y : S1024x1408.Idx) (X : S8192x2816.Idx → EReal) :
    X (((cfg0.win 5).blk t).view.emb y) = X (ix2 (at_ t (y 0)) (col t (y 1))) := by
  blk_point [idx_val t]

theorem hz2 : (![0, 0] : Fin 2 → ℕ) = fun _ => 0 := by
  funext a
  fin_cases a <;> rfl

theorem hz3 : (![0, 0, 0] : Fin 3 → ℕ) = fun _ => 0 := by
  funext a
  fin_cases a <;> rfl

/-! ### What a point leaves in its three output blocks -/

theorem ld0 (x : Vec Ideal S1024x1024 .bf16) : View.ld x r0_0 = x := View.ld_unit_zero hz2 _ _
theorem ld1 (x : Vec Ideal S1x1024x1408 .bf16) : View.ld x r0_1 = x := View.ld_unit_zero hz3 _ _

section
variable (x0 : Vec Ideal S1024x1024 .bf16) (x1 x2 : Vec Ideal S1x1024x1408 .bf16)

theorem out3_eq : out0_3 x0 x1 x2 = k0_pay6 x0 x1 x2 := by
  unfold out0_3
  rw [View.canon_unit_zero hz2]
  simp only [ld0, ld1]

theorem out4_eq : out0_4 x0 x1 x2 = k0_pay7 x0 x1 := by
  unfold out0_4
  rw [View.canon_unit_zero hz2]
  simp only [ld0, ld1]

theorem out5_eq : out0_5 x0 x1 x2 = k0_pay8 x0 x1 x2 := by
  unfold out0_5
  rw [View.canon_unit_zero hz2]
  simp only [ld0, ld1]
end

theorem final_act (c : Dev nD) : (dats m 0 c).arrAt 3 (cfgs 0).N = outAct (H m c) (W m c) := by
  refine (dats m 0 c).arrAt_eq_of_covers 3 _ (by decide +kernel) fun t hf y => ?_
  refine Eq.trans ?_ (emb3 t y (outAct (H m c) (W m c))).symm
  have e := (congrArg _ (eta y)).trans (point_act m c t (y 0) (y 1))
  blk_simp
  rw [after0_3, out3_eq]
  generalize k0_pay6 (F := Ideal) _ _ _ = p at e ⊢
  exact e

theorem final_silu (c : Dev nD) : (dats m 0 c).arrAt 4 (cfgs 0).N = outSilu (H m c) (W m c) := by
  refine (dats m 0 c).arrAt_eq_of_covers 4 _ (by decide +kernel) fun t hf y => ?_
  refine Eq.trans ?_ (emb4 t y (outSilu (H m c) (W m c))).symm
  have e := (congrArg _ (eta y)).trans (point_silu m c t (y 0) (y 1))
  blk_simp
  rw [after0_4, out4_eq]
  generalize k0_pay7 (F := Ideal) _ _ = p at e ⊢
  exact e

theorem final_slope (c : Dev nD) : (dats m 0 c).arrAt 5 (cfgs 0).N = outSlope (H m c) (W m c) := by
  refine (dats m 0 c).arrAt_eq_of_covers 5 _ (by decide +kernel) fun t hf y => ?_
  refine Eq.trans ?_ (emb5 t y (outSlope (H m c) (W m c))).symm
  have e := (congrArg _ (eta y)).trans (point_slope m c t (y 0) (y 1))
  blk_simp
  rw [after0_5, out5_eq]
  generalize k0_pay8 (F := Ideal) _ _ _ = p at e ⊢
  exact e

end Cert.ActKernelIdeal.ValueAct

end
-- ==== Proof.ClaimAct.lean ====
/- The claims about the forward call of the hidden layer: its frames and its value. -/
module

public import proofs.«01_k».proof.Defs
public import proofs.«01_k».proof.Proof.ValueAct
public import proofs.«01_k».proof.Proof.Gen.ActKernel.Frame
public import proofs.«01_k».proof.Proof.Gen.ActReferenceIdeal.Run
public import proofs.«01_k».proof.Proof.Gen.Pre_act_finite
public import Idealize.ShloMosaic.Lib.Claim

@[expose] public section

set_option maxRecDepth 16384

noncomputable section

namespace Cert.ClaimAct

open Idealize.ShloMosaic Idealize.SL.Sem Cert.ActKernelIdeal.ValueAct

theorem frame_kernel : Cert.quiescent_ActKernel := fun m ρ _ => Cert.ActKernel.Gen.frame m ρ

theorem frame_ideal : Cert.quiescent_ActKernelIdeal := fun m ρ _ => Cert.ActKernelIdeal.Gen.frame m ρ

theorem frame_ideal_pre : Cert.quiescent_ActKernelIdeal_pre_act_finite := fun m ρ _ => Cert.ActKernelIdeal.Gen.frame m ρ

theorem frame_reference : Cert.quiescent_ActReferenceIdeal := fun m ρ _ =>
  (θ_run Cert.ActReferenceIdeal.defs _ _).mono (fun r h => ⟨fun c => (h c).2.2.2, sem_eq_zero_of_no_sems (by decide) r.2⟩)
    (Cert.ActReferenceIdeal.Value.run m ρ)

theorem frame_reference_pre : Cert.quiescent_ActReferenceIdeal_pre_act_finite := fun m ρ _ => frame_reference m ρ trivial

/-- The precondition makes every element of the arguments a real. -/
theorem real (x0 : FVec Ideal Cert.Pre_act_finite.S8192x1024 .f32) (x1 : FVec Ideal Cert.Pre_act_finite.S1x1024x5632 .f32)
    (h : Cert.Pre_act_finite.fn (F := Ideal) x0 x1 = fun _ => 1#1) :
    (∀ i, ∃ r : ℝ, x0 i = (r : EReal)) ∧ (∀ i, ∃ r : ℝ, x1 i = (r : EReal)) := by
  obtain ⟨h0, h1⟩ := Finite.and_one h
  exact ⟨Finite.real_of_all (fun _ => Finite.ofBits_inf) h0, Finite.real_of_all (fun _ => Finite.ofBits_inf) h1⟩

section
open Cert.ActKernelIdeal Cert.ActKernelIdeal.Gen
variable (m : (ℓ : Loc nD τ sig) → Buf (Elt Ideal) ℓ) (h : Cert.Pre_ActKernelIdeal_act_finite m) (c : Dev nD)

include h in
theorem same_slope : Cert.ActReferenceIdeal.Read.val_main_v12 (F := Ideal) (H m c) (W m c) = outSlope (H m c) (W m c) := by
  obtain ⟨h0, h1⟩ := real _ _ (h c)
  exact ref_out_slope _ _ (up_real _ _ h0 h1)

end

theorem algebraic : Cert.algebraic_ActKernelIdeal_ActReferenceIdeal_pre_act_finite := by
  pair_intro
  · run_from Cert.ActKernelIdeal.Value.run_blocks m g
  · run_from Cert.ActReferenceIdeal.Value.run m' g'
    all_goals obtain ⟨e0, e1⟩ := hagree c
    · rw [Cert.ActReferenceIdeal.Read.val_main_v6_eq]
      exact (ref_out_act _ _).trans (final_act m c).symm
    · rw [Cert.ActReferenceIdeal.Read.val_main_v8_eq]
      exact (ref_out_silu _ _).trans (final_silu m c).symm
    · rw [Cert.ActReferenceIdeal.Read.val_main_v12_eq]
      exact (same_slope m hpre c).trans (final_slope m c).symm

end Cert.ClaimAct

end
-- ==== Proof.lean ====
/- The certificate: the claims of every program pair, proved in their own modules, put together. -/
module

public import proofs.«01_k».proof.Proof.ClaimGate
public import proofs.«01_k».proof.Proof.ClaimSb
public import proofs.«01_k».proof.Proof.ClaimUp
public import proofs.«01_k».proof.Proof.ClaimLoss
public import proofs.«01_k».proof.Proof.ClaimProj
public import proofs.«01_k».proof.Proof.ClaimMix
public import proofs.«01_k».proof.Proof.ClaimSmall
public import proofs.«01_k».proof.Proof.ClaimJoin
public import proofs.«01_k».proof.Proof.ClaimAct
public import proofs.«01_k».proof.Proof.Gen.GateKernel.Frame
public import proofs.«01_k».proof.Proof.Gen.GateKernelIdeal.Value
public import proofs.«01_k».proof.Proof.Gen.GateReferenceIdeal.Run
public import proofs.«01_k».proof.Proof.Gen.GateReferenceIdeal.Read
public import proofs.«01_k».proof.Proof.Gen.Pre_gate_finite
public import proofs.«01_k».proof.Proof.Gen.SbKernel
public import proofs.«01_k».proof.Proof.Gen.SbKernelIdeal.Frame
public import proofs.«01_k».proof.Proof.Gen.SbReferenceIdeal.Run
public import proofs.«01_k».proof.Proof.Gen.SbReferenceIdeal.Read
public import proofs.«01_k».proof.Proof.Gen.Pre_sb_finite
public import proofs.«01_k».proof.Proof.Gen.UpKernel.Frame
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.Gen.Pre_up_finite
public import proofs.«01_k».proof.Proof.Gen.LossKernel.Frame
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.Pre_loss_finite
public import proofs.«01_k».proof.Proof.Gen.ProjKernel.Frame
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.Pre_proj_finite
public import proofs.«01_k».proof.Proof.Gen.MixKernel.Frame
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.Gen.Pre_mix_finite
public import proofs.«01_k».proof.Proof.Gen.SmallKernel.Frame
public import proofs.«01_k».proof.Proof.Gen.SmallKernelIdeal.Value
public import proofs.«01_k».proof.Proof.Gen.SmallReferenceIdeal.Run
public import proofs.«01_k».proof.Proof.Gen.SmallReferenceIdeal.Read
public import proofs.«01_k».proof.Proof.Gen.JoinKernel.Frame
public import proofs.«01_k».proof.Proof.Gen.JoinKernelIdeal.Value
public import proofs.«01_k».proof.Proof.Gen.JoinReferenceIdeal.Run
public import proofs.«01_k».proof.Proof.Gen.JoinReferenceIdeal.Read
public import proofs.«01_k».proof.Proof.Gen.ActKernel.Frame
public import proofs.«01_k».proof.Proof.Gen.ActKernelIdeal.Value
public import proofs.«01_k».proof.Proof.Gen.ActReferenceIdeal.Run
public import proofs.«01_k».proof.Proof.Gen.ActReferenceIdeal.Read
public import proofs.«01_k».proof.Proof.Gen.Pre_act_finite

@[expose] public section

noncomputable section

namespace Cert.Proof

theorem claim : Cert.Claim :=
  ⟨Cert.GateKernel.Gen.facts, Cert.GateKernelIdeal.Gen.facts, Cert.GateReferenceIdeal.Gen.facts,
    Cert.SbKernel.Gen.facts, Cert.SbKernelIdeal.Gen.facts, Cert.SbReferenceIdeal.Gen.facts,
    Cert.UpKernel.Gen.facts, Cert.UpKernelIdeal.Gen.facts, Cert.UpReferenceIdeal.Gen.facts,
    Cert.LossKernel.Gen.facts, Cert.LossKernelIdeal.Gen.facts, Cert.LossReferenceIdeal.Gen.facts,
    Cert.ProjKernel.Gen.facts, Cert.ProjKernelIdeal.Gen.facts, Cert.ProjReferenceIdeal.Gen.facts,
    Cert.MixKernel.Gen.facts, Cert.MixKernelIdeal.Gen.facts, Cert.MixReferenceIdeal.Gen.facts,
    Cert.SmallKernel.Gen.facts, Cert.SmallKernelIdeal.Gen.facts, Cert.SmallReferenceIdeal.Gen.facts,
    Cert.JoinKernel.Gen.facts, Cert.JoinKernelIdeal.Gen.facts, Cert.JoinReferenceIdeal.Gen.facts,
    Cert.ActKernel.Gen.facts, Cert.ActKernelIdeal.Gen.facts, Cert.ActReferenceIdeal.Gen.facts,
    Cert.Pre_gate_finite.Gen.facts, Cert.Pre_sb_finite.Gen.facts, Cert.Pre_up_finite.Gen.facts, Cert.Pre_loss_finite.Gen.facts, Cert.Pre_proj_finite.Gen.facts, Cert.Pre_mix_finite.Gen.facts, Cert.Pre_act_finite.Gen.facts,
    ClaimGate.frame_kernel, ClaimGate.frame_ideal, ClaimGate.frame_ideal_pre, ClaimGate.frame_reference, ClaimGate.frame_reference_pre,
    ClaimSb.frame_kernel, ClaimSb.frame_ideal, ClaimSb.frame_ideal_pre, ClaimSb.frame_reference, ClaimSb.frame_reference_pre,
    ClaimUp.frame_kernel, ClaimUp.frame_ideal, ClaimUp.frame_ideal_pre, ClaimUp.frame_reference, ClaimUp.frame_reference_pre,
    ClaimLoss.frame_kernel, ClaimLoss.frame_ideal, ClaimLoss.frame_ideal_pre, ClaimLoss.frame_reference, ClaimLoss.frame_reference_pre,
    ClaimProj.frame_kernel, ClaimProj.frame_ideal, ClaimProj.frame_ideal_pre, ClaimProj.frame_reference, ClaimProj.frame_reference_pre,
    ClaimMix.frame_kernel, ClaimMix.frame_ideal, ClaimMix.frame_ideal_pre, ClaimMix.frame_reference, ClaimMix.frame_reference_pre,
    ClaimSmall.frame_kernel, ClaimSmall.frame_ideal, ClaimSmall.frame_reference,
    ClaimJoin.frame_kernel, ClaimJoin.frame_ideal, ClaimJoin.frame_reference,
    ClaimAct.frame_kernel, ClaimAct.frame_ideal, ClaimAct.frame_ideal_pre, ClaimAct.frame_reference, ClaimAct.frame_reference_pre,
    trivial, ClaimGate.algebraic, trivial, ClaimSb.algebraic, trivial, ClaimUp.algebraic, trivial, ClaimLoss.algebraic, trivial, ClaimProj.algebraic, trivial, ClaimMix.algebraic, trivial, ClaimSmall.algebraic, trivial, ClaimJoin.algebraic, trivial, ClaimAct.algebraic⟩

end Cert.Proof

end
